-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)) (v5 : (c : Dev Cert.Kernel2Ideal.nD) → Buf (Elt Ideal) ((c.tc : Thread Cert.Kernel2Ideal.nD Cert.Kernel2Ideal.τ).loc Cert.Kernel2Ideal.main_v29_5)) (v6 : (c : Dev Cert.Kernel2Ideal.nD) → Buf (Elt Ideal) ((c.tc : Thread Cert.Kernel2Ideal.nD Cert.Kernel2Ideal.τ).loc Cert.Kernel2Ideal.main_v29_6)) (v7 : (c : Dev Cert.Kernel2Ideal.nD) → Buf (Elt Ideal) ((c.tc : Thread Cert.Kernel2Ideal.nD Cert.Kernel2Ideal.τ).loc Cert.Kernel2Ideal.main_v29_7)) (v8 : (c : Dev Cert.Kernel2Ideal.nD) → Buf (Elt Ideal) ((c.tc : Thread Cert.Kernel2Ideal.nD Cert.Kernel2Ideal.τ).loc Cert.Kernel2Ideal.main_v29_8)) (v9 : (c : Dev Cert.Kernel2Ideal.nD) → Buf (Elt Ideal) ((c.tc : Thread Cert.Kernel2Ideal.nD Cert.Kernel2Ideal.τ).loc Cert.Kernel2Ideal.main_v29_9)) (v10 : (c : Dev Cert.Kernel2Ideal.nD) → Buf (Elt Ideal) ((c.tc : Thread Cert.Kernel2Ideal.nD Cert.Kernel2Ideal.τ).loc Cert.Kernel2Ideal.main_v29_10)) (v11 : (c : Dev Cert.Kernel2Ideal.nD) → Buf (Elt Ideal) ((c.tc : Thread Cert.Kernel2Ideal.nD Cert.Kernel2Ideal.τ).loc Cert.Kernel2Ideal.main_v29_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_v29_5) = v5 c
          ∧ r.2.mem ((c.tc : Thread Cert.Kernel2Ideal.nD Cert.Kernel2Ideal.τ).loc Cert.Kernel2Ideal.main_v29_6) = v6 c
          ∧ r.2.mem ((c.tc : Thread Cert.Kernel2Ideal.nD Cert.Kernel2Ideal.τ).loc Cert.Kernel2Ideal.main_v29_7) = v7 c
          ∧ r.2.mem ((c.tc : Thread Cert.Kernel2Ideal.nD Cert.Kernel2Ideal.τ).loc Cert.Kernel2Ideal.main_v29_8) = v8 c
          ∧ r.2.mem ((c.tc : Thread Cert.Kernel2Ideal.nD Cert.Kernel2Ideal.τ).loc Cert.Kernel2Ideal.main_v29_9) = v9 c
          ∧ r.2.mem ((c.tc : Thread Cert.Kernel2Ideal.nD Cert.Kernel2Ideal.τ).loc Cert.Kernel2Ideal.main_v29_10) = v10 c
          ∧ r.2.mem ((c.tc : Thread Cert.Kernel2Ideal.nD Cert.Kernel2Ideal.τ).loc Cert.Kernel2Ideal.main_v29_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v66) = v3 c
          ∧ r.2.mem ((c.tc : Thread Cert.Reference2Ideal.nD Cert.Reference2Ideal.τ).loc Cert.Reference2Ideal.main_v77) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_v82) = v6 c
          ∧ r.2.mem ((c.tc : Thread Cert.Reference2Ideal.nD Cert.Reference2Ideal.τ).loc Cert.Reference2Ideal.main_v84) = v7 c
          ∧ r.2.mem ((c.tc : Thread Cert.Reference2Ideal.nD Cert.Reference2Ideal.τ).loc Cert.Reference2Ideal.main_v85) = v8 c
          ∧ r.2.mem ((c.tc : Thread Cert.Reference2Ideal.nD Cert.Reference2Ideal.τ).loc Cert.Reference2Ideal.main_v87) = v9 c
          ∧ r.2.mem ((c.tc : Thread Cert.Reference2Ideal.nD Cert.Reference2Ideal.τ).loc Cert.Reference2Ideal.main_v63) = v10 c
          ∧ r.2.mem ((c.tc : Thread Cert.Reference2Ideal.nD Cert.Reference2Ideal.τ).loc Cert.Reference2Ideal.main_v88) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v256) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)) (v3 : (c : Dev Cert.Kernel4Ideal.nD) → Buf (Elt Ideal) ((c.tc : Thread Cert.Kernel4Ideal.nD Cert.Kernel4Ideal.τ).loc Cert.Kernel4Ideal.main_v30_3)) (v4 : (c : Dev Cert.Kernel4Ideal.nD) → Buf (Elt Ideal) ((c.tc : Thread Cert.Kernel4Ideal.nD Cert.Kernel4Ideal.τ).loc Cert.Kernel4Ideal.main_v30_4)) (v5 : (c : Dev Cert.Kernel4Ideal.nD) → Buf (Elt Ideal) ((c.tc : Thread Cert.Kernel4Ideal.nD Cert.Kernel4Ideal.τ).loc Cert.Kernel4Ideal.main_v30_5)) (v6 : (c : Dev Cert.Kernel4Ideal.nD) → Buf (Elt Ideal) ((c.tc : Thread Cert.Kernel4Ideal.nD Cert.Kernel4Ideal.τ).loc Cert.Kernel4Ideal.main_v30_6)) (v7 : (c : Dev Cert.Kernel4Ideal.nD) → Buf (Elt Ideal) ((c.tc : Thread Cert.Kernel4Ideal.nD Cert.Kernel4Ideal.τ).loc Cert.Kernel4Ideal.main_v30_7)) (v8 : (c : Dev Cert.Kernel4Ideal.nD) → Buf (Elt Ideal) ((c.tc : Thread Cert.Kernel4Ideal.nD Cert.Kernel4Ideal.τ).loc Cert.Kernel4Ideal.main_v36)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_v30_3) = v3 c
          ∧ r.2.mem ((c.tc : Thread Cert.Kernel4Ideal.nD Cert.Kernel4Ideal.τ).loc Cert.Kernel4Ideal.main_v30_4) = v4 c
          ∧ r.2.mem ((c.tc : Thread Cert.Kernel4Ideal.nD Cert.Kernel4Ideal.τ).loc Cert.Kernel4Ideal.main_v30_5) = v5 c
          ∧ r.2.mem ((c.tc : Thread Cert.Kernel4Ideal.nD Cert.Kernel4Ideal.τ).loc Cert.Kernel4Ideal.main_v30_6) = v6 c
          ∧ r.2.mem ((c.tc : Thread Cert.Kernel4Ideal.nD Cert.Kernel4Ideal.τ).loc Cert.Kernel4Ideal.main_v30_7) = v7 c
          ∧ r.2.mem ((c.tc : Thread Cert.Kernel4Ideal.nD Cert.Kernel4Ideal.τ).loc Cert.Kernel4Ideal.main_v36) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_v74) = v3 c
          ∧ r.2.mem ((c.tc : Thread Cert.Reference4Ideal.nD Cert.Reference4Ideal.τ).loc Cert.Reference4Ideal.main_v75) = v4 c
          ∧ r.2.mem ((c.tc : Thread Cert.Reference4Ideal.nD Cert.Reference4Ideal.τ).loc Cert.Reference4Ideal.main_v76) = v5 c
          ∧ r.2.mem ((c.tc : Thread Cert.Reference4Ideal.nD Cert.Reference4Ideal.τ).loc Cert.Reference4Ideal.main_v77) = v6 c
          ∧ r.2.mem ((c.tc : Thread Cert.Reference4Ideal.nD Cert.Reference4Ideal.τ).loc Cert.Reference4Ideal.main_v78) = v7 c
          ∧ r.2.mem ((c.tc : Thread Cert.Reference4Ideal.nD Cert.Reference4Ideal.τ).loc Cert.Reference4Ideal.main_v82) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v260) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16x512x2048 : Shape := ⟨3, ![16, 512, 2048]⟩
abbrev S16x8x2048 : Shape := ⟨3, ![16, 8, 2048]⟩
abbrev S16x2048x512 : Shape := ⟨3, ![16, 2048, 512]⟩
abbrev S16x2048x128 : Shape := ⟨3, ![16, 2048, 128]⟩
abbrev S16x8x4x144x256 : Shape := ⟨5, ![16, 8, 4, 144, 256]⟩
abbrev S1x2x4x256x512 : Shape := ⟨5, ![1, 2, 4, 256, 512]⟩
abbrev S1x512x256 : Shape := ⟨3, ![1, 512, 256]⟩
abbrev S1x8x256 : Shape := ⟨3, ![1, 8, 256]⟩
abbrev S1x2048x512 : Shape := ⟨3, ![1, 2048, 512]⟩
abbrev S1x2048x128 : Shape := ⟨3, ![1, 2048, 128]⟩
abbrev S1x8x4x144x256 : Shape := ⟨5, ![1, 8, 4, 144, 256]⟩
abbrev S1x256x512 : Shape := ⟨3, ![1, 256, 512]⟩
abbrev S8x256x256 : Shape := ⟨3, ![8, 256, 256]⟩
abbrev S8x32x8x256 : Shape := ⟨4, ![8, 32, 8, 256]⟩
abbrev S4x8x256x512 : Shape := ⟨4, ![4, 8, 256, 512]⟩
abbrev S4x128x512 : Shape := ⟨3, ![4, 128, 512]⟩
abbrev S4x144x512 : Shape := ⟨3, ![4, 144, 512]⟩
abbrev S256x256 : Shape := ⟨2, ![256, 256]⟩
abbrev S128x256 : Shape := ⟨2, ![128, 256]⟩
abbrev S1x128x256 : Shape := ⟨3, ![1, 128, 256]⟩
abbrev S128x512 : Shape := ⟨2, ![128, 512]⟩
abbrev S1x128x512 : Shape := ⟨3, ![1, 128, 512]⟩
abbrev S8x256 : Shape := ⟨2, ![8, 256]⟩
abbrev S1x256 : Shape := ⟨2, ![1, 256]⟩
abbrev S1x512 : Shape := ⟨2, ![1, 512]⟩
abbrev S1x256x128 : Shape := ⟨3, ![1, 256, 128]⟩
abbrev S256x128 : Shape := ⟨2, ![256, 128]⟩
abbrev S256x512 : Shape := ⟨2, ![256, 512]⟩
abbrev S1x256x256 : Shape := ⟨3, ![1, 256, 256]⟩
abbrev S1x1x8x256 : Shape := ⟨4, ![1, 1, 8, 256]⟩
abbrev S32x8x256 : Shape := ⟨3, ![32, 8, 256]⟩
abbrev S1x32x8x256 : Shape := ⟨4, ![1, 32, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S32x256 : Shape := ⟨2, ![32, 256]⟩
abbrev S16x512 : Shape := ⟨2, ![16, 512]⟩
abbrev S1x1x256x512 : Shape := ⟨4, ![1, 1, 256, 512]⟩
abbrev S16x16x512 : Shape := ⟨3, ![16, 16, 512]⟩
abbrev S1x1x1x256x512 : Shape := ⟨5, ![1, 1, 1, 256, 512]⟩
abbrev S512 : Shape := ⟨1, ![512]⟩
abbrev S1x1x1x144x256 : Shape := ⟨5, ![1, 1, 1, 144, 256]⟩
abbrev S144x256 : Shape := ⟨2, ![144, 256]⟩
abbrev S144x512 : Shape := ⟨2, ![144, 512]⟩
abbrev S1x144x512 : Shape := ⟨3, ![1, 144, 512]⟩
abbrev S64x256 : Shape := ⟨2, ![64, 256]⟩
abbrev S512x256 : Shape := ⟨2, ![512, 256]⟩

abbrev nBuf : Space → Nat
  | .hbm => 9
  | .vmem => 24
  | .smem => 0
  | _ => 0

abbrev bufTy : (tb : Table) → Fin (tcTables nBuf tb) → BufTy
  | .hbm, ⟨0, _⟩ => ⟨S16x512x2048, .bf16⟩
  | .hbm, ⟨1, _⟩ => ⟨S16x512x2048, .bf16⟩
  | .hbm, ⟨2, _⟩ => ⟨S16x8x2048, .f32⟩
  | .hbm, ⟨3, _⟩ => ⟨S16x2048x512, .bf16⟩
  | .hbm, ⟨4, _⟩ => ⟨S16x2048x128, .bf16⟩
  | .hbm, ⟨5, _⟩ => ⟨S16x8x4x144x256, .bf16⟩
  | .hbm, ⟨6, _⟩ => ⟨S16x2048x512, .f32⟩
  | .hbm, ⟨7, _⟩ => ⟨S1x2x4x256x512, .f32⟩
  | .hbm, ⟨8, _⟩ => ⟨S16x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x8x256, .f32⟩
  | .local _ .vmem, ⟨5, _⟩ => ⟨S1x8x256, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x8x4x144x256, .bf16⟩
  | .local _ .vmem, ⟨11, _⟩ => ⟨S1x8x4x144x256, .bf16⟩
  | .local _ .vmem, ⟨12, _⟩ => ⟨S1x256x512, .f32⟩
  | .local _ .vmem, ⟨13, _⟩ => ⟨S1x256x512, .f32⟩
  | .local _ .vmem, ⟨14, _⟩ => ⟨S1x2x4x256x512, .f32⟩
  | .local _ .vmem, ⟨15, _⟩ => ⟨S1x256x512, .bf16⟩
  | .local _ .vmem, ⟨16, _⟩ => ⟨S1x256x512, .bf16⟩
  | .local _ .vmem, ⟨17, _⟩ => ⟨S8x256x256, .f32⟩
  | .local _ .vmem, ⟨18, _⟩ => ⟨S8x256x256, .i32⟩
  | .local _ .vmem, ⟨19, _⟩ => ⟨S8x32x8x256, .i32⟩
  | .local _ .vmem, ⟨20, _⟩ => ⟨S4x8x256x512, .f32⟩
  | .local _ .vmem, ⟨21, _⟩ => ⟨S4x128x512, .bf16⟩
  | .local _ .vmem, ⟨22, _⟩ => ⟨S4x128x512, .bf16⟩
  | .local _ .vmem, ⟨23, _⟩ => ⟨S4x144x512, .f32⟩
  | _, _ => ⟨S16x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨2, ![16, 8], ![false, false]⟩

@[reducible] def k0_t1_loop (i : grid0.Coords) : Scf.Loop 32 :=
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_73 : BitVec 32 := 1#32
  ⟨c0_i32_71, v145, c1_i32_73⟩
def k0_mult1 (i : grid0.Coords) (k0_t1 : Fin (k0_t1_loop i).trips) : BitVec 32 :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let c256_i32_164 : BitVec 32 := 256#32
  let v318 : BitVec 32 := Scalar.muli v315 c256_i32_164
  v318
def k0_off1 (i : grid0.Coords) (k0_t1 : Fin (k0_t1_loop i).trips) : Fin 3 → Nat :=
  let c0_165 : Index := 0#32
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let c256_i32_164 : BitVec 32 := 256#32
  let v318 : BitVec 32 := Scalar.muli v315 c256_i32_164
  let v319 : BitVec 32 := v318
  let v320 : Index := Scalar.indexCast v319
  let c0_166 : Index := 0#32
  ![0, v320.toNat, 0]
def k0_off2 (i : grid0.Coords) (k0_t1 : Fin (k0_t1_loop i).trips) : Fin 3 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v380 : Index := Scalar.indexCast v315
  let c0_191 : Index := 0#32
  let c0_192 : Index := 0#32
  ![v380.toNat, 0, 0]
def k0_off3 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1138 : Index := Scalar.indexCast v315
  let c0_425 : Index := 0#32
  let c0_426 : Index := 0#32
  let c0_427 : Index := 0#32
  ![v1138.toNat, 0, 0, 0]
def k0_off4 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1142 : Index := Scalar.indexCast v315
  let c1_428 : Index := 1#32
  let c0_429 : Index := 0#32
  let c0_430 : Index := 0#32
  ![v1142.toNat, 1, 0, 0]
def k0_off5 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1146 : Index := Scalar.indexCast v315
  let c2_431 : Index := 2#32
  let c0_432 : Index := 0#32
  let c0_433 : Index := 0#32
  ![v1146.toNat, 2, 0, 0]
def k0_off6 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1150 : Index := Scalar.indexCast v315
  let c3_434 : Index := 3#32
  let c0_435 : Index := 0#32
  let c0_436 : Index := 0#32
  ![v1150.toNat, 3, 0, 0]
def k0_off7 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1154 : Index := Scalar.indexCast v315
  let c4 : Index := 4#32
  let c0_437 : Index := 0#32
  let c0_438 : Index := 0#32
  ![v1154.toNat, 4, 0, 0]
def k0_off8 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1158 : Index := Scalar.indexCast v315
  let c5 : Index := 5#32
  let c0_439 : Index := 0#32
  let c0_440 : Index := 0#32
  ![v1158.toNat, 5, 0, 0]
def k0_off9 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1162 : Index := Scalar.indexCast v315
  let c6 : Index := 6#32
  let c0_441 : Index := 0#32
  let c0_442 : Index := 0#32
  ![v1162.toNat, 6, 0, 0]
def k0_off10 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1166 : Index := Scalar.indexCast v315
  let c7 : Index := 7#32
  let c0_443 : Index := 0#32
  let c0_444 : Index := 0#32
  ![v1166.toNat, 7, 0, 0]
def k0_off11 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1170 : Index := Scalar.indexCast v315
  let c8 : Index := 8#32
  let c0_445 : Index := 0#32
  let c0_446 : Index := 0#32
  ![v1170.toNat, 8, 0, 0]
def k0_off12 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1174 : Index := Scalar.indexCast v315
  let c9 : Index := 9#32
  let c0_447 : Index := 0#32
  let c0_448 : Index := 0#32
  ![v1174.toNat, 9, 0, 0]
def k0_off13 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1178 : Index := Scalar.indexCast v315
  let c10 : Index := 10#32
  let c0_449 : Index := 0#32
  let c0_450 : Index := 0#32
  ![v1178.toNat, 10, 0, 0]
def k0_off14 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1182 : Index := Scalar.indexCast v315
  let c11 : Index := 11#32
  let c0_451 : Index := 0#32
  let c0_452 : Index := 0#32
  ![v1182.toNat, 11, 0, 0]
def k0_off15 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1186 : Index := Scalar.indexCast v315
  let c12 : Index := 12#32
  let c0_453 : Index := 0#32
  let c0_454 : Index := 0#32
  ![v1186.toNat, 12, 0, 0]
def k0_off16 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1190 : Index := Scalar.indexCast v315
  let c13 : Index := 13#32
  let c0_455 : Index := 0#32
  let c0_456 : Index := 0#32
  ![v1190.toNat, 13, 0, 0]
def k0_off17 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1194 : Index := Scalar.indexCast v315
  let c14 : Index := 14#32
  let c0_457 : Index := 0#32
  let c0_458 : Index := 0#32
  ![v1194.toNat, 14, 0, 0]
def k0_off18 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1198 : Index := Scalar.indexCast v315
  let c15 : Index := 15#32
  let c0_459 : Index := 0#32
  let c0_460 : Index := 0#32
  ![v1198.toNat, 15, 0, 0]
def k0_off19 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1202 : Index := Scalar.indexCast v315
  let c16 : Index := 16#32
  let c0_461 : Index := 0#32
  let c0_462 : Index := 0#32
  ![v1202.toNat, 16, 0, 0]
def k0_off20 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1206 : Index := Scalar.indexCast v315
  let c17 : Index := 17#32
  let c0_463 : Index := 0#32
  let c0_464 : Index := 0#32
  ![v1206.toNat, 17, 0, 0]
def k0_off21 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1210 : Index := Scalar.indexCast v315
  let c18 : Index := 18#32
  let c0_465 : Index := 0#32
  let c0_466 : Index := 0#32
  ![v1210.toNat, 18, 0, 0]
def k0_off22 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1214 : Index := Scalar.indexCast v315
  let c19 : Index := 19#32
  let c0_467 : Index := 0#32
  let c0_468 : Index := 0#32
  ![v1214.toNat, 19, 0, 0]
def k0_off23 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1218 : Index := Scalar.indexCast v315
  let c20 : Index := 20#32
  let c0_469 : Index := 0#32
  let c0_470 : Index := 0#32
  ![v1218.toNat, 20, 0, 0]
def k0_off24 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1222 : Index := Scalar.indexCast v315
  let c21 : Index := 21#32
  let c0_471 : Index := 0#32
  let c0_472 : Index := 0#32
  ![v1222.toNat, 21, 0, 0]
def k0_off25 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1226 : Index := Scalar.indexCast v315
  let c22 : Index := 22#32
  let c0_473 : Index := 0#32
  let c0_474 : Index := 0#32
  ![v1226.toNat, 22, 0, 0]
def k0_off26 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1230 : Index := Scalar.indexCast v315
  let c23 : Index := 23#32
  let c0_475 : Index := 0#32
  let c0_476 : Index := 0#32
  ![v1230.toNat, 23, 0, 0]
def k0_off27 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1234 : Index := Scalar.indexCast v315
  let c24 : Index := 24#32
  let c0_477 : Index := 0#32
  let c0_478 : Index := 0#32
  ![v1234.toNat, 24, 0, 0]
def k0_off28 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1238 : Index := Scalar.indexCast v315
  let c25 : Index := 25#32
  let c0_479 : Index := 0#32
  let c0_480 : Index := 0#32
  ![v1238.toNat, 25, 0, 0]
def k0_off29 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1242 : Index := Scalar.indexCast v315
  let c26 : Index := 26#32
  let c0_481 : Index := 0#32
  let c0_482 : Index := 0#32
  ![v1242.toNat, 26, 0, 0]
def k0_off30 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1246 : Index := Scalar.indexCast v315
  let c27 : Index := 27#32
  let c0_483 : Index := 0#32
  let c0_484 : Index := 0#32
  ![v1246.toNat, 27, 0, 0]
def k0_off31 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1250 : Index := Scalar.indexCast v315
  let c28 : Index := 28#32
  let c0_485 : Index := 0#32
  let c0_486 : Index := 0#32
  ![v1250.toNat, 28, 0, 0]
def k0_off32 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1254 : Index := Scalar.indexCast v315
  let c29 : Index := 29#32
  let c0_487 : Index := 0#32
  let c0_488 : Index := 0#32
  ![v1254.toNat, 29, 0, 0]
def k0_off33 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1258 : Index := Scalar.indexCast v315
  let c30 : Index := 30#32
  let c0_489 : Index := 0#32
  let c0_490 : Index := 0#32
  ![v1258.toNat, 30, 0, 0]
def k0_off34 (i : grid0.Coords) (k0_t1 : Fin (k0_t1_loop i).trips) : Fin 4 → Nat :=
  let c2_i32_161 : BitVec 32 := 2#32
  let c0_i32_71 : BitVec 32 := 0#32
  let c1_i32_73 : BitVec 32 := 1#32
  let arg18 : BitVec 32 := Scf.iv c0_i32_71 c1_i32_73 k0_t1
  let v315 : BitVec 32 := Scalar.muli c2_i32_161 arg18
  let v1262 : Index := Scalar.indexCast v315
  let c31 : Index := 31#32
  let c0_491 : Index := 0#32
  let c0_492 : Index := 0#32
  ![v1262.toNat, 31, 0, 0]
def k0_mult2 (i : grid0.Coords) (k0_t1 : Fin (k0_t1_loop i).trips) : BitVec 32 :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let c256_i32_493 : BitVec 32 := 256#32
  let v1266 : BitVec 32 := Scalar.muli v317 c256_i32_493
  v1266
def k0_off35 (i : grid0.Coords) (k0_t1 : Fin (k0_t1_loop i).trips) : Fin 3 → Nat :=
  let c0_494 : Index := 0#32
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let c256_i32_493 : BitVec 32 := 256#32
  let v1266 : BitVec 32 := Scalar.muli v317 c256_i32_493
  let v1267 : BitVec 32 := v1266
  let v1268 : Index := Scalar.indexCast v1267
  let c0_495 : Index := 0#32
  ![0, v1268.toNat, 0]
def k0_off36 (i : grid0.Coords) (k0_t1 : Fin (k0_t1_loop i).trips) : Fin 3 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v1328 : Index := Scalar.indexCast v317
  let c0_521 : Index := 0#32
  let c0_522 : Index := 0#32
  ![v1328.toNat, 0, 0]
def k0_off37 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2086 : Index := Scalar.indexCast v317
  let c0_764 : Index := 0#32
  let c0_765 : Index := 0#32
  let c0_766 : Index := 0#32
  ![v2086.toNat, 0, 0, 0]
def k0_off38 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2090 : Index := Scalar.indexCast v317
  let c1_767 : Index := 1#32
  let c0_768 : Index := 0#32
  let c0_769 : Index := 0#32
  ![v2090.toNat, 1, 0, 0]
def k0_off39 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2094 : Index := Scalar.indexCast v317
  let c2_770 : Index := 2#32
  let c0_771 : Index := 0#32
  let c0_772 : Index := 0#32
  ![v2094.toNat, 2, 0, 0]
def k0_off40 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2098 : Index := Scalar.indexCast v317
  let c3_773 : Index := 3#32
  let c0_774 : Index := 0#32
  let c0_775 : Index := 0#32
  ![v2098.toNat, 3, 0, 0]
def k0_off41 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2102 : Index := Scalar.indexCast v317
  let c4_776 : Index := 4#32
  let c0_777 : Index := 0#32
  let c0_778 : Index := 0#32
  ![v2102.toNat, 4, 0, 0]
def k0_off42 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2106 : Index := Scalar.indexCast v317
  let c5_779 : Index := 5#32
  let c0_780 : Index := 0#32
  let c0_781 : Index := 0#32
  ![v2106.toNat, 5, 0, 0]
def k0_off43 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2110 : Index := Scalar.indexCast v317
  let c6_782 : Index := 6#32
  let c0_783 : Index := 0#32
  let c0_784 : Index := 0#32
  ![v2110.toNat, 6, 0, 0]
def k0_off44 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2114 : Index := Scalar.indexCast v317
  let c7_785 : Index := 7#32
  let c0_786 : Index := 0#32
  let c0_787 : Index := 0#32
  ![v2114.toNat, 7, 0, 0]
def k0_off45 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2118 : Index := Scalar.indexCast v317
  let c8_788 : Index := 8#32
  let c0_789 : Index := 0#32
  let c0_790 : Index := 0#32
  ![v2118.toNat, 8, 0, 0]
def k0_off46 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2122 : Index := Scalar.indexCast v317
  let c9_791 : Index := 9#32
  let c0_792 : Index := 0#32
  let c0_793 : Index := 0#32
  ![v2122.toNat, 9, 0, 0]
def k0_off47 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2126 : Index := Scalar.indexCast v317
  let c10_794 : Index := 10#32
  let c0_795 : Index := 0#32
  let c0_796 : Index := 0#32
  ![v2126.toNat, 10, 0, 0]
def k0_off48 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2130 : Index := Scalar.indexCast v317
  let c11_797 : Index := 11#32
  let c0_798 : Index := 0#32
  let c0_799 : Index := 0#32
  ![v2130.toNat, 11, 0, 0]
def k0_off49 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2134 : Index := Scalar.indexCast v317
  let c12_800 : Index := 12#32
  let c0_801 : Index := 0#32
  let c0_802 : Index := 0#32
  ![v2134.toNat, 12, 0, 0]
def k0_off50 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2138 : Index := Scalar.indexCast v317
  let c13_803 : Index := 13#32
  let c0_804 : Index := 0#32
  let c0_805 : Index := 0#32
  ![v2138.toNat, 13, 0, 0]
def k0_off51 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2142 : Index := Scalar.indexCast v317
  let c14_806 : Index := 14#32
  let c0_807 : Index := 0#32
  let c0_808 : Index := 0#32
  ![v2142.toNat, 14, 0, 0]
def k0_off52 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2146 : Index := Scalar.indexCast v317
  let c15_809 : Index := 15#32
  let c0_810 : Index := 0#32
  let c0_811 : Index := 0#32
  ![v2146.toNat, 15, 0, 0]
def k0_off53 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2150 : Index := Scalar.indexCast v317
  let c16_812 : Index := 16#32
  let c0_813 : Index := 0#32
  let c0_814 : Index := 0#32
  ![v2150.toNat, 16, 0, 0]
def k0_off54 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2154 : Index := Scalar.indexCast v317
  let c17_815 : Index := 17#32
  let c0_816 : Index := 0#32
  let c0_817 : Index := 0#32
  ![v2154.toNat, 17, 0, 0]
def k0_off55 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2158 : Index := Scalar.indexCast v317
  let c18_818 : Index := 18#32
  let c0_819 : Index := 0#32
  let c0_820 : Index := 0#32
  ![v2158.toNat, 18, 0, 0]
def k0_off56 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2162 : Index := Scalar.indexCast v317
  let c19_821 : Index := 19#32
  let c0_822 : Index := 0#32
  let c0_823 : Index := 0#32
  ![v2162.toNat, 19, 0, 0]
def k0_off57 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2166 : Index := Scalar.indexCast v317
  let c20_824 : Index := 20#32
  let c0_825 : Index := 0#32
  let c0_826 : Index := 0#32
  ![v2166.toNat, 20, 0, 0]
def k0_off58 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2170 : Index := Scalar.indexCast v317
  let c21_827 : Index := 21#32
  let c0_828 : Index := 0#32
  let c0_829 : Index := 0#32
  ![v2170.toNat, 21, 0, 0]
def k0_off59 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2174 : Index := Scalar.indexCast v317
  let c22_830 : Index := 22#32
  let c0_831 : Index := 0#32
  let c0_832 : Index := 0#32
  ![v2174.toNat, 22, 0, 0]
def k0_off60 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2178 : Index := Scalar.indexCast v317
  let c23_833 : Index := 23#32
  let c0_834 : Index := 0#32
  let c0_835 : Index := 0#32
  ![v2178.toNat, 23, 0, 0]
def k0_off61 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2182 : Index := Scalar.indexCast v317
  let c24_836 : Index := 24#32
  let c0_837 : Index := 0#32
  let c0_838 : Index := 0#32
  ![v2182.toNat, 24, 0, 0]
def k0_off62 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2186 : Index := Scalar.indexCast v317
  let c25_839 : Index := 25#32
  let c0_840 : Index := 0#32
  let c0_841 : Index := 0#32
  ![v2186.toNat, 25, 0, 0]
def k0_off63 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2190 : Index := Scalar.indexCast v317
  let c26_842 : Index := 26#32
  let c0_843 : Index := 0#32
  let c0_844 : Index := 0#32
  ![v2190.toNat, 26, 0, 0]
def k0_off64 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2194 : Index := Scalar.indexCast v317
  let c27_845 : Index := 27#32
  let c0_846 : Index := 0#32
  let c0_847 : Index := 0#32
  ![v2194.toNat, 27, 0, 0]
def k0_off65 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2198 : Index := Scalar.indexCast v317
  let c28_848 : Index := 28#32
  let c0_849 : Index := 0#32
  let c0_850 : Index := 0#32
  ![v2198.toNat, 28, 0, 0]
def k0_off66 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2202 : Index := Scalar.indexCast v317
  let c29_851 : Index := 29#32
  let c0_852 : Index := 0#32
  let c0_853 : Index := 0#32
  ![v2202.toNat, 29, 0, 0]
def k0_off67 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2206 : Index := Scalar.indexCast v317
  let c30_854 : Index := 30#32
  let c0_855 : Index := 0#32
  let c0_856 : Index := 0#32
  ![v2206.toNat, 30, 0, 0]
def k0_off68 (i : grid0.Coords) (k0_t1 : Fin (k0_t1_loop i).trips) : Fin 4 → Nat :=
  let c2_i32_162 : BitVec 32 := 2#32
  let c0_i32_71 : BitVec 32 := 0#32
  let c1_i32_73 : BitVec 32 := 1#32
  let arg18 : BitVec 32 := Scf.iv c0_i32_71 c1_i32_73 k0_t1
  let v316 : BitVec 32 := Scalar.muli c2_i32_162 arg18
  let c1_i32_163 : BitVec 32 := 1#32
  let v317 : BitVec 32 := Scalar.addi v316 c1_i32_163
  let v2210 : Index := Scalar.indexCast v317
  let c31_857 : Index := 31#32
  let c0_858 : Index := 0#32
  let c0_859 : Index := 0#32
  ![v2210.toNat, 31, 0, 0]
@[reducible] def k0_t2_loop (i : grid0.Coords) : Scf.Loop 32 :=
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let v142 : BitVec 32 := Scalar.addi c0_i32_71 v141
  let c1_i32_74 : BitVec 32 := 1#32
  ⟨v145, v142, c1_i32_74⟩
def k0_mult3 (i : grid0.Coords) (k0_t2 : Fin (k0_t2_loop i).trips) : BitVec 32 :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let c256_i32_164 : BitVec 32 := 256#32
  let v318 : BitVec 32 := Scalar.muli v315 c256_i32_164
  v318
def k0_off69 (i : grid0.Coords) (k0_t2 : Fin (k0_t2_loop i).trips) : Fin 3 → Nat :=
  let c0_165 : Index := 0#32
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let c256_i32_164 : BitVec 32 := 256#32
  let v318 : BitVec 32 := Scalar.muli v315 c256_i32_164
  let v319 : BitVec 32 := v318
  let v320 : Index := Scalar.indexCast v319
  let c0_166 : Index := 0#32
  ![0, v320.toNat, 0]
def k0_off70 (i : grid0.Coords) (k0_t2 : Fin (k0_t2_loop i).trips) : Fin 3 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v380 : Index := Scalar.indexCast v315
  let c0_191 : Index := 0#32
  let c0_192 : Index := 0#32
  ![v380.toNat, 0, 0]
def k0_off71 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1138 : Index := Scalar.indexCast v315
  let c0_425 : Index := 0#32
  let c0_426 : Index := 0#32
  let c0_427 : Index := 0#32
  ![v1138.toNat, 0, 0, 0]
def k0_off72 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1142 : Index := Scalar.indexCast v315
  let c1_428 : Index := 1#32
  let c0_429 : Index := 0#32
  let c0_430 : Index := 0#32
  ![v1142.toNat, 1, 0, 0]
def k0_off73 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1146 : Index := Scalar.indexCast v315
  let c2_431 : Index := 2#32
  let c0_432 : Index := 0#32
  let c0_433 : Index := 0#32
  ![v1146.toNat, 2, 0, 0]
def k0_off74 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1150 : Index := Scalar.indexCast v315
  let c3_434 : Index := 3#32
  let c0_435 : Index := 0#32
  let c0_436 : Index := 0#32
  ![v1150.toNat, 3, 0, 0]
def k0_off75 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1154 : Index := Scalar.indexCast v315
  let c4 : Index := 4#32
  let c0_437 : Index := 0#32
  let c0_438 : Index := 0#32
  ![v1154.toNat, 4, 0, 0]
def k0_off76 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1158 : Index := Scalar.indexCast v315
  let c5 : Index := 5#32
  let c0_439 : Index := 0#32
  let c0_440 : Index := 0#32
  ![v1158.toNat, 5, 0, 0]
def k0_off77 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1162 : Index := Scalar.indexCast v315
  let c6 : Index := 6#32
  let c0_441 : Index := 0#32
  let c0_442 : Index := 0#32
  ![v1162.toNat, 6, 0, 0]
def k0_off78 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1166 : Index := Scalar.indexCast v315
  let c7 : Index := 7#32
  let c0_443 : Index := 0#32
  let c0_444 : Index := 0#32
  ![v1166.toNat, 7, 0, 0]
def k0_off79 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1170 : Index := Scalar.indexCast v315
  let c8 : Index := 8#32
  let c0_445 : Index := 0#32
  let c0_446 : Index := 0#32
  ![v1170.toNat, 8, 0, 0]
def k0_off80 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1174 : Index := Scalar.indexCast v315
  let c9 : Index := 9#32
  let c0_447 : Index := 0#32
  let c0_448 : Index := 0#32
  ![v1174.toNat, 9, 0, 0]
def k0_off81 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1178 : Index := Scalar.indexCast v315
  let c10 : Index := 10#32
  let c0_449 : Index := 0#32
  let c0_450 : Index := 0#32
  ![v1178.toNat, 10, 0, 0]
def k0_off82 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1182 : Index := Scalar.indexCast v315
  let c11 : Index := 11#32
  let c0_451 : Index := 0#32
  let c0_452 : Index := 0#32
  ![v1182.toNat, 11, 0, 0]
def k0_off83 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1186 : Index := Scalar.indexCast v315
  let c12 : Index := 12#32
  let c0_453 : Index := 0#32
  let c0_454 : Index := 0#32
  ![v1186.toNat, 12, 0, 0]
def k0_off84 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1190 : Index := Scalar.indexCast v315
  let c13 : Index := 13#32
  let c0_455 : Index := 0#32
  let c0_456 : Index := 0#32
  ![v1190.toNat, 13, 0, 0]
def k0_off85 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1194 : Index := Scalar.indexCast v315
  let c14 : Index := 14#32
  let c0_457 : Index := 0#32
  let c0_458 : Index := 0#32
  ![v1194.toNat, 14, 0, 0]
def k0_off86 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1198 : Index := Scalar.indexCast v315
  let c15 : Index := 15#32
  let c0_459 : Index := 0#32
  let c0_460 : Index := 0#32
  ![v1198.toNat, 15, 0, 0]
def k0_off87 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1202 : Index := Scalar.indexCast v315
  let c16 : Index := 16#32
  let c0_461 : Index := 0#32
  let c0_462 : Index := 0#32
  ![v1202.toNat, 16, 0, 0]
def k0_off88 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1206 : Index := Scalar.indexCast v315
  let c17 : Index := 17#32
  let c0_463 : Index := 0#32
  let c0_464 : Index := 0#32
  ![v1206.toNat, 17, 0, 0]
def k0_off89 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1210 : Index := Scalar.indexCast v315
  let c18 : Index := 18#32
  let c0_465 : Index := 0#32
  let c0_466 : Index := 0#32
  ![v1210.toNat, 18, 0, 0]
def k0_off90 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1214 : Index := Scalar.indexCast v315
  let c19 : Index := 19#32
  let c0_467 : Index := 0#32
  let c0_468 : Index := 0#32
  ![v1214.toNat, 19, 0, 0]
def k0_off91 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1218 : Index := Scalar.indexCast v315
  let c20 : Index := 20#32
  let c0_469 : Index := 0#32
  let c0_470 : Index := 0#32
  ![v1218.toNat, 20, 0, 0]
def k0_off92 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1222 : Index := Scalar.indexCast v315
  let c21 : Index := 21#32
  let c0_471 : Index := 0#32
  let c0_472 : Index := 0#32
  ![v1222.toNat, 21, 0, 0]
def k0_off93 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1226 : Index := Scalar.indexCast v315
  let c22 : Index := 22#32
  let c0_473 : Index := 0#32
  let c0_474 : Index := 0#32
  ![v1226.toNat, 22, 0, 0]
def k0_off94 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1230 : Index := Scalar.indexCast v315
  let c23 : Index := 23#32
  let c0_475 : Index := 0#32
  let c0_476 : Index := 0#32
  ![v1230.toNat, 23, 0, 0]
def k0_off95 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1234 : Index := Scalar.indexCast v315
  let c24 : Index := 24#32
  let c0_477 : Index := 0#32
  let c0_478 : Index := 0#32
  ![v1234.toNat, 24, 0, 0]
def k0_off96 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1238 : Index := Scalar.indexCast v315
  let c25 : Index := 25#32
  let c0_479 : Index := 0#32
  let c0_480 : Index := 0#32
  ![v1238.toNat, 25, 0, 0]
def k0_off97 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1242 : Index := Scalar.indexCast v315
  let c26 : Index := 26#32
  let c0_481 : Index := 0#32
  let c0_482 : Index := 0#32
  ![v1242.toNat, 26, 0, 0]
def k0_off98 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1246 : Index := Scalar.indexCast v315
  let c27 : Index := 27#32
  let c0_483 : Index := 0#32
  let c0_484 : Index := 0#32
  ![v1246.toNat, 27, 0, 0]
def k0_off99 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1250 : Index := Scalar.indexCast v315
  let c28 : Index := 28#32
  let c0_485 : Index := 0#32
  let c0_486 : Index := 0#32
  ![v1250.toNat, 28, 0, 0]
def k0_off100 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1254 : Index := Scalar.indexCast v315
  let c29 : Index := 29#32
  let c0_487 : Index := 0#32
  let c0_488 : Index := 0#32
  ![v1254.toNat, 29, 0, 0]
def k0_off101 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1258 : Index := Scalar.indexCast v315
  let c30 : Index := 30#32
  let c0_489 : Index := 0#32
  let c0_490 : Index := 0#32
  ![v1258.toNat, 30, 0, 0]
def k0_off102 (i : grid0.Coords) (k0_t2 : Fin (k0_t2_loop i).trips) : Fin 4 → Nat :=
  let c2_i32_161 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v315 : BitVec 32 := Scalar.muli c2_i32_161 arg18
  let v1262 : Index := Scalar.indexCast v315
  let c31 : Index := 31#32
  let c0_491 : Index := 0#32
  let c0_492 : Index := 0#32
  ![v1262.toNat, 31, 0, 0]
def k0_mult4 (i : grid0.Coords) (k0_t2 : Fin (k0_t2_loop i).trips) : BitVec 32 :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let c256_i32_493 : BitVec 32 := 256#32
  let v1266 : BitVec 32 := Scalar.muli v317 c256_i32_493
  v1266
def k0_off103 (i : grid0.Coords) (k0_t2 : Fin (k0_t2_loop i).trips) : Fin 3 → Nat :=
  let c0_494 : Index := 0#32
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let c256_i32_493 : BitVec 32 := 256#32
  let v1266 : BitVec 32 := Scalar.muli v317 c256_i32_493
  let v1267 : BitVec 32 := v1266
  let v1268 : Index := Scalar.indexCast v1267
  let c0_495 : Index := 0#32
  ![0, v1268.toNat, 0]
def k0_off104 (i : grid0.Coords) (k0_t2 : Fin (k0_t2_loop i).trips) : Fin 3 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v1328 : Index := Scalar.indexCast v317
  let c0_521 : Index := 0#32
  let c0_522 : Index := 0#32
  ![v1328.toNat, 0, 0]
def k0_off105 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2086 : Index := Scalar.indexCast v317
  let c0_764 : Index := 0#32
  let c0_765 : Index := 0#32
  let c0_766 : Index := 0#32
  ![v2086.toNat, 0, 0, 0]
def k0_off106 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2090 : Index := Scalar.indexCast v317
  let c1_767 : Index := 1#32
  let c0_768 : Index := 0#32
  let c0_769 : Index := 0#32
  ![v2090.toNat, 1, 0, 0]
def k0_off107 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2094 : Index := Scalar.indexCast v317
  let c2_770 : Index := 2#32
  let c0_771 : Index := 0#32
  let c0_772 : Index := 0#32
  ![v2094.toNat, 2, 0, 0]
def k0_off108 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2098 : Index := Scalar.indexCast v317
  let c3_773 : Index := 3#32
  let c0_774 : Index := 0#32
  let c0_775 : Index := 0#32
  ![v2098.toNat, 3, 0, 0]
def k0_off109 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2102 : Index := Scalar.indexCast v317
  let c4_776 : Index := 4#32
  let c0_777 : Index := 0#32
  let c0_778 : Index := 0#32
  ![v2102.toNat, 4, 0, 0]
def k0_off110 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2106 : Index := Scalar.indexCast v317
  let c5_779 : Index := 5#32
  let c0_780 : Index := 0#32
  let c0_781 : Index := 0#32
  ![v2106.toNat, 5, 0, 0]
def k0_off111 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2110 : Index := Scalar.indexCast v317
  let c6_782 : Index := 6#32
  let c0_783 : Index := 0#32
  let c0_784 : Index := 0#32
  ![v2110.toNat, 6, 0, 0]
def k0_off112 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2114 : Index := Scalar.indexCast v317
  let c7_785 : Index := 7#32
  let c0_786 : Index := 0#32
  let c0_787 : Index := 0#32
  ![v2114.toNat, 7, 0, 0]
def k0_off113 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2118 : Index := Scalar.indexCast v317
  let c8_788 : Index := 8#32
  let c0_789 : Index := 0#32
  let c0_790 : Index := 0#32
  ![v2118.toNat, 8, 0, 0]
def k0_off114 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2122 : Index := Scalar.indexCast v317
  let c9_791 : Index := 9#32
  let c0_792 : Index := 0#32
  let c0_793 : Index := 0#32
  ![v2122.toNat, 9, 0, 0]
def k0_off115 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2126 : Index := Scalar.indexCast v317
  let c10_794 : Index := 10#32
  let c0_795 : Index := 0#32
  let c0_796 : Index := 0#32
  ![v2126.toNat, 10, 0, 0]
def k0_off116 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2130 : Index := Scalar.indexCast v317
  let c11_797 : Index := 11#32
  let c0_798 : Index := 0#32
  let c0_799 : Index := 0#32
  ![v2130.toNat, 11, 0, 0]
def k0_off117 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2134 : Index := Scalar.indexCast v317
  let c12_800 : Index := 12#32
  let c0_801 : Index := 0#32
  let c0_802 : Index := 0#32
  ![v2134.toNat, 12, 0, 0]
def k0_off118 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2138 : Index := Scalar.indexCast v317
  let c13_803 : Index := 13#32
  let c0_804 : Index := 0#32
  let c0_805 : Index := 0#32
  ![v2138.toNat, 13, 0, 0]
def k0_off119 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2142 : Index := Scalar.indexCast v317
  let c14_806 : Index := 14#32
  let c0_807 : Index := 0#32
  let c0_808 : Index := 0#32
  ![v2142.toNat, 14, 0, 0]
def k0_off120 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2146 : Index := Scalar.indexCast v317
  let c15_809 : Index := 15#32
  let c0_810 : Index := 0#32
  let c0_811 : Index := 0#32
  ![v2146.toNat, 15, 0, 0]
def k0_off121 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2150 : Index := Scalar.indexCast v317
  let c16_812 : Index := 16#32
  let c0_813 : Index := 0#32
  let c0_814 : Index := 0#32
  ![v2150.toNat, 16, 0, 0]
def k0_off122 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2154 : Index := Scalar.indexCast v317
  let c17_815 : Index := 17#32
  let c0_816 : Index := 0#32
  let c0_817 : Index := 0#32
  ![v2154.toNat, 17, 0, 0]
def k0_off123 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2158 : Index := Scalar.indexCast v317
  let c18_818 : Index := 18#32
  let c0_819 : Index := 0#32
  let c0_820 : Index := 0#32
  ![v2158.toNat, 18, 0, 0]
def k0_off124 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2162 : Index := Scalar.indexCast v317
  let c19_821 : Index := 19#32
  let c0_822 : Index := 0#32
  let c0_823 : Index := 0#32
  ![v2162.toNat, 19, 0, 0]
def k0_off125 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2166 : Index := Scalar.indexCast v317
  let c20_824 : Index := 20#32
  let c0_825 : Index := 0#32
  let c0_826 : Index := 0#32
  ![v2166.toNat, 20, 0, 0]
def k0_off126 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2170 : Index := Scalar.indexCast v317
  let c21_827 : Index := 21#32
  let c0_828 : Index := 0#32
  let c0_829 : Index := 0#32
  ![v2170.toNat, 21, 0, 0]
def k0_off127 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2174 : Index := Scalar.indexCast v317
  let c22_830 : Index := 22#32
  let c0_831 : Index := 0#32
  let c0_832 : Index := 0#32
  ![v2174.toNat, 22, 0, 0]
def k0_off128 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2178 : Index := Scalar.indexCast v317
  let c23_833 : Index := 23#32
  let c0_834 : Index := 0#32
  let c0_835 : Index := 0#32
  ![v2178.toNat, 23, 0, 0]
def k0_off129 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2182 : Index := Scalar.indexCast v317
  let c24_836 : Index := 24#32
  let c0_837 : Index := 0#32
  let c0_838 : Index := 0#32
  ![v2182.toNat, 24, 0, 0]
def k0_off130 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2186 : Index := Scalar.indexCast v317
  let c25_839 : Index := 25#32
  let c0_840 : Index := 0#32
  let c0_841 : Index := 0#32
  ![v2186.toNat, 25, 0, 0]
def k0_off131 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2190 : Index := Scalar.indexCast v317
  let c26_842 : Index := 26#32
  let c0_843 : Index := 0#32
  let c0_844 : Index := 0#32
  ![v2190.toNat, 26, 0, 0]
def k0_off132 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2194 : Index := Scalar.indexCast v317
  let c27_845 : Index := 27#32
  let c0_846 : Index := 0#32
  let c0_847 : Index := 0#32
  ![v2194.toNat, 27, 0, 0]
def k0_off133 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2198 : Index := Scalar.indexCast v317
  let c28_848 : Index := 28#32
  let c0_849 : Index := 0#32
  let c0_850 : Index := 0#32
  ![v2198.toNat, 28, 0, 0]
def k0_off134 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2202 : Index := Scalar.indexCast v317
  let c29_851 : Index := 29#32
  let c0_852 : Index := 0#32
  let c0_853 : Index := 0#32
  ![v2202.toNat, 29, 0, 0]
def k0_off135 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2206 : Index := Scalar.indexCast v317
  let c30_854 : Index := 30#32
  let c0_855 : Index := 0#32
  let c0_856 : Index := 0#32
  ![v2206.toNat, 30, 0, 0]
def k0_off136 (i : grid0.Coords) (k0_t2 : Fin (k0_t2_loop i).trips) : Fin 4 → Nat :=
  let c2_i32_162 : BitVec 32 := 2#32
  let c0_i32_71 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_64 : BitVec 32 := 0#32
  let v125 : BitVec 1 := Scalar.cmpi .sgt v17 c0_i32_64
  let v126 : BitVec 32 := Scalar.extui v125
  let c0_i32_65 : BitVec 32 := 0#32
  let v127 : BitVec 1 := Scalar.cmpi .slt v17 c0_i32_65
  let v128 : BitVec 32 := Scalar.extui v127
  let v129 : BitVec 32 := Scalar.subi v126 v128
  let c2_i32 : BitVec 32 := 2#32
  let c0_i32_66 : BitVec 32 := 0#32
  let v130 : BitVec 1 := Scalar.cmpi .sgt c2_i32 c0_i32_66
  let v131 : BitVec 32 := Scalar.extui v130
  let c0_i32_67 : BitVec 32 := 0#32
  let v132 : BitVec 1 := Scalar.cmpi .slt c2_i32 c0_i32_67
  let v133 : BitVec 32 := Scalar.extui v132
  let v134 : BitVec 32 := Scalar.subi v131 v133
  let v135 : BitVec 1 := Scalar.cmpi .ne v129 v134
  let v136 : BitVec 32 := Scalar.remsi v17 c2_i32
  let c0_i32_68 : BitVec 32 := 0#32
  let v137 : BitVec 1 := Scalar.cmpi .ne v136 c0_i32_68
  let v138 : BitVec 1 := Scalar.andi v135 v137
  let v124 : BitVec 32 := Scalar.divsi v17 c2_i32
  let c1_i32_69 : BitVec 32 := 1#32
  let v139 : BitVec 32 := Scalar.subi v124 c1_i32_69
  let v140 : BitVec 32 := Scalar.select v138 v139 v124
  let v141 : BitVec 32 := Scalar.subi v140 c0_i32_71
  let c1_i32_72 : BitVec 32 := 1#32
  let v143 : BitVec 32 := Scalar.divsi v141 c1_i32_72
  let v144 : BitVec 32 := Scalar.muli v143 c1_i32_72
  let v145 : BitVec 32 := Scalar.addi c0_i32_71 v144
  let c1_i32_74 : BitVec 32 := 1#32
  let arg18 : BitVec 32 := Scf.iv v145 c1_i32_74 k0_t2
  let v316 : BitVec 32 := Scalar.muli c2_i32_162 arg18
  let c1_i32_163 : BitVec 32 := 1#32
  let v317 : BitVec 32 := Scalar.addi v316 c1_i32_163
  let v2210 : Index := Scalar.indexCast v317
  let c31_857 : Index := 31#32
  let c0_858 : Index := 0#32
  let c0_859 : Index := 0#32
  ![v2210.toNat, 31, 0, 0]
def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_75 : BitVec 32 := 2#32
  let c0_i32_76 : BitVec 32 := 0#32
  let v146 : BitVec 1 := Scalar.cmpi .eq c2_i32_75 c0_i32_76
  let c1_i32_77 : BitVec 32 := 1#32
  let v147 : BitVec 32 := Scalar.select v146 c1_i32_77 c2_i32_75
  let v148 : BitVec 32 := Scalar.remsi v17 v147
  let c0_i32_79 : BitVec 32 := 0#32
  let v150 : BitVec 1 := Scalar.cmpi .slt v148 c0_i32_79
  let c0_i32_80 : BitVec 32 := 0#32
  let v151 : BitVec 1 := Scalar.cmpi .slt v147 c0_i32_80
  let v152 : BitVec 1 := Scalar.xori v150 v151
  let c0_i32_78 : BitVec 32 := 0#32
  let v149 : BitVec 1 := Scalar.cmpi .ne v148 c0_i32_78
  let v153 : BitVec 1 := Scalar.andi v152 v149
  let v154 : BitVec 32 := Scalar.addi v148 v147
  let v155 : BitVec 32 := Scalar.select v153 v154 v148
  let c1_i32_81 : BitVec 32 := 1#32
  let v156 : BitVec 1 := Scalar.cmpi .eq v155 c1_i32_81
  let v157 : BitVec 32 := Scalar.extui v156
  let c0_i32_82 : BitVec 32 := 0#32
  let v158 : BitVec 1 := Scalar.cmpi .ne v157 c0_i32_82
  v158

def k0_mult5 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_162 : BitVec 32 := 256#32
  let v316 : BitVec 32 := Scalar.muli v315 c256_i32_162
  v316
def k0_off137 (i : grid0.Coords) : Fin 3 → Nat :=
  let c0_163 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_162 : BitVec 32 := 256#32
  let v316 : BitVec 32 := Scalar.muli v315 c256_i32_162
  let v317 : BitVec 32 := v316
  let v318 : Index := Scalar.indexCast v317
  let c0_164 : Index := 0#32
  ![0, v318.toNat, 0]
def k0_off138 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v378 : Index := Scalar.indexCast v315
  let c0_189 : Index := 0#32
  let c0_190 : Index := 0#32
  ![v378.toNat, 0, 0]
def k0_off139 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1136 : Index := Scalar.indexCast v315
  let c0_423 : Index := 0#32
  let c0_424 : Index := 0#32
  let c0_425 : Index := 0#32
  ![v1136.toNat, 0, 0, 0]
def k0_off140 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1140 : Index := Scalar.indexCast v315
  let c1_426 : Index := 1#32
  let c0_427 : Index := 0#32
  let c0_428 : Index := 0#32
  ![v1140.toNat, 1, 0, 0]
def k0_off141 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1144 : Index := Scalar.indexCast v315
  let c2_429 : Index := 2#32
  let c0_430 : Index := 0#32
  let c0_431 : Index := 0#32
  ![v1144.toNat, 2, 0, 0]
def k0_off142 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1148 : Index := Scalar.indexCast v315
  let c3_432 : Index := 3#32
  let c0_433 : Index := 0#32
  let c0_434 : Index := 0#32
  ![v1148.toNat, 3, 0, 0]
def k0_off143 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1152 : Index := Scalar.indexCast v315
  let c4 : Index := 4#32
  let c0_435 : Index := 0#32
  let c0_436 : Index := 0#32
  ![v1152.toNat, 4, 0, 0]
def k0_off144 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1156 : Index := Scalar.indexCast v315
  let c5 : Index := 5#32
  let c0_437 : Index := 0#32
  let c0_438 : Index := 0#32
  ![v1156.toNat, 5, 0, 0]
def k0_off145 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1160 : Index := Scalar.indexCast v315
  let c6 : Index := 6#32
  let c0_439 : Index := 0#32
  let c0_440 : Index := 0#32
  ![v1160.toNat, 6, 0, 0]
def k0_off146 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1164 : Index := Scalar.indexCast v315
  let c7 : Index := 7#32
  let c0_441 : Index := 0#32
  let c0_442 : Index := 0#32
  ![v1164.toNat, 7, 0, 0]
def k0_off147 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1168 : Index := Scalar.indexCast v315
  let c8 : Index := 8#32
  let c0_443 : Index := 0#32
  let c0_444 : Index := 0#32
  ![v1168.toNat, 8, 0, 0]
def k0_off148 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1172 : Index := Scalar.indexCast v315
  let c9 : Index := 9#32
  let c0_445 : Index := 0#32
  let c0_446 : Index := 0#32
  ![v1172.toNat, 9, 0, 0]
def k0_off149 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1176 : Index := Scalar.indexCast v315
  let c10 : Index := 10#32
  let c0_447 : Index := 0#32
  let c0_448 : Index := 0#32
  ![v1176.toNat, 10, 0, 0]
def k0_off150 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1180 : Index := Scalar.indexCast v315
  let c11 : Index := 11#32
  let c0_449 : Index := 0#32
  let c0_450 : Index := 0#32
  ![v1180.toNat, 11, 0, 0]
def k0_off151 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1184 : Index := Scalar.indexCast v315
  let c12 : Index := 12#32
  let c0_451 : Index := 0#32
  let c0_452 : Index := 0#32
  ![v1184.toNat, 12, 0, 0]
def k0_off152 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1188 : Index := Scalar.indexCast v315
  let c13 : Index := 13#32
  let c0_453 : Index := 0#32
  let c0_454 : Index := 0#32
  ![v1188.toNat, 13, 0, 0]
def k0_off153 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1192 : Index := Scalar.indexCast v315
  let c14 : Index := 14#32
  let c0_455 : Index := 0#32
  let c0_456 : Index := 0#32
  ![v1192.toNat, 14, 0, 0]
def k0_off154 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1196 : Index := Scalar.indexCast v315
  let c15 : Index := 15#32
  let c0_457 : Index := 0#32
  let c0_458 : Index := 0#32
  ![v1196.toNat, 15, 0, 0]
def k0_off155 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1200 : Index := Scalar.indexCast v315
  let c16 : Index := 16#32
  let c0_459 : Index := 0#32
  let c0_460 : Index := 0#32
  ![v1200.toNat, 16, 0, 0]
def k0_off156 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1204 : Index := Scalar.indexCast v315
  let c17 : Index := 17#32
  let c0_461 : Index := 0#32
  let c0_462 : Index := 0#32
  ![v1204.toNat, 17, 0, 0]
def k0_off157 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1208 : Index := Scalar.indexCast v315
  let c18 : Index := 18#32
  let c0_463 : Index := 0#32
  let c0_464 : Index := 0#32
  ![v1208.toNat, 18, 0, 0]
def k0_off158 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1212 : Index := Scalar.indexCast v315
  let c19 : Index := 19#32
  let c0_465 : Index := 0#32
  let c0_466 : Index := 0#32
  ![v1212.toNat, 19, 0, 0]
def k0_off159 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1216 : Index := Scalar.indexCast v315
  let c20 : Index := 20#32
  let c0_467 : Index := 0#32
  let c0_468 : Index := 0#32
  ![v1216.toNat, 20, 0, 0]
def k0_off160 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1220 : Index := Scalar.indexCast v315
  let c21 : Index := 21#32
  let c0_469 : Index := 0#32
  let c0_470 : Index := 0#32
  ![v1220.toNat, 21, 0, 0]
def k0_off161 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1224 : Index := Scalar.indexCast v315
  let c22 : Index := 22#32
  let c0_471 : Index := 0#32
  let c0_472 : Index := 0#32
  ![v1224.toNat, 22, 0, 0]
def k0_off162 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1228 : Index := Scalar.indexCast v315
  let c23 : Index := 23#32
  let c0_473 : Index := 0#32
  let c0_474 : Index := 0#32
  ![v1228.toNat, 23, 0, 0]
def k0_off163 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1232 : Index := Scalar.indexCast v315
  let c24 : Index := 24#32
  let c0_475 : Index := 0#32
  let c0_476 : Index := 0#32
  ![v1232.toNat, 24, 0, 0]
def k0_off164 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1236 : Index := Scalar.indexCast v315
  let c25 : Index := 25#32
  let c0_477 : Index := 0#32
  let c0_478 : Index := 0#32
  ![v1236.toNat, 25, 0, 0]
def k0_off165 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1240 : Index := Scalar.indexCast v315
  let c26 : Index := 26#32
  let c0_479 : Index := 0#32
  let c0_480 : Index := 0#32
  ![v1240.toNat, 26, 0, 0]
def k0_off166 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1244 : Index := Scalar.indexCast v315
  let c27 : Index := 27#32
  let c0_481 : Index := 0#32
  let c0_482 : Index := 0#32
  ![v1244.toNat, 27, 0, 0]
def k0_off167 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1248 : Index := Scalar.indexCast v315
  let c28 : Index := 28#32
  let c0_483 : Index := 0#32
  let c0_484 : Index := 0#32
  ![v1248.toNat, 28, 0, 0]
def k0_off168 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1252 : Index := Scalar.indexCast v315
  let c29 : Index := 29#32
  let c0_485 : Index := 0#32
  let c0_486 : Index := 0#32
  ![v1252.toNat, 29, 0, 0]
def k0_off169 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1256 : Index := Scalar.indexCast v315
  let c30 : Index := 30#32
  let c0_487 : Index := 0#32
  let c0_488 : Index := 0#32
  ![v1256.toNat, 30, 0, 0]
def k0_off170 (i : grid0.Coords) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v1260 : Index := Scalar.indexCast v315
  let c31 : Index := 31#32
  let c0_489 : Index := 0#32
  let c0_490 : Index := 0#32
  ![v1260.toNat, 31, 0, 0]
def k0_cond2 (i : grid0.Coords) : BitVec 1 :=
  let arg1 : BitVec 32 := BitVec.ofNat 32 (i 1).val
  let c1_i32_83 : BitVec 32 := 1#32
  let v159 : BitVec 32 := Scalar.addi arg1 c1_i32_83
  let c256_i32_84 : BitVec 32 := 256#32
  let v160 : BitVec 32 := Scalar.muli v159 c256_i32_84
  let c256_i32_85 : BitVec 32 := 256#32
  let v161 : BitVec 1 := Scalar.cmpi .sgt v160 c256_i32_85
  let v_true : BitVec 1 := 1#1
  let v162 : BitVec 1 := Scalar.xori v161 v_true
  let v163 : BitVec 32 := Scalar.extui v162
  let c0_i32_86 : BitVec 32 := 0#32
  let v164 : BitVec 1 := Scalar.cmpi .ne v163 c0_i32_86
  v164

@[reducible] def k0_t3_loop (i : grid0.Coords) : Scf.Loop 32 :=
  let c0_i32_162 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v315 : BitVec 32 := Scalar.subi v17 c0_i32_162
  let c1_i32_163 : BitVec 32 := 1#32
  let v317 : BitVec 32 := Scalar.divsi v315 c1_i32_163
  let v318 : BitVec 32 := Scalar.muli v317 c1_i32_163
  let v319 : BitVec 32 := Scalar.addi c0_i32_162 v318
  let c1_i32_164 : BitVec 32 := 1#32
  ⟨c0_i32_162, v319, c1_i32_164⟩
def k0_off171 (i : grid0.Coords) (k0_t3 : Fin (k0_t3_loop i).trips) : Fin 3 → Nat :=
  let c0_i32_162 : BitVec 32 := 0#32
  let c1_i32_164 : BitVec 32 := 1#32
  let arg18 : BitVec 32 := Scf.iv c0_i32_162 c1_i32_164 k0_t3
  let v330 : Index := Scalar.indexCast arg18
  let c0_171 : Index := 0#32
  let c0_172 : Index := 0#32
  ![v330.toNat, 0, 0]
@[reducible] def k0_t4_loop (i : grid0.Coords) : Scf.Loop 32 :=
  let c0_i32_162 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v315 : BitVec 32 := Scalar.subi v17 c0_i32_162
  let c1_i32_163 : BitVec 32 := 1#32
  let v317 : BitVec 32 := Scalar.divsi v315 c1_i32_163
  let v318 : BitVec 32 := Scalar.muli v317 c1_i32_163
  let v319 : BitVec 32 := Scalar.addi c0_i32_162 v318
  let v316 : BitVec 32 := Scalar.addi c0_i32_162 v315
  let c1_i32_165 : BitVec 32 := 1#32
  ⟨v319, v316, c1_i32_165⟩
def k0_off172 (i : grid0.Coords) (k0_t4 : Fin (k0_t4_loop i).trips) : Fin 3 → Nat :=
  let c0_i32_162 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v315 : BitVec 32 := Scalar.subi v17 c0_i32_162
  let c1_i32_163 : BitVec 32 := 1#32
  let v317 : BitVec 32 := Scalar.divsi v315 c1_i32_163
  let v318 : BitVec 32 := Scalar.muli v317 c1_i32_163
  let v319 : BitVec 32 := Scalar.addi c0_i32_162 v318
  let c1_i32_165 : BitVec 32 := 1#32
  let arg18 : BitVec 32 := Scf.iv v319 c1_i32_165 k0_t4
  let v330 : Index := Scalar.indexCast arg18
  let c0_171 : Index := 0#32
  let c0_172 : Index := 0#32
  ![v330.toNat, 0, 0]
def k0_cond3 (i : grid0.Coords) : BitVec 1 :=
  let arg1 : BitVec 32 := BitVec.ofNat 32 (i 1).val
  let c1_i32_83 : BitVec 32 := 1#32
  let v159 : BitVec 32 := Scalar.addi arg1 c1_i32_83
  let c256_i32_84 : BitVec 32 := 256#32
  let v160 : BitVec 32 := Scalar.muli v159 c256_i32_84
  let c256_i32_85 : BitVec 32 := 256#32
  let v161 : BitVec 1 := Scalar.cmpi .sgt v160 c256_i32_85
  let v165 : BitVec 32 := Scalar.extui v161
  let c0_i32_87 : BitVec 32 := 0#32
  let v166 : BitVec 1 := Scalar.cmpi .ne v165 c0_i32_87
  v166

@[reducible] def k0_t5_loop (i : grid0.Coords) : Scf.Loop 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c8_i32 : BitVec 32 := 8#32
  let v315 : BitVec 32 := Scalar.subi c8_i32 v17
  let c1_i32_162 : BitVec 32 := 1#32
  let v317 : BitVec 32 := Scalar.divsi v315 c1_i32_162
  let v318 : BitVec 32 := Scalar.muli v317 c1_i32_162
  let v319 : BitVec 32 := Scalar.addi v17 v318
  let c1_i32_163 : BitVec 32 := 1#32
  ⟨v17, v319, c1_i32_163⟩
def k0_off173 (i : grid0.Coords) (k0_t5 : Fin (k0_t5_loop i).trips) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_163 : BitVec 32 := 1#32
  let arg18 : BitVec 32 := Scf.iv v17 c1_i32_163 k0_t5
  let v383 : Index := Scalar.indexCast arg18
  let c0_188 : Index := 0#32
  let c0_189 : Index := 0#32
  let c0_190 : Index := 0#32
  ![v383.toNat, 0, 0, 0]
@[reducible] def k0_t6_loop (i : grid0.Coords) : Scf.Loop 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c8_i32 : BitVec 32 := 8#32
  let v315 : BitVec 32 := Scalar.subi c8_i32 v17
  let c1_i32_162 : BitVec 32 := 1#32
  let v317 : BitVec 32 := Scalar.divsi v315 c1_i32_162
  let v318 : BitVec 32 := Scalar.muli v317 c1_i32_162
  let v319 : BitVec 32 := Scalar.addi v17 v318
  let v316 : BitVec 32 := Scalar.addi v17 v315
  let c1_i32_164 : BitVec 32 := 1#32
  ⟨v319, v316, c1_i32_164⟩
def k0_off174 (i : grid0.Coords) (k0_t6 : Fin (k0_t6_loop i).trips) : Fin 4 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c8_i32 : BitVec 32 := 8#32
  let v315 : BitVec 32 := Scalar.subi c8_i32 v17
  let c1_i32_162 : BitVec 32 := 1#32
  let v317 : BitVec 32 := Scalar.divsi v315 c1_i32_162
  let v318 : BitVec 32 := Scalar.muli v317 c1_i32_162
  let v319 : BitVec 32 := Scalar.addi v17 v318
  let c1_i32_164 : BitVec 32 := 1#32
  let arg18 : BitVec 32 := Scf.iv v319 c1_i32_164 k0_t6
  let v383 : Index := Scalar.indexCast arg18
  let c0_188 : Index := 0#32
  let c0_189 : Index := 0#32
  let c0_190 : Index := 0#32
  ![v383.toNat, 0, 0, 0]
@[reducible] def k0_t7_loop : Scf.Loop 32 :=
  let c0_i32_178 : BitVec 32 := 0#32
  let c32_i32 : BitVec 32 := 32#32
  let v347 : BitVec 32 := Scalar.addi c0_i32_178 c32_i32
  let c1_i32_179 : BitVec 32 := 1#32
  ⟨c0_i32_178, v347, c1_i32_179⟩
def k0_off175 (k0_t7 : Fin k0_t7_loop.trips) : Fin 4 → Nat :=
  let c0_187 : Index := 0#32
  let c0_i32_178 : BitVec 32 := 0#32
  let c1_i32_179 : BitVec 32 := 1#32
  let arg18 : BitVec 32 := Scf.iv c0_i32_178 c1_i32_179 k0_t7
  let v382 : Index := Scalar.indexCast arg18
  let c0_188 : Index := 0#32
  let c0_189 : Index := 0#32
  ![0, v382.toNat, 0, 0]
def k0_off176 (k0_t7 : Fin k0_t7_loop.trips) : Fin 4 → Nat :=
  let c1_190 : Index := 1#32
  let c0_i32_178 : BitVec 32 := 0#32
  let c1_i32_179 : BitVec 32 := 1#32
  let arg18 : BitVec 32 := Scf.iv c0_i32_178 c1_i32_179 k0_t7
  let v386 : Index := Scalar.indexCast arg18
  let c0_191 : Index := 0#32
  let c0_192 : Index := 0#32
  ![1, v386.toNat, 0, 0]
def k0_off177 (k0_t7 : Fin k0_t7_loop.trips) : Fin 4 → Nat :=
  let c2_193 : Index := 2#32
  let c0_i32_178 : BitVec 32 := 0#32
  let c1_i32_179 : BitVec 32 := 1#32
  let arg18 : BitVec 32 := Scf.iv c0_i32_178 c1_i32_179 k0_t7
  let v390 : Index := Scalar.indexCast arg18
  let c0_194 : Index := 0#32
  let c0_195 : Index := 0#32
  ![2, v390.toNat, 0, 0]
def k0_off178 (k0_t7 : Fin k0_t7_loop.trips) : Fin 4 → Nat :=
  let c3_196 : Index := 3#32
  let c0_i32_178 : BitVec 32 := 0#32
  let c1_i32_179 : BitVec 32 := 1#32
  let arg18 : BitVec 32 := Scf.iv c0_i32_178 c1_i32_179 k0_t7
  let v394 : Index := Scalar.indexCast arg18
  let c0_197 : Index := 0#32
  let c0_198 : Index := 0#32
  ![3, v394.toNat, 0, 0]
def k0_off179 (k0_t7 : Fin k0_t7_loop.trips) : Fin 4 → Nat :=
  let c4 : Index := 4#32
  let c0_i32_178 : BitVec 32 := 0#32
  let c1_i32_179 : BitVec 32 := 1#32
  let arg18 : BitVec 32 := Scf.iv c0_i32_178 c1_i32_179 k0_t7
  let v398 : Index := Scalar.indexCast arg18
  let c0_199 : Index := 0#32
  let c0_200 : Index := 0#32
  ![4, v398.toNat, 0, 0]
def k0_off180 (k0_t7 : Fin k0_t7_loop.trips) : Fin 4 → Nat :=
  let c5 : Index := 5#32
  let c0_i32_178 : BitVec 32 := 0#32
  let c1_i32_179 : BitVec 32 := 1#32
  let arg18 : BitVec 32 := Scf.iv c0_i32_178 c1_i32_179 k0_t7
  let v402 : Index := Scalar.indexCast arg18
  let c0_201 : Index := 0#32
  let c0_202 : Index := 0#32
  ![5, v402.toNat, 0, 0]
def k0_off181 (k0_t7 : Fin k0_t7_loop.trips) : Fin 4 → Nat :=
  let c6 : Index := 6#32
  let c0_i32_178 : BitVec 32 := 0#32
  let c1_i32_179 : BitVec 32 := 1#32
  let arg18 : BitVec 32 := Scf.iv c0_i32_178 c1_i32_179 k0_t7
  let v406 : Index := Scalar.indexCast arg18
  let c0_203 : Index := 0#32
  let c0_204 : Index := 0#32
  ![6, v406.toNat, 0, 0]
def k0_off182 (k0_t7 : Fin k0_t7_loop.trips) : Fin 4 → Nat :=
  let c7 : Index := 7#32
  let c0_i32_178 : BitVec 32 := 0#32
  let c1_i32_179 : BitVec 32 := 1#32
  let arg18 : BitVec 32 := Scf.iv c0_i32_178 c1_i32_179 k0_t7
  let v410 : Index := Scalar.indexCast arg18
  let c0_205 : Index := 0#32
  let c0_206 : Index := 0#32
  ![7, v410.toNat, 0, 0]
@[reducible] def k0_t8_loop (i : grid0.Coords) : Scf.Loop 32 :=
  let c0_i32_188 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v382 : BitVec 32 := Scalar.subi v17 c0_i32_188
  let c1_i32_189 : BitVec 32 := 1#32
  let v384 : BitVec 32 := Scalar.divsi v382 c1_i32_189
  let v385 : BitVec 32 := Scalar.muli v384 c1_i32_189
  let v386 : BitVec 32 := Scalar.addi c0_i32_188 v385
  let c1_i32_190 : BitVec 32 := 1#32
  ⟨c0_i32_188, v386, c1_i32_190⟩
def k0_off183 (i : grid0.Coords) (k0_t8 : Fin (k0_t8_loop i).trips) : Fin 3 → Nat :=
  let c0_i32_188 : BitVec 32 := 0#32
  let c1_i32_190 : BitVec 32 := 1#32
  let arg18 : BitVec 32 := Scf.iv c0_i32_188 c1_i32_190 k0_t8
  let v387 : Index := Scalar.indexCast arg18
  let c0_192 : Index := 0#32
  let c0_193 : Index := 0#32
  ![v387.toNat, 0, 0]
@[reducible] def k0_t9_loop (i : grid0.Coords) : Scf.Loop 32 :=
  let c0_i32_188 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v382 : BitVec 32 := Scalar.subi v17 c0_i32_188
  let c1_i32_189 : BitVec 32 := 1#32
  let v384 : BitVec 32 := Scalar.divsi v382 c1_i32_189
  let v385 : BitVec 32 := Scalar.muli v384 c1_i32_189
  let v386 : BitVec 32 := Scalar.addi c0_i32_188 v385
  let v383 : BitVec 32 := Scalar.addi c0_i32_188 v382
  let c1_i32_191 : BitVec 32 := 1#32
  ⟨v386, v383, c1_i32_191⟩
def k0_off184 (i : grid0.Coords) (k0_t9 : Fin (k0_t9_loop i).trips) : Fin 3 → Nat :=
  let c0_i32_188 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v382 : BitVec 32 := Scalar.subi v17 c0_i32_188
  let c1_i32_189 : BitVec 32 := 1#32
  let v384 : BitVec 32 := Scalar.divsi v382 c1_i32_189
  let v385 : BitVec 32 := Scalar.muli v384 c1_i32_189
  let v386 : BitVec 32 := Scalar.addi c0_i32_188 v385
  let c1_i32_191 : BitVec 32 := 1#32
  let arg18 : BitVec 32 := Scf.iv v386 c1_i32_191 k0_t9
  let v387 : Index := Scalar.indexCast arg18
  let c0_192 : Index := 0#32
  let c0_193 : Index := 0#32
  ![v387.toNat, 0, 0]
@[reducible] def k0_t10_loop (i : grid0.Coords) : Scf.Loop 32 :=
  let c0_i32_188 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v383 : BitVec 32 := Scalar.subi v17 c0_i32_188
  let c1_i32_189 : BitVec 32 := 1#32
  let v385 : BitVec 32 := Scalar.divsi v383 c1_i32_189
  let v386 : BitVec 32 := Scalar.muli v385 c1_i32_189
  let v387 : BitVec 32 := Scalar.addi c0_i32_188 v386
  let c1_i32_190 : BitVec 32 := 1#32
  ⟨c0_i32_188, v387, c1_i32_190⟩
def k0_off185 (i : grid0.Coords) (k0_t10 : Fin (k0_t10_loop i).trips) : Fin 3 → Nat :=
  let c0_i32_188 : BitVec 32 := 0#32
  let c1_i32_190 : BitVec 32 := 1#32
  let arg18 : BitVec 32 := Scf.iv c0_i32_188 c1_i32_190 k0_t10
  let v404 : Index := Scalar.indexCast arg18
  let c0_203 : Index := 0#32
  let c0_204 : Index := 0#32
  ![v404.toNat, 0, 0]
@[reducible] def k0_t11_loop (i : grid0.Coords) : Scf.Loop 32 :=
  let c0_i32_188 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v383 : BitVec 32 := Scalar.subi v17 c0_i32_188
  let c1_i32_189 : BitVec 32 := 1#32
  let v385 : BitVec 32 := Scalar.divsi v383 c1_i32_189
  let v386 : BitVec 32 := Scalar.muli v385 c1_i32_189
  let v387 : BitVec 32 := Scalar.addi c0_i32_188 v386
  let v384 : BitVec 32 := Scalar.addi c0_i32_188 v383
  let c1_i32_191 : BitVec 32 := 1#32
  ⟨v387, v384, c1_i32_191⟩
def k0_off186 (i : grid0.Coords) (k0_t11 : Fin (k0_t11_loop i).trips) : Fin 3 → Nat :=
  let c0_i32_188 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v383 : BitVec 32 := Scalar.subi v17 c0_i32_188
  let c1_i32_189 : BitVec 32 := 1#32
  let v385 : BitVec 32 := Scalar.divsi v383 c1_i32_189
  let v386 : BitVec 32 := Scalar.muli v385 c1_i32_189
  let v387 : BitVec 32 := Scalar.addi c0_i32_188 v386
  let c1_i32_191 : BitVec 32 := 1#32
  let arg18 : BitVec 32 := Scf.iv v387 c1_i32_191 k0_t11
  let v404 : Index := Scalar.indexCast arg18
  let c0_203 : Index := 0#32
  let c0_204 : Index := 0#32
  ![v404.toNat, 0, 0]
@[reducible] def k0_t12_loop : Scf.Loop 32 :=
  let c0_i32_195 : BitVec 32 := 0#32
  let c11_i32 : BitVec 32 := 11#32
  let v395 : BitVec 32 := Scalar.addi c0_i32_195 c11_i32
  let c1_i32_196 : BitVec 32 := 1#32
  ⟨c0_i32_195, v395, c1_i32_196⟩
@[reducible] def k0_t13_loop (i : grid0.Coords) : Scf.Loop 32 :=
  let c0_i32_205 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v411 : BitVec 32 := Scalar.subi v17 c0_i32_205
  let c1_i32_206 : BitVec 32 := 1#32
  let v413 : BitVec 32 := Scalar.divsi v411 c1_i32_206
  let v414 : BitVec 32 := Scalar.muli v413 c1_i32_206
  let v415 : BitVec 32 := Scalar.addi c0_i32_205 v414
  let c1_i32_207 : BitVec 32 := 1#32
  ⟨c0_i32_205, v415, c1_i32_207⟩
def k0_off187 (i : grid0.Coords) (k0_t13 : Fin (k0_t13_loop i).trips) : Fin 3 → Nat :=
  let c0_i32_205 : BitVec 32 := 0#32
  let c1_i32_207 : BitVec 32 := 1#32
  let arg20 : BitVec 32 := Scf.iv c0_i32_205 c1_i32_207 k0_t13
  let v422 : Index := Scalar.indexCast arg20
  let c0_210 : Index := 0#32
  let c0_211 : Index := 0#32
  ![v422.toNat, 0, 0]
@[reducible] def k0_t14_loop (i : grid0.Coords) : Scf.Loop 32 :=
  let c0_i32_205 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v411 : BitVec 32 := Scalar.subi v17 c0_i32_205
  let c1_i32_206 : BitVec 32 := 1#32
  let v413 : BitVec 32 := Scalar.divsi v411 c1_i32_206
  let v414 : BitVec 32 := Scalar.muli v413 c1_i32_206
  let v415 : BitVec 32 := Scalar.addi c0_i32_205 v414
  let v412 : BitVec 32 := Scalar.addi c0_i32_205 v411
  let c1_i32_208 : BitVec 32 := 1#32
  ⟨v415, v412, c1_i32_208⟩
def k0_off188 (i : grid0.Coords) (k0_t14 : Fin (k0_t14_loop i).trips) : Fin 3 → Nat :=
  let c0_i32_205 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v411 : BitVec 32 := Scalar.subi v17 c0_i32_205
  let c1_i32_206 : BitVec 32 := 1#32
  let v413 : BitVec 32 := Scalar.divsi v411 c1_i32_206
  let v414 : BitVec 32 := Scalar.muli v413 c1_i32_206
  let v415 : BitVec 32 := Scalar.addi c0_i32_205 v414
  let c1_i32_208 : BitVec 32 := 1#32
  let arg20 : BitVec 32 := Scf.iv v415 c1_i32_208 k0_t14
  let v422 : Index := Scalar.indexCast arg20
  let c0_210 : Index := 0#32
  let c0_211 : Index := 0#32
  ![v422.toNat, 0, 0]
@[reducible] def k0_t15_loop (i : grid0.Coords) : Scf.Loop 32 :=
  let c0_i32_199 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v399 : BitVec 32 := Scalar.subi v17 c0_i32_199
  let c1_i32_200 : BitVec 32 := 1#32
  let v401 : BitVec 32 := Scalar.divsi v399 c1_i32_200
  let v402 : BitVec 32 := Scalar.muli v401 c1_i32_200
  let v403 : BitVec 32 := Scalar.addi c0_i32_199 v402
  let c1_i32_201 : BitVec 32 := 1#32
  ⟨c0_i32_199, v403, c1_i32_201⟩
def k0_off189 (i : grid0.Coords) (k0_t15 : Fin (k0_t15_loop i).trips) : Fin 3 → Nat :=
  let c0_i32_199 : BitVec 32 := 0#32
  let c1_i32_201 : BitVec 32 := 1#32
  let arg18 : BitVec 32 := Scf.iv c0_i32_199 c1_i32_201 k0_t15
  let v404 : Index := Scalar.indexCast arg18
  let c0_203 : Index := 0#32
  let c0_204 : Index := 0#32
  ![v404.toNat, 0, 0]
@[reducible] def k0_t16_loop (i : grid0.Coords) : Scf.Loop 32 :=
  let c0_i32_199 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v399 : BitVec 32 := Scalar.subi v17 c0_i32_199
  let c1_i32_200 : BitVec 32 := 1#32
  let v401 : BitVec 32 := Scalar.divsi v399 c1_i32_200
  let v402 : BitVec 32 := Scalar.muli v401 c1_i32_200
  let v403 : BitVec 32 := Scalar.addi c0_i32_199 v402
  let v400 : BitVec 32 := Scalar.addi c0_i32_199 v399
  let c1_i32_202 : BitVec 32 := 1#32
  ⟨v403, v400, c1_i32_202⟩
def k0_off190 (i : grid0.Coords) (k0_t16 : Fin (k0_t16_loop i).trips) : Fin 3 → Nat :=
  let c0_i32_199 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v399 : BitVec 32 := Scalar.subi v17 c0_i32_199
  let c1_i32_200 : BitVec 32 := 1#32
  let v401 : BitVec 32 := Scalar.divsi v399 c1_i32_200
  let v402 : BitVec 32 := Scalar.muli v401 c1_i32_200
  let v403 : BitVec 32 := Scalar.addi c0_i32_199 v402
  let c1_i32_202 : BitVec 32 := 1#32
  let arg18 : BitVec 32 := Scf.iv v403 c1_i32_202 k0_t16
  let v404 : Index := Scalar.indexCast arg18
  let c0_203 : Index := 0#32
  let c0_204 : Index := 0#32
  ![v404.toNat, 0, 0]
@[reducible] def k0_t17_loop (i : grid0.Coords) : Scf.Loop 32 :=
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_103 : BitVec 32 := 1#32
  ⟨c0_i32_101, v194, c1_i32_103⟩
def k0_off191 (i : grid0.Coords) (k0_t17 : Fin (k0_t17_loop i).trips) : Fin 3 → Nat :=
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let v318 : Index := Scalar.indexCast v317
  let c0_164 : Index := 0#32
  let c0_165 : Index := 0#32
  ![v318.toNat, 0, 0]
def k0_mult6 (i : grid0.Coords) (k0_t17 : Fin (k0_t17_loop i).trips) : BitVec 32 :=
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_166 : BitVec 32 := 256#32
  let v322 : BitVec 32 := Scalar.muli v317 c256_i32_166
  v322
def k0_off192 (i : grid0.Coords) (k0_t17 : Fin (k0_t17_loop i).trips) : Fin 3 → Nat :=
  let c0_167 : Index := 0#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_166 : BitVec 32 := 256#32
  let v322 : BitVec 32 := Scalar.muli v317 c256_i32_166
  let v323 : BitVec 32 := v322
  let v324 : Index := Scalar.indexCast v323
  let c0_168 : Index := 0#32
  ![0, v324.toNat, 0]
def k0_off193 (i : grid0.Coords) (k0_t17 : Fin (k0_t17_loop i).trips) : Fin 4 → Nat :=
  let c0_173 : Index := 0#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let v331 : Index := Scalar.indexCast v317
  let c0_174 : Index := 0#32
  let c0_175 : Index := 0#32
  ![0, v331.toNat, 0, 0]
def k0_mult7 (i : grid0.Coords) (k0_t17 : Fin (k0_t17_loop i).trips) : BitVec 32 :=
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_177 : BitVec 32 := 256#32
  let v338 : BitVec 32 := Scalar.muli v317 c256_i32_177
  v338
def k0_off194 (i : grid0.Coords) (k0_t17 : Fin (k0_t17_loop i).trips) : Fin 3 → Nat :=
  let c0_178 : Index := 0#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_177 : BitVec 32 := 256#32
  let v338 : BitVec 32 := Scalar.muli v317 c256_i32_177
  let v339 : BitVec 32 := v338
  let v340 : Index := Scalar.indexCast v339
  let c128_179 : Index := 128#32
  ![0, v340.toNat, 128]
def k0_off195 (i : grid0.Coords) (k0_t17 : Fin (k0_t17_loop i).trips) : Fin 4 → Nat :=
  let c1_184 : Index := 1#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let v347 : Index := Scalar.indexCast v317
  let c0_185 : Index := 0#32
  let c0_186 : Index := 0#32
  ![1, v347.toNat, 0, 0]
def k0_mult8 (i : grid0.Coords) (k0_t17 : Fin (k0_t17_loop i).trips) : BitVec 32 :=
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_188 : BitVec 32 := 256#32
  let v354 : BitVec 32 := Scalar.muli v317 c256_i32_188
  v354
def k0_off196 (i : grid0.Coords) (k0_t17 : Fin (k0_t17_loop i).trips) : Fin 3 → Nat :=
  let c0_189 : Index := 0#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_188 : BitVec 32 := 256#32
  let v354 : BitVec 32 := Scalar.muli v317 c256_i32_188
  let v355 : BitVec 32 := v354
  let v356 : Index := Scalar.indexCast v355
  let c256_190 : Index := 256#32
  ![0, v356.toNat, 256]
def k0_off197 (i : grid0.Coords) (k0_t17 : Fin (k0_t17_loop i).trips) : Fin 4 → Nat :=
  let c2_195 : Index := 2#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let v363 : Index := Scalar.indexCast v317
  let c0_196 : Index := 0#32
  let c0_197 : Index := 0#32
  ![2, v363.toNat, 0, 0]
def k0_mult9 (i : grid0.Coords) (k0_t17 : Fin (k0_t17_loop i).trips) : BitVec 32 :=
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_199 : BitVec 32 := 256#32
  let v370 : BitVec 32 := Scalar.muli v317 c256_i32_199
  v370
def k0_off198 (i : grid0.Coords) (k0_t17 : Fin (k0_t17_loop i).trips) : Fin 3 → Nat :=
  let c0_200 : Index := 0#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let c256_i32_199 : BitVec 32 := 256#32
  let v370 : BitVec 32 := Scalar.muli v317 c256_i32_199
  let v371 : BitVec 32 := v370
  let v372 : Index := Scalar.indexCast v371
  let c384_201 : Index := 384#32
  ![0, v372.toNat, 384]
def k0_off199 (i : grid0.Coords) (k0_t17 : Fin (k0_t17_loop i).trips) : Fin 4 → Nat :=
  let c3_206 : Index := 3#32
  let c2_i32_163 : BitVec 32 := 2#32
  let c0_i32_101 : BitVec 32 := 0#32
  let c1_i32_103 : BitVec 32 := 1#32
  let arg18 : BitVec 32 := Scf.iv c0_i32_101 c1_i32_103 k0_t17
  let v317 : BitVec 32 := Scalar.muli c2_i32_163 arg18
  let v379 : Index := Scalar.indexCast v317
  let c0_207 : Index := 0#32
  let c0_208 : Index := 0#32
  ![3, v379.toNat, 0, 0]
def k0_off200 (i : grid0.Coords) (k0_t17 : Fin (k0_t17_loop i).trips) : Fin 3 → Nat :=
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let v386 : Index := Scalar.indexCast v316
  let c0_210 : Index := 0#32
  let c0_211 : Index := 0#32
  ![v386.toNat, 0, 0]
def k0_mult10 (i : grid0.Coords) (k0_t17 : Fin (k0_t17_loop i).trips) : BitVec 32 :=
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_212 : BitVec 32 := 256#32
  let v390 : BitVec 32 := Scalar.muli v316 c256_i32_212
  v390
def k0_off201 (i : grid0.Coords) (k0_t17 : Fin (k0_t17_loop i).trips) : Fin 3 → Nat :=
  let c0_213 : Index := 0#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_212 : BitVec 32 := 256#32
  let v390 : BitVec 32 := Scalar.muli v316 c256_i32_212
  let v391 : BitVec 32 := v390
  let v392 : Index := Scalar.indexCast v391
  let c0_214 : Index := 0#32
  ![0, v392.toNat, 0]
def k0_off202 (i : grid0.Coords) (k0_t17 : Fin (k0_t17_loop i).trips) : Fin 4 → Nat :=
  let c0_219 : Index := 0#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let v399 : Index := Scalar.indexCast v316
  let c0_220 : Index := 0#32
  let c0_221 : Index := 0#32
  ![0, v399.toNat, 0, 0]
def k0_mult11 (i : grid0.Coords) (k0_t17 : Fin (k0_t17_loop i).trips) : BitVec 32 :=
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_223 : BitVec 32 := 256#32
  let v406 : BitVec 32 := Scalar.muli v316 c256_i32_223
  v406
def k0_off203 (i : grid0.Coords) (k0_t17 : Fin (k0_t17_loop i).trips) : Fin 3 → Nat :=
  let c0_224 : Index := 0#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_223 : BitVec 32 := 256#32
  let v406 : BitVec 32 := Scalar.muli v316 c256_i32_223
  let v407 : BitVec 32 := v406
  let v408 : Index := Scalar.indexCast v407
  let c128_225 : Index := 128#32
  ![0, v408.toNat, 128]
def k0_off204 (i : grid0.Coords) (k0_t17 : Fin (k0_t17_loop i).trips) : Fin 4 → Nat :=
  let c1_230 : Index := 1#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let v415 : Index := Scalar.indexCast v316
  let c0_231 : Index := 0#32
  let c0_232 : Index := 0#32
  ![1, v415.toNat, 0, 0]
def k0_mult12 (i : grid0.Coords) (k0_t17 : Fin (k0_t17_loop i).trips) : BitVec 32 :=
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_234 : BitVec 32 := 256#32
  let v422 : BitVec 32 := Scalar.muli v316 c256_i32_234
  v422
def k0_off205 (i : grid0.Coords) (k0_t17 : Fin (k0_t17_loop i).trips) : Fin 3 → Nat :=
  let c0_235 : Index := 0#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_234 : BitVec 32 := 256#32
  let v422 : BitVec 32 := Scalar.muli v316 c256_i32_234
  let v423 : BitVec 32 := v422
  let v424 : Index := Scalar.indexCast v423
  let c256_236 : Index := 256#32
  ![0, v424.toNat, 256]
def k0_off206 (i : grid0.Coords) (k0_t17 : Fin (k0_t17_loop i).trips) : Fin 4 → Nat :=
  let c2_241 : Index := 2#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let v431 : Index := Scalar.indexCast v316
  let c0_242 : Index := 0#32
  let c0_243 : Index := 0#32
  ![2, v431.toNat, 0, 0]
def k0_mult13 (i : grid0.Coords) (k0_t17 : Fin (k0_t17_loop i).trips) : BitVec 32 :=
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_245 : BitVec 32 := 256#32
  let v438 : BitVec 32 := Scalar.muli v316 c256_i32_245
  v438
def k0_off207 (i : grid0.Coords) (k0_t17 : Fin (k0_t17_loop i).trips) : Fin 3 → Nat :=
  let c0_246 : Index := 0#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let c256_i32_245 : BitVec 32 := 256#32
  let v438 : BitVec 32 := Scalar.muli v316 c256_i32_245
  let v439 : BitVec 32 := v438
  let v440 : Index := Scalar.indexCast v439
  let c384_247 : Index := 384#32
  ![0, v440.toNat, 384]
def k0_off208 (i : grid0.Coords) (k0_t17 : Fin (k0_t17_loop i).trips) : Fin 4 → Nat :=
  let c3_252 : Index := 3#32
  let c2_i32_161 : BitVec 32 := 2#32
  let c0_i32_101 : BitVec 32 := 0#32
  let c1_i32_103 : BitVec 32 := 1#32
  let arg18 : BitVec 32 := Scf.iv c0_i32_101 c1_i32_103 k0_t17
  let v315 : BitVec 32 := Scalar.muli c2_i32_161 arg18
  let c1_i32_162 : BitVec 32 := 1#32
  let v316 : BitVec 32 := Scalar.addi v315 c1_i32_162
  let v447 : Index := Scalar.indexCast v316
  let c0_253 : Index := 0#32
  let c0_254 : Index := 0#32
  ![3, v447.toNat, 0, 0]
@[reducible] def k0_t18_loop (i : grid0.Coords) : Scf.Loop 32 :=
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let v191 : BitVec 32 := Scalar.addi c0_i32_101 v190
  let c1_i32_104 : BitVec 32 := 1#32
  ⟨v194, v191, c1_i32_104⟩
def k0_off209 (i : grid0.Coords) (k0_t18 : Fin (k0_t18_loop i).trips) : Fin 3 → Nat :=
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let v318 : Index := Scalar.indexCast v317
  let c0_164 : Index := 0#32
  let c0_165 : Index := 0#32
  ![v318.toNat, 0, 0]
def k0_mult14 (i : grid0.Coords) (k0_t18 : Fin (k0_t18_loop i).trips) : BitVec 32 :=
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_166 : BitVec 32 := 256#32
  let v322 : BitVec 32 := Scalar.muli v317 c256_i32_166
  v322
def k0_off210 (i : grid0.Coords) (k0_t18 : Fin (k0_t18_loop i).trips) : Fin 3 → Nat :=
  let c0_167 : Index := 0#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_166 : BitVec 32 := 256#32
  let v322 : BitVec 32 := Scalar.muli v317 c256_i32_166
  let v323 : BitVec 32 := v322
  let v324 : Index := Scalar.indexCast v323
  let c0_168 : Index := 0#32
  ![0, v324.toNat, 0]
def k0_off211 (i : grid0.Coords) (k0_t18 : Fin (k0_t18_loop i).trips) : Fin 4 → Nat :=
  let c0_173 : Index := 0#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let v331 : Index := Scalar.indexCast v317
  let c0_174 : Index := 0#32
  let c0_175 : Index := 0#32
  ![0, v331.toNat, 0, 0]
def k0_mult15 (i : grid0.Coords) (k0_t18 : Fin (k0_t18_loop i).trips) : BitVec 32 :=
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_177 : BitVec 32 := 256#32
  let v338 : BitVec 32 := Scalar.muli v317 c256_i32_177
  v338
def k0_off212 (i : grid0.Coords) (k0_t18 : Fin (k0_t18_loop i).trips) : Fin 3 → Nat :=
  let c0_178 : Index := 0#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_177 : BitVec 32 := 256#32
  let v338 : BitVec 32 := Scalar.muli v317 c256_i32_177
  let v339 : BitVec 32 := v338
  let v340 : Index := Scalar.indexCast v339
  let c128_179 : Index := 128#32
  ![0, v340.toNat, 128]
def k0_off213 (i : grid0.Coords) (k0_t18 : Fin (k0_t18_loop i).trips) : Fin 4 → Nat :=
  let c1_184 : Index := 1#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let v347 : Index := Scalar.indexCast v317
  let c0_185 : Index := 0#32
  let c0_186 : Index := 0#32
  ![1, v347.toNat, 0, 0]
def k0_mult16 (i : grid0.Coords) (k0_t18 : Fin (k0_t18_loop i).trips) : BitVec 32 :=
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_188 : BitVec 32 := 256#32
  let v354 : BitVec 32 := Scalar.muli v317 c256_i32_188
  v354
def k0_off214 (i : grid0.Coords) (k0_t18 : Fin (k0_t18_loop i).trips) : Fin 3 → Nat :=
  let c0_189 : Index := 0#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_188 : BitVec 32 := 256#32
  let v354 : BitVec 32 := Scalar.muli v317 c256_i32_188
  let v355 : BitVec 32 := v354
  let v356 : Index := Scalar.indexCast v355
  let c256_190 : Index := 256#32
  ![0, v356.toNat, 256]
def k0_off215 (i : grid0.Coords) (k0_t18 : Fin (k0_t18_loop i).trips) : Fin 4 → Nat :=
  let c2_195 : Index := 2#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let v363 : Index := Scalar.indexCast v317
  let c0_196 : Index := 0#32
  let c0_197 : Index := 0#32
  ![2, v363.toNat, 0, 0]
def k0_mult17 (i : grid0.Coords) (k0_t18 : Fin (k0_t18_loop i).trips) : BitVec 32 :=
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_199 : BitVec 32 := 256#32
  let v370 : BitVec 32 := Scalar.muli v317 c256_i32_199
  v370
def k0_off216 (i : grid0.Coords) (k0_t18 : Fin (k0_t18_loop i).trips) : Fin 3 → Nat :=
  let c0_200 : Index := 0#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let c256_i32_199 : BitVec 32 := 256#32
  let v370 : BitVec 32 := Scalar.muli v317 c256_i32_199
  let v371 : BitVec 32 := v370
  let v372 : Index := Scalar.indexCast v371
  let c384_201 : Index := 384#32
  ![0, v372.toNat, 384]
def k0_off217 (i : grid0.Coords) (k0_t18 : Fin (k0_t18_loop i).trips) : Fin 4 → Nat :=
  let c3_206 : Index := 3#32
  let c2_i32_163 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v317 : BitVec 32 := Scalar.muli c2_i32_163 arg18
  let v379 : Index := Scalar.indexCast v317
  let c0_207 : Index := 0#32
  let c0_208 : Index := 0#32
  ![3, v379.toNat, 0, 0]
def k0_off218 (i : grid0.Coords) (k0_t18 : Fin (k0_t18_loop i).trips) : Fin 3 → Nat :=
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let v386 : Index := Scalar.indexCast v316
  let c0_210 : Index := 0#32
  let c0_211 : Index := 0#32
  ![v386.toNat, 0, 0]
def k0_mult18 (i : grid0.Coords) (k0_t18 : Fin (k0_t18_loop i).trips) : BitVec 32 :=
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_212 : BitVec 32 := 256#32
  let v390 : BitVec 32 := Scalar.muli v316 c256_i32_212
  v390
def k0_off219 (i : grid0.Coords) (k0_t18 : Fin (k0_t18_loop i).trips) : Fin 3 → Nat :=
  let c0_213 : Index := 0#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_212 : BitVec 32 := 256#32
  let v390 : BitVec 32 := Scalar.muli v316 c256_i32_212
  let v391 : BitVec 32 := v390
  let v392 : Index := Scalar.indexCast v391
  let c0_214 : Index := 0#32
  ![0, v392.toNat, 0]
def k0_off220 (i : grid0.Coords) (k0_t18 : Fin (k0_t18_loop i).trips) : Fin 4 → Nat :=
  let c0_219 : Index := 0#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let v399 : Index := Scalar.indexCast v316
  let c0_220 : Index := 0#32
  let c0_221 : Index := 0#32
  ![0, v399.toNat, 0, 0]
def k0_mult19 (i : grid0.Coords) (k0_t18 : Fin (k0_t18_loop i).trips) : BitVec 32 :=
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_223 : BitVec 32 := 256#32
  let v406 : BitVec 32 := Scalar.muli v316 c256_i32_223
  v406
def k0_off221 (i : grid0.Coords) (k0_t18 : Fin (k0_t18_loop i).trips) : Fin 3 → Nat :=
  let c0_224 : Index := 0#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_223 : BitVec 32 := 256#32
  let v406 : BitVec 32 := Scalar.muli v316 c256_i32_223
  let v407 : BitVec 32 := v406
  let v408 : Index := Scalar.indexCast v407
  let c128_225 : Index := 128#32
  ![0, v408.toNat, 128]
def k0_off222 (i : grid0.Coords) (k0_t18 : Fin (k0_t18_loop i).trips) : Fin 4 → Nat :=
  let c1_230 : Index := 1#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let v415 : Index := Scalar.indexCast v316
  let c0_231 : Index := 0#32
  let c0_232 : Index := 0#32
  ![1, v415.toNat, 0, 0]
def k0_mult20 (i : grid0.Coords) (k0_t18 : Fin (k0_t18_loop i).trips) : BitVec 32 :=
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_234 : BitVec 32 := 256#32
  let v422 : BitVec 32 := Scalar.muli v316 c256_i32_234
  v422
def k0_off223 (i : grid0.Coords) (k0_t18 : Fin (k0_t18_loop i).trips) : Fin 3 → Nat :=
  let c0_235 : Index := 0#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_234 : BitVec 32 := 256#32
  let v422 : BitVec 32 := Scalar.muli v316 c256_i32_234
  let v423 : BitVec 32 := v422
  let v424 : Index := Scalar.indexCast v423
  let c256_236 : Index := 256#32
  ![0, v424.toNat, 256]
def k0_off224 (i : grid0.Coords) (k0_t18 : Fin (k0_t18_loop i).trips) : Fin 4 → Nat :=
  let c2_241 : Index := 2#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let v431 : Index := Scalar.indexCast v316
  let c0_242 : Index := 0#32
  let c0_243 : Index := 0#32
  ![2, v431.toNat, 0, 0]
def k0_mult21 (i : grid0.Coords) (k0_t18 : Fin (k0_t18_loop i).trips) : BitVec 32 :=
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_245 : BitVec 32 := 256#32
  let v438 : BitVec 32 := Scalar.muli v316 c256_i32_245
  v438
def k0_off225 (i : grid0.Coords) (k0_t18 : Fin (k0_t18_loop i).trips) : Fin 3 → Nat :=
  let c0_246 : Index := 0#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let c256_i32_245 : BitVec 32 := 256#32
  let v438 : BitVec 32 := Scalar.muli v316 c256_i32_245
  let v439 : BitVec 32 := v438
  let v440 : Index := Scalar.indexCast v439
  let c384_247 : Index := 384#32
  ![0, v440.toNat, 384]
def k0_off226 (i : grid0.Coords) (k0_t18 : Fin (k0_t18_loop i).trips) : Fin 4 → Nat :=
  let c3_252 : Index := 3#32
  let c2_i32_161 : BitVec 32 := 2#32
  let c0_i32_101 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c0_i32_95 : BitVec 32 := 0#32
  let v174 : BitVec 1 := Scalar.cmpi .sgt v172 c0_i32_95
  let v175 : BitVec 32 := Scalar.extui v174
  let c0_i32_96 : BitVec 32 := 0#32
  let v176 : BitVec 1 := Scalar.cmpi .slt v172 c0_i32_96
  let v177 : BitVec 32 := Scalar.extui v176
  let v178 : BitVec 32 := Scalar.subi v175 v177
  let c2_i32_94 : BitVec 32 := 2#32
  let c0_i32_97 : BitVec 32 := 0#32
  let v179 : BitVec 1 := Scalar.cmpi .sgt c2_i32_94 c0_i32_97
  let v180 : BitVec 32 := Scalar.extui v179
  let c0_i32_98 : BitVec 32 := 0#32
  let v181 : BitVec 1 := Scalar.cmpi .slt c2_i32_94 c0_i32_98
  let v182 : BitVec 32 := Scalar.extui v181
  let v183 : BitVec 32 := Scalar.subi v180 v182
  let v184 : BitVec 1 := Scalar.cmpi .ne v178 v183
  let v185 : BitVec 32 := Scalar.remsi v172 c2_i32_94
  let c0_i32_99 : BitVec 32 := 0#32
  let v186 : BitVec 1 := Scalar.cmpi .ne v185 c0_i32_99
  let v187 : BitVec 1 := Scalar.andi v184 v186
  let v173 : BitVec 32 := Scalar.divsi v172 c2_i32_94
  let c1_i32_100 : BitVec 32 := 1#32
  let v188 : BitVec 32 := Scalar.subi v173 c1_i32_100
  let v189 : BitVec 32 := Scalar.select v187 v188 v173
  let v190 : BitVec 32 := Scalar.subi v189 c0_i32_101
  let c1_i32_102 : BitVec 32 := 1#32
  let v192 : BitVec 32 := Scalar.divsi v190 c1_i32_102
  let v193 : BitVec 32 := Scalar.muli v192 c1_i32_102
  let v194 : BitVec 32 := Scalar.addi c0_i32_101 v193
  let c1_i32_104 : BitVec 32 := 1#32
  let arg18 : BitVec 32 := Scf.iv v194 c1_i32_104 k0_t18
  let v315 : BitVec 32 := Scalar.muli c2_i32_161 arg18
  let c1_i32_162 : BitVec 32 := 1#32
  let v316 : BitVec 32 := Scalar.addi v315 c1_i32_162
  let v447 : Index := Scalar.indexCast v316
  let c0_253 : Index := 0#32
  let c0_254 : Index := 0#32
  ![3, v447.toNat, 0, 0]
def k0_cond6 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c2_i32_105 : BitVec 32 := 2#32
  let c0_i32_106 : BitVec 32 := 0#32
  let v197 : BitVec 1 := Scalar.cmpi .eq c2_i32_105 c0_i32_106
  let c1_i32_107 : BitVec 32 := 1#32
  let v198 : BitVec 32 := Scalar.select v197 c1_i32_107 c2_i32_105
  let v199 : BitVec 32 := Scalar.remsi v172 v198
  let c0_i32_109 : BitVec 32 := 0#32
  let v201 : BitVec 1 := Scalar.cmpi .slt v199 c0_i32_109
  let c0_i32_110 : BitVec 32 := 0#32
  let v202 : BitVec 1 := Scalar.cmpi .slt v198 c0_i32_110
  let v203 : BitVec 1 := Scalar.xori v201 v202
  let c0_i32_108 : BitVec 32 := 0#32
  let v200 : BitVec 1 := Scalar.cmpi .ne v199 c0_i32_108
  let v204 : BitVec 1 := Scalar.andi v203 v200
  let v205 : BitVec 32 := Scalar.addi v199 v198
  let v206 : BitVec 32 := Scalar.select v204 v205 v199
  let c1_i32_111 : BitVec 32 := 1#32
  let v207 : BitVec 1 := Scalar.cmpi .eq v206 c1_i32_111
  let v208 : BitVec 32 := Scalar.extui v207
  let c0_i32_112 : BitVec 32 := 0#32
  let v209 : BitVec 1 := Scalar.cmpi .ne v208 c0_i32_112
  v209

def k0_off227 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let v316 : Index := Scalar.indexCast v315
  let c0_162 : Index := 0#32
  let c0_163 : Index := 0#32
  ![v316.toNat, 0, 0]
def k0_mult22 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_164 : BitVec 32 := 256#32
  let v320 : BitVec 32 := Scalar.muli v315 c256_i32_164
  v320
def k0_off228 (i : grid0.Coords) : Fin 3 → Nat :=
  let c0_165 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_164 : BitVec 32 := 256#32
  let v320 : BitVec 32 := Scalar.muli v315 c256_i32_164
  let v321 : BitVec 32 := v320
  let v322 : Index := Scalar.indexCast v321
  let c0_166 : Index := 0#32
  ![0, v322.toNat, 0]
def k0_off229 (i : grid0.Coords) : Fin 4 → Nat :=
  let c0_171 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let v329 : Index := Scalar.indexCast v315
  let c0_172 : Index := 0#32
  let c0_173 : Index := 0#32
  ![0, v329.toNat, 0, 0]
def k0_mult23 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_175 : BitVec 32 := 256#32
  let v336 : BitVec 32 := Scalar.muli v315 c256_i32_175
  v336
def k0_off230 (i : grid0.Coords) : Fin 3 → Nat :=
  let c0_176 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_175 : BitVec 32 := 256#32
  let v336 : BitVec 32 := Scalar.muli v315 c256_i32_175
  let v337 : BitVec 32 := v336
  let v338 : Index := Scalar.indexCast v337
  let c128_177 : Index := 128#32
  ![0, v338.toNat, 128]
def k0_off231 (i : grid0.Coords) : Fin 4 → Nat :=
  let c1_182 : Index := 1#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let v345 : Index := Scalar.indexCast v315
  let c0_183 : Index := 0#32
  let c0_184 : Index := 0#32
  ![1, v345.toNat, 0, 0]
def k0_mult24 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_186 : BitVec 32 := 256#32
  let v352 : BitVec 32 := Scalar.muli v315 c256_i32_186
  v352
def k0_off232 (i : grid0.Coords) : Fin 3 → Nat :=
  let c0_187 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_186 : BitVec 32 := 256#32
  let v352 : BitVec 32 := Scalar.muli v315 c256_i32_186
  let v353 : BitVec 32 := v352
  let v354 : Index := Scalar.indexCast v353
  let c256_188 : Index := 256#32
  ![0, v354.toNat, 256]
def k0_off233 (i : grid0.Coords) : Fin 4 → Nat :=
  let c2_193 : Index := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let v361 : Index := Scalar.indexCast v315
  let c0_194 : Index := 0#32
  let c0_195 : Index := 0#32
  ![2, v361.toNat, 0, 0]
def k0_mult25 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_197 : BitVec 32 := 256#32
  let v368 : BitVec 32 := Scalar.muli v315 c256_i32_197
  v368
def k0_off234 (i : grid0.Coords) : Fin 3 → Nat :=
  let c0_198 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let c256_i32_197 : BitVec 32 := 256#32
  let v368 : BitVec 32 := Scalar.muli v315 c256_i32_197
  let v369 : BitVec 32 := v368
  let v370 : Index := Scalar.indexCast v369
  let c384_199 : Index := 384#32
  ![0, v370.toNat, 384]
def k0_off235 (i : grid0.Coords) : Fin 4 → Nat :=
  let c3_204 : Index := 3#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_92 : BitVec 32 := 2#32
  let v171 : BitVec 32 := Scalar.subi v17 c2_i32_92
  let c0_i32_93 : BitVec 32 := 0#32
  let v172 : BitVec 32 := Scalar.maxsi v171 c0_i32_93
  let c1_i32_161 : BitVec 32 := 1#32
  let v315 : BitVec 32 := Scalar.subi v172 c1_i32_161
  let v377 : Index := Scalar.indexCast v315
  let c0_205 : Index := 0#32
  let c0_206 : Index := 0#32
  ![3, v377.toNat, 0, 0]
def k0_cond7 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_113 : BitVec 32 := 2#32
  let v211 : BitVec 1 := Scalar.cmpi .sge v17 c2_i32_113
  let v212 : BitVec 32 := Scalar.extui v211
  let c0_i32_114 : BitVec 32 := 0#32
  let v213 : BitVec 1 := Scalar.cmpi .ne v212 c0_i32_114
  v213

def k0_off236 (i : grid0.Coords) (c2_i32_162 : BitVec 32) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let v317 : Index := Scalar.indexCast v316
  let c0_163 : Index := 0#32
  let c0_164 : Index := 0#32
  ![v317.toNat, 0, 0]
def k0_mult26 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_162 : BitVec 32 := 2#32
  let v316 : BitVec 32 := Scalar.subi v17 c2_i32_162
  let c256_i32_165 : BitVec 32 := 256#32
  let v321 : BitVec 32 := Scalar.muli v316 c256_i32_165
  v321
def k0_off237 (i : grid0.Coords) (c2_i32_162 : BitVec 32) : Fin 3 → Nat :=
  let c0_166 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let c256_i32_165 : BitVec 32 := 256#32
  let v321 : BitVec 32 := Scalar.muli v316 c256_i32_165
  let v322 : BitVec 32 := v321
  let v323 : Index := Scalar.indexCast v322
  let c0_167 : Index := 0#32
  ![0, v323.toNat, 0]
def k0_off238 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v330 : Index := Scalar.indexCast v27
  let c0_172 : Index := 0#32
  let c0_173 : Index := 0#32
  let c0_174 : Index := 0#32
  let c0_175 : Index := 0#32
  ![v330.toNat, 0, 0, 0, 0]
def k0_off239 (i : grid0.Coords) (c2_i32_162 : BitVec 32) : Fin 4 → Nat :=
  let c0_176 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let v334 : Index := Scalar.indexCast v316
  let c0_177 : Index := 0#32
  let c0_178 : Index := 0#32
  ![0, v334.toNat, 0, 0]
def k0_mult27 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_162 : BitVec 32 := 2#32
  let v316 : BitVec 32 := Scalar.subi v17 c2_i32_162
  let c256_i32_180 : BitVec 32 := 256#32
  let v341 : BitVec 32 := Scalar.muli v316 c256_i32_180
  v341
def k0_off240 (i : grid0.Coords) (c2_i32_162 : BitVec 32) : Fin 3 → Nat :=
  let c0_181 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let c256_i32_180 : BitVec 32 := 256#32
  let v341 : BitVec 32 := Scalar.muli v316 c256_i32_180
  let v342 : BitVec 32 := v341
  let v343 : Index := Scalar.indexCast v342
  let c128_182 : Index := 128#32
  ![0, v343.toNat, 128]
def k0_off241 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v350 : Index := Scalar.indexCast v27
  let c0_187 : Index := 0#32
  let c1_188 : Index := 1#32
  let c0_189 : Index := 0#32
  let c0_190 : Index := 0#32
  ![v350.toNat, 0, 1, 0, 0]
def k0_off242 (i : grid0.Coords) (c2_i32_162 : BitVec 32) : Fin 4 → Nat :=
  let c1_191 : Index := 1#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let v354 : Index := Scalar.indexCast v316
  let c0_192 : Index := 0#32
  let c0_193 : Index := 0#32
  ![1, v354.toNat, 0, 0]
def k0_mult28 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_162 : BitVec 32 := 2#32
  let v316 : BitVec 32 := Scalar.subi v17 c2_i32_162
  let c256_i32_195 : BitVec 32 := 256#32
  let v361 : BitVec 32 := Scalar.muli v316 c256_i32_195
  v361
def k0_off243 (i : grid0.Coords) (c2_i32_162 : BitVec 32) : Fin 3 → Nat :=
  let c0_196 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let c256_i32_195 : BitVec 32 := 256#32
  let v361 : BitVec 32 := Scalar.muli v316 c256_i32_195
  let v362 : BitVec 32 := v361
  let v363 : Index := Scalar.indexCast v362
  let c256_197 : Index := 256#32
  ![0, v363.toNat, 256]
def k0_off244 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v370 : Index := Scalar.indexCast v27
  let c0_202 : Index := 0#32
  let c2_203 : Index := 2#32
  let c0_204 : Index := 0#32
  let c0_205 : Index := 0#32
  ![v370.toNat, 0, 2, 0, 0]
def k0_off245 (i : grid0.Coords) (c2_i32_162 : BitVec 32) : Fin 4 → Nat :=
  let c2_206 : Index := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let v374 : Index := Scalar.indexCast v316
  let c0_207 : Index := 0#32
  let c0_208 : Index := 0#32
  ![2, v374.toNat, 0, 0]
def k0_mult29 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_162 : BitVec 32 := 2#32
  let v316 : BitVec 32 := Scalar.subi v17 c2_i32_162
  let c256_i32_210 : BitVec 32 := 256#32
  let v381 : BitVec 32 := Scalar.muli v316 c256_i32_210
  v381
def k0_off246 (i : grid0.Coords) (c2_i32_162 : BitVec 32) : Fin 3 → Nat :=
  let c0_211 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let c256_i32_210 : BitVec 32 := 256#32
  let v381 : BitVec 32 := Scalar.muli v316 c256_i32_210
  let v382 : BitVec 32 := v381
  let v383 : Index := Scalar.indexCast v382
  let c384_212 : Index := 384#32
  ![0, v383.toNat, 384]
def k0_off247 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v390 : Index := Scalar.indexCast v27
  let c0_217 : Index := 0#32
  let c3_218 : Index := 3#32
  let c0_219 : Index := 0#32
  let c0_220 : Index := 0#32
  ![v390.toNat, 0, 3, 0, 0]
def k0_off248 (i : grid0.Coords) (c2_i32_162 : BitVec 32) : Fin 4 → Nat :=
  let c3_221 : Index := 3#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let v316 : BitVec 32 := Scalar.subi v17 c2_i32_162
  let v394 : Index := Scalar.indexCast v316
  let c0_222 : Index := 0#32
  let c0_223 : Index := 0#32
  ![3, v394.toNat, 0, 0]
def k0_mult30 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_227 : BitVec 32 := 256#32
  let v405 : BitVec 32 := Scalar.muli v315 c256_i32_227
  v405
def k0_off249 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v414 : Index := Scalar.indexCast v27
  let c1_234 : Index := 1#32
  let c0_235 : Index := 0#32
  let c0_236 : Index := 0#32
  let c0_237 : Index := 0#32
  ![v414.toNat, 1, 0, 0, 0]
def k0_mult31 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_242 : BitVec 32 := 256#32
  let v425 : BitVec 32 := Scalar.muli v315 c256_i32_242
  v425
def k0_off250 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v434 : Index := Scalar.indexCast v27
  let c1_249 : Index := 1#32
  let c1_250 : Index := 1#32
  let c0_251 : Index := 0#32
  let c0_252 : Index := 0#32
  ![v434.toNat, 1, 1, 0, 0]
def k0_mult32 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_257 : BitVec 32 := 256#32
  let v445 : BitVec 32 := Scalar.muli v315 c256_i32_257
  v445
def k0_off251 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v454 : Index := Scalar.indexCast v27
  let c1_264 : Index := 1#32
  let c2_265 : Index := 2#32
  let c0_266 : Index := 0#32
  let c0_267 : Index := 0#32
  ![v454.toNat, 1, 2, 0, 0]
def k0_mult33 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_272 : BitVec 32 := 256#32
  let v465 : BitVec 32 := Scalar.muli v315 c256_i32_272
  v465
def k0_off252 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v474 : Index := Scalar.indexCast v27
  let c1_279 : Index := 1#32
  let c3_280 : Index := 3#32
  let c0_281 : Index := 0#32
  let c0_282 : Index := 0#32
  ![v474.toNat, 1, 3, 0, 0]
def k0_off253 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v316 : Index := Scalar.indexCast v315
  let c0_162 : Index := 0#32
  let c0_163 : Index := 0#32
  ![v316.toNat, 0, 0]
def k0_mult34 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_164 : BitVec 32 := 256#32
  let v320 : BitVec 32 := Scalar.muli v315 c256_i32_164
  v320
def k0_off254 (i : grid0.Coords) : Fin 3 → Nat :=
  let c0_165 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_164 : BitVec 32 := 256#32
  let v320 : BitVec 32 := Scalar.muli v315 c256_i32_164
  let v321 : BitVec 32 := v320
  let v322 : Index := Scalar.indexCast v321
  let c0_166 : Index := 0#32
  ![0, v322.toNat, 0]
def k0_off255 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v329 : Index := Scalar.indexCast v27
  let c1_171 : Index := 1#32
  let c0_172 : Index := 0#32
  let c0_173 : Index := 0#32
  let c0_174 : Index := 0#32
  ![v329.toNat, 1, 0, 0, 0]
def k0_off256 (i : grid0.Coords) : Fin 4 → Nat :=
  let c0_175 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v333 : Index := Scalar.indexCast v315
  let c0_176 : Index := 0#32
  let c0_177 : Index := 0#32
  ![0, v333.toNat, 0, 0]
def k0_mult35 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_179 : BitVec 32 := 256#32
  let v340 : BitVec 32 := Scalar.muli v315 c256_i32_179
  v340
def k0_off257 (i : grid0.Coords) : Fin 3 → Nat :=
  let c0_180 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_179 : BitVec 32 := 256#32
  let v340 : BitVec 32 := Scalar.muli v315 c256_i32_179
  let v341 : BitVec 32 := v340
  let v342 : Index := Scalar.indexCast v341
  let c128_181 : Index := 128#32
  ![0, v342.toNat, 128]
def k0_off258 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v349 : Index := Scalar.indexCast v27
  let c1_186 : Index := 1#32
  let c1_187 : Index := 1#32
  let c0_188 : Index := 0#32
  let c0_189 : Index := 0#32
  ![v349.toNat, 1, 1, 0, 0]
def k0_off259 (i : grid0.Coords) : Fin 4 → Nat :=
  let c1_190 : Index := 1#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v353 : Index := Scalar.indexCast v315
  let c0_191 : Index := 0#32
  let c0_192 : Index := 0#32
  ![1, v353.toNat, 0, 0]
def k0_mult36 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_194 : BitVec 32 := 256#32
  let v360 : BitVec 32 := Scalar.muli v315 c256_i32_194
  v360
def k0_off260 (i : grid0.Coords) : Fin 3 → Nat :=
  let c0_195 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_194 : BitVec 32 := 256#32
  let v360 : BitVec 32 := Scalar.muli v315 c256_i32_194
  let v361 : BitVec 32 := v360
  let v362 : Index := Scalar.indexCast v361
  let c256_196 : Index := 256#32
  ![0, v362.toNat, 256]
def k0_off261 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v369 : Index := Scalar.indexCast v27
  let c1_201 : Index := 1#32
  let c2_202 : Index := 2#32
  let c0_203 : Index := 0#32
  let c0_204 : Index := 0#32
  ![v369.toNat, 1, 2, 0, 0]
def k0_off262 (i : grid0.Coords) : Fin 4 → Nat :=
  let c2_205 : Index := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v373 : Index := Scalar.indexCast v315
  let c0_206 : Index := 0#32
  let c0_207 : Index := 0#32
  ![2, v373.toNat, 0, 0]
def k0_mult37 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_209 : BitVec 32 := 256#32
  let v380 : BitVec 32 := Scalar.muli v315 c256_i32_209
  v380
def k0_off263 (i : grid0.Coords) : Fin 3 → Nat :=
  let c0_210 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let c256_i32_209 : BitVec 32 := 256#32
  let v380 : BitVec 32 := Scalar.muli v315 c256_i32_209
  let v381 : BitVec 32 := v380
  let v382 : Index := Scalar.indexCast v381
  let c384_211 : Index := 384#32
  ![0, v382.toNat, 384]
def k0_off264 (i : grid0.Coords) : Fin 5 → Nat :=
  let arg1 : BitVec 32 := BitVec.ofNat 32 (i 1).val
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v389 : Index := Scalar.indexCast v27
  let c1_216 : Index := 1#32
  let c3_217 : Index := 3#32
  let c0_218 : Index := 0#32
  let c0_219 : Index := 0#32
  ![v389.toNat, 1, 3, 0, 0]
def k0_off265 (i : grid0.Coords) : Fin 4 → Nat :=
  let c3_220 : Index := 3#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v393 : Index := Scalar.indexCast v315
  let c0_221 : Index := 0#32
  let c0_222 : Index := 0#32
  ![3, v393.toNat, 0, 0]
@[reducible] def k0_t19_loop (i : grid0.Coords) : Scf.Loop 32 :=
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_133 : BitVec 32 := 1#32
  ⟨c0_i32_131, v248, c1_i32_133⟩
def k0_off266 (i : grid0.Coords) (k0_t19 : Fin (k0_t19_loop i).trips) : Fin 4 → Nat :=
  let c0_164 : Index := 0#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v318 : Index := Scalar.indexCast v315
  let c0_165 : Index := 0#32
  let c0_166 : Index := 0#32
  ![0, v318.toNat, 0, 0]
def k0_off267 (i : grid0.Coords) (k0_t19 : Fin (k0_t19_loop i).trips) : Fin 5 → Nat :=
  let c0_167 : Index := 0#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v325 : Index := Scalar.indexCast v315
  let c0_168 : Index := 0#32
  let c0_169 : Index := 0#32
  let c0_170 : Index := 0#32
  ![0, v325.toNat, 0, 0, 0]
def k0_off268 (i : grid0.Coords) (k0_t19 : Fin (k0_t19_loop i).trips) : Fin 4 → Nat :=
  let c0_172 : Index := 0#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v329 : Index := Scalar.indexCast v317
  let c0_173 : Index := 0#32
  let c0_174 : Index := 0#32
  ![0, v329.toNat, 0, 0]
def k0_off269 (i : grid0.Coords) (k0_t19 : Fin (k0_t19_loop i).trips) : Fin 5 → Nat :=
  let c0_175 : Index := 0#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v336 : Index := Scalar.indexCast v317
  let c0_176 : Index := 0#32
  let c0_177 : Index := 0#32
  let c0_178 : Index := 0#32
  ![0, v336.toNat, 0, 0, 0]
def k0_off270 (i : grid0.Coords) (k0_t19 : Fin (k0_t19_loop i).trips) : Fin 4 → Nat :=
  let c1_186 : Index := 1#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v347 : Index := Scalar.indexCast v315
  let c0_187 : Index := 0#32
  let c0_188 : Index := 0#32
  ![1, v347.toNat, 0, 0]
def k0_off271 (i : grid0.Coords) (k0_t19 : Fin (k0_t19_loop i).trips) : Fin 5 → Nat :=
  let c0_189 : Index := 0#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v354 : Index := Scalar.indexCast v315
  let c1_190 : Index := 1#32
  let c0_191 : Index := 0#32
  let c0_192 : Index := 0#32
  ![0, v354.toNat, 1, 0, 0]
def k0_off272 (i : grid0.Coords) (k0_t19 : Fin (k0_t19_loop i).trips) : Fin 4 → Nat :=
  let c1_194 : Index := 1#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v358 : Index := Scalar.indexCast v317
  let c0_195 : Index := 0#32
  let c0_196 : Index := 0#32
  ![1, v358.toNat, 0, 0]
def k0_off273 (i : grid0.Coords) (k0_t19 : Fin (k0_t19_loop i).trips) : Fin 5 → Nat :=
  let c0_197 : Index := 0#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v365 : Index := Scalar.indexCast v317
  let c1_198 : Index := 1#32
  let c0_199 : Index := 0#32
  let c0_200 : Index := 0#32
  ![0, v365.toNat, 1, 0, 0]
def k0_off274 (i : grid0.Coords) (k0_t19 : Fin (k0_t19_loop i).trips) : Fin 4 → Nat :=
  let c2_208 : Index := 2#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v376 : Index := Scalar.indexCast v315
  let c0_209 : Index := 0#32
  let c0_210 : Index := 0#32
  ![2, v376.toNat, 0, 0]
def k0_off275 (i : grid0.Coords) (k0_t19 : Fin (k0_t19_loop i).trips) : Fin 5 → Nat :=
  let c0_211 : Index := 0#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v383 : Index := Scalar.indexCast v315
  let c2_212 : Index := 2#32
  let c0_213 : Index := 0#32
  let c0_214 : Index := 0#32
  ![0, v383.toNat, 2, 0, 0]
def k0_off276 (i : grid0.Coords) (k0_t19 : Fin (k0_t19_loop i).trips) : Fin 4 → Nat :=
  let c2_216 : Index := 2#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v387 : Index := Scalar.indexCast v317
  let c0_217 : Index := 0#32
  let c0_218 : Index := 0#32
  ![2, v387.toNat, 0, 0]
def k0_off277 (i : grid0.Coords) (k0_t19 : Fin (k0_t19_loop i).trips) : Fin 5 → Nat :=
  let c0_219 : Index := 0#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v394 : Index := Scalar.indexCast v317
  let c2_220 : Index := 2#32
  let c0_221 : Index := 0#32
  let c0_222 : Index := 0#32
  ![0, v394.toNat, 2, 0, 0]
def k0_off278 (i : grid0.Coords) (k0_t19 : Fin (k0_t19_loop i).trips) : Fin 4 → Nat :=
  let c3_230 : Index := 3#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v405 : Index := Scalar.indexCast v315
  let c0_231 : Index := 0#32
  let c0_232 : Index := 0#32
  ![3, v405.toNat, 0, 0]
def k0_off279 (i : grid0.Coords) (k0_t19 : Fin (k0_t19_loop i).trips) : Fin 5 → Nat :=
  let c0_233 : Index := 0#32
  let c2_i32_161 : BitVec 32 := 2#32
  let c0_i32_131 : BitVec 32 := 0#32
  let c1_i32_133 : BitVec 32 := 1#32
  let arg18 : BitVec 32 := Scf.iv c0_i32_131 c1_i32_133 k0_t19
  let v315 : BitVec 32 := Scalar.muli c2_i32_161 arg18
  let v412 : Index := Scalar.indexCast v315
  let c3_234 : Index := 3#32
  let c0_235 : Index := 0#32
  let c0_236 : Index := 0#32
  ![0, v412.toNat, 3, 0, 0]
def k0_off280 (i : grid0.Coords) (k0_t19 : Fin (k0_t19_loop i).trips) : Fin 4 → Nat :=
  let c3_238 : Index := 3#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v416 : Index := Scalar.indexCast v317
  let c0_239 : Index := 0#32
  let c0_240 : Index := 0#32
  ![3, v416.toNat, 0, 0]
def k0_off281 (i : grid0.Coords) (k0_t19 : Fin (k0_t19_loop i).trips) : Fin 5 → Nat :=
  let c0_241 : Index := 0#32
  let c2_i32_162 : BitVec 32 := 2#32
  let c0_i32_131 : BitVec 32 := 0#32
  let c1_i32_133 : BitVec 32 := 1#32
  let arg18 : BitVec 32 := Scf.iv c0_i32_131 c1_i32_133 k0_t19
  let v316 : BitVec 32 := Scalar.muli c2_i32_162 arg18
  let c1_i32_163 : BitVec 32 := 1#32
  let v317 : BitVec 32 := Scalar.addi v316 c1_i32_163
  let v423 : Index := Scalar.indexCast v317
  let c3_242 : Index := 3#32
  let c0_243 : Index := 0#32
  let c0_244 : Index := 0#32
  ![0, v423.toNat, 3, 0, 0]
@[reducible] def k0_t20_loop (i : grid0.Coords) : Scf.Loop 32 :=
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let v245 : BitVec 32 := Scalar.addi c0_i32_131 v244
  let c1_i32_134 : BitVec 32 := 1#32
  ⟨v248, v245, c1_i32_134⟩
def k0_off282 (i : grid0.Coords) (k0_t20 : Fin (k0_t20_loop i).trips) : Fin 4 → Nat :=
  let c0_164 : Index := 0#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v318 : Index := Scalar.indexCast v315
  let c0_165 : Index := 0#32
  let c0_166 : Index := 0#32
  ![0, v318.toNat, 0, 0]
def k0_off283 (i : grid0.Coords) (k0_t20 : Fin (k0_t20_loop i).trips) : Fin 5 → Nat :=
  let c0_167 : Index := 0#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v325 : Index := Scalar.indexCast v315
  let c0_168 : Index := 0#32
  let c0_169 : Index := 0#32
  let c0_170 : Index := 0#32
  ![0, v325.toNat, 0, 0, 0]
def k0_off284 (i : grid0.Coords) (k0_t20 : Fin (k0_t20_loop i).trips) : Fin 4 → Nat :=
  let c0_172 : Index := 0#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v329 : Index := Scalar.indexCast v317
  let c0_173 : Index := 0#32
  let c0_174 : Index := 0#32
  ![0, v329.toNat, 0, 0]
def k0_off285 (i : grid0.Coords) (k0_t20 : Fin (k0_t20_loop i).trips) : Fin 5 → Nat :=
  let c0_175 : Index := 0#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v336 : Index := Scalar.indexCast v317
  let c0_176 : Index := 0#32
  let c0_177 : Index := 0#32
  let c0_178 : Index := 0#32
  ![0, v336.toNat, 0, 0, 0]
def k0_off286 (i : grid0.Coords) (k0_t20 : Fin (k0_t20_loop i).trips) : Fin 4 → Nat :=
  let c1_186 : Index := 1#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v347 : Index := Scalar.indexCast v315
  let c0_187 : Index := 0#32
  let c0_188 : Index := 0#32
  ![1, v347.toNat, 0, 0]
def k0_off287 (i : grid0.Coords) (k0_t20 : Fin (k0_t20_loop i).trips) : Fin 5 → Nat :=
  let c0_189 : Index := 0#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v354 : Index := Scalar.indexCast v315
  let c1_190 : Index := 1#32
  let c0_191 : Index := 0#32
  let c0_192 : Index := 0#32
  ![0, v354.toNat, 1, 0, 0]
def k0_off288 (i : grid0.Coords) (k0_t20 : Fin (k0_t20_loop i).trips) : Fin 4 → Nat :=
  let c1_194 : Index := 1#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v358 : Index := Scalar.indexCast v317
  let c0_195 : Index := 0#32
  let c0_196 : Index := 0#32
  ![1, v358.toNat, 0, 0]
def k0_off289 (i : grid0.Coords) (k0_t20 : Fin (k0_t20_loop i).trips) : Fin 5 → Nat :=
  let c0_197 : Index := 0#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v365 : Index := Scalar.indexCast v317
  let c1_198 : Index := 1#32
  let c0_199 : Index := 0#32
  let c0_200 : Index := 0#32
  ![0, v365.toNat, 1, 0, 0]
def k0_off290 (i : grid0.Coords) (k0_t20 : Fin (k0_t20_loop i).trips) : Fin 4 → Nat :=
  let c2_208 : Index := 2#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v376 : Index := Scalar.indexCast v315
  let c0_209 : Index := 0#32
  let c0_210 : Index := 0#32
  ![2, v376.toNat, 0, 0]
def k0_off291 (i : grid0.Coords) (k0_t20 : Fin (k0_t20_loop i).trips) : Fin 5 → Nat :=
  let c0_211 : Index := 0#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v383 : Index := Scalar.indexCast v315
  let c2_212 : Index := 2#32
  let c0_213 : Index := 0#32
  let c0_214 : Index := 0#32
  ![0, v383.toNat, 2, 0, 0]
def k0_off292 (i : grid0.Coords) (k0_t20 : Fin (k0_t20_loop i).trips) : Fin 4 → Nat :=
  let c2_216 : Index := 2#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v387 : Index := Scalar.indexCast v317
  let c0_217 : Index := 0#32
  let c0_218 : Index := 0#32
  ![2, v387.toNat, 0, 0]
def k0_off293 (i : grid0.Coords) (k0_t20 : Fin (k0_t20_loop i).trips) : Fin 5 → Nat :=
  let c0_219 : Index := 0#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v394 : Index := Scalar.indexCast v317
  let c2_220 : Index := 2#32
  let c0_221 : Index := 0#32
  let c0_222 : Index := 0#32
  ![0, v394.toNat, 2, 0, 0]
def k0_off294 (i : grid0.Coords) (k0_t20 : Fin (k0_t20_loop i).trips) : Fin 4 → Nat :=
  let c3_230 : Index := 3#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v405 : Index := Scalar.indexCast v315
  let c0_231 : Index := 0#32
  let c0_232 : Index := 0#32
  ![3, v405.toNat, 0, 0]
def k0_off295 (i : grid0.Coords) (k0_t20 : Fin (k0_t20_loop i).trips) : Fin 5 → Nat :=
  let c0_233 : Index := 0#32
  let c2_i32_161 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v315 : BitVec 32 := Scalar.muli c2_i32_161 arg18
  let v412 : Index := Scalar.indexCast v315
  let c3_234 : Index := 3#32
  let c0_235 : Index := 0#32
  let c0_236 : Index := 0#32
  ![0, v412.toNat, 3, 0, 0]
def k0_off296 (i : grid0.Coords) (k0_t20 : Fin (k0_t20_loop i).trips) : Fin 4 → Nat :=
  let c3_238 : Index := 3#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v416 : Index := Scalar.indexCast v317
  let c0_239 : Index := 0#32
  let c0_240 : Index := 0#32
  ![3, v416.toNat, 0, 0]
def k0_off297 (i : grid0.Coords) (k0_t20 : Fin (k0_t20_loop i).trips) : Fin 5 → Nat :=
  let c0_241 : Index := 0#32
  let c2_i32_162 : BitVec 32 := 2#32
  let c0_i32_131 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c0_i32_124 : BitVec 32 := 0#32
  let v228 : BitVec 1 := Scalar.cmpi .sgt v17 c0_i32_124
  let v229 : BitVec 32 := Scalar.extui v228
  let c0_i32_125 : BitVec 32 := 0#32
  let v230 : BitVec 1 := Scalar.cmpi .slt v17 c0_i32_125
  let v231 : BitVec 32 := Scalar.extui v230
  let v232 : BitVec 32 := Scalar.subi v229 v231
  let c2_i32_123 : BitVec 32 := 2#32
  let c0_i32_126 : BitVec 32 := 0#32
  let v233 : BitVec 1 := Scalar.cmpi .sgt c2_i32_123 c0_i32_126
  let v234 : BitVec 32 := Scalar.extui v233
  let c0_i32_127 : BitVec 32 := 0#32
  let v235 : BitVec 1 := Scalar.cmpi .slt c2_i32_123 c0_i32_127
  let v236 : BitVec 32 := Scalar.extui v235
  let v237 : BitVec 32 := Scalar.subi v234 v236
  let v238 : BitVec 1 := Scalar.cmpi .ne v232 v237
  let v239 : BitVec 32 := Scalar.remsi v17 c2_i32_123
  let c0_i32_128 : BitVec 32 := 0#32
  let v240 : BitVec 1 := Scalar.cmpi .ne v239 c0_i32_128
  let v241 : BitVec 1 := Scalar.andi v238 v240
  let v227 : BitVec 32 := Scalar.divsi v17 c2_i32_123
  let c1_i32_129 : BitVec 32 := 1#32
  let v242 : BitVec 32 := Scalar.subi v227 c1_i32_129
  let v243 : BitVec 32 := Scalar.select v241 v242 v227
  let v244 : BitVec 32 := Scalar.subi v243 c0_i32_131
  let c1_i32_132 : BitVec 32 := 1#32
  let v246 : BitVec 32 := Scalar.divsi v244 c1_i32_132
  let v247 : BitVec 32 := Scalar.muli v246 c1_i32_132
  let v248 : BitVec 32 := Scalar.addi c0_i32_131 v247
  let c1_i32_134 : BitVec 32 := 1#32
  let arg18 : BitVec 32 := Scf.iv v248 c1_i32_134 k0_t20
  let v316 : BitVec 32 := Scalar.muli c2_i32_162 arg18
  let c1_i32_163 : BitVec 32 := 1#32
  let v317 : BitVec 32 := Scalar.addi v316 c1_i32_163
  let v423 : Index := Scalar.indexCast v317
  let c3_242 : Index := 3#32
  let c0_243 : Index := 0#32
  let c0_244 : Index := 0#32
  ![0, v423.toNat, 3, 0, 0]
def k0_cond8 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c2_i32_135 : BitVec 32 := 2#32
  let c0_i32_136 : BitVec 32 := 0#32
  let v249 : BitVec 1 := Scalar.cmpi .eq c2_i32_135 c0_i32_136
  let c1_i32_137 : BitVec 32 := 1#32
  let v250 : BitVec 32 := Scalar.select v249 c1_i32_137 c2_i32_135
  let v251 : BitVec 32 := Scalar.remsi v17 v250
  let c0_i32_139 : BitVec 32 := 0#32
  let v253 : BitVec 1 := Scalar.cmpi .slt v251 c0_i32_139
  let c0_i32_140 : BitVec 32 := 0#32
  let v254 : BitVec 1 := Scalar.cmpi .slt v250 c0_i32_140
  let v255 : BitVec 1 := Scalar.xori v253 v254
  let c0_i32_138 : BitVec 32 := 0#32
  let v252 : BitVec 1 := Scalar.cmpi .ne v251 c0_i32_138
  let v256 : BitVec 1 := Scalar.andi v255 v252
  let v257 : BitVec 32 := Scalar.addi v251 v250
  let v258 : BitVec 32 := Scalar.select v256 v257 v251
  let c1_i32_141 : BitVec 32 := 1#32
  let v259 : BitVec 1 := Scalar.cmpi .eq v258 c1_i32_141
  let v260 : BitVec 32 := Scalar.extui v259
  let c0_i32_142 : BitVec 32 := 0#32
  let v261 : BitVec 1 := Scalar.cmpi .ne v260 c0_i32_142
  v261

def k0_off298 (i : grid0.Coords) : Fin 4 → Nat :=
  let c0_162 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v316 : Index := Scalar.indexCast v315
  let c0_163 : Index := 0#32
  let c0_164 : Index := 0#32
  ![0, v316.toNat, 0, 0]
def k0_off299 (i : grid0.Coords) : Fin 5 → Nat :=
  let c0_165 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v323 : Index := Scalar.indexCast v315
  let c0_166 : Index := 0#32
  let c0_167 : Index := 0#32
  let c0_168 : Index := 0#32
  ![0, v323.toNat, 0, 0, 0]
def k0_off300 (i : grid0.Coords) : Fin 4 → Nat :=
  let c1_176 : Index := 1#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v333 : Index := Scalar.indexCast v315
  let c0_177 : Index := 0#32
  let c0_178 : Index := 0#32
  ![1, v333.toNat, 0, 0]
def k0_off301 (i : grid0.Coords) : Fin 5 → Nat :=
  let c0_179 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v340 : Index := Scalar.indexCast v315
  let c1_180 : Index := 1#32
  let c0_181 : Index := 0#32
  let c0_182 : Index := 0#32
  ![0, v340.toNat, 1, 0, 0]
def k0_off302 (i : grid0.Coords) : Fin 4 → Nat :=
  let c2_190 : Index := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v350 : Index := Scalar.indexCast v315
  let c0_191 : Index := 0#32
  let c0_192 : Index := 0#32
  ![2, v350.toNat, 0, 0]
def k0_off303 (i : grid0.Coords) : Fin 5 → Nat :=
  let c0_193 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v357 : Index := Scalar.indexCast v315
  let c2_194 : Index := 2#32
  let c0_195 : Index := 0#32
  let c0_196 : Index := 0#32
  ![0, v357.toNat, 2, 0, 0]
def k0_off304 (i : grid0.Coords) : Fin 4 → Nat :=
  let c3_204 : Index := 3#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v367 : Index := Scalar.indexCast v315
  let c0_205 : Index := 0#32
  let c0_206 : Index := 0#32
  ![3, v367.toNat, 0, 0]
def k0_off305 (i : grid0.Coords) : Fin 5 → Nat :=
  let c0_207 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c1_i32_161 : BitVec 32 := 1#32
  let v315 : BitVec 32 := Scalar.subi v17 c1_i32_161
  let v374 : Index := Scalar.indexCast v315
  let c3_208 : Index := 3#32
  let c0_209 : Index := 0#32
  let c0_210 : Index := 0#32
  ![0, v374.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x4x144x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2x4x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2.lean ====
abbrev S16x2048x1024 : Shape := ⟨3, ![16, 2048, 1024]⟩
abbrev S1x1024 : Shape := ⟨2, ![1, 1024]⟩
abbrev S1x1024x4168 : Shape := ⟨3, ![1, 1024, 4168]⟩
abbrev S1x64 : Shape := ⟨2, ![1, 64]⟩
abbrev S1024x4168 : Shape := ⟨2, ![1024, 4168]⟩
abbrev S1024x2560 : Shape := ⟨2, ![1024, 2560]⟩
abbrev S1024x72 : Shape := ⟨2, ![1024, 72]⟩
abbrev S_ : Shape := ⟨0, ![]⟩
abbrev S1024x128 : Shape := ⟨2, ![1024, 128]⟩
abbrev S1024x1536 : Shape := ⟨2, ![1024, 1536]⟩
abbrev S1024 : Shape := ⟨1, ![1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S16x512x2048 : Shape := ⟨3, ![16, 512, 2048]⟩
abbrev S16x2048x512 : Shape := ⟨3, ![16, 2048, 512]⟩
abbrev S16x8x4x144x256 : Shape := ⟨5, ![16, 8, 4, 144, 256]⟩
abbrev S16x2048x128 : Shape := ⟨3, ![16, 2048, 128]⟩
abbrev S16x8x2048 : Shape := ⟨3, ![16, 8, 2048]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1x4x4x144x256 : Shape := ⟨5, ![1, 4, 4, 144, 256]⟩
abbrev S1x1024x128 : Shape := ⟨3, ![1, 1024, 128]⟩
abbrev S1x8x1024 : Shape := ⟨3, ![1, 8, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩
abbrev S128x1024 : Shape := ⟨2, ![128, 1024]⟩
abbrev S8x1024 : Shape := ⟨2, ![8, 1024]⟩
abbrev S16x256 : Shape := ⟨2, ![16, 256]⟩
abbrev S128x256 : Shape := ⟨2, ![128, 256]⟩
abbrev S144x256 : Shape := ⟨2, ![144, 256]⟩
abbrev S1x1x1x144x256 : Shape := ⟨5, ![1, 1, 1, 144, 256]⟩

abbrev nBuf : Space → Nat
  | .hbm => 52
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x4168, .f32⟩
  | .hbm, ⟨3, _⟩ => ⟨S1x64, .f32⟩
  | .hbm, ⟨4, _⟩ => ⟨S1x64, .f32⟩
  | .hbm, ⟨5, _⟩ => ⟨S1024x4168, .f32⟩
  | .hbm, ⟨6, _⟩ => ⟨S1024x2560, .f32⟩
  | .hbm, ⟨7, _⟩ => ⟨S1024x2560, .bf16⟩
  | .hbm, ⟨8, _⟩ => ⟨S1024x72, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x1536, .f32⟩
  | .hbm, ⟨14, _⟩ => ⟨S1024x1536, .bf16⟩
  | .hbm, ⟨15, _⟩ => ⟨S1024, .f32⟩
  | .hbm, ⟨16, _⟩ => ⟨S1x1024, .f32⟩
  | .hbm, ⟨17, _⟩ => ⟨S64, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S64, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S8x64, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S_, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .bf16⟩
  | .hbm, ⟨40, _⟩ => ⟨S16x512x2048, .bf16⟩
  | .hbm, ⟨41, _⟩ => ⟨S16x2048x512, .f32⟩
  | .hbm, ⟨42, _⟩ => ⟨S16x2048x512, .bf16⟩
  | .hbm, ⟨43, _⟩ => ⟨S16x2048x512, .f32⟩
  | .hbm, ⟨44, _⟩ => ⟨S16x8x4x144x256, .bf16⟩
  | .hbm, ⟨45, _⟩ => ⟨S16x2048x512, .f32⟩
  | .hbm, ⟨46, _⟩ => ⟨S16x512x2048, .bf16⟩
  | .hbm, ⟨47, _⟩ => ⟨S16x2048x128, .f32⟩
  | .hbm, ⟨48, _⟩ => ⟨S16x8x2048, .f32⟩
  | .hbm, ⟨49, _⟩ => ⟨S16x2048x128, .bf16⟩
  | .hbm, ⟨50, _⟩ => ⟨S16x2048x512, .f32⟩
  | .hbm, ⟨51, _⟩ => ⟨S16x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S1024x1536, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x512, .f32⟩
  | .local _ .vmem, ⟨12, _⟩ => ⟨S1x1024x512, .f32⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .f32⟩
  | .local _ .vmem, ⟨16, _⟩ => ⟨S1x1024x512, .f32⟩
  | .local _ .vmem, ⟨17, _⟩ => ⟨S1x4x4x144x256, .bf16⟩
  | .local _ .vmem, ⟨18, _⟩ => ⟨S1x4x4x144x256, .bf16⟩
  | .local _ .vmem, ⟨19, _⟩ => ⟨S1x1024x512, .f32⟩
  | .local _ .vmem, ⟨20, _⟩ => ⟨S1x1024x512, .f32⟩
  | .local _ .vmem, ⟨21, _⟩ => ⟨S1x512x1024, .bf16⟩
  | .local _ .vmem, ⟨22, _⟩ => ⟨S1x512x1024, .bf16⟩
  | .local _ .vmem, ⟨23, _⟩ => ⟨S1x1024x128, .f32⟩
  | .local _ .vmem, ⟨24, _⟩ => ⟨S1x1024x128, .f32⟩
  | .local _ .vmem, ⟨25, _⟩ => ⟨S1x8x1024, .f32⟩
  | .local _ .vmem, ⟨26, _⟩ => ⟨S1x8x1024, .f32⟩
  | .local _ .vmem, ⟨27, _⟩ => ⟨S1x1024x128, .bf16⟩
  | .local _ .vmem, ⟨28, _⟩ => ⟨S1x1024x128, .bf16⟩
  | .local _ .vmem, ⟨29, _⟩ => ⟨S1x1024x512, .f32⟩
  | .local _ .vmem, ⟨30, _⟩ => ⟨S1x1024x512, .f32⟩
  | .local _ .vmem, ⟨31, _⟩ => ⟨S1x1024x512, .f32⟩
  | .local _ .vmem, ⟨32, _⟩ => ⟨S1x1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev main_v29_5 : Ref sig .tc := ⟨.hbm, 45, rfl⟩
abbrev main_v29_6 : Ref sig .tc := ⟨.hbm, 46, rfl⟩
abbrev main_v29_7 : Ref sig .tc := ⟨.hbm, 47, rfl⟩
abbrev main_v29_8 : Ref sig .tc := ⟨.hbm, 48, rfl⟩
abbrev main_v29_9 : Ref sig .tc := ⟨.hbm, 49, rfl⟩
abbrev main_v29_10 : Ref sig .tc := ⟨.hbm, 50, rfl⟩
abbrev main_v29_11 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x4x144x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference2Ideal.lean ====
abbrev S16x2048x1024 : Shape := ⟨3, ![16, 2048, 1024]⟩
abbrev S1x1024 : Shape := ⟨2, ![1, 1024]⟩
abbrev S1x1024x4168 : Shape := ⟨3, ![1, 1024, 4168]⟩
abbrev S1x64 : Shape := ⟨2, ![1, 64]⟩
abbrev S1024 : Shape := ⟨1, ![1024]⟩
abbrev S1024x4168 : Shape := ⟨2, ![1024, 4168]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4168 : Shape := ⟨3, ![16, 2048, 4168]⟩
abbrev S16x2048x512 : Shape := ⟨3, ![16, 2048, 512]⟩
abbrev S16x2048x64 : Shape := ⟨3, ![16, 2048, 64]⟩
abbrev S16x2048x8 : Shape := ⟨3, ![16, 2048, 8]⟩
abbrev S16x2048x8x64 : Shape := ⟨4, ![16, 2048, 8, 64]⟩
abbrev S16x2048x8x1 : Shape := ⟨4, ![16, 2048, 8, 1]⟩
abbrev S1x1x1x64 : Shape := ⟨4, ![1, 1, 1, 64]⟩
abbrev S16x8x256x4x128 : Shape := ⟨5, ![16, 8, 256, 4, 128]⟩
abbrev S16x8x4x128x256 : Shape := ⟨5, ![16, 8, 4, 128, 256]⟩
abbrev S16x8x4x8x256 : Shape := ⟨5, ![16, 8, 4, 8, 256]⟩
abbrev S16x512x2048 : Shape := ⟨3, ![16, 512, 2048]⟩
abbrev S16x8x4x144x256 : Shape := ⟨5, ![16, 8, 4, 144, 256]⟩
abbrev S16x2048x56 : Shape := ⟨3, ![16, 2048, 56]⟩
abbrev S16x2048x128 : Shape := ⟨3, ![16, 2048, 128]⟩
abbrev S16x8x2048 : Shape := ⟨3, ![16, 8, 2048]⟩

abbrev nBuf : Space → Nat
  | .hbm => 126
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x4168, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S1024x4168, .f32⟩
  | .hbm, ⟨7, _⟩ => ⟨S64, .f32⟩
  | .hbm, ⟨8, _⟩ => ⟨S64, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x4168, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x64, .f32⟩
  | .hbm, ⟨32, _⟩ => ⟨S16x2048x8, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x8x64, .f32⟩
  | .hbm, ⟨37, _⟩ => ⟨S16x2048x8x64, .f32⟩
  | .hbm, ⟨38, _⟩ => ⟨S_, .f32⟩
  | .hbm, ⟨39, _⟩ => ⟨S16x2048x8, .f32⟩
  | .hbm, ⟨40, _⟩ => ⟨S16x2048x8x1, .f32⟩
  | .hbm, ⟨41, _⟩ => ⟨S_, .f32⟩
  | .hbm, ⟨42, _⟩ => ⟨S16x2048x8x1, .f32⟩
  | .hbm, ⟨43, _⟩ => ⟨S16x2048x8x1, .f32⟩
  | .hbm, ⟨44, _⟩ => ⟨S_, .f32⟩
  | .hbm, ⟨45, _⟩ => ⟨S16x2048x8x1, .f32⟩
  | .hbm, ⟨46, _⟩ => ⟨S16x2048x8x1, .f32⟩
  | .hbm, ⟨47, _⟩ => ⟨S16x2048x8x1, .f32⟩
  | .hbm, ⟨48, _⟩ => ⟨S16x2048x8x64, .f32⟩
  | .hbm, ⟨49, _⟩ => ⟨S16x2048x8x64, .f32⟩
  | .hbm, ⟨50, _⟩ => ⟨S1x1x1x64, .f32⟩
  | .hbm, ⟨51, _⟩ => ⟨S16x2048x8x64, .f32⟩
  | .hbm, ⟨52, _⟩ => ⟨S16x2048x8x64, .f32⟩
  | .hbm, ⟨53, _⟩ => ⟨S16x2048x8x64, .f32⟩
  | .hbm, ⟨54, _⟩ => ⟨S16x2048x8x64, .f32⟩
  | .hbm, ⟨55, _⟩ => ⟨S_, .f32⟩
  | .hbm, ⟨56, _⟩ => ⟨S16x2048x8, .f32⟩
  | .hbm, ⟨57, _⟩ => ⟨S16x2048x8x1, .f32⟩
  | .hbm, ⟨58, _⟩ => ⟨S_, .f32⟩
  | .hbm, ⟨59, _⟩ => ⟨S16x2048x8x1, .f32⟩
  | .hbm, ⟨60, _⟩ => ⟨S16x2048x8x1, .f32⟩
  | .hbm, ⟨61, _⟩ => ⟨S_, .f32⟩
  | .hbm, ⟨62, _⟩ => ⟨S16x2048x8x1, .f32⟩
  | .hbm, ⟨63, _⟩ => ⟨S16x2048x8x1, .f32⟩
  | .hbm, ⟨64, _⟩ => ⟨S16x2048x8x1, .f32⟩
  | .hbm, ⟨65, _⟩ => ⟨S16x2048x8x64, .f32⟩
  | .hbm, ⟨66, _⟩ => ⟨S16x2048x8x64, .f32⟩
  | .hbm, ⟨67, _⟩ => ⟨S1x1x1x64, .f32⟩
  | .hbm, ⟨68, _⟩ => ⟨S16x2048x8x64, .f32⟩
  | .hbm, ⟨69, _⟩ => ⟨S16x2048x8x64, .f32⟩
  | .hbm, ⟨70, _⟩ => ⟨S16x2048x8x64, .f32⟩
  | .hbm, ⟨71, _⟩ => ⟨S16x2048x512, .f32⟩
  | .hbm, ⟨72, _⟩ => ⟨S16x2048x512, .f32⟩
  | .hbm, ⟨73, _⟩ => ⟨S_, .f32⟩
  | .hbm, ⟨74, _⟩ => ⟨S16x2048x512, .f32⟩
  | .hbm, ⟨75, _⟩ => ⟨S16x2048x512, .f32⟩
  | .hbm, ⟨76, _⟩ => ⟨S_, .f32⟩
  | .hbm, ⟨77, _⟩ => ⟨S16x2048x512, .f32⟩
  | .hbm, ⟨78, _⟩ => ⟨S16x2048x512, .f32⟩
  | .hbm, ⟨79, _⟩ => ⟨S16x2048x512, .f32⟩
  | .hbm, ⟨80, _⟩ => ⟨S16x2048x512, .f32⟩
  | .hbm, ⟨81, _⟩ => ⟨S16x2048x512, .f32⟩
  | .hbm, ⟨82, _⟩ => ⟨S16x2048x512, .f32⟩
  | .hbm, ⟨83, _⟩ => ⟨S16x8x256x4x128, .f32⟩
  | .hbm, ⟨84, _⟩ => ⟨S16x8x4x128x256, .f32⟩
  | .hbm, ⟨85, _⟩ => ⟨S_, .f32⟩
  | .hbm, ⟨86, _⟩ => ⟨S16x8x4x8x256, .f32⟩
  | .hbm, ⟨87, _⟩ => ⟨S_, .f32⟩
  | .hbm, ⟨88, _⟩ => ⟨S16x2048x512, .f32⟩
  | .hbm, ⟨89, _⟩ => ⟨S16x2048x512, .f32⟩
  | .hbm, ⟨90, _⟩ => ⟨S16x512x2048, .f32⟩
  | .hbm, ⟨91, _⟩ => ⟨S16x512x2048, .bf16⟩
  | .hbm, ⟨92, _⟩ => ⟨S16x2048x512, .bf16⟩
  | .hbm, ⟨93, _⟩ => ⟨S_, .f32⟩
  | .hbm, ⟨94, _⟩ => ⟨S16x8x4x8x256, .f32⟩
  | .hbm, ⟨95, _⟩ => ⟨S16x8x4x144x256, .f32⟩
  | .hbm, ⟨96, _⟩ => ⟨S16x8x4x144x256, .bf16⟩
  | .hbm, ⟨97, _⟩ => ⟨S16x2048x512, .f32⟩
  | .hbm, ⟨98, _⟩ => ⟨S16x2048x512, .f32⟩
  | .hbm, ⟨99, _⟩ => ⟨S_, .f32⟩
  | .hbm, ⟨100, _⟩ => ⟨S16x2048x512, .f32⟩
  | .hbm, ⟨101, _⟩ => ⟨S16x2048x512, .f32⟩
  | .hbm, ⟨102, _⟩ => ⟨S_, .f32⟩
  | .hbm, ⟨103, _⟩ => ⟨S16x2048x512, .f32⟩
  | .hbm, ⟨104, _⟩ => ⟨S16x2048x512, .f32⟩
  | .hbm, ⟨105, _⟩ => ⟨S16x2048x512, .f32⟩
  | .hbm, ⟨106, _⟩ => ⟨S_, .f32⟩
  | .hbm, ⟨107, _⟩ => ⟨S16x2048x512, .f32⟩
  | .hbm, ⟨108, _⟩ => ⟨S16x2048x512, .f32⟩
  | .hbm, ⟨109, _⟩ => ⟨S16x512x2048, .f32⟩
  | .hbm, ⟨110, _⟩ => ⟨S16x512x2048, .bf16⟩
  | .hbm, ⟨111, _⟩ => ⟨S_, .f32⟩
  | .hbm, ⟨112, _⟩ => ⟨S16x2048x56, .f32⟩
  | .hbm, ⟨113, _⟩ => ⟨S16x2048x128, .f32⟩
  | .hbm, ⟨114, _⟩ => ⟨S16x8x2048, .f32⟩
  | .hbm, ⟨115, _⟩ => ⟨S16x2048x128, .f32⟩
  | .hbm, ⟨116, _⟩ => ⟨S16x2048x128, .bf16⟩
  | .hbm, ⟨117, _⟩ => ⟨S16x2048x512, .f32⟩
  | .hbm, ⟨118, _⟩ => ⟨S16x2048x512, .f32⟩
  | .hbm, ⟨119, _⟩ => ⟨S_, .f32⟩
  | .hbm, ⟨120, _⟩ => ⟨S16x2048x512, .f32⟩
  | .hbm, ⟨121, _⟩ => ⟨S16x2048x512, .f32⟩
  | .hbm, ⟨122, _⟩ => ⟨S_, .f32⟩
  | .hbm, ⟨123, _⟩ => ⟨S16x2048x512, .f32⟩
  | .hbm, ⟨124, _⟩ => ⟨S16x2048x512, .f32⟩
  | .hbm, ⟨125, _⟩ => ⟨S16x2048x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_12 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_call0_v5 : Ref sig .tc := ⟨.hbm, 104, rfl⟩
abbrev main_v78 : Ref sig .tc := ⟨.hbm, 105, rfl⟩
abbrev main_cst_13 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_call1_v5 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== Kernel3.lean ====
abbrev S16x2048x512 : Shape := ⟨3, ![16, 2048, 512]⟩
abbrev S16x2048x1024 : Shape := ⟨3, ![16, 2048, 1024]⟩
abbrev S1x1024x1024 : Shape := ⟨3, ![1, 1024, 1024]⟩
abbrev S1x31x512 : Shape := ⟨3, ![1, 31, 512]⟩
abbrev S1x512 : Shape := ⟨2, ![1, 512]⟩
abbrev S1024x1024 : Shape := ⟨2, ![1024, 1024]⟩
abbrev S512 : Shape := ⟨1, ![512]⟩
abbrev S31x512 : Shape := ⟨2, ![31, 512]⟩
abbrev S31x1x512 : Shape := ⟨3, ![31, 1, 512]⟩
abbrev S31x8x512 : Shape := ⟨3, ![31, 8, 512]⟩
abbrev S1x512x512 : Shape := ⟨3, ![1, 512, 512]⟩
abbrev S1x32x512 : Shape := ⟨3, ![1, 32, 512]⟩
abbrev S1x512x1024 : Shape := ⟨3, ![1, 512, 1024]⟩
abbrev S552x512 : Shape := ⟨2, ![552, 512]⟩
abbrev S7x544x512 : Shape := ⟨3, ![7, 544, 512]⟩
abbrev S512x512 : Shape := ⟨2, ![512, 512]⟩
abbrev S32x512 : Shape := ⟨2, ![32, 512]⟩
abbrev S8x512 : Shape := ⟨2, ![8, 512]⟩
abbrev S544x512 : Shape := ⟨2, ![544, 512]⟩
abbrev S1x544x512 : Shape := ⟨3, ![1, 544, 512]⟩
abbrev S1x8x512 : Shape := ⟨3, ![1, 8, 512]⟩
abbrev S32 : Shape := ⟨1, ![32]⟩
abbrev S32x1 : Shape := ⟨2, ![32, 1]⟩
abbrev S512x1024 : Shape := ⟨2, ![512, 1024]⟩

abbrev nBuf : Space → Nat
  | .hbm => 21
  | .vmem => 20
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .f32⟩
  | .hbm, ⟨2, _⟩ => ⟨S16x2048x512, .f32⟩
  | .hbm, ⟨3, _⟩ => ⟨S16x2048x1024, .f32⟩
  | .hbm, ⟨4, _⟩ => ⟨S1x1024x1024, .f32⟩
  | .hbm, ⟨5, _⟩ => ⟨S1x31x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1024x1024, .f32⟩
  | .hbm, ⟨10, _⟩ => ⟨S1024x1024, .bf16⟩
  | .hbm, ⟨11, _⟩ => ⟨S512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S31x512, .f32⟩
  | .hbm, ⟨18, _⟩ => ⟨S31x1x512, .f32⟩
  | .hbm, ⟨19, _⟩ => ⟨S31x8x512, .f32⟩
  | .hbm, ⟨20, _⟩ => ⟨S16x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x32x512, .f32⟩
  | .local _ .vmem, ⟨5, _⟩ => ⟨S1x32x512, .f32⟩
  | .local _ .vmem, ⟨6, _⟩ => ⟨S1x512x512, .f32⟩
  | .local _ .vmem, ⟨7, _⟩ => ⟨S1x512x512, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S31x8x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512x1024, .f32⟩
  | .local _ .vmem, ⟨16, _⟩ => ⟨S1x512x1024, .f32⟩
  | .local _ .vmem, ⟨17, _⟩ => ⟨S552x512, .f32⟩
  | .local _ .vmem, ⟨18, _⟩ => ⟨S7x544x512, .f32⟩
  | .local _ .vmem, ⟨19, _⟩ => ⟨S512x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x512 : Shape := ⟨3, ![16, 2048, 512]⟩
abbrev S16x2048x1024 : Shape := ⟨3, ![16, 2048, 1024]⟩
abbrev S1x1024x1024 : Shape := ⟨3, ![1, 1024, 1024]⟩
abbrev S1x31x512 : Shape := ⟨3, ![1, 31, 512]⟩
abbrev S1x512 : Shape := ⟨2, ![1, 512]⟩
abbrev S_ : Shape := ⟨0, ![]⟩
abbrev S16x2078x512 : Shape := ⟨3, ![16, 2078, 512]⟩
abbrev S31x512 : Shape := ⟨2, ![31, 512]⟩
abbrev S512 : Shape := ⟨1, ![512]⟩
abbrev S1x1x512 : Shape := ⟨3, ![1, 1, 512]⟩
abbrev S16x2048 : Shape := ⟨2, ![16, 2048]⟩
abbrev S16x2048x1 : Shape := ⟨3, ![16, 2048, 1]⟩
abbrev S1024x1024 : Shape := ⟨2, ![1024, 1024]⟩

abbrev nBuf : Space → Nat
  | .hbm => 282
  | .vmem => 0
  | .smem => 0
  | _ => 0

abbrev hbmTy0_0 (i : Nat) : BufTy := match i % 128 with
  | 0 => ⟨S16x2048x512, .bf16⟩
  | 1 => ⟨S16x2048x512, .f32⟩
  | 2 => ⟨S16x2048x512, .f32⟩
  | 3 => ⟨S16x2048x1024, .f32⟩
  | 4 => ⟨S1x1024x1024, .f32⟩
  | 5 => ⟨S1x31x512, .f32⟩
  | 6 => ⟨S1x512, .f32⟩
  | 7 => ⟨S1x512, .f32⟩
  | 8 => ⟨S1x512, .f32⟩
  | 9 => ⟨S_, .i32⟩
  | 10 => ⟨S_, .f32⟩
  | 11 => ⟨S16x2078x512, .f32⟩
  | 12 => ⟨S31x512, .f32⟩
  | 13 => ⟨S512, .f32⟩
  | 14 => ⟨S512, .f32⟩
  | 15 => ⟨S512, .f32⟩
  | 16 => ⟨S16x2048x512, .f32⟩
  | 17 => ⟨S1x512, .f32⟩
  | 18 => ⟨S512, .f32⟩
  | 19 => ⟨S1x1x512, .f32⟩
  | 20 => ⟨S16x2048x512, .f32⟩
  | 21 => ⟨S16x2048x512, .f32⟩
  | 22 => ⟨S_, .f32⟩
  | 23 => ⟨S16x2048x512, .f32⟩
  | 24 => ⟨S16x2048x512, .f32⟩
  | 25 => ⟨S16x2048x512, .f32⟩
  | 26 => ⟨S1x512, .f32⟩
  | 27 => ⟨S512, .f32⟩
  | 28 => ⟨S1x1x512, .f32⟩
  | 29 => ⟨S16x2048x512, .f32⟩
  | 30 => ⟨S16x2048x512, .f32⟩
  | 31 => ⟨S16x2048x512, .f32⟩
  | 32 => ⟨S16x2048x512, .f32⟩
  | 33 => ⟨S1x512, .f32⟩
  | 34 => ⟨S512, .f32⟩
  | 35 => ⟨S1x1x512, .f32⟩
  | 36 => ⟨S16x2048x512, .f32⟩
  | 37 => ⟨S16x2048x512, .f32⟩
  | 38 => ⟨S16x2048x512, .f32⟩
  | 39 => ⟨S16x2048x512, .f32⟩
  | 40 => ⟨S1x512, .f32⟩
  | 41 => ⟨S512, .f32⟩
  | 42 => ⟨S1x1x512, .f32⟩
  | 43 => ⟨S16x2048x512, .f32⟩
  | 44 => ⟨S16x2048x512, .f32⟩
  | 45 => ⟨S16x2048x512, .f32⟩
  | 46 => ⟨S16x2048x512, .f32⟩
  | 47 => ⟨S1x512, .f32⟩
  | 48 => ⟨S512, .f32⟩
  | 49 => ⟨S1x1x512, .f32⟩
  | 50 => ⟨S16x2048x512, .f32⟩
  | 51 => ⟨S16x2048x512, .f32⟩
  | 52 => ⟨S16x2048x512, .f32⟩
  | 53 => ⟨S16x2048x512, .f32⟩
  | 54 => ⟨S1x512, .f32⟩
  | 55 => ⟨S512, .f32⟩
  | 56 => ⟨S1x1x512, .f32⟩
  | 57 => ⟨S16x2048x512, .f32⟩
  | 58 => ⟨S16x2048x512, .f32⟩
  | 59 => ⟨S16x2048x512, .f32⟩
  | 60 => ⟨S16x2048x512, .f32⟩
  | 61 => ⟨S1x512, .f32⟩
  | 62 => ⟨S512, .f32⟩
  | 63 => ⟨S1x1x512, .f32⟩
  | 64 => ⟨S16x2048x512, .f32⟩
  | 65 => ⟨S16x2048x512, .f32⟩
  | 66 => ⟨S16x2048x512, .f32⟩
  | 67 => ⟨S16x2048x512, .f32⟩
  | 68 => ⟨S1x512, .f32⟩
  | 69 => ⟨S512, .f32⟩
  | 70 => ⟨S1x1x512, .f32⟩
  | 71 => ⟨S16x2048x512, .f32⟩
  | 72 => ⟨S16x2048x512, .f32⟩
  | 73 => ⟨S16x2048x512, .f32⟩
  | 74 => ⟨S16x2048x512, .f32⟩
  | 75 => ⟨S1x512, .f32⟩
  | 76 => ⟨S512, .f32⟩
  | 77 => ⟨S1x1x512, .f32⟩
  | 78 => ⟨S16x2048x512, .f32⟩
  | 79 => ⟨S16x2048x512, .f32⟩
  | 80 => ⟨S16x2048x512, .f32⟩
  | 81 => ⟨S16x2048x512, .f32⟩
  | 82 => ⟨S1x512, .f32⟩
  | 83 => ⟨S512, .f32⟩
  | 84 => ⟨S1x1x512, .f32⟩
  | 85 => ⟨S16x2048x512, .f32⟩
  | 86 => ⟨S16x2048x512, .f32⟩
  | 87 => ⟨S16x2048x512, .f32⟩
  | 88 => ⟨S16x2048x512, .f32⟩
  | 89 => ⟨S1x512, .f32⟩
  | 90 => ⟨S512, .f32⟩
  | 91 => ⟨S1x1x512, .f32⟩
  | 92 => ⟨S16x2048x512, .f32⟩
  | 93 => ⟨S16x2048x512, .f32⟩
  | 94 => ⟨S16x2048x512, .f32⟩
  | 95 => ⟨S16x2048x512, .f32⟩
  | 96 => ⟨S1x512, .f32⟩
  | 97 => ⟨S512, .f32⟩
  | 98 => ⟨S1x1x512, .f32⟩
  | 99 => ⟨S16x2048x512, .f32⟩
  | 100 => ⟨S16x2048x512, .f32⟩
  | 101 => ⟨S16x2048x512, .f32⟩
  | 102 => ⟨S16x2048x512, .f32⟩
  | 103 => ⟨S1x512, .f32⟩
  | 104 => ⟨S512, .f32⟩
  | 105 => ⟨S1x1x512, .f32⟩
  | 106 => ⟨S16x2048x512, .f32⟩
  | 107 => ⟨S16x2048x512, .f32⟩
  | 108 => ⟨S16x2048x512, .f32⟩
  | 109 => ⟨S16x2048x512, .f32⟩
  | 110 => ⟨S1x512, .f32⟩
  | 111 => ⟨S512, .f32⟩
  | 112 => ⟨S1x1x512, .f32⟩
  | 113 => ⟨S16x2048x512, .f32⟩
  | 114 => ⟨S16x2048x512, .f32⟩
  | 115 => ⟨S16x2048x512, .f32⟩
  | 116 => ⟨S16x2048x512, .f32⟩
  | 117 => ⟨S1x512, .f32⟩
  | 118 => ⟨S512, .f32⟩
  | 119 => ⟨S1x1x512, .f32⟩
  | 120 => ⟨S16x2048x512, .f32⟩
  | 121 => ⟨S16x2048x512, .f32⟩
  | 122 => ⟨S16x2048x512, .f32⟩
  | 123 => ⟨S16x2048x512, .f32⟩
  | 124 => ⟨S1x512, .f32⟩
  | 125 => ⟨S512, .f32⟩
  | 126 => ⟨S1x1x512, .f32⟩
  | 127 => ⟨S16x2048x512, .f32⟩
  | _ => ⟨S16x2048x512, .bf16⟩

abbrev hbmTy0_1 (i : Nat) : BufTy := match i % 128 with
  | 0 => ⟨S16x2048x512, .f32⟩
  | 1 => ⟨S16x2048x512, .f32⟩
  | 2 => ⟨S16x2048x512, .f32⟩
  | 3 => ⟨S1x512, .f32⟩
  | 4 => ⟨S512, .f32⟩
  | 5 => ⟨S1x1x512, .f32⟩
  | 6 => ⟨S16x2048x512, .f32⟩
  | 7 => ⟨S16x2048x512, .f32⟩
  | 8 => ⟨S16x2048x512, .f32⟩
  | 9 => ⟨S16x2048x512, .f32⟩
  | 10 => ⟨S1x512, .f32⟩
  | 11 => ⟨S512, .f32⟩
  | 12 => ⟨S1x1x512, .f32⟩
  | 13 => ⟨S16x2048x512, .f32⟩
  | 14 => ⟨S16x2048x512, .f32⟩
  | 15 => ⟨S16x2048x512, .f32⟩
  | 16 => ⟨S16x2048x512, .f32⟩
  | 17 => ⟨S1x512, .f32⟩
  | 18 => ⟨S512, .f32⟩
  | 19 => ⟨S1x1x512, .f32⟩
  | 20 => ⟨S16x2048x512, .f32⟩
  | 21 => ⟨S16x2048x512, .f32⟩
  | 22 => ⟨S16x2048x512, .f32⟩
  | 23 => ⟨S16x2048x512, .f32⟩
  | 24 => ⟨S1x512, .f32⟩
  | 25 => ⟨S512, .f32⟩
  | 26 => ⟨S1x1x512, .f32⟩
  | 27 => ⟨S16x2048x512, .f32⟩
  | 28 => ⟨S16x2048x512, .f32⟩
  | 29 => ⟨S16x2048x512, .f32⟩
  | 30 => ⟨S16x2048x512, .f32⟩
  | 31 => ⟨S1x512, .f32⟩
  | 32 => ⟨S512, .f32⟩
  | 33 => ⟨S1x1x512, .f32⟩
  | 34 => ⟨S16x2048x512, .f32⟩
  | 35 => ⟨S16x2048x512, .f32⟩
  | 36 => ⟨S16x2048x512, .f32⟩
  | 37 => ⟨S16x2048x512, .f32⟩
  | 38 => ⟨S1x512, .f32⟩
  | 39 => ⟨S512, .f32⟩
  | 40 => ⟨S1x1x512, .f32⟩
  | 41 => ⟨S16x2048x512, .f32⟩
  | 42 => ⟨S16x2048x512, .f32⟩
  | 43 => ⟨S16x2048x512, .f32⟩
  | 44 => ⟨S16x2048x512, .f32⟩
  | 45 => ⟨S1x512, .f32⟩
  | 46 => ⟨S512, .f32⟩
  | 47 => ⟨S1x1x512, .f32⟩
  | 48 => ⟨S16x2048x512, .f32⟩
  | 49 => ⟨S16x2048x512, .f32⟩
  | 50 => ⟨S16x2048x512, .f32⟩
  | 51 => ⟨S16x2048x512, .f32⟩
  | 52 => ⟨S1x512, .f32⟩
  | 53 => ⟨S512, .f32⟩
  | 54 => ⟨S1x1x512, .f32⟩
  | 55 => ⟨S16x2048x512, .f32⟩
  | 56 => ⟨S16x2048x512, .f32⟩
  | 57 => ⟨S16x2048x512, .f32⟩
  | 58 => ⟨S16x2048x512, .f32⟩
  | 59 => ⟨S1x512, .f32⟩
  | 60 => ⟨S512, .f32⟩
  | 61 => ⟨S1x1x512, .f32⟩
  | 62 => ⟨S16x2048x512, .f32⟩
  | 63 => ⟨S16x2048x512, .f32⟩
  | 64 => ⟨S16x2048x512, .f32⟩
  | 65 => ⟨S16x2048x512, .f32⟩
  | 66 => ⟨S1x512, .f32⟩
  | 67 => ⟨S512, .f32⟩
  | 68 => ⟨S1x1x512, .f32⟩
  | 69 => ⟨S16x2048x512, .f32⟩
  | 70 => ⟨S16x2048x512, .f32⟩
  | 71 => ⟨S16x2048x512, .f32⟩
  | 72 => ⟨S16x2048x512, .f32⟩
  | 73 => ⟨S1x512, .f32⟩
  | 74 => ⟨S512, .f32⟩
  | 75 => ⟨S1x1x512, .f32⟩
  | 76 => ⟨S16x2048x512, .f32⟩
  | 77 => ⟨S16x2048x512, .f32⟩
  | 78 => ⟨S16x2048x512, .f32⟩
  | 79 => ⟨S16x2048x512, .f32⟩
  | 80 => ⟨S1x512, .f32⟩
  | 81 => ⟨S512, .f32⟩
  | 82 => ⟨S1x1x512, .f32⟩
  | 83 => ⟨S16x2048x512, .f32⟩
  | 84 => ⟨S16x2048x512, .f32⟩
  | 85 => ⟨S16x2048x512, .f32⟩
  | 86 => ⟨S16x2048x512, .f32⟩
  | 87 => ⟨S1x512, .f32⟩
  | 88 => ⟨S512, .f32⟩
  | 89 => ⟨S1x1x512, .f32⟩
  | 90 => ⟨S16x2048x512, .f32⟩
  | 91 => ⟨S16x2048x512, .f32⟩
  | 92 => ⟨S16x2048x512, .f32⟩
  | 93 => ⟨S16x2048x512, .f32⟩
  | 94 => ⟨S1x512, .f32⟩
  | 95 => ⟨S512, .f32⟩
  | 96 => ⟨S1x1x512, .f32⟩
  | 97 => ⟨S16x2048x512, .f32⟩
  | 98 => ⟨S16x2048x512, .f32⟩
  | 99 => ⟨S16x2048x512, .f32⟩
  | 100 => ⟨S16x2048x512, .f32⟩
  | 101 => ⟨S1x512, .f32⟩
  | 102 => ⟨S512, .f32⟩
  | 103 => ⟨S1x1x512, .f32⟩
  | 104 => ⟨S16x2048x512, .f32⟩
  | 105 => ⟨S16x2048x512, .f32⟩
  | 106 => ⟨S16x2048x512, .f32⟩
  | 107 => ⟨S1x1x512, .f32⟩
  | 108 => ⟨S16x2048x512, .f32⟩
  | 109 => ⟨S16x2048x512, .f32⟩
  | 110 => ⟨S_, .f32⟩
  | 111 => ⟨S16x2048, .f32⟩
  | 112 => ⟨S16x2048x1, .f32⟩
  | 113 => ⟨S_, .f32⟩
  | 114 => ⟨S16x2048x1, .f32⟩
  | 115 => ⟨S16x2048x1, .f32⟩
  | 116 => ⟨S16x2048x512, .f32⟩
  | 117 => ⟨S16x2048x512, .f32⟩
  | 118 => ⟨S16x2048x512, .f32⟩
  | 119 => ⟨S_, .f32⟩
  | 120 => ⟨S16x2048, .f32⟩
  | 121 => ⟨S16x2048x1, .f32⟩
  | 122 => ⟨S_, .f32⟩
  | 123 => ⟨S16x2048x1, .f32⟩
  | 124 => ⟨S16x2048x1, .f32⟩
  | 125 => ⟨S16x2048x512, .f32⟩
  | 126 => ⟨S16x2048x512, .f32⟩
  | 127 => ⟨S_, .f32⟩
  | _ => ⟨S16x2048x512, .bf16⟩

abbrev hbmTy0_2 (i : Nat) : BufTy := match i % 128 with
  | 0 => ⟨S16x2048x1, .f32⟩
  | 1 => ⟨S16x2048x1, .f32⟩
  | 2 => ⟨S16x2048x1, .f32⟩
  | 3 => ⟨S16x2048x512, .f32⟩
  | 4 => ⟨S16x2048x512, .f32⟩
  | 5 => ⟨S1x1x512, .f32⟩
  | 6 => ⟨S16x2048x512, .f32⟩
  | 7 => ⟨S16x2048x512, .f32⟩
  | 8 => ⟨S1x1x512, .f32⟩
  | 9 => ⟨S16x2048x512, .f32⟩
  | 10 => ⟨S16x2048x512, .f32⟩
  | 11 => ⟨S16x2048x512, .f32⟩
  | 12 => ⟨S16x2048x512, .f32⟩
  | 13 => ⟨S_, .f32⟩
  | 14 => ⟨S16x2048x512, .f32⟩
  | 15 => ⟨S16x2048x512, .f32⟩
  | 16 => ⟨S_, .f32⟩
  | 17 => ⟨S16x2048x512, .f32⟩
  | 18 => ⟨S16x2048x512, .f32⟩
  | 19 => ⟨S16x2048x512, .f32⟩
  | 20 => ⟨S16x2048x512, .f32⟩
  | 21 => ⟨S16x2048x512, .f32⟩
  | 22 => ⟨S16x2048x1024, .f32⟩
  | 23 => ⟨S1024x1024, .f32⟩
  | 24 => ⟨S16x2048x1024, .f32⟩
  | 25 => ⟨S16x2048x1024, .f32⟩
  | _ => ⟨S16x2048x512, .bf16⟩

abbrev hbmTy (i : Nat) : BufTy := match i / 128 with
  | 0 => hbmTy0_0 i
  | 1 => hbmTy0_1 i
  | 2 => hbmTy0_2 i
  | _ => ⟨S16x2048x512, .bf16⟩

abbrev bufTy : (tb : Table) → Fin (tcTables nBuf tb) → BufTy
  | .hbm, ⟨i, _⟩ => hbmTy i
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_cst_0 : Ref sig .tc := ⟨.hbm, 238, rfl⟩
abbrev main_v226 : Ref sig .tc := ⟨.hbm, 239, rfl⟩
abbrev main_v227 : Ref sig .tc := ⟨.hbm, 240, rfl⟩
abbrev main_cst_1 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_cst_2 : Ref sig .tc := ⟨.hbm, 247, rfl⟩
abbrev main_v233 : Ref sig .tc := ⟨.hbm, 248, rfl⟩
abbrev main_v234 : Ref sig .tc := ⟨.hbm, 249, rfl⟩
abbrev main_cst_3 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_cst_4 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩

abbrev nD : Nat := 1
abbrev τ : Topo := Topo.v7x

variable {F : FTy → Type} [FloatOps F]
-- ==== Kernel4.lean ====
abbrev S32x1x1024 : Shape := ⟨3, ![32, 1, 1024]⟩
abbrev S1x1024 : Shape := ⟨2, ![1, 1024]⟩
abbrev S1x1024x4168 : Shape := ⟨3, ![1, 1024, 4168]⟩
abbrev S1x64 : Shape := ⟨2, ![1, 64]⟩
abbrev S1x32x30x512 : Shape := ⟨4, ![1, 32, 30, 512]⟩
abbrev S1024x4168 : Shape := ⟨2, ![1024, 4168]⟩
abbrev S1024x2560 : Shape := ⟨2, ![1024, 2560]⟩
abbrev S1024x72 : Shape := ⟨2, ![1024, 72]⟩
abbrev S_ : Shape := ⟨0, ![]⟩
abbrev S1024x128 : Shape := ⟨2, ![1024, 128]⟩
abbrev S1024x1536 : Shape := ⟨2, ![1024, 1536]⟩
abbrev S1024 : Shape := ⟨1, ![1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x32x1024 : Shape := ⟨3, ![1, 32, 1024]⟩
abbrev S1x32x512 : Shape := ⟨3, ![1, 32, 512]⟩
abbrev S1x32x128 : Shape := ⟨3, ![1, 32, 128]⟩
abbrev S32x1024 : Shape := ⟨2, ![32, 1024]⟩
abbrev S32 : Shape := ⟨1, ![32]⟩
abbrev S32x1 : Shape := ⟨2, ![32, 1]⟩
abbrev S1024x512 : Shape := ⟨2, ![1024, 512]⟩
abbrev S32x512 : Shape := ⟨2, ![32, 512]⟩
abbrev S32x128 : Shape := ⟨2, ![32, 128]⟩
abbrev S32x30x512 : Shape := ⟨3, ![32, 30, 512]⟩
abbrev S32x29x512 : Shape := ⟨3, ![32, 29, 512]⟩
abbrev S32x1x512 : Shape := ⟨3, ![32, 1, 512]⟩

abbrev nBuf : Space → Nat
  | .hbm => 56
  | .vmem => 16
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4168, .f32⟩
  | .hbm, ⟨3, _⟩ => ⟨S1x64, .f32⟩
  | .hbm, ⟨4, _⟩ => ⟨S1x64, .f32⟩
  | .hbm, ⟨5, _⟩ => ⟨S1x32x30x512, .f32⟩
  | .hbm, ⟨6, _⟩ => ⟨S1024x4168, .f32⟩
  | .hbm, ⟨7, _⟩ => ⟨S1024x2560, .f32⟩
  | .hbm, ⟨8, _⟩ => ⟨S1024x2560, .bf16⟩
  | .hbm, ⟨9, _⟩ => ⟨S1024x72, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x1536, .f32⟩
  | .hbm, ⟨15, _⟩ => ⟨S1024x1536, .bf16⟩
  | .hbm, ⟨16, _⟩ => ⟨S1024, .f32⟩
  | .hbm, ⟨17, _⟩ => ⟨S1x1024, .f32⟩
  | .hbm, ⟨18, _⟩ => ⟨S64, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S64, .f32⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S1x512, .f32⟩
  | .hbm, ⟨28, _⟩ => ⟨S8x64, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S1x32x1024, .f32⟩
  | .hbm, ⟨42, _⟩ => ⟨S1x32x512, .f32⟩
  | .hbm, ⟨43, _⟩ => ⟨S1x32x512, .f32⟩
  | .hbm, ⟨44, _⟩ => ⟨S1x32x512, .f32⟩
  | .hbm, ⟨45, _⟩ => ⟨S1x32x512, .f32⟩
  | .hbm, ⟨46, _⟩ => ⟨S1x32x512, .f32⟩
  | .hbm, ⟨47, _⟩ => ⟨S1x32x128, .f32⟩
  | .hbm, ⟨48, _⟩ => ⟨S1x32x512, .f32⟩
  | .hbm, ⟨49, _⟩ => ⟨S1x32x512, .f32⟩
  | .hbm, ⟨50, _⟩ => ⟨S32x512, .f32⟩
  | .hbm, ⟨51, _⟩ => ⟨S32x30x512, .f32⟩
  | .hbm, ⟨52, _⟩ => ⟨S32x29x512, .f32⟩
  | .hbm, ⟨53, _⟩ => ⟨S32x1x512, .f32⟩
  | .hbm, ⟨54, _⟩ => ⟨S32x30x512, .f32⟩
  | .hbm, ⟨55, _⟩ => ⟨S1x32x30x512, .f32⟩
  | .local _ .vmem, ⟨0, _⟩ => ⟨S1x32x1024, .f32⟩
  | .local _ .vmem, ⟨1, _⟩ => ⟨S1x1024, .f32⟩
  | .local _ .vmem, ⟨2, _⟩ => ⟨S1024x2560, .bf16⟩
  | .local _ .vmem, ⟨3, _⟩ => ⟨S1024x128, .bf16⟩
  | .local _ .vmem, ⟨4, _⟩ => ⟨S1024x1536, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S1x32x512, .f32⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x32x128, .f32⟩
  | .local _ .vmem, ⟨14, _⟩ => ⟨S1x32x512, .f32⟩
  | .local _ .vmem, ⟨15, _⟩ => ⟨S1x32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev main_v30_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== Reference4Ideal.lean ====
abbrev S32x1x1024 : Shape := ⟨3, ![32, 1, 1024]⟩
abbrev S1x1024 : Shape := ⟨2, ![1, 1024]⟩
abbrev S1x1024x4168 : Shape := ⟨3, ![1, 1024, 4168]⟩
abbrev S1x64 : Shape := ⟨2, ![1, 64]⟩
abbrev S1x32x30x512 : Shape := ⟨4, ![1, 32, 30, 512]⟩
abbrev S1024 : Shape := ⟨1, ![1024]⟩
abbrev S1024x4168 : Shape := ⟨2, ![1024, 4168]⟩
abbrev S64 : Shape := ⟨1, ![64]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x4168 : Shape := ⟨3, ![32, 1, 4168]⟩
abbrev S32x1x512 : Shape := ⟨3, ![32, 1, 512]⟩
abbrev S32x1x64 : Shape := ⟨3, ![32, 1, 64]⟩
abbrev S32x1x8 : Shape := ⟨3, ![32, 1, 8]⟩
abbrev S32x1x8x64 : Shape := ⟨4, ![32, 1, 8, 64]⟩
abbrev S32x1x8x1 : Shape := ⟨4, ![32, 1, 8, 1]⟩
abbrev S1x1x1x64 : Shape := ⟨4, ![1, 1, 1, 64]⟩
abbrev S32x1x56 : Shape := ⟨3, ![32, 1, 56]⟩
abbrev S32x1x128 : Shape := ⟨3, ![32, 1, 128]⟩
abbrev S1x32x512 : Shape := ⟨3, ![1, 32, 512]⟩
abbrev S1x32x128 : Shape := ⟨3, ![1, 32, 128]⟩
abbrev S32x30x512 : Shape := ⟨3, ![32, 30, 512]⟩
abbrev S32x31x512 : Shape := ⟨3, ![32, 31, 512]⟩

abbrev nBuf : Space → Nat
  | .hbm => 117
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4168, .f32⟩
  | .hbm, ⟨3, _⟩ => ⟨S1x64, .f32⟩
  | .hbm, ⟨4, _⟩ => ⟨S1x64, .f32⟩
  | .hbm, ⟨5, _⟩ => ⟨S1x32x30x512, .f32⟩
  | .hbm, ⟨6, _⟩ => ⟨S1024, .f32⟩
  | .hbm, ⟨7, _⟩ => ⟨S1024x4168, .f32⟩
  | .hbm, ⟨8, _⟩ => ⟨S64, .f32⟩
  | .hbm, ⟨9, _⟩ => ⟨S64, .f32⟩
  | .hbm, ⟨10, _⟩ => ⟨S32x1x1024, .f32⟩
  | .hbm, ⟨11, _⟩ => ⟨S_, .f32⟩
  | .hbm, ⟨12, _⟩ => ⟨S32x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S_, .f32⟩
  | .hbm, ⟨18, _⟩ => ⟨S32x1x1, .f32⟩
  | .hbm, ⟨19, _⟩ => ⟨S32x1x1, .f32⟩
  | .hbm, ⟨20, _⟩ => ⟨S32x1x1, .f32⟩
  | .hbm, ⟨21, _⟩ => ⟨S32x1x1024, .f32⟩
  | .hbm, ⟨22, _⟩ => ⟨S32x1x1024, .f32⟩
  | .hbm, ⟨23, _⟩ => ⟨S1x1x1024, .f32⟩
  | .hbm, ⟨24, _⟩ => ⟨S32x1x1024, .f32⟩
  | .hbm, ⟨25, _⟩ => ⟨S32x1x1024, .f32⟩
  | .hbm, ⟨26, _⟩ => ⟨S32x1x4168, .f32⟩
  | .hbm, ⟨27, _⟩ => ⟨S32x1x512, .f32⟩
  | .hbm, ⟨28, _⟩ => ⟨S32x1x512, .f32⟩
  | .hbm, ⟨29, _⟩ => ⟨S32x1x512, .f32⟩
  | .hbm, ⟨30, _⟩ => ⟨S32x1x512, .f32⟩
  | .hbm, ⟨31, _⟩ => ⟨S32x1x512, .f32⟩
  | .hbm, ⟨32, _⟩ => ⟨S32x1x64, .f32⟩
  | .hbm, ⟨33, _⟩ => ⟨S32x1x8, .f32⟩
  | .hbm, ⟨34, _⟩ => ⟨S32x1x512, .f32⟩
  | .hbm, ⟨35, _⟩ => ⟨S32x1x512, .f32⟩
  | .hbm, ⟨36, _⟩ => ⟨S32x1x512, .f32⟩
  | .hbm, ⟨37, _⟩ => ⟨S32x1x8x64, .f32⟩
  | .hbm, ⟨38, _⟩ => ⟨S32x1x8x64, .f32⟩
  | .hbm, ⟨39, _⟩ => ⟨S_, .f32⟩
  | .hbm, ⟨40, _⟩ => ⟨S32x1x8, .f32⟩
  | .hbm, ⟨41, _⟩ => ⟨S32x1x8x1, .f32⟩
  | .hbm, ⟨42, _⟩ => ⟨S_, .f32⟩
  | .hbm, ⟨43, _⟩ => ⟨S32x1x8x1, .f32⟩
  | .hbm, ⟨44, _⟩ => ⟨S32x1x8x1, .f32⟩
  | .hbm, ⟨45, _⟩ => ⟨S_, .f32⟩
  | .hbm, ⟨46, _⟩ => ⟨S32x1x8x1, .f32⟩
  | .hbm, ⟨47, _⟩ => ⟨S32x1x8x1, .f32⟩
  | .hbm, ⟨48, _⟩ => ⟨S32x1x8x1, .f32⟩
  | .hbm, ⟨49, _⟩ => ⟨S32x1x8x64, .f32⟩
  | .hbm, ⟨50, _⟩ => ⟨S32x1x8x64, .f32⟩
  | .hbm, ⟨51, _⟩ => ⟨S1x1x1x64, .f32⟩
  | .hbm, ⟨52, _⟩ => ⟨S32x1x8x64, .f32⟩
  | .hbm, ⟨53, _⟩ => ⟨S32x1x8x64, .f32⟩
  | .hbm, ⟨54, _⟩ => ⟨S32x1x8x64, .f32⟩
  | .hbm, ⟨55, _⟩ => ⟨S32x1x8x64, .f32⟩
  | .hbm, ⟨56, _⟩ => ⟨S_, .f32⟩
  | .hbm, ⟨57, _⟩ => ⟨S32x1x8, .f32⟩
  | .hbm, ⟨58, _⟩ => ⟨S32x1x8x1, .f32⟩
  | .hbm, ⟨59, _⟩ => ⟨S_, .f32⟩
  | .hbm, ⟨60, _⟩ => ⟨S32x1x8x1, .f32⟩
  | .hbm, ⟨61, _⟩ => ⟨S32x1x8x1, .f32⟩
  | .hbm, ⟨62, _⟩ => ⟨S_, .f32⟩
  | .hbm, ⟨63, _⟩ => ⟨S32x1x8x1, .f32⟩
  | .hbm, ⟨64, _⟩ => ⟨S32x1x8x1, .f32⟩
  | .hbm, ⟨65, _⟩ => ⟨S32x1x8x1, .f32⟩
  | .hbm, ⟨66, _⟩ => ⟨S32x1x8x64, .f32⟩
  | .hbm, ⟨67, _⟩ => ⟨S32x1x8x64, .f32⟩
  | .hbm, ⟨68, _⟩ => ⟨S1x1x1x64, .f32⟩
  | .hbm, ⟨69, _⟩ => ⟨S32x1x8x64, .f32⟩
  | .hbm, ⟨70, _⟩ => ⟨S32x1x8x64, .f32⟩
  | .hbm, ⟨71, _⟩ => ⟨S32x1x8x64, .f32⟩
  | .hbm, ⟨72, _⟩ => ⟨S32x1x512, .f32⟩
  | .hbm, ⟨73, _⟩ => ⟨S32x1x512, .f32⟩
  | .hbm, ⟨74, _⟩ => ⟨S_, .f32⟩
  | .hbm, ⟨75, _⟩ => ⟨S32x1x512, .f32⟩
  | .hbm, ⟨76, _⟩ => ⟨S32x1x512, .f32⟩
  | .hbm, ⟨77, _⟩ => ⟨S_, .f32⟩
  | .hbm, ⟨78, _⟩ => ⟨S32x1x512, .f32⟩
  | .hbm, ⟨79, _⟩ => ⟨S32x1x512, .f32⟩
  | .hbm, ⟨80, _⟩ => ⟨S32x1x512, .f32⟩
  | .hbm, ⟨81, _⟩ => ⟨S32x1x512, .f32⟩
  | .hbm, ⟨82, _⟩ => ⟨S32x1x512, .f32⟩
  | .hbm, ⟨83, _⟩ => ⟨S32x1x512, .f32⟩
  | .hbm, ⟨84, _⟩ => ⟨S_, .f32⟩
  | .hbm, ⟨85, _⟩ => ⟨S32x1x56, .f32⟩
  | .hbm, ⟨86, _⟩ => ⟨S32x1x128, .f32⟩
  | .hbm, ⟨87, _⟩ => ⟨S32x1x512, .f32⟩
  | .hbm, ⟨88, _⟩ => ⟨S32x1x512, .f32⟩
  | .hbm, ⟨89, _⟩ => ⟨S_, .f32⟩
  | .hbm, ⟨90, _⟩ => ⟨S32x1x512, .f32⟩
  | .hbm, ⟨91, _⟩ => ⟨S32x1x512, .f32⟩
  | .hbm, ⟨92, _⟩ => ⟨S_, .f32⟩
  | .hbm, ⟨93, _⟩ => ⟨S32x1x512, .f32⟩
  | .hbm, ⟨94, _⟩ => ⟨S32x1x512, .f32⟩
  | .hbm, ⟨95, _⟩ => ⟨S32x1x512, .f32⟩
  | .hbm, ⟨96, _⟩ => ⟨S32x1x512, .f32⟩
  | .hbm, ⟨97, _⟩ => ⟨S32x1x512, .f32⟩
  | .hbm, ⟨98, _⟩ => ⟨S_, .f32⟩
  | .hbm, ⟨99, _⟩ => ⟨S32x1x512, .f32⟩
  | .hbm, ⟨100, _⟩ => ⟨S32x1x512, .f32⟩
  | .hbm, ⟨101, _⟩ => ⟨S_, .f32⟩
  | .hbm, ⟨102, _⟩ => ⟨S32x1x512, .f32⟩
  | .hbm, ⟨103, _⟩ => ⟨S32x1x512, .f32⟩
  | .hbm, ⟨104, _⟩ => ⟨S32x1x512, .f32⟩
  | .hbm, ⟨105, _⟩ => ⟨S1x32x512, .f32⟩
  | .hbm, ⟨106, _⟩ => ⟨S1x32x512, .f32⟩
  | .hbm, ⟨107, _⟩ => ⟨S1x32x512, .f32⟩
  | .hbm, ⟨108, _⟩ => ⟨S1x32x512, .f32⟩
  | .hbm, ⟨109, _⟩ => ⟨S1x32x512, .f32⟩
  | .hbm, ⟨110, _⟩ => ⟨S1x32x128, .f32⟩
  | .hbm, ⟨111, _⟩ => ⟨S1x32x512, .f32⟩
  | .hbm, ⟨112, _⟩ => ⟨S1x32x512, .f32⟩
  | .hbm, ⟨113, _⟩ => ⟨S32x30x512, .f32⟩
  | .hbm, ⟨114, _⟩ => ⟨S32x31x512, .f32⟩
  | .hbm, ⟨115, _⟩ => ⟨S32x30x512, .f32⟩
  | .hbm, ⟨116, _⟩ => ⟨S1x32x30x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v69 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]
-- ==== Kernel5.lean ====
abbrev S32x512 : Shape := ⟨2, ![32, 512]⟩
abbrev S1x32x30x512 : Shape := ⟨4, ![1, 32, 30, 512]⟩
abbrev S32x1x1024 : Shape := ⟨3, ![32, 1, 1024]⟩
abbrev S1x1024x1024 : Shape := ⟨3, ![1, 1024, 1024]⟩
abbrev S1x31x512 : Shape := ⟨3, ![1, 31, 512]⟩
abbrev S1x512 : Shape := ⟨2, ![1, 512]⟩
abbrev S1024x1024 : Shape := ⟨2, ![1024, 1024]⟩
abbrev S512 : Shape := ⟨1, ![512]⟩
abbrev S32x30x512 : Shape := ⟨3, ![32, 30, 512]⟩
abbrev S30x32x512 : Shape := ⟨3, ![30, 32, 512]⟩
abbrev S32x1024 : Shape := ⟨2, ![32, 1024]⟩
abbrev S31x512 : Shape := ⟨2, ![31, 512]⟩
abbrev S1x32x512 : Shape := ⟨3, ![1, 32, 512]⟩
abbrev S32 : Shape := ⟨1, ![32]⟩
abbrev S32x1 : Shape := ⟨2, ![32, 1]⟩
abbrev S512x1024 : Shape := ⟨2, ![512, 1024]⟩

abbrev nBuf : Space → Nat
  | .hbm => 24
  | .vmem => 12
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S1x32x30x512, .f32⟩
  | .hbm, ⟨5, _⟩ => ⟨S32x1x1024, .f32⟩
  | .hbm, ⟨6, _⟩ => ⟨S1x1024x1024, .f32⟩
  | .hbm, ⟨7, _⟩ => ⟨S1x31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1024x1024, .f32⟩
  | .hbm, ⟨12, _⟩ => ⟨S1024x1024, .bf16⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S32x30x512, .f32⟩
  | .hbm, ⟨20, _⟩ => ⟨S30x32x512, .f32⟩
  | .hbm, ⟨21, _⟩ => ⟨S32x1024, .f32⟩
  | .hbm, ⟨22, _⟩ => ⟨S31x512, .f32⟩
  | .hbm, ⟨23, _⟩ => ⟨S32x1024, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S30x32x512, .f32⟩
  | .local _ .vmem, ⟨5, _⟩ => ⟨S32x1024, .f32⟩
  | .local _ .vmem, ⟨6, _⟩ => ⟨S1024x1024, .bf16⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S32x1024, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S30x32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Reference5Ideal.lean ====
abbrev S32x512 : Shape := ⟨2, ![32, 512]⟩
abbrev S1x32x30x512 : Shape := ⟨4, ![1, 32, 30, 512]⟩
abbrev S32x1x1024 : Shape := ⟨3, ![32, 1, 1024]⟩
abbrev S1x1024x1024 : Shape := ⟨3, ![1, 1024, 1024]⟩
abbrev S1x31x512 : Shape := ⟨3, ![1, 31, 512]⟩
abbrev S1x512 : Shape := ⟨2, ![1, 512]⟩
abbrev S32x30x512 : Shape := ⟨3, ![32, 30, 512]⟩
abbrev S32x1x512 : Shape := ⟨3, ![32, 1, 512]⟩
abbrev S32x31x512 : Shape := ⟨3, ![32, 31, 512]⟩
abbrev S31x512 : Shape := ⟨2, ![31, 512]⟩
abbrev S512 : Shape := ⟨1, ![512]⟩
abbrev S1x1x512 : Shape := ⟨3, ![1, 1, 512]⟩
abbrev S_ : Shape := ⟨0, ![]⟩
abbrev S32x1 : Shape := ⟨2, ![32, 1]⟩
abbrev S32x1x1 : Shape := ⟨3, ![32, 1, 1]⟩
abbrev S32x1024 : Shape := ⟨2, ![32, 1024]⟩
abbrev S1024x1024 : Shape := ⟨2, ![1024, 1024]⟩

abbrev nBuf : Space → Nat
  | .hbm => 286
  | .vmem => 0
  | .smem => 0
  | _ => 0

abbrev hbmTy0_0 (i : Nat) : BufTy := match i % 128 with
  | 0 => ⟨S32x512, .f32⟩
  | 1 => ⟨S32x512, .f32⟩
  | 2 => ⟨S32x512, .f32⟩
  | 3 => ⟨S32x512, .f32⟩
  | 4 => ⟨S1x32x30x512, .f32⟩
  | 5 => ⟨S32x1x1024, .f32⟩
  | 6 => ⟨S1x1024x1024, .f32⟩
  | 7 => ⟨S1x31x512, .f32⟩
  | 8 => ⟨S1x512, .f32⟩
  | 9 => ⟨S1x512, .f32⟩
  | 10 => ⟨S1x512, .f32⟩
  | 11 => ⟨S32x30x512, .f32⟩
  | 12 => ⟨S32x1x512, .f32⟩
  | 13 => ⟨S32x31x512, .f32⟩
  | 14 => ⟨S31x512, .f32⟩
  | 15 => ⟨S512, .f32⟩
  | 16 => ⟨S512, .f32⟩
  | 17 => ⟨S512, .f32⟩
  | 18 => ⟨S32x1x512, .f32⟩
  | 19 => ⟨S1x512, .f32⟩
  | 20 => ⟨S512, .f32⟩
  | 21 => ⟨S1x1x512, .f32⟩
  | 22 => ⟨S32x1x512, .f32⟩
  | 23 => ⟨S32x1x512, .f32⟩
  | 24 => ⟨S_, .f32⟩
  | 25 => ⟨S32x1x512, .f32⟩
  | 26 => ⟨S32x1x512, .f32⟩
  | 27 => ⟨S32x1x512, .f32⟩
  | 28 => ⟨S1x512, .f32⟩
  | 29 => ⟨S512, .f32⟩
  | 30 => ⟨S1x1x512, .f32⟩
  | 31 => ⟨S32x1x512, .f32⟩
  | 32 => ⟨S32x1x512, .f32⟩
  | 33 => ⟨S32x1x512, .f32⟩
  | 34 => ⟨S32x1x512, .f32⟩
  | 35 => ⟨S1x512, .f32⟩
  | 36 => ⟨S512, .f32⟩
  | 37 => ⟨S1x1x512, .f32⟩
  | 38 => ⟨S32x1x512, .f32⟩
  | 39 => ⟨S32x1x512, .f32⟩
  | 40 => ⟨S32x1x512, .f32⟩
  | 41 => ⟨S32x1x512, .f32⟩
  | 42 => ⟨S1x512, .f32⟩
  | 43 => ⟨S512, .f32⟩
  | 44 => ⟨S1x1x512, .f32⟩
  | 45 => ⟨S32x1x512, .f32⟩
  | 46 => ⟨S32x1x512, .f32⟩
  | 47 => ⟨S32x1x512, .f32⟩
  | 48 => ⟨S32x1x512, .f32⟩
  | 49 => ⟨S1x512, .f32⟩
  | 50 => ⟨S512, .f32⟩
  | 51 => ⟨S1x1x512, .f32⟩
  | 52 => ⟨S32x1x512, .f32⟩
  | 53 => ⟨S32x1x512, .f32⟩
  | 54 => ⟨S32x1x512, .f32⟩
  | 55 => ⟨S32x1x512, .f32⟩
  | 56 => ⟨S1x512, .f32⟩
  | 57 => ⟨S512, .f32⟩
  | 58 => ⟨S1x1x512, .f32⟩
  | 59 => ⟨S32x1x512, .f32⟩
  | 60 => ⟨S32x1x512, .f32⟩
  | 61 => ⟨S32x1x512, .f32⟩
  | 62 => ⟨S32x1x512, .f32⟩
  | 63 => ⟨S1x512, .f32⟩
  | 64 => ⟨S512, .f32⟩
  | 65 => ⟨S1x1x512, .f32⟩
  | 66 => ⟨S32x1x512, .f32⟩
  | 67 => ⟨S32x1x512, .f32⟩
  | 68 => ⟨S32x1x512, .f32⟩
  | 69 => ⟨S32x1x512, .f32⟩
  | 70 => ⟨S1x512, .f32⟩
  | 71 => ⟨S512, .f32⟩
  | 72 => ⟨S1x1x512, .f32⟩
  | 73 => ⟨S32x1x512, .f32⟩
  | 74 => ⟨S32x1x512, .f32⟩
  | 75 => ⟨S32x1x512, .f32⟩
  | 76 => ⟨S32x1x512, .f32⟩
  | 77 => ⟨S1x512, .f32⟩
  | 78 => ⟨S512, .f32⟩
  | 79 => ⟨S1x1x512, .f32⟩
  | 80 => ⟨S32x1x512, .f32⟩
  | 81 => ⟨S32x1x512, .f32⟩
  | 82 => ⟨S32x1x512, .f32⟩
  | 83 => ⟨S32x1x512, .f32⟩
  | 84 => ⟨S1x512, .f32⟩
  | 85 => ⟨S512, .f32⟩
  | 86 => ⟨S1x1x512, .f32⟩
  | 87 => ⟨S32x1x512, .f32⟩
  | 88 => ⟨S32x1x512, .f32⟩
  | 89 => ⟨S32x1x512, .f32⟩
  | 90 => ⟨S32x1x512, .f32⟩
  | 91 => ⟨S1x512, .f32⟩
  | 92 => ⟨S512, .f32⟩
  | 93 => ⟨S1x1x512, .f32⟩
  | 94 => ⟨S32x1x512, .f32⟩
  | 95 => ⟨S32x1x512, .f32⟩
  | 96 => ⟨S32x1x512, .f32⟩
  | 97 => ⟨S32x1x512, .f32⟩
  | 98 => ⟨S1x512, .f32⟩
  | 99 => ⟨S512, .f32⟩
  | 100 => ⟨S1x1x512, .f32⟩
  | 101 => ⟨S32x1x512, .f32⟩
  | 102 => ⟨S32x1x512, .f32⟩
  | 103 => ⟨S32x1x512, .f32⟩
  | 104 => ⟨S32x1x512, .f32⟩
  | 105 => ⟨S1x512, .f32⟩
  | 106 => ⟨S512, .f32⟩
  | 107 => ⟨S1x1x512, .f32⟩
  | 108 => ⟨S32x1x512, .f32⟩
  | 109 => ⟨S32x1x512, .f32⟩
  | 110 => ⟨S32x1x512, .f32⟩
  | 111 => ⟨S32x1x512, .f32⟩
  | 112 => ⟨S1x512, .f32⟩
  | 113 => ⟨S512, .f32⟩
  | 114 => ⟨S1x1x512, .f32⟩
  | 115 => ⟨S32x1x512, .f32⟩
  | 116 => ⟨S32x1x512, .f32⟩
  | 117 => ⟨S32x1x512, .f32⟩
  | 118 => ⟨S32x1x512, .f32⟩
  | 119 => ⟨S1x512, .f32⟩
  | 120 => ⟨S512, .f32⟩
  | 121 => ⟨S1x1x512, .f32⟩
  | 122 => ⟨S32x1x512, .f32⟩
  | 123 => ⟨S32x1x512, .f32⟩
  | 124 => ⟨S32x1x512, .f32⟩
  | 125 => ⟨S32x1x512, .f32⟩
  | 126 => ⟨S1x512, .f32⟩
  | 127 => ⟨S512, .f32⟩
  | _ => ⟨S32x512, .f32⟩

abbrev hbmTy0_1 (i : Nat) : BufTy := match i % 128 with
  | 0 => ⟨S1x1x512, .f32⟩
  | 1 => ⟨S32x1x512, .f32⟩
  | 2 => ⟨S32x1x512, .f32⟩
  | 3 => ⟨S32x1x512, .f32⟩
  | 4 => ⟨S32x1x512, .f32⟩
  | 5 => ⟨S1x512, .f32⟩
  | 6 => ⟨S512, .f32⟩
  | 7 => ⟨S1x1x512, .f32⟩
  | 8 => ⟨S32x1x512, .f32⟩
  | 9 => ⟨S32x1x512, .f32⟩
  | 10 => ⟨S32x1x512, .f32⟩
  | 11 => ⟨S32x1x512, .f32⟩
  | 12 => ⟨S1x512, .f32⟩
  | 13 => ⟨S512, .f32⟩
  | 14 => ⟨S1x1x512, .f32⟩
  | 15 => ⟨S32x1x512, .f32⟩
  | 16 => ⟨S32x1x512, .f32⟩
  | 17 => ⟨S32x1x512, .f32⟩
  | 18 => ⟨S32x1x512, .f32⟩
  | 19 => ⟨S1x512, .f32⟩
  | 20 => ⟨S512, .f32⟩
  | 21 => ⟨S1x1x512, .f32⟩
  | 22 => ⟨S32x1x512, .f32⟩
  | 23 => ⟨S32x1x512, .f32⟩
  | 24 => ⟨S32x1x512, .f32⟩
  | 25 => ⟨S32x1x512, .f32⟩
  | 26 => ⟨S1x512, .f32⟩
  | 27 => ⟨S512, .f32⟩
  | 28 => ⟨S1x1x512, .f32⟩
  | 29 => ⟨S32x1x512, .f32⟩
  | 30 => ⟨S32x1x512, .f32⟩
  | 31 => ⟨S32x1x512, .f32⟩
  | 32 => ⟨S32x1x512, .f32⟩
  | 33 => ⟨S1x512, .f32⟩
  | 34 => ⟨S512, .f32⟩
  | 35 => ⟨S1x1x512, .f32⟩
  | 36 => ⟨S32x1x512, .f32⟩
  | 37 => ⟨S32x1x512, .f32⟩
  | 38 => ⟨S32x1x512, .f32⟩
  | 39 => ⟨S32x1x512, .f32⟩
  | 40 => ⟨S1x512, .f32⟩
  | 41 => ⟨S512, .f32⟩
  | 42 => ⟨S1x1x512, .f32⟩
  | 43 => ⟨S32x1x512, .f32⟩
  | 44 => ⟨S32x1x512, .f32⟩
  | 45 => ⟨S32x1x512, .f32⟩
  | 46 => ⟨S32x1x512, .f32⟩
  | 47 => ⟨S1x512, .f32⟩
  | 48 => ⟨S512, .f32⟩
  | 49 => ⟨S1x1x512, .f32⟩
  | 50 => ⟨S32x1x512, .f32⟩
  | 51 => ⟨S32x1x512, .f32⟩
  | 52 => ⟨S32x1x512, .f32⟩
  | 53 => ⟨S32x1x512, .f32⟩
  | 54 => ⟨S1x512, .f32⟩
  | 55 => ⟨S512, .f32⟩
  | 56 => ⟨S1x1x512, .f32⟩
  | 57 => ⟨S32x1x512, .f32⟩
  | 58 => ⟨S32x1x512, .f32⟩
  | 59 => ⟨S32x1x512, .f32⟩
  | 60 => ⟨S32x1x512, .f32⟩
  | 61 => ⟨S1x512, .f32⟩
  | 62 => ⟨S512, .f32⟩
  | 63 => ⟨S1x1x512, .f32⟩
  | 64 => ⟨S32x1x512, .f32⟩
  | 65 => ⟨S32x1x512, .f32⟩
  | 66 => ⟨S32x1x512, .f32⟩
  | 67 => ⟨S32x1x512, .f32⟩
  | 68 => ⟨S1x512, .f32⟩
  | 69 => ⟨S512, .f32⟩
  | 70 => ⟨S1x1x512, .f32⟩
  | 71 => ⟨S32x1x512, .f32⟩
  | 72 => ⟨S32x1x512, .f32⟩
  | 73 => ⟨S32x1x512, .f32⟩
  | 74 => ⟨S32x1x512, .f32⟩
  | 75 => ⟨S1x512, .f32⟩
  | 76 => ⟨S512, .f32⟩
  | 77 => ⟨S1x1x512, .f32⟩
  | 78 => ⟨S32x1x512, .f32⟩
  | 79 => ⟨S32x1x512, .f32⟩
  | 80 => ⟨S32x1x512, .f32⟩
  | 81 => ⟨S32x1x512, .f32⟩
  | 82 => ⟨S1x512, .f32⟩
  | 83 => ⟨S512, .f32⟩
  | 84 => ⟨S1x1x512, .f32⟩
  | 85 => ⟨S32x1x512, .f32⟩
  | 86 => ⟨S32x1x512, .f32⟩
  | 87 => ⟨S32x1x512, .f32⟩
  | 88 => ⟨S32x1x512, .f32⟩
  | 89 => ⟨S1x512, .f32⟩
  | 90 => ⟨S512, .f32⟩
  | 91 => ⟨S1x1x512, .f32⟩
  | 92 => ⟨S32x1x512, .f32⟩
  | 93 => ⟨S32x1x512, .f32⟩
  | 94 => ⟨S32x1x512, .f32⟩
  | 95 => ⟨S32x1x512, .f32⟩
  | 96 => ⟨S1x512, .f32⟩
  | 97 => ⟨S512, .f32⟩
  | 98 => ⟨S1x1x512, .f32⟩
  | 99 => ⟨S32x1x512, .f32⟩
  | 100 => ⟨S32x1x512, .f32⟩
  | 101 => ⟨S32x1x512, .f32⟩
  | 102 => ⟨S32x1x512, .f32⟩
  | 103 => ⟨S1x512, .f32⟩
  | 104 => ⟨S512, .f32⟩
  | 105 => ⟨S1x1x512, .f32⟩
  | 106 => ⟨S32x1x512, .f32⟩
  | 107 => ⟨S32x1x512, .f32⟩
  | 108 => ⟨S32x1x512, .f32⟩
  | 109 => ⟨S1x1x512, .f32⟩
  | 110 => ⟨S32x1x512, .f32⟩
  | 111 => ⟨S32x1x512, .f32⟩
  | 112 => ⟨S_, .f32⟩
  | 113 => ⟨S32x1, .f32⟩
  | 114 => ⟨S32x1x1, .f32⟩
  | 115 => ⟨S_, .f32⟩
  | 116 => ⟨S32x1x1, .f32⟩
  | 117 => ⟨S32x1x1, .f32⟩
  | 118 => ⟨S32x1x512, .f32⟩
  | 119 => ⟨S32x1x512, .f32⟩
  | 120 => ⟨S32x1x512, .f32⟩
  | 121 => ⟨S_, .f32⟩
  | 122 => ⟨S32x1, .f32⟩
  | 123 => ⟨S32x1x1, .f32⟩
  | 124 => ⟨S_, .f32⟩
  | 125 => ⟨S32x1x1, .f32⟩
  | 126 => ⟨S32x1x1, .f32⟩
  | 127 => ⟨S32x1x512, .f32⟩
  | _ => ⟨S32x512, .f32⟩

abbrev hbmTy0_2 (i : Nat) : BufTy := match i % 128 with
  | 0 => ⟨S32x1x512, .f32⟩
  | 1 => ⟨S_, .f32⟩
  | 2 => ⟨S32x1x1, .f32⟩
  | 3 => ⟨S32x1x1, .f32⟩
  | 4 => ⟨S32x1x1, .f32⟩
  | 5 => ⟨S32x1x512, .f32⟩
  | 6 => ⟨S32x1x512, .f32⟩
  | 7 => ⟨S1x1x512, .f32⟩
  | 8 => ⟨S32x1x512, .f32⟩
  | 9 => ⟨S32x1x512, .f32⟩
  | 10 => ⟨S1x1x512, .f32⟩
  | 11 => ⟨S32x1x512, .f32⟩
  | 12 => ⟨S32x1x512, .f32⟩
  | 13 => ⟨S32x1x512, .f32⟩
  | 14 => ⟨S32x1x512, .f32⟩
  | 15 => ⟨S_, .f32⟩
  | 16 => ⟨S32x1x512, .f32⟩
  | 17 => ⟨S32x1x512, .f32⟩
  | 18 => ⟨S_, .f32⟩
  | 19 => ⟨S32x1x512, .f32⟩
  | 20 => ⟨S32x1x512, .f32⟩
  | 21 => ⟨S32x1x512, .f32⟩
  | 22 => ⟨S32x512, .f32⟩
  | 23 => ⟨S32x512, .f32⟩
  | 24 => ⟨S32x512, .f32⟩
  | 25 => ⟨S32x1024, .f32⟩
  | 26 => ⟨S32x1024, .f32⟩
  | 27 => ⟨S1024x1024, .f32⟩
  | 28 => ⟨S32x1024, .f32⟩
  | 29 => ⟨S32x1024, .f32⟩
  | _ => ⟨S32x512, .f32⟩

abbrev hbmTy (i : Nat) : BufTy := match i / 128 with
  | 0 => hbmTy0_0 i
  | 1 => hbmTy0_1 i
  | 2 => hbmTy0_2 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_cst_0 : Ref sig .tc := ⟨.hbm, 240, rfl⟩
abbrev main_v228 : Ref sig .tc := ⟨.hbm, 241, rfl⟩
abbrev main_v229 : Ref sig .tc := ⟨.hbm, 242, rfl⟩
abbrev main_cst_1 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_cst_2 : Ref sig .tc := ⟨.hbm, 249, rfl⟩
abbrev main_v235 : Ref sig .tc := ⟨.hbm, 250, rfl⟩
abbrev main_v236 : Ref sig .tc := ⟨.hbm, 251, rfl⟩
abbrev main_cst_3 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_cst_4 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩

abbrev nD : Nat := 1
abbrev τ : Topo := Topo.v7x

variable {F : FTy → Type} [FloatOps F]
-- ==== Kernel6.lean ====
abbrev S32x8 : Shape := ⟨2, ![32, 8]⟩
abbrev S1x2x4x256x512 : Shape := ⟨5, ![1, 2, 4, 256, 512]⟩
abbrev S256x256 : Shape := ⟨2, ![256, 256]⟩
abbrev S1x1 : Shape := ⟨2, ![1, 1]⟩
abbrev S1x1x1x256x256 : Shape := ⟨5, ![1, 1, 1, 256, 256]⟩

abbrev nBuf : Space → Nat
  | .hbm => 2
  | .vmem => 1
  | .smem => 1
  | _ => 0

abbrev bufTy : (tb : Table) → Fin (tcTables nBuf tb) → BufTy
  | .hbm, ⟨0, _⟩ => ⟨S32x8, .f32⟩
  | .hbm, ⟨1, _⟩ => ⟨S1x2x4x256x512, .f32⟩
  | .local _ .vmem, ⟨0, _⟩ => ⟨S1x2x4x256x512, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2x4x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference6Ideal.lean ====
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S1x256x256 : Shape := ⟨3, ![1, 256, 256]⟩
abbrev S2x256x256 : Shape := ⟨3, ![2, 256, 256]⟩
abbrev S1x8 : Shape := ⟨2, ![1, 8]⟩
abbrev S8 : Shape := ⟨1, ![8]⟩
abbrev S2x256x256x1 : Shape := ⟨4, ![2, 256, 256, 1]⟩
abbrev S2x256x256x8 : Shape := ⟨4, ![2, 256, 256, 8]⟩
abbrev S1x2x256x256x4x2 : Shape := ⟨6, ![1, 2, 256, 256, 4, 2]⟩
abbrev S1x2x4x256x2x256 : Shape := ⟨6, ![1, 2, 4, 256, 2, 256]⟩
abbrev S1x2x4x256x512 : Shape := ⟨5, ![1, 2, 4, 256, 512]⟩

abbrev nBuf : Space → Nat
  | .hbm => 74
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S1x256, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S1x256x256, .i32⟩
  | .hbm, ⟨15, _⟩ => ⟨S1x256x256, .i32⟩
  | .hbm, ⟨16, _⟩ => ⟨S2x256x256, .i32⟩
  | .hbm, ⟨17, _⟩ => ⟨S1x8, .f32⟩
  | .hbm, ⟨18, _⟩ => ⟨S8, .f32⟩
  | .hbm, ⟨19, _⟩ => ⟨S1x8, .f32⟩
  | .hbm, ⟨20, _⟩ => ⟨S32x8, .f32⟩
  | .hbm, ⟨21, _⟩ => ⟨S32x8, .f32⟩
  | .hbm, ⟨22, _⟩ => ⟨S_, .i32⟩
  | .hbm, ⟨23, _⟩ => ⟨S2x256x256, .i32⟩
  | .hbm, ⟨24, _⟩ => ⟨S2x256x256, .i32⟩
  | .hbm, ⟨25, _⟩ => ⟨S_, .i32⟩
  | .hbm, ⟨26, _⟩ => ⟨S2x256x256, .i32⟩
  | .hbm, ⟨27, _⟩ => ⟨S2x256x256, .i32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S2x256x256, .f32⟩
  | .hbm, ⟨33, _⟩ => ⟨S_, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256x256, .f32⟩
  | .hbm, ⟨38, _⟩ => ⟨S2x256x256, .f32⟩
  | .hbm, ⟨39, _⟩ => ⟨S2x256x256, .i32⟩
  | .hbm, ⟨40, _⟩ => ⟨S_, .i32⟩
  | .hbm, ⟨41, _⟩ => ⟨S2x256x256, .i32⟩
  | .hbm, ⟨42, _⟩ => ⟨S2x256x256, .i32⟩
  | .hbm, ⟨43, _⟩ => ⟨S_, .i32⟩
  | .hbm, ⟨44, _⟩ => ⟨S2x256x256, .i32⟩
  | .hbm, ⟨45, _⟩ => ⟨S2x256x256, .i32⟩
  | .hbm, ⟨46, _⟩ => ⟨S_, .i32⟩
  | .hbm, ⟨47, _⟩ => ⟨S2x256x256, .i32⟩
  | .hbm, ⟨48, _⟩ => ⟨S2x256x256, .i1⟩
  | .hbm, ⟨49, _⟩ => ⟨S2x256x256, .i32⟩
  | .hbm, ⟨50, _⟩ => ⟨S_, .i32⟩
  | .hbm, ⟨51, _⟩ => ⟨S2x256x256, .i32⟩
  | .hbm, ⟨52, _⟩ => ⟨S2x256x256, .i1⟩
  | .hbm, ⟨53, _⟩ => ⟨S_, .i32⟩
  | .hbm, ⟨54, _⟩ => ⟨S2x256x256, .i32⟩
  | .hbm, ⟨55, _⟩ => ⟨S2x256x256, .i32⟩
  | .hbm, ⟨56, _⟩ => ⟨S2x256x256, .i32⟩
  | .hbm, ⟨57, _⟩ => ⟨S2x256x256x1, .i32⟩
  | .hbm, ⟨58, _⟩ => ⟨S2x256x256x8, .f32⟩
  | .hbm, ⟨59, _⟩ => ⟨S_, .f32⟩
  | .hbm, ⟨60, _⟩ => ⟨S2x256x256x8, .f32⟩
  | .hbm, ⟨61, _⟩ => ⟨S2x256x256x8, .f32⟩
  | .hbm, ⟨62, _⟩ => ⟨S_, .i32⟩
  | .hbm, ⟨63, _⟩ => ⟨S2x256x256, .i32⟩
  | .hbm, ⟨64, _⟩ => ⟨S2x256x256, .i1⟩
  | .hbm, ⟨65, _⟩ => ⟨S2x256x256x1, .i1⟩
  | .hbm, ⟨66, _⟩ => ⟨S_, .f32⟩
  | .hbm, ⟨67, _⟩ => ⟨S_, .f32⟩
  | .hbm, ⟨68, _⟩ => ⟨S2x256x256x8, .i1⟩
  | .hbm, ⟨69, _⟩ => ⟨S2x256x256x8, .f32⟩
  | .hbm, ⟨70, _⟩ => ⟨S2x256x256x8, .f32⟩
  | .hbm, ⟨71, _⟩ => ⟨S1x2x256x256x4x2, .f32⟩
  | .hbm, ⟨72, _⟩ => ⟨S1x2x4x256x2x256, .f32⟩
  | .hbm, ⟨73, _⟩ => ⟨S1x2x4x256x512, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c_0 : Ref sig .tc := ⟨.hbm, 22, rfl⟩
abbrev main_v20 : Ref sig .tc := ⟨.hbm, 23, rfl⟩
abbrev main_v21 : Ref sig .tc := ⟨.hbm, 24, rfl⟩
abbrev main_c_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_4 : Ref sig .tc := ⟨.hbm, 40, rfl⟩
abbrev main_v33 : Ref sig .tc := ⟨.hbm, 41, rfl⟩
abbrev main_v34 : Ref sig .tc := ⟨.hbm, 42, rfl⟩
abbrev main_c_5 : Ref sig .tc := ⟨.hbm, 43, rfl⟩
abbrev main_v35 : Ref sig .tc := ⟨.hbm, 44, rfl⟩
abbrev main_v36 : Ref sig .tc := ⟨.hbm, 45, rfl⟩
abbrev main_c_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_7 : Ref sig .tc := ⟨.hbm, 50, rfl⟩
abbrev main_v40 : Ref sig .tc := ⟨.hbm, 51, rfl⟩
abbrev main_v41 : Ref sig .tc := ⟨.hbm, 52, rfl⟩
abbrev main_c_8 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_c_10 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Kernel7.lean ====
abbrev S32x128x128 : Shape := ⟨3, ![32, 128, 128]⟩
abbrev S32x512 : Shape := ⟨2, ![32, 512]⟩
abbrev S32x128 : Shape := ⟨2, ![32, 128]⟩
abbrev S32x8x128 : Shape := ⟨3, ![32, 8, 128]⟩
abbrev S32x128x1 : Shape := ⟨3, ![32, 128, 1]⟩
abbrev S32x1 : Shape := ⟨2, ![32, 1]⟩
abbrev S32 : Shape := ⟨1, ![32]⟩
abbrev S32x1x1 : Shape := ⟨3, ![32, 1, 1]⟩
abbrev S32x1x128 : Shape := ⟨3, ![32, 1, 128]⟩

abbrev nBuf : Space → Nat
  | .hbm => 7
  | .vmem => 8
  | .smem => 0
  | _ => 0

abbrev bufTy : (tb : Table) → Fin (tcTables nBuf tb) → BufTy
  | .hbm, ⟨0, _⟩ => ⟨S32x128x128, .f32⟩
  | .hbm, ⟨1, _⟩ => ⟨S32x512, .f32⟩
  | .hbm, ⟨2, _⟩ => ⟨S32x512, .f32⟩
  | .hbm, ⟨3, _⟩ => ⟨S32x128, .f32⟩
  | .hbm, ⟨4, _⟩ => ⟨S32x128x128, .f32⟩
  | .hbm, ⟨5, _⟩ => ⟨S32x8x128, .f32⟩
  | .hbm, ⟨6, _⟩ => ⟨S32x128x1, .i32⟩
  | .local _ .vmem, ⟨0, _⟩ => ⟨S32x128x128, .f32⟩
  | .local _ .vmem, ⟨1, _⟩ => ⟨S32x512, .f32⟩
  | .local _ .vmem, ⟨2, _⟩ => ⟨S32x512, .f32⟩
  | .local _ .vmem, ⟨3, _⟩ => ⟨S32x128, .f32⟩
  | .local _ .vmem, ⟨4, _⟩ => ⟨S32x128x128, .f32⟩
  | .local _ .vmem, ⟨5, _⟩ => ⟨S32x8x128, .f32⟩
  | .local _ .vmem, ⟨6, _⟩ => ⟨S32x128x1, .i32⟩
  | .local _ .vmem, ⟨7, _⟩ => ⟨S32x128x128, .i32⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32_53 : BitVec 32 := 0#32
  let c32_i32 : BitVec 32 := 32#32
  let v163 : BitVec 32 := Scalar.addi c0_i32_53 c32_i32
  let c1_i32_54 : BitVec 32 := 1#32
  ⟨c0_i32_53, v163, c1_i32_54⟩
@[reducible] def k0_t2_loop : Scf.Loop 32 :=
  let c0_i32_68 : BitVec 32 := 0#32
  let c15_i32 : BitVec 32 := 15#32
  let v191 : BitVec 32 := Scalar.addi c0_i32_68 c15_i32
  let c1_i32_69 : BitVec 32 := 1#32
  ⟨c0_i32_68, v191, c1_i32_69⟩
abbrev stage0_0 : Fin 1 → Memref sig .tc .vmem S32x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Keeps.lean ====
/- Programs that keep a set of buffers. `Keeps c O p` says: the program `p`, run on core `c` holding `O`, runs without
   fault and holds `O` again when it ends, whatever it returns. Here `O` will be "the kernel holds each of its buffers whole,
   at some contents", so that a load, a store, a branch, a counted loop and a sequence of such programs each keep it: the
   frame of a large kernel then needs no account of what its buffers hold. -/
module

public import proofs.«01_k».proof.Proof.Gen.Kernel.Skeleton
public import proofs.«01_k».proof.Proof.Gen.Kernel.Frame

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Core `c` holds the elements of the memref `m`, at some contents. -/
def Has (c : Dev nD) {s : Shape} {e : EltTy} (m : Memref sig .tc .vmem s e) : sProp 𝕄 :=
  iprop(∃ f, (m.view.loc (c : Thread nD τ) ↦[m.view.set]{fullShare} f))

/-- `O` lends the memref `m`: it can be taken out of `O` and put back at any contents. -/
def Lends (c : Dev nD) (O : sProp 𝕄) {s : Shape} {e : EltTy} (m : Memref sig .tc .vmem s e) : Prop :=
  O ⊢ iprop(Has c m ∗ (Has c m -∗ O))

/-- `p` runs from `O` to `O`. -/
def Keeps (c : Dev nD) (O : sProp 𝕄) {α : Type} (p : Prog (TpuEff nD τ sig (Elt F) Λ₀ .tc) α) : Prop :=
  O ⊢ wp frame (wpE (defs₀ (F := F)) Variants.none (c : Thread nD τ) none) Set.univ p (fun _ => O)

variable {c : Dev nD} {O : sProp (MT nD τ sig Unit (Elt F) ℕ (UR sig nD τ) ℕ)} {α β : Type}

theorem Keeps.pure (a : α) : Keeps (F := F) c O (Pure.pure a) := by
  unfold Keeps
  rw [wp_pure]
  iintro H
  imodintro
  iexact H

theorem Keeps.bind {p : Prog (TpuEff nD τ sig (Elt F) Λ₀ .tc) α} {k : α → Prog (TpuEff nD τ sig (Elt F) Λ₀ .tc) β}
    (hp : Keeps (F := F) c O p) (hk : ∀ a, Keeps (F := F) c O (k a)) : Keeps (F := F) c O (p >>= k) := by
  unfold Keeps at *
  rw [wp_bind]
  exact hp.trans (wp_mono _ _ _ hk)

theorem Keeps.dite {P : Prop} [Decidable P] {p : P → Prog (TpuEff nD τ sig (Elt F) Λ₀ .tc) α}
    {q : ¬P → Prog (TpuEff nD τ sig (Elt F) Λ₀ .tc) α} (hp : ∀ h, Keeps (F := F) c O (p h)) (hq : ∀ h, Keeps (F := F) c O (q h)) :
    Keeps (F := F) c O (dite P p q) := by
  by_cases h : P
  · rw [dif_pos h]; exact hp h
  · rw [dif_neg h]; exact hq h

theorem Keeps.ite {P : Prop} [Decidable P] {p q : Prog (TpuEff nD τ sig (Elt F) Λ₀ .tc) α} (hp : Keeps (F := F) c O p)
    (hq : Keeps (F := F) c O q) : Keeps (F := F) c O (ite P p q) := by
  by_cases h : P
  · rw [if_pos h]; exact hp
  · rw [if_neg h]; exact hq

theorem Keeps.load {s : Shape} {e : EltTy} {m : Memref sig .tc .vmem s e} (h : Lends (F := F) c O m) (r : LoadRect s)
    (hl : m.view.LoadsAt r) : Keeps (F := F) c O (Prog.lift (.load m r hl)) := by
  unfold Keeps Prog.lift
  unfold Lends at h
  refine h.trans ?_
  unfold Has
  iintro ⟨⟨%f, Hm⟩, Hback⟩
  iapply (wp_load Variants.none (c : Thread nD τ) none Set.univ (m := m) (r := r) (hl := hl) (View.setOn_subset_set _ _)) $$ Hm
  iintro Hm
  rw [wp_ret]
  imodintro
  iapply Hback
  iexists f
  iexact Hm

theorem Keeps.store {s : Shape} {e : EltTy} {m : Memref sig .tc .vmem s e} (h : Lends (F := F) c O m) (r : Rect s)
    (w : r.shape.Idx → Elt F e) (Mk : Finset r.shape.Idx) (hx : (m.access r).Stores Mk) (hm : Mk = Finset.univ ∨ ∀ a, r.stride a = 1) :
    Keeps (F := F) c O (Prog.lift (.store m r w Mk hx hm)) := by
  unfold Keeps Prog.lift
  unfold Lends at h
  refine h.trans ?_
  unfold Has
  iintro ⟨⟨%f, Hm⟩, Hback⟩
  iapply (wp_store Variants.none (c : Thread nD τ) none Set.univ (m := m) (r := r) (w := w) (Mk := Mk) (hx := hx) (hm := hm)
    ((View.setOn_subset_set _ _).trans (View.set_slice_subset _ _))) $$ Hm
  iintro Hm
  rw [wp_ret]
  imodintro
  iapply Hback
  iexists _
  iexact Hm

theorem Keeps.forLoop {σ : Type} {w : ℕ} (L : Scf.Loop w) (hok : L.OK) (init : σ)
    (body : Fin L.trips → σ → Prog (TpuEff nD τ sig (Elt F) Λ₀ .tc) σ) (hb : ∀ k acc, Keeps (F := F) c O (body k acc)) :
    Keeps (F := F) c O (Scf.Loop.for L hok init body) := by
  unfold Keeps at *
  have h : O ⊢ iprop(O ∗ (∀ acc : σ, O -∗ O)) := by
    iintro H
    isplitl [H]
    · iexact H
    · iintro %acc H
      iexact H
  exact h.trans (Scf.wp_for _ _ _ L.lb L.ub L.st hok init body (fun _ _ => O) hb)

end Cert.Proof.Kernel

end
-- ==== Proof.KeepsParts1.lean ====
/- Every part of the printed prompt attention keeps the kernel's buffers: the scoring loops' parts. Each part is read as its skeleton of loads,
   stores, branches and loops, and the rules of Keeps.lean are applied statement by statement. -/
module

public import proofs.«01_k».proof.Proof.Keeps

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
variable (c : Dev nD) (O : sProp (MT nD τ sig Unit (Elt F) ℕ (UR sig nD τ) ℕ)) (i : grid0.Coords)
  (arg2 : Memref sig .tc .vmem S1x512x256 .bf16) (harg2 : arg2.IsWhole)
  (arg3 : Memref sig .tc .vmem S1x512x256 .bf16) (harg3 : arg3.IsWhole)
  (arg4 : Memref sig .tc .vmem S1x8x256 .f32) (harg4 : arg4.IsWhole)
  (arg5 : Memref sig .tc .vmem S1x2048x512 .bf16) (harg5 : arg5.IsWhole)
  (arg6 : Memref sig .tc .vmem S1x2048x128 .bf16) (harg6 : arg6.IsWhole)
  (arg7 : Memref sig .tc .vmem S1x8x4x144x256 .bf16) (harg7 : arg7.IsWhole)
  (arg8 : Memref sig .tc .vmem S1x256x512 .f32) (harg8 : arg8.IsWhole)
  (arg9 : Memref sig .tc .vmem S1x2x4x256x512 .f32) (harg9 : arg9.IsWhole)
  (arg10 : Memref sig .tc .vmem S1x256x512 .bf16) (harg10 : arg10.IsWhole)
  (arg11 : Memref sig .tc .vmem S8x256x256 .f32) (harg11 : arg11.IsWhole)
  (arg12 : Memref sig .tc .vmem S8x256x256 .i32) (harg12 : arg12.IsWhole)
  (arg13 : Memref sig .tc .vmem S8x32x8x256 .i32) (harg13 : arg13.IsWhole)
  (arg14 : Memref sig .tc .vmem S4x8x256x512 .f32) (harg14 : arg14.IsWhole)
  (arg15 : Memref sig .tc .vmem S4x128x512 .bf16) (harg15 : arg15.IsWhole)
  (arg16 : Memref sig .tc .vmem S4x128x512 .bf16) (harg16 : arg16.IsWhole)
  (arg17 : Memref sig .tc .vmem S4x144x512 .f32) (harg17 : arg17.IsWhole)
  (h2 : Lends (F := F) c O arg2)
  (h3 : Lends (F := F) c O arg3)
  (h4 : Lends (F := F) c O arg4)
  (h5 : Lends (F := F) c O arg5)
  (h6 : Lends (F := F) c O arg6)
  (h7 : Lends (F := F) c O arg7)
  (h8 : Lends (F := F) c O arg8)
  (h9 : Lends (F := F) c O arg9)
  (h10 : Lends (F := F) c O arg10)
  (h11 : Lends (F := F) c O arg11)
  (h12 : Lends (F := F) c O arg12)
  (h13 : Lends (F := F) c O arg13)
  (h14 : Lends (F := F) c O arg14)
  (h15 : Lends (F := F) c O arg15)
  (h16 : Lends (F := F) c O arg16)
  (h17 : Lends (F := F) c O arg17)

include h2 h3 h4 h5 h6 h7 h8 h9 h10 h11 h12 h13 h14 h15 h16 h17

theorem keeps_part140 : Keeps (F := F) c O (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [Gen.k0_part140_eq_skeleton]
  unfold Gen.k0_part140_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part141 : ∀ v35 v37 cst, Keeps (F := F) c O (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v35 v37 cst) := by
  intros
  rw [Gen.k0_part141_eq_skeleton]
  unfold Gen.k0_part141_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part142 : ∀ v35 v68, Keeps (F := F) c O (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v35 v68) := by
  intros
  rw [Gen.k0_part142_eq_skeleton]
  unfold Gen.k0_part142_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part143 : ∀ v17 v35 v100 v101, Keeps (F := F) c O (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v35 v100 v101) := by
  intros
  rw [Gen.k0_part143_eq_skeleton]
  unfold Gen.k0_part143_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part1 : ∀ v114 v117 v120 c0_i32_71 c1_i32_73 k0_t1, Keeps (F := F) c O (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v114 v117 v120 c0_i32_71 c1_i32_73 k0_t1) := by
  intros
  rw [Gen.k0_part1_eq_skeleton]
  unfold Gen.k0_part1_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part2 : ∀ v28 v32 v123 k0_t1 v315 v322 v345 v350 v351, Keeps (F := F) c O (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v28 v32 v123 k0_t1 v315 v322 v345 v350 v351) := by
  intros
  rw [Gen.k0_part2_eq_skeleton]
  unfold Gen.k0_part2_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part3 : ∀ v385 v386 v387 v388 v389, Keeps (F := F) c O (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v385 v386 v387 v388 v389) := by
  intros
  rw [Gen.k0_part3_eq_skeleton]
  unfold Gen.k0_part3_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part4 : ∀ v389 v390 v391 v392 v393 v394 v405 v406 v407 v408 v409 v410 v447 c65535_i32_201, Keeps (F := F) c O (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v389 v390 v391 v392 v393 v394 v405 v406 v407 v408 v409 v410 v447 c65535_i32_201) := by
  intros
  rw [Gen.k0_part4_eq_skeleton]
  unfold Gen.k0_part4_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part5 : ∀ v394 v395 v396 v397 v398 v399 v410 v411 v412 v413 v414 v415 v492 c65535_i32_216, Keeps (F := F) c O (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v394 v395 v396 v397 v398 v399 v410 v411 v412 v413 v414 v415 v492 c65535_i32_216) := by
  intros
  rw [Gen.k0_part5_eq_skeleton]
  unfold Gen.k0_part5_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part6 : ∀ v399 v400 v401 v415 v416 v417 v423 v432 v441 v495 v504 v513 v537 c65535_i32_231, Keeps (F := F) c O (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v399 v400 v401 v415 v416 v417 v423 v432 v441 v495 v504 v513 v537 c65535_i32_231) := by
  intros
  rw [Gen.k0_part6_eq_skeleton]
  unfold Gen.k0_part6_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part7 : ∀ v441 v450 v459 v468 v477 v486 v513 v522 v531 v540 v549 v558 v582 c16711935_i32_244, Keeps (F := F) c O (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v441 v450 v459 v468 v477 v486 v513 v522 v531 v540 v549 v558 v582 c16711935_i32_244) := by
  intros
  rw [Gen.k0_part7_eq_skeleton]
  unfold Gen.k0_part7_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part8 : ∀ v426 v435 v444 v453 v462 v486 v498 v507 v516 v525 v534 v558 v627 c16711935_i32_259, Keeps (F := F) c O (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v426 v435 v444 v453 v462 v486 v498 v507 v516 v525 v534 v558 v627 c16711935_i32_259) := by
  intros
  rw [Gen.k0_part8_eq_skeleton]
  unfold Gen.k0_part8_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part9 : ∀ v462 v471 v480 v489 v534 v543 v552 v561 v567 v576 v603 v612 v672 c16711935_i32_274, Keeps (F := F) c O (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v462 v471 v480 v489 v534 v543 v552 v561 v567 v576 v603 v612 v672 c16711935_i32_274) := by
  intros
  rw [Gen.k0_part9_eq_skeleton]
  unfold Gen.k0_part9_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part10 : ∀ v570 v576 v579 v585 v588 v594 v606 v612 v615 v621 v624 v630 v717 c252645135_i32_287, Keeps (F := F) c O (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v570 v576 v579 v585 v588 v594 v606 v612 v615 v621 v624 v630 v717 c252645135_i32_287) := by
  intros
  rw [Gen.k0_part10_eq_skeleton]
  unfold Gen.k0_part10_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part11 : ∀ v588 v597 v624 v633 v639 v648 v657 v666 v675 v684 v693 v702 v762 c252645135_i32_302, Keeps (F := F) c O (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v588 v597 v624 v633 v639 v648 v657 v666 v675 v684 v693 v702 v762 c252645135_i32_302) := by
  intros
  rw [Gen.k0_part11_eq_skeleton]
  unfold Gen.k0_part11_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part12 : ∀ v642 v651 v660 v666 v669 v678 v687 v696 v702 v705 v711 v729 v807 c252645135_i32_317, Keeps (F := F) c O (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v642 v651 v660 v666 v669 v678 v687 v696 v702 v705 v711 v729 v807 c252645135_i32_317) := by
  intros
  rw [Gen.k0_part12_eq_skeleton]
  unfold Gen.k0_part12_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part13 : ∀ v711 v714 v720 v723 v729 v732 v738 v741 v747 v756 v765 v774 v852 c858993459_i32, Keeps (F := F) c O (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v711 v714 v720 v723 v729 v732 v738 v741 v747 v756 v765 v774 v852 c858993459_i32) := by
  intros
  rw [Gen.k0_part13_eq_skeleton]
  unfold Gen.k0_part13_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part14 : ∀ v750 v756 v759 v768 v774 v777 v783 v786 v792 v801 v804 v810 v897 c858993459_i32_346, Keeps (F := F) c O (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v750 v756 v759 v768 v774 v777 v783 v786 v792 v801 v804 v810 v897 c858993459_i32_346) := by
  intros
  rw [Gen.k0_part14_eq_skeleton]
  unfold Gen.k0_part14_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part15 : ∀ v786 v795 v804 v813 v819 v822 v828 v831 v837 v840 v846 v849 v942 c858993459_i32_361, Keeps (F := F) c O (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v786 v795 v804 v813 v819 v822 v828 v831 v837 v840 v846 v849 v942 c858993459_i32_361) := by
  intros
  rw [Gen.k0_part15_eq_skeleton]
  unfold Gen.k0_part15_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part16 : ∀ v831 v849 v855 v858 v864 v867 v873 v876 v882 v885 v891 v900 v987 c858993459_i32_376, Keeps (F := F) c O (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v831 v849 v855 v858 v864 v867 v873 v876 v882 v885 v891 v900 v987 c858993459_i32_376) := by
  intros
  rw [Gen.k0_part16_eq_skeleton]
  unfold Gen.k0_part16_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part17 : ∀ v891 v894 v900 v903 v909 v912 v918 v921 v927 v930 v936 v939 v1032 c1431655765_i32_390, Keeps (F := F) c O (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v891 v894 v900 v903 v909 v912 v918 v921 v927 v930 v936 v939 v1032 c1431655765_i32_390) := by
  intros
  rw [Gen.k0_part17_eq_skeleton]
  unfold Gen.k0_part17_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part18 : ∀ v930 v939 v945 v948 v954 v957 v963 v966 v972 v975 v981 v990 v1077 c1431655765_i32_405, Keeps (F := F) c O (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v930 v939 v945 v948 v954 v957 v963 v966 v972 v975 v981 v990 v1077 c1431655765_i32_405) := by
  intros
  rw [Gen.k0_part18_eq_skeleton]
  unfold Gen.k0_part18_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part19 : ∀ k0_t1 v315 v981 v984 v990 v993 v999 v1002 v1008 v1011 v1017 v1122 c1431655765_i32_420, Keeps (F := F) c O (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v315 v981 v984 v990 v993 v999 v1002 v1008 v1011 v1017 v1122 c1431655765_i32_420) := by
  intros
  rw [Gen.k0_part19_eq_skeleton]
  unfold Gen.k0_part19_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part20 : ∀ k0_t1 v315 v1020 v1026 v1029 v1035 v1038 v1044 v1047, Keeps (F := F) c O (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v315 v1020 v1026 v1029 v1035 v1038 v1044 v1047) := by
  intros
  rw [Gen.k0_part20_eq_skeleton]
  unfold Gen.k0_part20_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part21 : ∀ k0_t1 v315 v1053 v1056 v1062 v1065 v1071 v1074 v1080 v1083 v1187, Keeps (F := F) c O (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v315 v1053 v1056 v1062 v1065 v1071 v1074 v1080 v1083 v1187) := by
  intros
  rw [Gen.k0_part21_eq_skeleton]
  unfold Gen.k0_part21_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part22 : ∀ k0_t1 v315 v1089 v1092 v1098 v1101 v1107 v1110 v1116, Keeps (F := F) c O (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v315 v1089 v1092 v1098 v1101 v1107 v1110 v1116) := by
  intros
  rw [Gen.k0_part22_eq_skeleton]
  unfold Gen.k0_part22_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part23 : ∀ v114 k0_t1 v315 v317 v1119 v1125 v1128 v1134 v1137 v1247, Keeps (F := F) c O (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v114 k0_t1 v315 v317 v1119 v1125 v1128 v1134 v1137 v1247) := by
  intros
  rw [Gen.k0_part23_eq_skeleton]
  unfold Gen.k0_part23_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part24 : ∀ v28 v32 v117 v120 v123 v317 v1270 v1280 v1281, Keeps (F := F) c O (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v28 v32 v117 v120 v123 v317 v1270 v1280 v1281) := by
  intros
  rw [Gen.k0_part24_eq_skeleton]
  unfold Gen.k0_part24_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part25 : ∀ k0_t1 v317 v1322 v1323, Keeps (F := F) c O (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v317 v1322 v1323) := by
  intros
  rw [Gen.k0_part25_eq_skeleton]
  unfold Gen.k0_part25_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part26 : ∀ v1335 v1336 v1337 v1338 v1339 v1351 v1352 v1353 v1354 v1355 c16_i32_527, Keeps (F := F) c O (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1335 v1336 v1337 v1338 v1339 v1351 v1352 v1353 v1354 v1355 c16_i32_527) := by
  intros
  rw [Gen.k0_part26_eq_skeleton]
  unfold Gen.k0_part26_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part27 : ∀ v1340 v1341 v1342 v1343 v1344 v1356 v1357 v1358 v1359 v1360 c16_i32_542, Keeps (F := F) c O (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1340 v1341 v1342 v1343 v1344 v1356 v1357 v1358 v1359 v1360 c16_i32_542) := by
  intros
  rw [Gen.k0_part27_eq_skeleton]
  unfold Gen.k0_part27_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part28 : ∀ v1345 v1346 v1347 v1348 v1349 v1361 v1362 v1363 v1364 v1365 c16_i32_557, Keeps (F := F) c O (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1345 v1346 v1347 v1348 v1349 v1361 v1362 v1363 v1364 v1365 c16_i32_557) := by
  intros
  rw [Gen.k0_part28_eq_skeleton]
  unfold Gen.k0_part28_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part29 : ∀ v1371 v1380 v1389 v1398 v1407 v1443 v1452 v1461 v1470 v1479 c8_i32_572, Keeps (F := F) c O (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1371 v1380 v1389 v1398 v1407 v1443 v1452 v1461 v1470 v1479 c8_i32_572) := by
  intros
  rw [Gen.k0_part29_eq_skeleton]
  unfold Gen.k0_part29_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part30 : ∀ v1374 v1383 v1416 v1425 v1434 v1446 v1455 v1488 v1497 v1506 c8_i32_587, Keeps (F := F) c O (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1374 v1383 v1416 v1425 v1434 v1446 v1455 v1488 v1497 v1506 c8_i32_587) := by
  intros
  rw [Gen.k0_part30_eq_skeleton]
  unfold Gen.k0_part30_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part31 : ∀ v1392 v1401 v1410 v1419 v1428 v1464 v1473 v1482 v1491 v1500 c8_i32_602, Keeps (F := F) c O (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1392 v1401 v1410 v1419 v1428 v1464 v1473 v1482 v1491 v1500 c8_i32_602) := by
  intros
  rw [Gen.k0_part31_eq_skeleton]
  unfold Gen.k0_part31_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part32 : ∀ v1437 v1509 v1515 v1524 v1533 v1542 v1551 v1560 v1569 v1578 c8_i32_617, Keeps (F := F) c O (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1437 v1509 v1515 v1524 v1533 v1542 v1551 v1560 v1569 v1578 c8_i32_617) := by
  intros
  rw [Gen.k0_part32_eq_skeleton]
  unfold Gen.k0_part32_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part33 : ∀ v1518 v1527 v1536 v1545 v1554 v1563 v1572 v1581 v1587 v1623 c4_i32_632, Keeps (F := F) c O (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1518 v1527 v1536 v1545 v1554 v1563 v1572 v1581 v1587 v1623 c4_i32_632) := by
  intros
  rw [Gen.k0_part33_eq_skeleton]
  unfold Gen.k0_part33_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part34 : ∀ v1590 v1596 v1599 v1605 v1614 v1626 v1632 v1635 v1641 v1650 c4_i32_647, Keeps (F := F) c O (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1590 v1596 v1599 v1605 v1614 v1626 v1632 v1635 v1641 v1650 c4_i32_647) := by
  intros
  rw [Gen.k0_part34_eq_skeleton]
  unfold Gen.k0_part34_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part35 : ∀ v1608 v1617 v1644 v1653 v1659 v1662 v1668 v1677 v1680 v1686 c4_i32_662, Keeps (F := F) c O (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1608 v1617 v1644 v1653 v1659 v1662 v1668 v1677 v1680 v1686 c4_i32_662) := by
  intros
  rw [Gen.k0_part35_eq_skeleton]
  unfold Gen.k0_part35_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part36 : ∀ v1671 v1689 v1695 v1698 v1704 v1707 v1713 v1716 v1722 v1725 c2_i32_677, Keeps (F := F) c O (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1671 v1689 v1695 v1698 v1704 v1707 v1713 v1716 v1722 v1725 c2_i32_677) := by
  intros
  rw [Gen.k0_part36_eq_skeleton]
  unfold Gen.k0_part36_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part37 : ∀ v1731 v1734 v1740 v1743 v1749 v1752 v1758 v1761 v1767 v1785 c2_i32_692, Keeps (F := F) c O (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1731 v1734 v1740 v1743 v1749 v1752 v1758 v1761 v1767 v1785 c2_i32_692) := by
  intros
  rw [Gen.k0_part37_eq_skeleton]
  unfold Gen.k0_part37_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part38 : ∀ v1770 v1776 v1779 v1788 v1794 v1797 v1803 v1806 v1812 v1815 c2_i32_707, Keeps (F := F) c O (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1770 v1776 v1779 v1788 v1794 v1797 v1803 v1806 v1812 v1815 c2_i32_707) := by
  intros
  rw [Gen.k0_part38_eq_skeleton]
  unfold Gen.k0_part38_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part39 : ∀ v1821 v1824 v1830 v1833 v1839 v1842 v1848 v1851 v1857 v1866 c1_i32_722, Keeps (F := F) c O (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1821 v1824 v1830 v1833 v1839 v1842 v1848 v1851 v1857 v1866 c1_i32_722) := by
  intros
  rw [Gen.k0_part39_eq_skeleton]
  unfold Gen.k0_part39_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part40 : ∀ v1860 v1869 v1875 v1878 v1884 v1887 v1893 v1896 v1902 v1905 c1_i32_737, Keeps (F := F) c O (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1860 v1869 v1875 v1878 v1884 v1887 v1893 v1896 v1902 v1905 c1_i32_737) := by
  intros
  rw [Gen.k0_part40_eq_skeleton]
  unfold Gen.k0_part40_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part41 : ∀ k0_t1 v317 v1911 v1914 v1920 v1923 v1929 v1932 v1938 v1941 v1947 c1_i32_752, Keeps (F := F) c O (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v317 v1911 v1914 v1920 v1923 v1929 v1932 v1938 v1941 v1947 c1_i32_752) := by
  intros
  rw [Gen.k0_part41_eq_skeleton]
  unfold Gen.k0_part41_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part42 : ∀ k0_t1 v317 v1950 v1956 v1959 v1965 v1968 v1974 v1977 v1983 v2091, Keeps (F := F) c O (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v317 v1950 v1956 v1959 v1965 v1968 v1974 v1977 v1983 v2091) := by
  intros
  rw [Gen.k0_part42_eq_skeleton]
  unfold Gen.k0_part42_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part43 : ∀ k0_t1 v317 v1986 v1992 v1995 v2001 v2004 v2010 v2013, Keeps (F := F) c O (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v317 v1986 v1992 v1995 v2001 v2004 v2010 v2013) := by
  intros
  rw [Gen.k0_part43_eq_skeleton]
  unfold Gen.k0_part43_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part44 : ∀ k0_t1 v317 v2019 v2022 v2028 v2031 v2037 v2040 v2046 v2049 v2151, Keeps (F := F) c O (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v317 v2019 v2022 v2028 v2031 v2037 v2040 v2046 v2049 v2151) := by
  intros
  rw [Gen.k0_part44_eq_skeleton]
  unfold Gen.k0_part44_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part45 : ∀ k0_t1 v317 v2055 v2058 v2064 v2067 v2073 v2076 v2082, Keeps (F := F) c O (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v317 v2055 v2058 v2064 v2067 v2073 v2076 v2082) := by
  intros
  rw [Gen.k0_part45_eq_skeleton]
  unfold Gen.k0_part45_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t1_body : ∀ arg1 v17 v28 v32 v114 v117 v120 v123 c0_i32_71 c1_i32_72 v143 t_ acc_, Keeps (F := F) c O (Gen.k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 t_ acc_) := by
  intros
  unfold Gen.k0_t1_body
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part1 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | with_reducible exact keeps_part2 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part3 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _
    | with_reducible exact keeps_part4 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part5 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part6 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part7 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part8 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part9 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part10 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part11 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part12 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part13 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part14 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part15 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part16 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part17 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part18 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part19 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part20 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part21 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part22 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part23 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _
    | with_reducible exact keeps_part24 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part25 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part26 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part27 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part28 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part29 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part30 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part31 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part32 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part33 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part34 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part35 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part36 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part37 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part38 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part39 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part40 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part41 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _
    | with_reducible exact keeps_part42 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part43 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part44 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part45 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | split

theorem keeps_part46 : ∀ v114 v117 v120 v145 c1_i32_74 k0_t2, Keeps (F := F) c O (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v114 v117 v120 v145 c1_i32_74 k0_t2) := by
  intros
  rw [Gen.k0_part46_eq_skeleton]
  unfold Gen.k0_part46_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part47 : ∀ v28 v32 v123 k0_t2 v315 v322 v345 v350 v351, Keeps (F := F) c O (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v28 v32 v123 k0_t2 v315 v322 v345 v350 v351) := by
  intros
  rw [Gen.k0_part47_eq_skeleton]
  unfold Gen.k0_part47_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part48 : ∀ v385 v386 v387 v388 v389, Keeps (F := F) c O (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v385 v386 v387 v388 v389) := by
  intros
  rw [Gen.k0_part48_eq_skeleton]
  unfold Gen.k0_part48_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part49 : ∀ v389 v390 v391 v392 v393 v394 v405 v406 v407 v408 v409 v410 v447 c65535_i32_201, Keeps (F := F) c O (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v389 v390 v391 v392 v393 v394 v405 v406 v407 v408 v409 v410 v447 c65535_i32_201) := by
  intros
  rw [Gen.k0_part49_eq_skeleton]
  unfold Gen.k0_part49_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part50 : ∀ v394 v395 v396 v397 v398 v399 v410 v411 v412 v413 v414 v415 v492 c65535_i32_216, Keeps (F := F) c O (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v394 v395 v396 v397 v398 v399 v410 v411 v412 v413 v414 v415 v492 c65535_i32_216) := by
  intros
  rw [Gen.k0_part50_eq_skeleton]
  unfold Gen.k0_part50_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part51 : ∀ v399 v400 v401 v415 v416 v417 v423 v432 v441 v495 v504 v513 v537 c65535_i32_231, Keeps (F := F) c O (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v399 v400 v401 v415 v416 v417 v423 v432 v441 v495 v504 v513 v537 c65535_i32_231) := by
  intros
  rw [Gen.k0_part51_eq_skeleton]
  unfold Gen.k0_part51_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part52 : ∀ v441 v450 v459 v468 v477 v486 v513 v522 v531 v540 v549 v558 v582 c16711935_i32_244, Keeps (F := F) c O (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v441 v450 v459 v468 v477 v486 v513 v522 v531 v540 v549 v558 v582 c16711935_i32_244) := by
  intros
  rw [Gen.k0_part52_eq_skeleton]
  unfold Gen.k0_part52_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part53 : ∀ v426 v435 v444 v453 v462 v486 v498 v507 v516 v525 v534 v558 v627 c16711935_i32_259, Keeps (F := F) c O (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v426 v435 v444 v453 v462 v486 v498 v507 v516 v525 v534 v558 v627 c16711935_i32_259) := by
  intros
  rw [Gen.k0_part53_eq_skeleton]
  unfold Gen.k0_part53_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part54 : ∀ v462 v471 v480 v489 v534 v543 v552 v561 v567 v576 v603 v612 v672 c16711935_i32_274, Keeps (F := F) c O (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v462 v471 v480 v489 v534 v543 v552 v561 v567 v576 v603 v612 v672 c16711935_i32_274) := by
  intros
  rw [Gen.k0_part54_eq_skeleton]
  unfold Gen.k0_part54_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part55 : ∀ v570 v576 v579 v585 v588 v594 v606 v612 v615 v621 v624 v630 v717 c252645135_i32_287, Keeps (F := F) c O (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v570 v576 v579 v585 v588 v594 v606 v612 v615 v621 v624 v630 v717 c252645135_i32_287) := by
  intros
  rw [Gen.k0_part55_eq_skeleton]
  unfold Gen.k0_part55_skel
  repeat' first
    | with_reducible refine Keeps.bind ?_ (fun _ => ?_)
    | with_reducible exact Keeps.load (by assumption) _ _
    | with_reducible exact Keeps.store (by assumption) _ _ _ _ _
    | with_reducible exact Keeps.pure _
    | split

end Cert.Proof.Kernel

end
-- ==== Proof.KeepsParts2.lean ====
/- Every part of the printed prompt attention keeps the kernel's buffers: the rest of the scoring loops' parts and the mask-writing parts. Each part is read as its skeleton of loads,
   stores, branches and loops, and the rules of Keeps.lean are applied statement by statement. -/
module

public import proofs.«01_k».proof.Proof.KeepsParts1

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
variable (c : Dev nD) (O : sProp (MT nD τ sig Unit (Elt F) ℕ (UR sig nD τ) ℕ)) (i : grid0.Coords)
  (arg2 : Memref sig .tc .vmem S1x512x256 .bf16) (harg2 : arg2.IsWhole)
  (arg3 : Memref sig .tc .vmem S1x512x256 .bf16) (harg3 : arg3.IsWhole)
  (arg4 : Memref sig .tc .vmem S1x8x256 .f32) (harg4 : arg4.IsWhole)
  (arg5 : Memref sig .tc .vmem S1x2048x512 .bf16) (harg5 : arg5.IsWhole)
  (arg6 : Memref sig .tc .vmem S1x2048x128 .bf16) (harg6 : arg6.IsWhole)
  (arg7 : Memref sig .tc .vmem S1x8x4x144x256 .bf16) (harg7 : arg7.IsWhole)
  (arg8 : Memref sig .tc .vmem S1x256x512 .f32) (harg8 : arg8.IsWhole)
  (arg9 : Memref sig .tc .vmem S1x2x4x256x512 .f32) (harg9 : arg9.IsWhole)
  (arg10 : Memref sig .tc .vmem S1x256x512 .bf16) (harg10 : arg10.IsWhole)
  (arg11 : Memref sig .tc .vmem S8x256x256 .f32) (harg11 : arg11.IsWhole)
  (arg12 : Memref sig .tc .vmem S8x256x256 .i32) (harg12 : arg12.IsWhole)
  (arg13 : Memref sig .tc .vmem S8x32x8x256 .i32) (harg13 : arg13.IsWhole)
  (arg14 : Memref sig .tc .vmem S4x8x256x512 .f32) (harg14 : arg14.IsWhole)
  (arg15 : Memref sig .tc .vmem S4x128x512 .bf16) (harg15 : arg15.IsWhole)
  (arg16 : Memref sig .tc .vmem S4x128x512 .bf16) (harg16 : arg16.IsWhole)
  (arg17 : Memref sig .tc .vmem S4x144x512 .f32) (harg17 : arg17.IsWhole)
  (h2 : Lends (F := F) c O arg2)
  (h3 : Lends (F := F) c O arg3)
  (h4 : Lends (F := F) c O arg4)
  (h5 : Lends (F := F) c O arg5)
  (h6 : Lends (F := F) c O arg6)
  (h7 : Lends (F := F) c O arg7)
  (h8 : Lends (F := F) c O arg8)
  (h9 : Lends (F := F) c O arg9)
  (h10 : Lends (F := F) c O arg10)
  (h11 : Lends (F := F) c O arg11)
  (h12 : Lends (F := F) c O arg12)
  (h13 : Lends (F := F) c O arg13)
  (h14 : Lends (F := F) c O arg14)
  (h15 : Lends (F := F) c O arg15)
  (h16 : Lends (F := F) c O arg16)
  (h17 : Lends (F := F) c O arg17)

include h2 h3 h4 h5 h6 h7 h8 h9 h10 h11 h12 h13 h14 h15 h16 h17

theorem keeps_part56 : ∀ v588 v597 v624 v633 v639 v648 v657 v666 v675 v684 v693 v702 v762 c252645135_i32_302, Keeps (F := F) c O (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v588 v597 v624 v633 v639 v648 v657 v666 v675 v684 v693 v702 v762 c252645135_i32_302) := by
  intros
  rw [Gen.k0_part56_eq_skeleton]
  unfold Gen.k0_part56_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part57 : ∀ v642 v651 v660 v666 v669 v678 v687 v696 v702 v705 v711 v729 v807 c252645135_i32_317, Keeps (F := F) c O (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v642 v651 v660 v666 v669 v678 v687 v696 v702 v705 v711 v729 v807 c252645135_i32_317) := by
  intros
  rw [Gen.k0_part57_eq_skeleton]
  unfold Gen.k0_part57_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part58 : ∀ v711 v714 v720 v723 v729 v732 v738 v741 v747 v756 v765 v774 v852 c858993459_i32, Keeps (F := F) c O (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v711 v714 v720 v723 v729 v732 v738 v741 v747 v756 v765 v774 v852 c858993459_i32) := by
  intros
  rw [Gen.k0_part58_eq_skeleton]
  unfold Gen.k0_part58_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part59 : ∀ v750 v756 v759 v768 v774 v777 v783 v786 v792 v801 v804 v810 v897 c858993459_i32_346, Keeps (F := F) c O (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v750 v756 v759 v768 v774 v777 v783 v786 v792 v801 v804 v810 v897 c858993459_i32_346) := by
  intros
  rw [Gen.k0_part59_eq_skeleton]
  unfold Gen.k0_part59_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part60 : ∀ v786 v795 v804 v813 v819 v822 v828 v831 v837 v840 v846 v849 v942 c858993459_i32_361, Keeps (F := F) c O (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v786 v795 v804 v813 v819 v822 v828 v831 v837 v840 v846 v849 v942 c858993459_i32_361) := by
  intros
  rw [Gen.k0_part60_eq_skeleton]
  unfold Gen.k0_part60_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part61 : ∀ v831 v849 v855 v858 v864 v867 v873 v876 v882 v885 v891 v900 v987 c858993459_i32_376, Keeps (F := F) c O (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v831 v849 v855 v858 v864 v867 v873 v876 v882 v885 v891 v900 v987 c858993459_i32_376) := by
  intros
  rw [Gen.k0_part61_eq_skeleton]
  unfold Gen.k0_part61_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part62 : ∀ v891 v894 v900 v903 v909 v912 v918 v921 v927 v930 v936 v939 v1032 c1431655765_i32_390, Keeps (F := F) c O (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v891 v894 v900 v903 v909 v912 v918 v921 v927 v930 v936 v939 v1032 c1431655765_i32_390) := by
  intros
  rw [Gen.k0_part62_eq_skeleton]
  unfold Gen.k0_part62_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part63 : ∀ v930 v939 v945 v948 v954 v957 v963 v966 v972 v975 v981 v990 v1077 c1431655765_i32_405, Keeps (F := F) c O (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v930 v939 v945 v948 v954 v957 v963 v966 v972 v975 v981 v990 v1077 c1431655765_i32_405) := by
  intros
  rw [Gen.k0_part63_eq_skeleton]
  unfold Gen.k0_part63_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part64 : ∀ k0_t2 v315 v981 v984 v990 v993 v999 v1002 v1008 v1011 v1017 v1122 c1431655765_i32_420, Keeps (F := F) c O (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v315 v981 v984 v990 v993 v999 v1002 v1008 v1011 v1017 v1122 c1431655765_i32_420) := by
  intros
  rw [Gen.k0_part64_eq_skeleton]
  unfold Gen.k0_part64_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part65 : ∀ k0_t2 v315 v1020 v1026 v1029 v1035 v1038 v1044 v1047, Keeps (F := F) c O (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v315 v1020 v1026 v1029 v1035 v1038 v1044 v1047) := by
  intros
  rw [Gen.k0_part65_eq_skeleton]
  unfold Gen.k0_part65_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part66 : ∀ k0_t2 v315 v1053 v1056 v1062 v1065 v1071 v1074 v1080 v1083 v1187, Keeps (F := F) c O (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v315 v1053 v1056 v1062 v1065 v1071 v1074 v1080 v1083 v1187) := by
  intros
  rw [Gen.k0_part66_eq_skeleton]
  unfold Gen.k0_part66_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part67 : ∀ k0_t2 v315 v1089 v1092 v1098 v1101 v1107 v1110 v1116, Keeps (F := F) c O (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v315 v1089 v1092 v1098 v1101 v1107 v1110 v1116) := by
  intros
  rw [Gen.k0_part67_eq_skeleton]
  unfold Gen.k0_part67_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part68 : ∀ v114 k0_t2 v315 v317 v1119 v1125 v1128 v1134 v1137 v1247, Keeps (F := F) c O (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v114 k0_t2 v315 v317 v1119 v1125 v1128 v1134 v1137 v1247) := by
  intros
  rw [Gen.k0_part68_eq_skeleton]
  unfold Gen.k0_part68_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part69 : ∀ v28 v32 v117 v120 v123 v317 v1270 v1280 v1281, Keeps (F := F) c O (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v28 v32 v117 v120 v123 v317 v1270 v1280 v1281) := by
  intros
  rw [Gen.k0_part69_eq_skeleton]
  unfold Gen.k0_part69_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part70 : ∀ k0_t2 v317 v1322 v1323, Keeps (F := F) c O (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v317 v1322 v1323) := by
  intros
  rw [Gen.k0_part70_eq_skeleton]
  unfold Gen.k0_part70_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part71 : ∀ v1335 v1336 v1337 v1338 v1339 v1351 v1352 v1353 v1354 v1355 c16_i32_527, Keeps (F := F) c O (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1335 v1336 v1337 v1338 v1339 v1351 v1352 v1353 v1354 v1355 c16_i32_527) := by
  intros
  rw [Gen.k0_part71_eq_skeleton]
  unfold Gen.k0_part71_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part72 : ∀ v1340 v1341 v1342 v1343 v1344 v1356 v1357 v1358 v1359 v1360 c16_i32_542, Keeps (F := F) c O (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1340 v1341 v1342 v1343 v1344 v1356 v1357 v1358 v1359 v1360 c16_i32_542) := by
  intros
  rw [Gen.k0_part72_eq_skeleton]
  unfold Gen.k0_part72_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part73 : ∀ v1345 v1346 v1347 v1348 v1349 v1361 v1362 v1363 v1364 v1365 c16_i32_557, Keeps (F := F) c O (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1345 v1346 v1347 v1348 v1349 v1361 v1362 v1363 v1364 v1365 c16_i32_557) := by
  intros
  rw [Gen.k0_part73_eq_skeleton]
  unfold Gen.k0_part73_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part74 : ∀ v1371 v1380 v1389 v1398 v1407 v1443 v1452 v1461 v1470 v1479 c8_i32_572, Keeps (F := F) c O (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1371 v1380 v1389 v1398 v1407 v1443 v1452 v1461 v1470 v1479 c8_i32_572) := by
  intros
  rw [Gen.k0_part74_eq_skeleton]
  unfold Gen.k0_part74_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part75 : ∀ v1374 v1383 v1416 v1425 v1434 v1446 v1455 v1488 v1497 v1506 c8_i32_587, Keeps (F := F) c O (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1374 v1383 v1416 v1425 v1434 v1446 v1455 v1488 v1497 v1506 c8_i32_587) := by
  intros
  rw [Gen.k0_part75_eq_skeleton]
  unfold Gen.k0_part75_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part76 : ∀ v1392 v1401 v1410 v1419 v1428 v1464 v1473 v1482 v1491 v1500 c8_i32_602, Keeps (F := F) c O (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1392 v1401 v1410 v1419 v1428 v1464 v1473 v1482 v1491 v1500 c8_i32_602) := by
  intros
  rw [Gen.k0_part76_eq_skeleton]
  unfold Gen.k0_part76_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part77 : ∀ v1437 v1509 v1515 v1524 v1533 v1542 v1551 v1560 v1569 v1578 c8_i32_617, Keeps (F := F) c O (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1437 v1509 v1515 v1524 v1533 v1542 v1551 v1560 v1569 v1578 c8_i32_617) := by
  intros
  rw [Gen.k0_part77_eq_skeleton]
  unfold Gen.k0_part77_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part78 : ∀ v1518 v1527 v1536 v1545 v1554 v1563 v1572 v1581 v1587 v1623 c4_i32_632, Keeps (F := F) c O (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1518 v1527 v1536 v1545 v1554 v1563 v1572 v1581 v1587 v1623 c4_i32_632) := by
  intros
  rw [Gen.k0_part78_eq_skeleton]
  unfold Gen.k0_part78_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part79 : ∀ v1590 v1596 v1599 v1605 v1614 v1626 v1632 v1635 v1641 v1650 c4_i32_647, Keeps (F := F) c O (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1590 v1596 v1599 v1605 v1614 v1626 v1632 v1635 v1641 v1650 c4_i32_647) := by
  intros
  rw [Gen.k0_part79_eq_skeleton]
  unfold Gen.k0_part79_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part80 : ∀ v1608 v1617 v1644 v1653 v1659 v1662 v1668 v1677 v1680 v1686 c4_i32_662, Keeps (F := F) c O (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1608 v1617 v1644 v1653 v1659 v1662 v1668 v1677 v1680 v1686 c4_i32_662) := by
  intros
  rw [Gen.k0_part80_eq_skeleton]
  unfold Gen.k0_part80_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part81 : ∀ v1671 v1689 v1695 v1698 v1704 v1707 v1713 v1716 v1722 v1725 c2_i32_677, Keeps (F := F) c O (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1671 v1689 v1695 v1698 v1704 v1707 v1713 v1716 v1722 v1725 c2_i32_677) := by
  intros
  rw [Gen.k0_part81_eq_skeleton]
  unfold Gen.k0_part81_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part82 : ∀ v1731 v1734 v1740 v1743 v1749 v1752 v1758 v1761 v1767 v1785 c2_i32_692, Keeps (F := F) c O (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1731 v1734 v1740 v1743 v1749 v1752 v1758 v1761 v1767 v1785 c2_i32_692) := by
  intros
  rw [Gen.k0_part82_eq_skeleton]
  unfold Gen.k0_part82_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part83 : ∀ v1770 v1776 v1779 v1788 v1794 v1797 v1803 v1806 v1812 v1815 c2_i32_707, Keeps (F := F) c O (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1770 v1776 v1779 v1788 v1794 v1797 v1803 v1806 v1812 v1815 c2_i32_707) := by
  intros
  rw [Gen.k0_part83_eq_skeleton]
  unfold Gen.k0_part83_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part84 : ∀ v1821 v1824 v1830 v1833 v1839 v1842 v1848 v1851 v1857 v1866 c1_i32_722, Keeps (F := F) c O (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1821 v1824 v1830 v1833 v1839 v1842 v1848 v1851 v1857 v1866 c1_i32_722) := by
  intros
  rw [Gen.k0_part84_eq_skeleton]
  unfold Gen.k0_part84_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part85 : ∀ v1860 v1869 v1875 v1878 v1884 v1887 v1893 v1896 v1902 v1905 c1_i32_737, Keeps (F := F) c O (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1860 v1869 v1875 v1878 v1884 v1887 v1893 v1896 v1902 v1905 c1_i32_737) := by
  intros
  rw [Gen.k0_part85_eq_skeleton]
  unfold Gen.k0_part85_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part86 : ∀ k0_t2 v317 v1911 v1914 v1920 v1923 v1929 v1932 v1938 v1941 v1947 c1_i32_752, Keeps (F := F) c O (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v317 v1911 v1914 v1920 v1923 v1929 v1932 v1938 v1941 v1947 c1_i32_752) := by
  intros
  rw [Gen.k0_part86_eq_skeleton]
  unfold Gen.k0_part86_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part87 : ∀ k0_t2 v317 v1950 v1956 v1959 v1965 v1968 v1974 v1977 v1983 v2091, Keeps (F := F) c O (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v317 v1950 v1956 v1959 v1965 v1968 v1974 v1977 v1983 v2091) := by
  intros
  rw [Gen.k0_part87_eq_skeleton]
  unfold Gen.k0_part87_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part88 : ∀ k0_t2 v317 v1986 v1992 v1995 v2001 v2004 v2010 v2013, Keeps (F := F) c O (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v317 v1986 v1992 v1995 v2001 v2004 v2010 v2013) := by
  intros
  rw [Gen.k0_part88_eq_skeleton]
  unfold Gen.k0_part88_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part89 : ∀ k0_t2 v317 v2019 v2022 v2028 v2031 v2037 v2040 v2046 v2049 v2151, Keeps (F := F) c O (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v317 v2019 v2022 v2028 v2031 v2037 v2040 v2046 v2049 v2151) := by
  intros
  rw [Gen.k0_part89_eq_skeleton]
  unfold Gen.k0_part89_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part90 : ∀ k0_t2 v317 v2055 v2058 v2064 v2067 v2073 v2076 v2082, Keeps (F := F) c O (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v317 v2055 v2058 v2064 v2067 v2073 v2076 v2082) := by
  intros
  rw [Gen.k0_part90_eq_skeleton]
  unfold Gen.k0_part90_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t2_body : ∀ arg1 v17 v28 v32 v114 v117 v120 v123 c0_i32_71 c1_i32_72 v143 v145 t_ acc_, Keeps (F := F) c O (Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 v145 t_ acc_) := by
  intros
  unfold Gen.k0_t2_body
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part46 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | with_reducible exact keeps_part47 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part48 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _
    | with_reducible exact keeps_part49 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part50 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part51 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part52 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part53 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part54 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part55 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part56 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part57 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part58 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part59 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part60 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part61 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part62 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part63 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part64 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part65 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part66 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part67 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part68 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _
    | with_reducible exact keeps_part69 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part70 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part71 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part72 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part73 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part74 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part75 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part76 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part77 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part78 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part79 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part80 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part81 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part82 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part83 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part84 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part85 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part86 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _
    | with_reducible exact keeps_part87 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part88 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part89 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part90 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | split

theorem keeps_part91 : ∀ v17 v114 v117 v120 k0_h1, Keeps (F := F) c O (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v114 v117 v120 k0_h1) := by
  intros
  rw [Gen.k0_part91_eq_skeleton]
  unfold Gen.k0_part91_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part92 : ∀ v28 v32 v123 k0_h1 v315 v320 v354, Keeps (F := F) c O (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v28 v32 v123 k0_h1 v315 v320 v354) := by
  intros
  rw [Gen.k0_part92_eq_skeleton]
  unfold Gen.k0_part92_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part93 : ∀ v383 v384 v385 v386 v387 v400 v401, Keeps (F := F) c O (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v383 v384 v385 v386 v387 v400 v401) := by
  intros
  rw [Gen.k0_part93_eq_skeleton]
  unfold Gen.k0_part93_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part94 : ∀ v388 v389 v390 v391 v392 v403 v404 v405 v406 v407 v408 v447 v449, Keeps (F := F) c O (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v388 v389 v390 v391 v392 v403 v404 v405 v406 v407 v408 v447 v449) := by
  intros
  rw [Gen.k0_part94_eq_skeleton]
  unfold Gen.k0_part94_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part95 : ∀ v393 v394 v395 v396 v397 v408 v409 v410 v411 v412 v413 v492 v494, Keeps (F := F) c O (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v393 v394 v395 v396 v397 v408 v409 v410 v411 v412 v413 v492 v494) := by
  intros
  rw [Gen.k0_part95_eq_skeleton]
  unfold Gen.k0_part95_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part96 : ∀ v398 v399 v413 v414 v415 v421 v430 v439 v493 v502 v511 v537 v539, Keeps (F := F) c O (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v398 v399 v413 v414 v415 v421 v430 v439 v493 v502 v511 v537 v539) := by
  intros
  rw [Gen.k0_part96_eq_skeleton]
  unfold Gen.k0_part96_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part97 : ∀ v448 v457 v466 v475 v484 v511 v520 v529 v538 v547 v556 v582 v584, Keeps (F := F) c O (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v448 v457 v466 v475 v484 v511 v520 v529 v538 v547 v556 v582 v584) := by
  intros
  rw [Gen.k0_part97_eq_skeleton]
  unfold Gen.k0_part97_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part98 : ∀ v424 v433 v442 v451 v460 v496 v505 v514 v523 v532 v556 v627 v629, Keeps (F := F) c O (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v424 v433 v442 v451 v460 v496 v505 v514 v523 v532 v556 v627 v629) := by
  intros
  rw [Gen.k0_part98_eq_skeleton]
  unfold Gen.k0_part98_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part99 : ∀ v469 v478 v487 v532 v541 v550 v559 v565 v574 v601 v610 v672 v674, Keeps (F := F) c O (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v469 v478 v487 v532 v541 v550 v559 v565 v574 v601 v610 v672 v674) := by
  intros
  rw [Gen.k0_part99_eq_skeleton]
  unfold Gen.k0_part99_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part100 : ∀ v568 v577 v583 v586 v592 v604 v610 v613 v619 v622 v628 v717 v719, Keeps (F := F) c O (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v568 v577 v583 v586 v592 v604 v610 v613 v619 v622 v628 v717 v719) := by
  intros
  rw [Gen.k0_part100_eq_skeleton]
  unfold Gen.k0_part100_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part101 : ∀ v595 v622 v631 v637 v646 v655 v664 v673 v682 v691 v700 v762 v764, Keeps (F := F) c O (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v595 v622 v631 v637 v646 v655 v664 v673 v682 v691 v700 v762 v764) := by
  intros
  rw [Gen.k0_part101_eq_skeleton]
  unfold Gen.k0_part101_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part102 : ∀ v640 v649 v658 v667 v676 v685 v694 v700 v703 v709 v727 v807 v809, Keeps (F := F) c O (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v640 v649 v658 v667 v676 v685 v694 v700 v703 v709 v727 v807 v809) := by
  intros
  rw [Gen.k0_part102_eq_skeleton]
  unfold Gen.k0_part102_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part103 : ∀ v712 v718 v721 v727 v730 v736 v739 v745 v754 v763 v772 v852 v854, Keeps (F := F) c O (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v712 v718 v721 v727 v730 v736 v739 v745 v754 v763 v772 v852 v854) := by
  intros
  rw [Gen.k0_part103_eq_skeleton]
  unfold Gen.k0_part103_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part104 : ∀ v748 v757 v766 v772 v775 v781 v784 v790 v799 v802 v808 v897 v899, Keeps (F := F) c O (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v748 v757 v766 v772 v775 v781 v784 v790 v799 v802 v808 v897 v899) := by
  intros
  rw [Gen.k0_part104_eq_skeleton]
  unfold Gen.k0_part104_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part105 : ∀ v793 v802 v811 v817 v820 v826 v829 v835 v838 v844 v847 v942 v944, Keeps (F := F) c O (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v793 v802 v811 v817 v820 v826 v829 v835 v838 v844 v847 v942 v944) := by
  intros
  rw [Gen.k0_part105_eq_skeleton]
  unfold Gen.k0_part105_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part106 : ∀ v847 v853 v856 v862 v865 v871 v874 v880 v883 v889 v898 v987 v989, Keeps (F := F) c O (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v847 v853 v856 v862 v865 v871 v874 v880 v883 v889 v898 v987 v989) := by
  intros
  rw [Gen.k0_part106_eq_skeleton]
  unfold Gen.k0_part106_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part107 : ∀ v892 v898 v901 v907 v910 v916 v919 v925 v928 v934 v937 v1032 v1034, Keeps (F := F) c O (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v892 v898 v901 v907 v910 v916 v919 v925 v928 v934 v937 v1032 v1034) := by
  intros
  rw [Gen.k0_part107_eq_skeleton]
  unfold Gen.k0_part107_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part108 : ∀ v937 v943 v946 v952 v955 v961 v964 v970 v973 v979 v988 v1077 v1079, Keeps (F := F) c O (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v937 v943 v946 v952 v955 v961 v964 v970 v973 v979 v988 v1077 v1079) := by
  intros
  rw [Gen.k0_part108_eq_skeleton]
  unfold Gen.k0_part108_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part109 : ∀ k0_h1 v315 v982 v988 v991 v997 v1000 v1006 v1009 v1015 v1122 v1124, Keeps (F := F) c O (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v315 v982 v988 v991 v997 v1000 v1006 v1009 v1015 v1122 v1124) := by
  intros
  rw [Gen.k0_part109_eq_skeleton]
  unfold Gen.k0_part109_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part110 : ∀ k0_h1 v315 v1018 v1024 v1027 v1033 v1036 v1042 v1045 v1051, Keeps (F := F) c O (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v315 v1018 v1024 v1027 v1033 v1036 v1042 v1045 v1051) := by
  intros
  rw [Gen.k0_part110_eq_skeleton]
  unfold Gen.k0_part110_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part111 : ∀ k0_h1 v315 v1054 v1060 v1063 v1069 v1072 v1078 v1081, Keeps (F := F) c O (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v315 v1054 v1060 v1063 v1069 v1072 v1078 v1081) := by
  intros
  rw [Gen.k0_part111_eq_skeleton]
  unfold Gen.k0_part111_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part112 : ∀ k0_h1 v315 v1087 v1090 v1096 v1099 v1105 v1108 v1114 v1117, Keeps (F := F) c O (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v315 v1087 v1090 v1096 v1099 v1105 v1108 v1114 v1117) := by
  intros
  rw [Gen.k0_part112_eq_skeleton]
  unfold Gen.k0_part112_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t3_body : ∀ arg1 v17 v28 v32 v114 v117 v120 v123 c0_i32_71 c1_i32_72 v143 k0_h2 t_ acc_, Keeps (F := F) c O (Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h2 t_ acc_) := by
  intros
  unfold Gen.k0_t3_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t4_body : ∀ arg1 v17 v28 v32 v114 v117 v120 v123 c0_i32_71 c1_i32_72 v143 k0_h2 t_ acc_, Keeps (F := F) c O (Gen.k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h2 t_ acc_) := by
  intros
  unfold Gen.k0_t4_body
  repeat' first
    | with_reducible refine Keeps.bind ?_ (fun _ => ?_)
    | with_reducible exact Keeps.load (by assumption) _ _
    | with_reducible exact Keeps.store (by assumption) _ _ _ _ _
    | with_reducible exact Keeps.pure _
    | split

end Cert.Proof.Kernel

end
-- ==== Proof.KeepsParts3.lean ====
/- Every part of the printed prompt attention keeps the kernel's buffers: the search, the logits, the products with the values and the kernel itself. Each part is read as its skeleton of loads,
   stores, branches and loops, and the rules of Keeps.lean are applied statement by statement. -/
module

public import proofs.«01_k».proof.Proof.KeepsParts2

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
variable (c : Dev nD) (O : sProp (MT nD τ sig Unit (Elt F) ℕ (UR sig nD τ) ℕ)) (i : grid0.Coords)
  (arg2 : Memref sig .tc .vmem S1x512x256 .bf16) (harg2 : arg2.IsWhole)
  (arg3 : Memref sig .tc .vmem S1x512x256 .bf16) (harg3 : arg3.IsWhole)
  (arg4 : Memref sig .tc .vmem S1x8x256 .f32) (harg4 : arg4.IsWhole)
  (arg5 : Memref sig .tc .vmem S1x2048x512 .bf16) (harg5 : arg5.IsWhole)
  (arg6 : Memref sig .tc .vmem S1x2048x128 .bf16) (harg6 : arg6.IsWhole)
  (arg7 : Memref sig .tc .vmem S1x8x4x144x256 .bf16) (harg7 : arg7.IsWhole)
  (arg8 : Memref sig .tc .vmem S1x256x512 .f32) (harg8 : arg8.IsWhole)
  (arg9 : Memref sig .tc .vmem S1x2x4x256x512 .f32) (harg9 : arg9.IsWhole)
  (arg10 : Memref sig .tc .vmem S1x256x512 .bf16) (harg10 : arg10.IsWhole)
  (arg11 : Memref sig .tc .vmem S8x256x256 .f32) (harg11 : arg11.IsWhole)
  (arg12 : Memref sig .tc .vmem S8x256x256 .i32) (harg12 : arg12.IsWhole)
  (arg13 : Memref sig .tc .vmem S8x32x8x256 .i32) (harg13 : arg13.IsWhole)
  (arg14 : Memref sig .tc .vmem S4x8x256x512 .f32) (harg14 : arg14.IsWhole)
  (arg15 : Memref sig .tc .vmem S4x128x512 .bf16) (harg15 : arg15.IsWhole)
  (arg16 : Memref sig .tc .vmem S4x128x512 .bf16) (harg16 : arg16.IsWhole)
  (arg17 : Memref sig .tc .vmem S4x144x512 .f32) (harg17 : arg17.IsWhole)
  (h2 : Lends (F := F) c O arg2)
  (h3 : Lends (F := F) c O arg3)
  (h4 : Lends (F := F) c O arg4)
  (h5 : Lends (F := F) c O arg5)
  (h6 : Lends (F := F) c O arg6)
  (h7 : Lends (F := F) c O arg7)
  (h8 : Lends (F := F) c O arg8)
  (h9 : Lends (F := F) c O arg9)
  (h10 : Lends (F := F) c O arg10)
  (h11 : Lends (F := F) c O arg11)
  (h12 : Lends (F := F) c O arg12)
  (h13 : Lends (F := F) c O arg13)
  (h14 : Lends (F := F) c O arg14)
  (h15 : Lends (F := F) c O arg15)
  (h16 : Lends (F := F) c O arg16)
  (h17 : Lends (F := F) c O arg17)

include h2 h3 h4 h5 h6 h7 h8 h9 h10 h11 h12 h13 h14 h15 h16 h17

theorem keeps_t5_body : ∀ v17 k0_h3 t_ acc_, Keeps (F := F) c O (Gen.k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 k0_h3 t_ acc_) := by
  intros
  unfold Gen.k0_t5_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t6_body : ∀ v17 k0_h3 t_ acc_, Keeps (F := F) c O (Gen.k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 k0_h3 t_ acc_) := by
  intros
  unfold Gen.k0_t6_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part114 : ∀ v17 k0_h3, Keeps (F := F) c O (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 k0_h3) := by
  intros
  rw [Gen.k0_part114_eq_skeleton]
  unfold Gen.k0_part114_skel
  repeat' first
    | with_reducible refine Keeps.bind ?_ (fun _ => ?_)
    | with_reducible exact Keeps.load (by assumption) _ _
    | with_reducible exact Keeps.store (by assumption) _ _ _ _ _
    | with_reducible exact Keeps.pure _
    | with_reducible refine Keeps.forLoop _ _ _ _ (fun _ _ => ?_)
    | with_reducible exact keeps_t5_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_t6_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | split

theorem keeps_part113 : ∀ k0_h3 c0_i32_178 c1_i32_179 k0_t7 arg21 arg22 arg23 arg24 arg25 arg26 arg27 arg28, Keeps (F := F) c O (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h3 c0_i32_178 c1_i32_179 k0_t7 arg21 arg22 arg23 arg24 arg25 arg26 arg27 arg28) := by
  intros
  rw [Gen.k0_part113_eq_skeleton]
  unfold Gen.k0_part113_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t7_body : ∀ arg1 v17 v28 v32 v114 v117 v120 v123 c0_i32_71 c1_i32_72 v143 k0_h3 c0_i32_178 t_ acc_, Keeps (F := F) c O (Gen.k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 c0_i32_178 t_ acc_) := by
  intros
  unfold Gen.k0_t7_body
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part113 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _
    | split

theorem keeps_t8_body : ∀ arg1 v17 v28 v32 v114 v117 v120 v123 c0_i32_71 c1_i32_72 v143 k0_h3 v348_1 t_ acc_, Keeps (F := F) c O (Gen.k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 t_ acc_) := by
  intros
  unfold Gen.k0_t8_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t9_body : ∀ arg1 v17 v28 v32 v114 v117 v120 v123 c0_i32_71 c1_i32_72 v143 k0_h3 v348_1 t_ acc_, Keeps (F := F) c O (Gen.k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 t_ acc_) := by
  intros
  unfold Gen.k0_t9_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t10_body : ∀ arg1 v17 v28 v32 v114 v117 v120 v123 c0_i32_71 c1_i32_72 v143 k0_h3 v348_1 t_ acc_, Keeps (F := F) c O (Gen.k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 t_ acc_) := by
  intros
  unfold Gen.k0_t10_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t11_body : ∀ arg1 v17 v28 v32 v114 v117 v120 v123 c0_i32_71 c1_i32_72 v143 k0_h3 v348_1 t_ acc_, Keeps (F := F) c O (Gen.k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 t_ acc_) := by
  intros
  unfold Gen.k0_t11_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t13_body : ∀ arg1 v17 v28 v32 v114 v117 v120 v123 c0_i32_71 c1_i32_72 v143 k0_h3 v348_1 k0_t12 arg19 t_ acc_, Keeps (F := F) c O (Gen.k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 k0_t12 arg19 t_ acc_) := by
  intros
  unfold Gen.k0_t13_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t14_body : ∀ arg1 v17 v28 v32 v114 v117 v120 v123 c0_i32_71 c1_i32_72 v143 k0_h3 v348_1 k0_t12 arg19 t_ acc_, Keeps (F := F) c O (Gen.k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 k0_t12 arg19 t_ acc_) := by
  intros
  unfold Gen.k0_t14_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t12_body : ∀ arg1 v17 v28 v32 v114 v117 v120 v123 c0_i32_71 c1_i32_72 v143 k0_h3 v348_1 v389 t_ acc_, Keeps (F := F) c O (Gen.k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 v389 t_ acc_) := by
  intros
  unfold Gen.k0_t12_body
  repeat' first
    | with_reducible refine Keeps.bind ?_ (fun _ => ?_)
    | with_reducible exact Keeps.load (by assumption) _ _
    | with_reducible exact Keeps.store (by assumption) _ _ _ _ _
    | with_reducible exact Keeps.pure _
    | with_reducible refine Keeps.forLoop _ _ _ _ (fun _ _ => ?_)
    | with_reducible exact keeps_t13_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _ _ _
    | with_reducible exact keeps_t14_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _ _ _
    | split

theorem keeps_t15_body : ∀ arg1 v17 v28 v32 v114 v117 v120 v123 c0_i32_71 c1_i32_72 v143 k0_h3 v348_1 v396 t_ acc_, Keeps (F := F) c O (Gen.k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 v396 t_ acc_) := by
  intros
  unfold Gen.k0_t15_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t16_body : ∀ arg1 v17 v28 v32 v114 v117 v120 v123 c0_i32_71 c1_i32_72 v143 k0_h3 v348_1 v396 t_ acc_, Keeps (F := F) c O (Gen.k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143 k0_h3 v348_1 v396 t_ acc_) := by
  intros
  unfold Gen.k0_t16_body
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part144 : ∀ arg1 v17 v28 v32 v114 v117 v120 v123 c0_i32_71 c1_i32_72 v143, Keeps (F := F) c O (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v28 v32 v114 v117 v120 v123 c0_i32_71 c1_i32_72 v143) := by
  intros
  rw [Gen.k0_part144_eq_skeleton]
  unfold Gen.k0_part144_skel
  repeat' first
    | with_reducible refine Keeps.bind ?_ (fun _ => ?_)
    | with_reducible exact Keeps.load (by assumption) _ _
    | with_reducible exact Keeps.store (by assumption) _ _ _ _ _
    | with_reducible exact Keeps.pure _
    | with_reducible refine Keeps.dite (fun _ => ?_) (fun _ => ?_)
    | with_reducible refine Keeps.ite ?_ ?_
    | with_reducible refine Keeps.forLoop _ _ _ _ (fun _ _ => ?_)
    | with_reducible exact keeps_t1_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_t2_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part91 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _
    | with_reducible exact keeps_part92 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | with_reducible exact keeps_part93 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | with_reducible exact keeps_part94 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part95 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part96 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part97 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part98 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part99 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part100 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part101 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part102 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part103 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part104 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part105 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part106 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part107 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part108 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part109 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _
    | with_reducible exact keeps_part110 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _
    | with_reducible exact keeps_part111 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part112 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _
    | with_reducible exact keeps_t3_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_t4_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _
    | with_reducible exact keeps_part114 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _
    | with_reducible exact keeps_t7_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _
    | with_reducible exact keeps_t8_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _
    | with_reducible exact keeps_t9_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _
    | with_reducible exact keeps_t10_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _
    | with_reducible exact keeps_t11_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _
    | with_reducible exact keeps_t12_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _ _
    | with_reducible exact keeps_t15_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _ _
    | with_reducible exact keeps_t16_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _ _ _ _
    | split

theorem keeps_part115 : ∀ c0_i32_101 c1_i32_103 k0_t17 arg19, Keeps (F := F) c O (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_101 c1_i32_103 k0_t17 arg19) := by
  intros
  rw [Gen.k0_part115_eq_skeleton]
  unfold Gen.k0_part115_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part116 : ∀ k0_t17 arg20 arg21 v317 v321 v346, Keeps (F := F) c O (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t17 arg20 arg21 v317 v321 v346) := by
  intros
  rw [Gen.k0_part116_eq_skeleton]
  unfold Gen.k0_part116_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part117 : ∀ k0_t17 arg22 v316 v337 v378 v382, Keeps (F := F) c O (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t17 arg22 v316 v337 v378 v382) := by
  intros
  rw [Gen.k0_part117_eq_skeleton]
  unfold Gen.k0_part117_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part118 : ∀ k0_t17 v316 v353 v369 v389 v414 v416, Keeps (F := F) c O (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t17 v316 v353 v369 v389 v414 v416) := by
  intros
  rw [Gen.k0_part118_eq_skeleton]
  unfold Gen.k0_part118_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t17_body : ∀ v17 v27 v167 v168 v169 v170 v172 c2_i32_94 v173 v174 t_ acc_, Keeps (F := F) c O (Gen.k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v27 v167 v168 v169 v170 v172 c2_i32_94 v173 v174 t_ acc_) := by
  intros
  unfold Gen.k0_t17_body
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part115 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part116 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | with_reducible exact keeps_part117 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | with_reducible exact keeps_part118 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | split

theorem keeps_part119 : ∀ v194 c1_i32_104 k0_t18 arg19, Keeps (F := F) c O (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v194 c1_i32_104 k0_t18 arg19) := by
  intros
  rw [Gen.k0_part119_eq_skeleton]
  unfold Gen.k0_part119_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part120 : ∀ k0_t18 arg20 arg21 v317 v321 v346, Keeps (F := F) c O (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t18 arg20 arg21 v317 v321 v346) := by
  intros
  rw [Gen.k0_part120_eq_skeleton]
  unfold Gen.k0_part120_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part121 : ∀ k0_t18 arg22 v316 v337 v378 v382, Keeps (F := F) c O (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t18 arg22 v316 v337 v378 v382) := by
  intros
  rw [Gen.k0_part121_eq_skeleton]
  unfold Gen.k0_part121_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part122 : ∀ k0_t18 v316 v353 v369 v389 v414 v416, Keeps (F := F) c O (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t18 v316 v353 v369 v389 v414 v416) := by
  intros
  rw [Gen.k0_part122_eq_skeleton]
  unfold Gen.k0_part122_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t18_body : ∀ v17 v27 v167 v168 v169 v170 v172 c2_i32_94 v173 v174 v194 t_ acc_, Keeps (F := F) c O (Gen.k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v27 v167 v168 v169 v170 v172 c2_i32_94 v173 v174 v194 t_ acc_) := by
  intros
  unfold Gen.k0_t18_body
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part119 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part120 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | with_reducible exact keeps_part121 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | with_reducible exact keeps_part122 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | split

theorem keeps_part123 : ∀ v172 v196_0 k0_h6, Keeps (F := F) c O (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v172 v196_0 k0_h6) := by
  intros
  rw [Gen.k0_part123_eq_skeleton]
  unfold Gen.k0_part123_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part124 : ∀ v196_1 v196_2 v196_3 k0_h6 v315 v319 v344, Keeps (F := F) c O (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196_1 v196_2 v196_3 k0_h6 v315 v319 v344) := by
  intros
  rw [Gen.k0_part124_eq_skeleton]
  unfold Gen.k0_part124_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part125 : ∀ v17 v27 v210_0 k0_h7, Keeps (F := F) c O (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v27 v210_0 k0_h7) := by
  intros
  rw [Gen.k0_part125_eq_skeleton]
  unfold Gen.k0_part125_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part126 : ∀ v27 v210_1 v210_2 k0_h7 v316 v320 v345 v347 cst_186, Keeps (F := F) c O (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v210_1 v210_2 k0_h7 v316 v320 v345 v347 cst_186) := by
  intros
  rw [Gen.k0_part126_eq_skeleton]
  unfold Gen.k0_part126_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part127 : ∀ v27 v210_3 k0_h7 v315 v316 v320 v381, Keeps (F := F) c O (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v210_3 k0_h7 v315 v316 v320 v381) := by
  intros
  rw [Gen.k0_part127_eq_skeleton]
  unfold Gen.k0_part127_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part128 : ∀ v27 k0_h7 v315 v340 v360 v404 v413, Keeps (F := F) c O (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 k0_h7 v315 v340 v360 v404 v413) := by
  intros
  rw [Gen.k0_part128_eq_skeleton]
  unfold Gen.k0_part128_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part129 : ∀ v27 k0_h7 v315 v380 v404 v449, Keeps (F := F) c O (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 k0_h7 v315 v380 v404 v449) := by
  intros
  rw [Gen.k0_part129_eq_skeleton]
  unfold Gen.k0_part129_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part130 : ∀ v17 v27 v210_0 k0_h7, Keeps (F := F) c O (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v27 v210_0 k0_h7) := by
  intros
  rw [Gen.k0_part130_eq_skeleton]
  unfold Gen.k0_part130_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part131 : ∀ v27 v210_1 v210_2 k0_h7 v315 v319 v348, Keeps (F := F) c O (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v210_1 v210_2 k0_h7 v315 v319 v348) := by
  intros
  rw [Gen.k0_part131_eq_skeleton]
  unfold Gen.k0_part131_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part145 : ∀ v17 v27 v167 v168 v169 v170 v172 c2_i32_94 v173 v174, Keeps (F := F) c O (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v27 v167 v168 v169 v170 v172 c2_i32_94 v173 v174) := by
  intros
  rw [Gen.k0_part145_eq_skeleton]
  unfold Gen.k0_part145_skel
  repeat' first
    | with_reducible refine Keeps.bind ?_ (fun _ => ?_)
    | with_reducible exact Keeps.load (by assumption) _ _
    | with_reducible exact Keeps.store (by assumption) _ _ _ _ _
    | with_reducible exact Keeps.pure _
    | with_reducible refine Keeps.dite (fun _ => ?_) (fun _ => ?_)
    | with_reducible refine Keeps.ite ?_ ?_
    | with_reducible refine Keeps.forLoop _ _ _ _ (fun _ _ => ?_)
    | with_reducible exact keeps_t17_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _
    | with_reducible exact keeps_t18_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _ _ _
    | with_reducible exact keeps_part123 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _
    | with_reducible exact keeps_part124 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | with_reducible exact keeps_part125 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part126 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _
    | with_reducible exact keeps_part127 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | with_reducible exact keeps_part128 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | with_reducible exact keeps_part129 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | with_reducible exact keeps_part130 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part131 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | split

theorem keeps_part132 : ∀ v216 c0_i32_131 c1_i32_133 k0_t19, Keeps (F := F) c O (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v216 c0_i32_131 c1_i32_133 k0_t19) := by
  intros
  rw [Gen.k0_part132_eq_skeleton]
  unfold Gen.k0_part132_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part133 : ∀ v218 v220 k0_t19 v315 v317, Keeps (F := F) c O (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v218 v220 k0_t19 v315 v317) := by
  intros
  rw [Gen.k0_part133_eq_skeleton]
  unfold Gen.k0_part133_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part134 : ∀ v220 v222 k0_t19 v315 v317 v381, Keeps (F := F) c O (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v220 v222 k0_t19 v315 v317 v381) := by
  intros
  rw [Gen.k0_part134_eq_skeleton]
  unfold Gen.k0_part134_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t19_body : ∀ v17 v214_0 v214_1 v214_2 v214_3 t_ acc_, Keeps (F := F) c O (Gen.k0_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v214_0 v214_1 v214_2 v214_3 t_ acc_) := by
  intros
  unfold Gen.k0_t19_body
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part132 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part133 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _
    | with_reducible exact keeps_part134 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | split

theorem keeps_part135 : ∀ v216 v248 c1_i32_134 k0_t20, Keeps (F := F) c O (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v216 v248 c1_i32_134 k0_t20) := by
  intros
  rw [Gen.k0_part135_eq_skeleton]
  unfold Gen.k0_part135_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part136 : ∀ v218 v220 k0_t20 v315 v317, Keeps (F := F) c O (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v218 v220 k0_t20 v315 v317) := by
  intros
  rw [Gen.k0_part136_eq_skeleton]
  unfold Gen.k0_part136_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part137 : ∀ v220 v222 k0_t20 v315 v317 v381, Keeps (F := F) c O (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v220 v222 k0_t20 v315 v317 v381) := by
  intros
  rw [Gen.k0_part137_eq_skeleton]
  unfold Gen.k0_part137_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_t20_body : ∀ v17 v214_0 v214_1 v214_2 v214_3 v248 t_ acc_, Keeps (F := F) c O (Gen.k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v214_0 v214_1 v214_2 v214_3 v248 t_ acc_) := by
  intros
  unfold Gen.k0_t20_body
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part135 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part136 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _
    | with_reducible exact keeps_part137 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _
    | split

theorem keeps_part146 : ∀ v17 v214_0 v214_1 v214_2 v214_3, Keeps (F := F) c O (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v214_0 v214_1 v214_2 v214_3) := by
  intros
  rw [Gen.k0_part146_eq_skeleton]
  unfold Gen.k0_part146_skel
  repeat' first
    | with_reducible refine Keeps.bind ?_ (fun _ => ?_)
    | with_reducible exact Keeps.load (by assumption) _ _
    | with_reducible exact Keeps.store (by assumption) _ _ _ _ _
    | with_reducible exact Keeps.pure _
    | with_reducible refine Keeps.forLoop _ _ _ _ (fun _ _ => ?_)
    | with_reducible exact keeps_t19_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _
    | with_reducible exact keeps_t20_body c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _
    | split

theorem keeps_part138 : ∀ v17 v216 v218 k0_h8, Keeps (F := F) c O (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v216 v218 k0_h8) := by
  intros
  rw [Gen.k0_part138_eq_skeleton]
  unfold Gen.k0_part138_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part139 : ∀ v220 v222 k0_h8 v315 v346, Keeps (F := F) c O (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v220 v222 k0_h8 v315 v346) := by
  intros
  rw [Gen.k0_part139_eq_skeleton]
  unfold Gen.k0_part139_skel
  repeat' first
    | with_reducible refine Keeps.bind ?_ (fun _ => ?_)
    | with_reducible exact Keeps.load (by assumption) _ _
    | with_reducible exact Keeps.store (by assumption) _ _ _ _ _
    | with_reducible exact Keeps.pure _
    | split

theorem keeps_part147 : ∀ v17 v216 v218 v220 v222 c2_i32_135 v249 c1_i32_137, Keeps (F := F) c O (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v216 v218 v220 v222 c2_i32_135 v249 c1_i32_137) := by
  intros
  rw [Gen.k0_part147_eq_skeleton]
  unfold Gen.k0_part147_skel
  repeat' first
    | with_reducible refine Keeps.bind ?_ (fun _ => ?_)
    | with_reducible exact Keeps.load (by assumption) _ _
    | with_reducible exact Keeps.store (by assumption) _ _ _ _ _
    | with_reducible exact Keeps.pure _
    | with_reducible refine Keeps.dite (fun _ => ?_) (fun _ => ?_)
    | with_reducible refine Keeps.ite ?_ ?_
    | with_reducible exact keeps_part138 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part139 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _
    | split

theorem keeps_kernel : Keeps (F := F) c O (cc0_prompt_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [Gen.cc0_prompt_attention_eq_skeleton]
  unfold Gen.cc0_prompt_attention_skel
  repeat' first
    | with_reducible refine Keeps.bind ?_ (fun _ => ?_)
    | with_reducible exact Keeps.load (by assumption) _ _
    | with_reducible exact Keeps.store (by assumption) _ _ _ _ _
    | with_reducible exact Keeps.pure _
    | with_reducible exact keeps_part140 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17
    | with_reducible exact keeps_part141 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _
    | with_reducible exact keeps_part142 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _
    | with_reducible exact keeps_part143 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _
    | with_reducible exact keeps_part144 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _ _
    | with_reducible exact keeps_part145 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _ _ _
    | with_reducible exact keeps_part146 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _
    | with_reducible exact keeps_part147 c O i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 h3 h4 h5 h6 h7 h8 h9 h10 h11 h12 h13 h14 h15 h16 h17 _ _ _ _ _ _ _ _
    | split

end Cert.Proof.Kernel

end
-- ==== Proof.KeepsRun.lean ====
/- The launch of the prompt attention. The kernel holds, at every grid point, its nine staging buffers and its seven scratch
   buffers whole, at contents nobody names; its body keeps them (KeepsParts3.lean `keeps_kernel`), so the pipeline runs to its
   end and gives back the argument arrays as it found them. Every window is forgotten: an input window is never written back,
   so its array ends as launched whatever the body leaves in the staging buffer. -/
module

public import proofs.«01_k».proof.Proof.KeepsParts3

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Lends

variable {c : Dev nD} {A B : sProp (MT nD τ sig Unit (Elt F) ℕ (UR sig nD τ) ℕ)} {s : Shape} {e : EltTy} {m : Memref sig .tc .vmem s e}

theorem Lends.left (h : Lends (F := F) c A m) : Lends (F := F) c iprop(A ∗ B) m := by
  unfold Lends at *
  have h' : iprop(A ∗ B) ⊢ iprop((Has c m ∗ (Has c m -∗ A)) ∗ B) := by
    iintro ⟨HA, HB⟩
    isplitl [HA]
    · iapply h; iexact HA
    · iexact HB
  refine h'.trans ?_
  iintro ⟨⟨Hm, Hback⟩, HB⟩
  isplitl [Hm]
  · iexact Hm
  · iintro Hm
    isplitl [Hm Hback]
    · iapply Hback; iexact Hm
    · iexact HB

theorem Lends.right (h : Lends (F := F) c B m) : Lends (F := F) c iprop(A ∗ B) m := by
  unfold Lends at *
  have h' : iprop(A ∗ B) ⊢ iprop(A ∗ (Has c m ∗ (Has c m -∗ B))) := by
    iintro ⟨HA, HB⟩
    isplitl [HA]
    · iexact HA
    · iapply h; iexact HB
  refine h'.trans ?_
  iintro ⟨HA, Hm, Hback⟩
  isplitl [Hm]
  · iexact Hm
  · iintro Hm
    isplitl [HA]
    · iexact HA
    · iapply Hback; iexact Hm

theorem Lends.self : Lends (F := F) c (Has c m) m := by
  unfold Lends
  iintro H
  isplitl [H]
  · iexact H
  · iintro H
    iexact H

/-- A staging buffer owned at some contents is held. -/
theorem has_of_owns : iprop(∃ X, owns (c : Thread nD τ) m fullShare X) ⊢ Has (F := F) c m := by
  unfold Has owns
  iintro ⟨%X, %f, -, H⟩
  iexists f
  iexact H

/-- and back. -/
theorem owns_of_has : Has (F := F) c m ⊢ iprop(∃ X, owns (c : Thread nD τ) m fullShare X) := by
  unfold Has
  iintro ⟨%f, H⟩
  iexists _
  iapply (owns_intro (c : Thread nD τ) m fullShare f)
  iexact H

end Lends

/-- Scratch buffer 0, held, is the whole buffer at some contents. -/
theorem has_scratch0 (c : Dev nD) : Has (F := F) c (Memref.whole cc0_scratch0)
    = iprop(∃ f : Buf (Elt F) ((c : Thread nD τ).loc cc0_scratch0), ((c : Thread nD τ).loc cc0_scratch0) ↦{fullShare} f) := by
  unfold Has
  rw [Memref.view_whole, View.set_whole]

/-- Scratch buffer 1, held, is the whole buffer at some contents. -/
theorem has_scratch1 (c : Dev nD) : Has (F := F) c (Memref.whole cc0_scratch1)
    = iprop(∃ f : Buf (Elt F) ((c : Thread nD τ).loc cc0_scratch1), ((c : Thread nD τ).loc cc0_scratch1) ↦{fullShare} f) := by
  unfold Has
  rw [Memref.view_whole, View.set_whole]

/-- Scratch buffer 2, held, is the whole buffer at some contents. -/
theorem has_scratch2 (c : Dev nD) : Has (F := F) c (Memref.whole cc0_scratch2)
    = iprop(∃ f : Buf (Elt F) ((c : Thread nD τ).loc cc0_scratch2), ((c : Thread nD τ).loc cc0_scratch2) ↦{fullShare} f) := by
  unfold Has
  rw [Memref.view_whole, View.set_whole]

/-- Scratch buffer 3, held, is the whole buffer at some contents. -/
theorem has_scratch3 (c : Dev nD) : Has (F := F) c (Memref.whole cc0_scratch3)
    = iprop(∃ f : Buf (Elt F) ((c : Thread nD τ).loc cc0_scratch3), ((c : Thread nD τ).loc cc0_scratch3) ↦{fullShare} f) := by
  unfold Has
  rw [Memref.view_whole, View.set_whole]

/-- Scratch buffer 4, held, is the whole buffer at some contents. -/
theorem has_scratch4 (c : Dev nD) : Has (F := F) c (Memref.whole cc0_scratch4)
    = iprop(∃ f : Buf (Elt F) ((c : Thread nD τ).loc cc0_scratch4), ((c : Thread nD τ).loc cc0_scratch4) ↦{fullShare} f) := by
  unfold Has
  rw [Memref.view_whole, View.set_whole]

/-- Scratch buffer 5, held, is the whole buffer at some contents. -/
theorem has_scratch5 (c : Dev nD) : Has (F := F) c (Memref.whole cc0_scratch5)
    = iprop(∃ f : Buf (Elt F) ((c : Thread nD τ).loc cc0_scratch5), ((c : Thread nD τ).loc cc0_scratch5) ↦{fullShare} f) := by
  unfold Has
  rw [Memref.view_whole, View.set_whole]

/-- Scratch buffer 6, held, is the whole buffer at some contents. -/
theorem has_scratch6 (c : Dev nD) : Has (F := F) c (Memref.whole cc0_scratch6)
    = iprop(∃ f : Buf (Elt F) ((c : Thread nD τ).loc cc0_scratch6), ((c : Thread nD τ).loc cc0_scratch6) ↦{fullShare} f) := by
  unfold Has
  rw [Memref.view_whole, View.set_whole]

/-- What the core holds at point `t`: the nine staging buffers in use there, the seven scratch buffers, and `R`. -/
def held (c : Dev nD) (t : Fin cfg0.N) (R : sProp (MT nD τ sig Unit (Elt F) ℕ (UR sig nD τ) ℕ)) : sProp (MT nD τ sig Unit (Elt F) ℕ (UR sig nD τ) ℕ) :=
  iprop(Has c (win0_0.stage (cfg0.slots t 0)) ∗ Has c (win0_1.stage (cfg0.slots t 1)) ∗ Has c (win0_2.stage (cfg0.slots t 2)) ∗ Has c (win0_3.stage (cfg0.slots t 3)) ∗ Has c (win0_4.stage (cfg0.slots t 4)) ∗ Has c (win0_5.stage (cfg0.slots t 5)) ∗ Has c (win0_6.stage (cfg0.slots t 6)) ∗ Has c (win0_7.stage (cfg0.slots t 7)) ∗ Has c (win0_8.stage (cfg0.slots t 8)) ∗ Has c (Memref.whole cc0_scratch0) ∗ Has c (Memref.whole cc0_scratch1) ∗ Has c (Memref.whole cc0_scratch2) ∗ Has c (Memref.whole cc0_scratch3) ∗ Has c (Memref.whole cc0_scratch4) ∗ Has c (Memref.whole cc0_scratch5) ∗ Has c (Memref.whole cc0_scratch6) ∗ R)

/-- The body keeps what the core holds. -/
theorem keeps_body (c : Dev nD) (t : Fin cfg0.N) (R : sProp (MT nD τ sig Unit (Elt F) ℕ (UR sig nD τ) ℕ)) :
    Keeps (F := F) c (held c t R) (Gen.bodyAt0 (F := F) t) := by
  unfold held
  exact keeps_kernel c _ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (Lends.left Lends.self) (Lends.right (Lends.left Lends.self)) (Lends.right (Lends.right (Lends.left Lends.self))) (Lends.right (Lends.right (Lends.right (Lends.left Lends.self)))) (Lends.right (Lends.right (Lends.right (Lends.right (Lends.left Lends.self))))) (Lends.right (Lends.right (Lends.right (Lends.right (Lends.right (Lends.left Lends.self)))))) (Lends.right (Lends.right (Lends.right (Lends.right (Lends.right (Lends.right (Lends.left Lends.self))))))) (Lends.right (Lends.right (Lends.right (Lends.right (Lends.right (Lends.right (Lends.right (Lends.left Lends.self)))))))) (Lends.right (Lends.right (Lends.right (Lends.right (Lends.right (Lends.right (Lends.right (Lends.right (Lends.left Lends.self))))))))) (Lends.right (Lends.right (Lends.right (Lends.right (Lends.right (Lends.right (Lends.right (Lends.right (Lends.right (Lends.left Lends.self)))))))))) (Lends.right (Lends.right (Lends.right (Lends.right (Lends.right (Lends.right (Lends.right (Lends.right (Lends.right (Lends.right (Lends.left Lends.self))))))))))) (Lends.right (Lends.right (Lends.right (Lends.right (Lends.right (Lends.right (Lends.right (Lends.right (Lends.right (Lends.right (Lends.right (Lends.left Lends.self)))))))))))) (Lends.right (Lends.right (Lends.right (Lends.right (Lends.right (Lends.right (Lends.right (Lends.right (Lends.right (Lends.right (Lends.right (Lends.right (Lends.left Lends.self))))))))))))) (Lends.right (Lends.right (Lends.right (Lends.right (Lends.right (Lends.right (Lends.right (Lends.right (Lends.right (Lends.right (Lends.right (Lends.right (Lends.right (Lends.left Lends.self)))))))))))))) (Lends.right (Lends.right (Lends.right (Lends.right (Lends.right (Lends.right (Lends.right (Lends.right (Lends.right (Lends.right (Lends.right (Lends.right (Lends.right (Lends.right (Lends.left Lends.self))))))))))))))) (Lends.right (Lends.right (Lends.right (Lends.right (Lends.right (Lends.right (Lends.right (Lends.right (Lends.right (Lends.right (Lends.right (Lends.right (Lends.right (Lends.right (Lends.right (Lends.left Lends.self))))))))))))))))

/-- The proof data: the arrays as launched, nothing said of what the body leaves, the class invariant at every point. -/
def dats (m : (ℓ : Loc nD τ sig) → Buf (Elt F) ℓ) (p : Fin 1) (c : Dev nD) :
    Dat τ (Elt F) Unit ℕ (UR sig nD τ) ℕ (cfgs p) c where
  A w := Gen.V m c (Pipeline.arrRef spec0 w)
  after := Dat.unnamed
  Φ _ := Pipeline.ΦA spec0 c
  q _ := fullShare
  owed _ := 0

/-- The staging buffers and the invariant, taken apart. -/
theorem held_of (c : Dev nD) (t : Fin cfg0.N) (R : sProp (MT nD τ sig Unit (Elt F) ℕ (UR sig nD τ) ℕ)) :
    iprop(Pipeline.ΦA cfg0.spec c ∗ R ∗ bigSep Finset.univ fun w : Fin cfg0.W =>
        iprop(∃ X, owns (c : Thread nD τ) ((cfg0.win w).stage (cfg0.slots t w)) fullShare X))
      ⊢ held (F := F) c t iprop(R ∗ ∃ r, prngReg c r) := by
  rw [show (Finset.univ : Finset (Fin cfg0.W)) = (Finset.univ : Finset (Fin 9)) from rfl, Gen.bigSep_W0]
  unfold Pipeline.ΦA held
  rw [has_scratch0, has_scratch1, has_scratch2, has_scratch3, has_scratch4, has_scratch5, has_scratch6]
  rw [show cfg0.spec = spec0 from rfl, Gen.scopedRest0_eq]
  iintro ⟨⟨⟨S0, S1, S2, S3, S4, S5, S6⟩, P⟩, R, W0, W1, W2, W3, W4, W5, W6, W7, W8⟩
  isplitl [W0]
  · iapply has_of_owns; iexact W0
  isplitl [W1]
  · iapply has_of_owns; iexact W1
  isplitl [W2]
  · iapply has_of_owns; iexact W2
  isplitl [W3]
  · iapply has_of_owns; iexact W3
  isplitl [W4]
  · iapply has_of_owns; iexact W4
  isplitl [W5]
  · iapply has_of_owns; iexact W5
  isplitl [W6]
  · iapply has_of_owns; iexact W6
  isplitl [W7]
  · iapply has_of_owns; iexact W7
  isplitl [W8]
  · iapply has_of_owns; iexact W8
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [R]
  · iexact R
  · iexact P

/-- and put together again. -/
theorem of_held (c : Dev nD) (t : Fin cfg0.N) (R : sProp (MT nD τ sig Unit (Elt F) ℕ (UR sig nD τ) ℕ)) :
    held (F := F) c t iprop(R ∗ ∃ r, prngReg c r)
      ⊢ iprop(Pipeline.ΦA cfg0.spec c ∗ R ∗ bigSep Finset.univ fun w : Fin cfg0.W =>
        iprop(∃ X, owns (c : Thread nD τ) ((cfg0.win w).stage (cfg0.slots t w)) fullShare X)) := by
  rw [show (Finset.univ : Finset (Fin cfg0.W)) = (Finset.univ : Finset (Fin 9)) from rfl, Gen.bigSep_W0]
  unfold Pipeline.ΦA held
  rw [has_scratch0, has_scratch1, has_scratch2, has_scratch3, has_scratch4, has_scratch5, has_scratch6]
  rw [show cfg0.spec = spec0 from rfl, Gen.scopedRest0_eq]
  iintro ⟨W0, W1, W2, W3, W4, W5, W6, W7, W8, S0, S1, S2, S3, S4, S5, S6, R, P⟩
  isplitl [S0 S1 S2 S3 S4 S5 S6 P]
  · isplitl [S0 S1 S2 S3 S4 S5 S6]
    · isplitl [S0]
      · iexact S0
      isplitl [S1]
      · iexact S1
      isplitl [S2]
      · iexact S2
      isplitl [S3]
      · iexact S3
      isplitl [S4]
      · iexact S4
      isplitl [S5]
      · iexact S5
      iexact S6
    · iexact P
  isplitl [R]
  · iexact R
  isplitl [W0]
  · iapply owns_of_has; iexact W0
  isplitl [W1]
  · iapply owns_of_has; iexact W1
  isplitl [W2]
  · iapply owns_of_has; iexact W2
  isplitl [W3]
  · iapply owns_of_has; iexact W3
  isplitl [W4]
  · iapply owns_of_has; iexact W4
  isplitl [W5]
  · iapply owns_of_has; iexact W5
  isplitl [W6]
  · iapply owns_of_has; iexact W6
  isplitl [W7]
  · iapply owns_of_has; iexact W7
  iapply owns_of_has; iexact W8

/-- The kernel's row of the definitions is the printed body at the window's staging buffers. -/
theorem defs_tc : (defs₀ (F := F)) .tc cfg0.body = fun a => cc0_prompt_attention (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) := rfl
theorem prog_eq (t : Fin cfg0.N) :
    (defs₀ (F := F)) .tc cfg0.body (cfg0.bodyArgs t (cfg0.slots t)) = Gen.bodyAt0 (F := F) t :=
  (congrFun defs_tc _).trans rfl

set_option backward.isDefEq.respectTransparency.types false in
/-- The body obligation, every window forgotten. -/
theorem body_obligation [∀ e, Nonempty (Elt F e)] (m : (ℓ : Loc nD τ sig) → Buf (Elt F) ℓ) (c : Dev nD) :
    BodyObligation (dats (F := F) m 0 c) (defs₀ (F := F)) Variants.none () Set.univ (fun _ => true) := by
  intro t
  rw [show (dats m 0 c).owesAt () t.succ = (dats m 0 c).owesAt () t.castSucc from rfl]
  generalize (dats m 0 c).owesAt () t.castSucc = R
  rw [prog_eq t]
  refine (held_of c t R).trans ((keeps_body c t _).trans ?_)
  exact (wp frame (wpE (defs₀ (F := F)) Variants.none (c : Thread nD τ) none) Set.univ (Gen.bodyAt0 (F := F) t)).mono (fun _ => of_held c t R)

set_option backward.isDefEq.respectTransparency.types false in
/-- The run: it ends with no fault, the eight argument arrays as launched, every counter at zero. -/
theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩ (fun r => (∀ c : Dev nD,
      ∀ w : Fin 9, (spec0 w).isOut = false → r.2.mem ((c.tc : Thread nD τ).loc (Pipeline.arrRef spec0 w)) = Gen.V m c (Pipeline.arrRef spec0 w))
      ∧ r.2.sem = fun _ => 0) :=
  Pipeline.θ_run_frame_forget cfgs (dats m) 0 Gen.launch0 defs₀ Variants.none (fun _ => true) m g main
    (fun c => (body_obligation m c).loose) (fun c => (dats m 0 c).share_full fun _ => rfl) (fun _ _ => rfl) (Gen.V m)
    (Gen.hmain m Variants.none) (fun _ _ => rfl) (fun _ _ => rfl) _
    (fun r h => ⟨fun c w hw => Pipeline.RDat.FramePost.arr_in h.1 c w hw, h.2⟩)

end Cert.Proof.Kernel

end
-- ==== Proof.InprojSpec.lean ====
module

public import proofs.«01_k».proof.Proof.Gen.Kernel2Ideal.Skeleton
public import Idealize.ShloMosaic.Lib.Pointwise

@[expose] public section

/-! The input projection, entry by entry over the extended reals: what both the tiled kernel and the plain reference
    compute. `x` are the tokens, `g` the gain of the first normalisation, `w` the weight, `gain` a head's gain. -/

set_option maxRecDepth 16384

noncomputable section

namespace Cert.Proof.Inproj

open Cert.Kernel2Ideal Idealize.ShloMosaic

/-- Entry `d` of a row `x` of 1024 after the root-mean-square normalisation with gain `g`. -/
def xn (x g : Fin 1024 → EReal) (d : Fin 1024) : EReal :=
  x d * Ideal.rsqrt (Ideal.div (∑ k, x k * x k) (Ideal.ofBits FTy.f32 0x44800000#32) + Ideal.ofBits FTy.f32 0x358637BD#32) * g d

/-- One entry of the projection: the normalised row against a column `w` of the weight. -/
def z (x g w : Fin 1024 → EReal) : EReal := ∑ d, xn x g d * w d

/-- Entry `j` of a row of eight heads of 64, each head normalised by its own root mean square. -/
def hn (y : Fin 512 → EReal) (gain : Fin 64 → EReal) (j : Fin 512) : EReal :=
  y j * Ideal.rsqrt (Ideal.div (∑ k : Fin 64, y ⟨64 * (j / 64) + k, by omega⟩ * y ⟨64 * (j / 64) + k, by omega⟩)
    (Ideal.ofBits FTy.f32 0x42800000#32) + Ideal.ofBits FTy.f32 0x358637BD#32) * gain ⟨j % 64, by omega⟩

theorem ofBits_64 : Ideal.ofBits FTy.f32 0x42800000#32 = ((64 : ℝ) : EReal) := by
  simp [Ideal.ofBits, Ideal.ieee, -EReal.coe_mul]; norm_num

theorem ofBits_inv64 : Ideal.ofBits FTy.f32 0x3C800000#32 = ((1 / 64 : ℝ) : EReal) := by
  simp [Ideal.ofBits, Ideal.ieee, -EReal.coe_mul]; norm_num

/-- A factor moves out of a sum of terms that are not negative. -/
theorem sum_mul_const {ι : Type} (s : Finset ι) (f : ι → EReal) (h : ∀ i, 0 ≤ f i) (a : EReal) :
    ∑ i ∈ s, f i * a = (∑ i ∈ s, f i) * a := by
  classical
  induction s using Finset.induction_on with
  | empty => simp
  | insert i s hi ih =>
    rw [Finset.sum_insert hi, Finset.sum_insert hi, ih,
      EReal.right_distrib_of_nonneg (h i) (Finset.sum_nonneg fun i _ => h i)]

theorem mul_self_nonneg' (a : EReal) : 0 ≤ a * a := by
  rcases le_total 0 a with h | h
  · exact mul_nonneg h h
  · have := mul_nonneg (EReal.neg_nonneg.mpr h) (EReal.neg_nonneg.mpr h)
    rwa [EReal.neg_mul, mul_comm a (-a), EReal.neg_mul, neg_neg] at this

/-- The product with the block-diagonal matrix of `1/64` is the head's mean. -/
theorem mean_eq (y : Fin 512 → EReal) (j : Fin 512) :
    ∑ k : Fin 512, y k * y k * (if k.val / 64 = j.val / 64 then Ideal.ofBits FTy.f32 0x3C800000#32 else 0)
      = Ideal.div (∑ k : Fin 64, y ⟨64 * (j / 64) + k, by omega⟩ * y ⟨64 * (j / 64) + k, by omega⟩)
        (Ideal.ofBits FTy.f32 0x42800000#32) := by
  rw [ofBits_64, Ideal.div_coe (by norm_num), ofBits_inv64, ← sum_mul_const _ _ (fun _ => mul_self_nonneg' _)]
  simp only [mul_ite, mul_zero]
  rw [← Finset.sum_filter]
  symm
  refine Finset.sum_bij (fun (k : Fin 64) _ => (⟨64 * (j / 64) + k, by omega⟩ : Fin 512)) ?_ ?_ ?_ ?_
  · intro k _
    simp only [Finset.mem_filter, Finset.mem_univ, true_and]
    omega
  · intro a _ b _ h
    have := congrArg Fin.val h
    ext
    simpa using this
  · intro b hb
    simp only [Finset.mem_filter, Finset.mem_univ, true_and] at hb
    exact ⟨⟨b - 64 * (j / 64), by omega⟩, Finset.mem_univ _, by ext; show 64 * (j.val / 64) + (b.val - 64 * (j.val / 64)) = b.val; omega⟩
  · intro k _
    rfl

theorem hn_eq (y : Fin 512 → EReal) (gain : Fin 64 → EReal) (j : Fin 512) :
    hn y gain j = y j * Ideal.rsqrt ((∑ k : Fin 512, y k * y k * (if k.val / 64 = j.val / 64 then Ideal.ofBits FTy.f32 0x3C800000#32 else 0))
      + Ideal.ofBits FTy.f32 0x358637BD#32) * gain ⟨j % 64, by omega⟩ := by
  rw [mean_eq]
  rfl

end Cert.Proof.Inproj
end
end
-- ==== Proof.InprojHost.lean ====
module

public import proofs.«01_k».proof.Proof.Gen.Kernel2Ideal.Value
public import Idealize.ShloMosaic.Lib.Pointwise
public import Idealize.ShloMosaic.Lib.Claim
public import Idealize.ShloMosaic.Lib.Pipeline.ValueKit
public import proofs.«01_k».proof.Proof.InprojSpec

@[expose] public section

set_option maxRecDepth 16384

noncomputable section

namespace Cert.Proof.Inproj

open Cert.Kernel2Ideal Cert.Kernel2Ideal.Gen Idealize.ShloMosaic Idealize.ShloMosaic.TcCoe

variable (m : (ℓ : Loc nD τ sig) → Buf (Elt Ideal) ℓ) (c : Dev nD)

theorem sitofp_zero : (FloatOps.sitofp FTy.f32 (0#32) : Ideal .f32) = (0 : EReal) := by
  simp [FloatOps.sitofp]

/-- Two small numbers compared as words. -/
theorem select_eq (a b : Nat) (ha : a < 2 ^ 32) (hb : b < 2 ^ 32) (x : EReal) :
    (Scalar.select (IntOp.cmpi .eq (BitVec.ofNat 32 a) (BitVec.ofNat 32 b)) x 0 : EReal) = if a = b then x else 0 := by
  have h : (BitVec.ofNat 32 a = BitVec.ofNat 32 b) ↔ a = b := by
    constructor
    · intro h
      have := congrArg BitVec.toNat h
      simp only [BitVec.toNat_ofNat, Nat.mod_eq_of_lt ha, Nat.mod_eq_of_lt hb] at this
      exact this
    · rintro rfl; rfl
  by_cases e : a = b
  · subst e
    simp [Scalar.select, IntOp.cmpi]
  · have hne : (BitVec.ofNat 32 a == BitVec.ofNat 32 b) = false := by
      rw [beq_eq_false_iff_ne]
      exact fun h' => e (h.mp h')
    simp [Scalar.select, IntOp.cmpi, e, hne]

/-- Two small numbers compared as signed words. -/
theorem select_slt (a b : Nat) (ha : a < 2 ^ 31) (hb : b < 2 ^ 31) (x y : EReal) :
    (Scalar.select (IntOp.cmpi .slt (BitVec.ofNat 32 a) (BitVec.ofNat 32 b)) x y : EReal) = if a < b then x else y := by
  have e : (BitVec.ofNat 32 a).slt (BitVec.ofNat 32 b) = decide (a < b) := by
    rw [BitVec.slt_eq_decide, BitVec.toInt_eq_toNat_of_lt (by simp; omega), BitVec.toInt_eq_toNat_of_lt (by simp; omega)]
    simp only [BitVec.toNat_ofNat, Nat.mod_eq_of_lt (show a < 2 ^ 32 by omega), Nat.mod_eq_of_lt (show b < 2 ^ 32 by omega)]
    simp
  by_cases h : a < b <;> simp [Scalar.select, IntOp.cmpi, e, h]

theorem V_v2 (d : Fin 1024) (j : Fin 2560) : V m c main_v2 (ix2 d j) = m ((c : Thread nD τ).loc main_arg2) (ix3 0 d ⟨j, by omega⟩) := by
  simp only [V, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v5 (d : Fin 1024) (j : Fin 128) : V m c main_v5 (ix2 d j) = if h : j.val < 72 then m ((c : Thread nD τ).loc main_arg2) (ix3 0 d ⟨2560 + j, by omega⟩) else (0 : EReal) := by
  simp only [V, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise
  split
  · rfl
  · exact sitofp_zero

theorem V_v7 (d : Fin 1024) (j : Fin 1536) : V m c main_v7 (ix2 d j) = m ((c : Thread nD τ).loc main_arg2) (ix3 0 d ⟨2632 + j, by omega⟩) := by
  simp only [V, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v9 (d : Fin 1024)  : V m c main_v9 (ix2 0 d) = m ((c : Thread nD τ).loc main_arg1) (ix2 0 d) := by
  simp only [V, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v14 (d : Fin 512)  : V m c main_v14 (ix2 0 d) = m ((c : Thread nD τ).loc main_arg3) (ix2 0 ⟨d % 64, by omega⟩) := by
  simp only [V, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise
theorem V_v19 (d : Fin 512)  : V m c main_v19 (ix2 0 d) = m ((c : Thread nD τ).loc main_arg4) (ix2 0 ⟨d % 64, by omega⟩) := by
  simp only [V, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v28 (d e : Fin 512)  : V m c main_v28 (ix2 d e) = if d.val / 64 = e.val / 64 then Ideal.ofBits FTy.f32 0x3C800000#32 else (0 : EReal) := by
  simp only [V, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise
  exact select_eq _ _ (by omega) (by omega) _

/-! The blocks a tile reads: tile `t` is half `t % 2` of batch row `t / 2`; the weights are whole. -/

theorem index_0 : ∀ t : Fin cfg0.N, win0_0.index t = ![t.val / 2, t.val % 2, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val / 2, 0, t.val % 2] := (by decide +kernel : ∀ t : Fin grid0.N, _)
theorem index_9 : ∀ t : Fin cfg0.N, win0_9.index t = ![t.val / 2, t.val % 2, 0] := (by decide +kernel : ∀ t : Fin grid0.N, _)
theorem index_10 : ∀ t : Fin cfg0.N, win0_10.index t = ![t.val / 2, t.val % 2, 0] := (by decide +kernel : ∀ t : Fin grid0.N, _)
theorem index_11 : ∀ t : Fin cfg0.N, win0_11.index t = ![t.val / 2, t.val % 2, 0] := (by decide +kernel : ∀ t : Fin grid0.N, _)
theorem index_12 : ∀ t : Fin cfg0.N, win0_12.index t = ![t.val / 2, t.val % 2, 0, 0, 0] := (by decide +kernel : ∀ t : Fin grid0.N, _)
theorem index_13 : ∀ t : Fin cfg0.N, win0_13.index t = ![t.val / 2, t.val % 2, 0] := (by decide +kernel : ∀ t : Fin grid0.N, _)
theorem index_14 : ∀ t : Fin cfg0.N, win0_14.index t = ![t.val / 2, 0, t.val % 2] := (by decide +kernel : ∀ t : Fin grid0.N, _)
theorem index_15 : ∀ t : Fin cfg0.N, win0_15.index t = ![t.val / 2, t.val % 2, 0] := (by decide +kernel : ∀ t : Fin grid0.N, _)
theorem index_16 : ∀ t : Fin cfg0.N, win0_16.index t = ![t.val / 2, 0, t.val % 2] := (by decide +kernel : ∀ t : Fin grid0.N, _)
theorem index_17 : ∀ t : Fin cfg0.N, win0_17.index t = ![t.val / 2, t.val % 2, 0] := (by decide +kernel : ∀ t : Fin grid0.N, _)
theorem index_18 : ∀ t : Fin cfg0.N, win0_18.index t = ![t.val / 2, t.val % 2, 0] := (by decide +kernel : ∀ t : Fin grid0.N, _)
theorem index_19 : ∀ t : Fin cfg0.N, win0_19.index t = ![t.val / 2, t.val % 2, 0] := (by decide +kernel : ∀ t : Fin grid0.N, _)

theorem blk0 (t : Fin cfg0.N) (r d : Fin 1024) (h0 : t.val / 2 < 16) : iblk m c 0 t (ix3 0 r d)
    = m ((c : Thread nD τ).loc main_arg0) (ix3 ⟨t.val / 2, h0⟩ ⟨1024 * (t.val % 2) + r, by omega⟩ d) := by
  blk_simp [iblk]
  refine (congrFun (V_main_arg0 m c) _).trans (congrArg _ ?_)
  blk_ext [index_0]

theorem blk1 (t : Fin cfg0.N) (d : Fin 1024) : iblk m c 1 t (ix2 0 d) = m ((c : Thread nD τ).loc main_arg1) (ix2 0 d) := by
  blk_simp [iblk]
  refine Eq.trans (congrArg _ ?_) (V_v9 m c d)
  blk_ext [index_1]

theorem blk2 (t : Fin cfg0.N) (d : Fin 1024) (j : Fin 2560) : iblk m c 2 t (ix2 d j)
    = m ((c : Thread nD τ).loc main_arg2) (ix3 0 d ⟨j, by omega⟩) := by
  blk_simp [iblk]
  refine Eq.trans (congrArg _ ?_) (V_v2 m c d j)
  blk_ext [index_2]

theorem blk3 (t : Fin cfg0.N) (d : Fin 1024) (j : Fin 128) : iblk m c 3 t (ix2 d j)
    = if h : j.val < 72 then m ((c : Thread nD τ).loc main_arg2) (ix3 0 d ⟨2560 + j, by omega⟩) else (0 : EReal) := by
  blk_simp [iblk]
  refine Eq.trans (congrArg _ ?_) (V_v5 m c d j)
  blk_ext [index_3]

theorem blk4 (t : Fin cfg0.N) (d : Fin 1024) (j : Fin 1536) : iblk m c 4 t (ix2 d j)
    = m ((c : Thread nD τ).loc main_arg2) (ix3 0 d ⟨2632 + j, by omega⟩) := by
  blk_simp [iblk]
  refine Eq.trans (congrArg _ ?_) (V_v7 m c d j)
  blk_ext [index_4]

theorem blk5 (t : Fin cfg0.N) (d : Fin 512) : iblk m c 5 t (ix2 0 d)
    = m ((c : Thread nD τ).loc main_arg3) (ix2 0 ⟨d % 64, by omega⟩) := by
  blk_simp [iblk]
  refine Eq.trans (congrArg _ ?_) (V_v14 m c d)
  blk_ext [index_5]

theorem blk6 (t : Fin cfg0.N) (d : Fin 512) : iblk m c 6 t (ix2 0 d)
    = m ((c : Thread nD τ).loc main_arg4) (ix2 0 ⟨d % 64, by omega⟩) := by
  blk_simp [iblk]
  refine Eq.trans (congrArg _ ?_) (V_v19 m c d)
  blk_ext [index_6]

theorem blk7 (t : Fin cfg0.N) (d e : Fin 512) : iblk m c 7 t (ix2 d e)
    = if d.val / 64 = e.val / 64 then Ideal.ofBits FTy.f32 0x3C800000#32 else (0 : EReal) := by
  blk_simp [iblk]
  refine Eq.trans (congrArg _ ?_) (V_v28 m c d e)
  blk_ext [index_7]

end Cert.Proof.Inproj
end
end
-- ==== Proof.InprojValue.lean ====
module

public import proofs.«01_k».proof.Proof.InprojHost

@[expose] public section

/-! The arrays the tiled input projection leaves, entry by entry. -/

set_option maxRecDepth 16384

noncomputable section

namespace Cert.Proof.Inproj

open Cert.Kernel2Ideal Cert.Kernel2Ideal.Gen Idealize.ShloMosaic Idealize.ShloMosaic.TcCoe

variable (m : (ℓ : Loc nD τ sig) → Buf (Elt Ideal) ℓ) (c : Dev nD)

/-- Entry `e` of the projection of token `s` of batch row `b`, from the launch contents of the arguments. -/
def zc (b : Fin 16) (s : Fin 2048) (e : Fin 4168) : EReal :=
  z (fun d => m ((c : Thread nD τ).loc main_arg0) (ix3 b s d)) (fun d => m ((c : Thread nD τ).loc main_arg1) (ix2 0 d))
    (fun d => m ((c : Thread nD τ).loc main_arg2) (ix3 0 d e))

theorem lt16 (t : Fin cfg0.N) : t.val / 2 < 16 := by
  have : t.val < 32 := t.isLt
  omega

theorem val_11 (t : Fin cfg0.N) (r : Fin 1024) (j : Fin 512) :
    k0_pay3 (k0_pay46 (iblk m c 0 t) (iblk m c 1 t) (iblk m c 2 t) (iblk m c 3 t) (iblk m c 4 t) (iblk m c 5 t)
      (iblk m c 6 t) (iblk m c 7 t)) (ix3 0 r j)
      = (zc m c ⟨t.val / 2, lt16 t⟩ ⟨1024 * (t.val % 2) + r, by omega⟩ ⟨1024 + j, by omega⟩) := by
  pointwise [k0_pay3, k0_pay46, k0_pay44, k0_pay13, k0_pay8]
  simp only [blk0 m c t _ _ (lt16 t), blk1, blk2, zc, z, xn]

theorem val_13 (t : Fin cfg0.N) (r : Fin 1024) (j : Fin 512) :
    k0_pay4 (k0_pay14 (k0_pay44 (iblk m c 0 t) (iblk m c 1 t) (iblk m c 2 t) (iblk m c 3 t) (iblk m c 4 t) (iblk m c 5 t)
      (iblk m c 6 t) (iblk m c 7 t)) (View.ld (iblk m c 2 t) r0_7)) (ix3 0 r j)
      = (zc m c ⟨t.val / 2, lt16 t⟩ ⟨1024 * (t.val % 2) + r, by omega⟩ ⟨1536 + j, by omega⟩) * Ideal.logistic (zc m c ⟨t.val / 2, lt16 t⟩ ⟨1024 * (t.val % 2) + r, by omega⟩ ⟨1536 + j, by omega⟩) := by
  pointwise [k0_pay4, k0_pay14, k0_pay44, k0_pay8]
  simp only [blk0 m c t _ _ (lt16 t), blk1, blk2, zc, z, xn]

theorem val_14 (t : Fin cfg0.N) (r : Fin 1024) (j : Fin 512) :
    k0_pay20 (k0_pay15 (k0_pay44 (iblk m c 0 t) (iblk m c 1 t) (iblk m c 2 t) (iblk m c 3 t) (iblk m c 4 t) (iblk m c 5 t)
      (iblk m c 6 t) (iblk m c 7 t)) (View.ld (iblk m c 2 t) r0_8)) (ix3 0 j r)
      = (zc m c ⟨t.val / 2, lt16 t⟩ ⟨1024 * (t.val % 2) + r, by omega⟩ ⟨2048 + j, by omega⟩) * Ideal.ofBits FTy.f32 0x3E000000#32 := by
  pointwise [k0_pay20, k0_pay15, k0_pay44, k0_pay8]
  simp only [blk0 m c t _ _ (lt16 t), blk1, blk2, zc, z, xn]

theorem val_15 (t : Fin cfg0.N) (r : Fin 1024) (j : Fin 128) :
    k0_pay5 (k0_pay47 (iblk m c 0 t) (iblk m c 1 t) (iblk m c 2 t) (iblk m c 3 t) (iblk m c 4 t) (iblk m c 5 t)
      (iblk m c 6 t) (iblk m c 7 t)) (ix3 0 r j)
      = if h : j.val < 72 then (zc m c ⟨t.val / 2, lt16 t⟩ ⟨1024 * (t.val % 2) + r, by omega⟩ ⟨2560 + j, by omega⟩) else (0 : EReal) := by
  pointwise [k0_pay5, k0_pay47, k0_pay44, k0_pay16, k0_pay8]
  simp only [blk0 m c t _ _ (lt16 t), blk1, blk3, zc, z, xn]
  by_cases h : j.val < 72
  · simp only [h, dite_true]
  · simp only [h, dite_false, mul_zero, Finset.sum_const_zero]

theorem val_16 (t : Fin cfg0.N) (r : Fin 1024) (j : Fin 8) :
    k0_pay21 (k0_pay47 (iblk m c 0 t) (iblk m c 1 t) (iblk m c 2 t) (iblk m c 3 t) (iblk m c 4 t) (iblk m c 5 t)
      (iblk m c 6 t) (iblk m c 7 t)) (ix3 0 j r)
      = (zc m c ⟨t.val / 2, lt16 t⟩ ⟨1024 * (t.val % 2) + r, by omega⟩ ⟨2624 + j, by omega⟩) := by
  pointwise [k0_pay21, k0_pay47, k0_pay44, k0_pay16, k0_pay8]
  simp only [blk0 m c t _ _ (lt16 t), blk1, blk3, zc, z, xn]
  have h : 64 + j.val < 72 := by omega
  simp only [h, dite_true, ← Nat.add_assoc, Nat.reduceAdd]

theorem val_17 (t : Fin cfg0.N) (r : Fin 1024) (j : Fin 128) :
    k0_pay23 (k0_pay47 (iblk m c 0 t) (iblk m c 1 t) (iblk m c 2 t) (iblk m c 3 t) (iblk m c 4 t) (iblk m c 5 t)
      (iblk m c 6 t) (iblk m c 7 t)) (ix3 0 r j)
      = (zc m c ⟨t.val / 2, lt16 t⟩ ⟨1024 * (t.val % 2) + r, by omega⟩ ⟨2560 + j % 64, by omega⟩) := by
  pointwise [k0_pay23, k0_pay47, k0_pay44, k0_pay16, k0_pay8]
  simp only [blk0 m c t _ _ (lt16 t), blk1, blk3, zc, z, xn]
  rw [select_slt _ 64 (by omega) (by omega)]
  by_cases h : j.val < 64
  · have h' : j.val < 72 := by omega
    simp only [h, h', if_true, dite_true, Nat.mod_eq_of_lt h]
  · have e : (j.val + 128 - 64) % 128 = j.val % 64 := by omega
    have h' : j.val % 64 < 72 := by omega
    simp only [h, if_false, e, h', dite_true]

theorem val_18 (t : Fin cfg0.N) (r : Fin 1024) (j : Fin 512) :
    k0_pay6 (k0_pay17 (k0_pay44 (iblk m c 0 t) (iblk m c 1 t) (iblk m c 2 t) (iblk m c 3 t) (iblk m c 4 t) (iblk m c 5 t)
      (iblk m c 6 t) (iblk m c 7 t)) (View.ld (iblk m c 4 t) r0_10) (View.ld (iblk m c 4 t) r0_11)) (ix3 0 r j)
      = (zc m c ⟨t.val / 2, lt16 t⟩ ⟨1024 * (t.val % 2) + r, by omega⟩ ⟨2632 + j, by omega⟩) * Ideal.logistic (zc m c ⟨t.val / 2, lt16 t⟩ ⟨1024 * (t.val % 2) + r, by omega⟩ ⟨3144 + j, by omega⟩) := by
  pointwise [k0_pay6, k0_pay17, k0_pay44, k0_pay8]
  simp only [blk0 m c t _ _ (lt16 t), blk1, blk4, zc, z, xn, ← Nat.add_assoc, Nat.reduceAdd]

theorem val_19 (t : Fin cfg0.N) (r : Fin 1024) (j : Fin 512) :
    k0_pay7 (k0_pay18 (k0_pay44 (iblk m c 0 t) (iblk m c 1 t) (iblk m c 2 t) (iblk m c 3 t) (iblk m c 4 t) (iblk m c 5 t)
      (iblk m c 6 t) (iblk m c 7 t)) (View.ld (iblk m c 4 t) r0_12)) (ix3 0 r j)
      = (zc m c ⟨t.val / 2, lt16 t⟩ ⟨1024 * (t.val % 2) + r, by omega⟩ ⟨3656 + j, by omega⟩) * Ideal.logistic (zc m c ⟨t.val / 2, lt16 t⟩ ⟨1024 * (t.val % 2) + r, by omega⟩ ⟨3656 + j, by omega⟩) := by
  pointwise [k0_pay7, k0_pay18, k0_pay44, k0_pay8]
  simp only [blk0 m c t _ _ (lt16 t), blk1, blk4, zc, z, xn, ← Nat.add_assoc, Nat.reduceAdd]

theorem val_9 (t : Fin cfg0.N) (r : Fin 1024) (j : Fin 512) :
    k0_pay2 (k0_pay45 (iblk m c 0 t) (iblk m c 1 t) (iblk m c 2 t) (iblk m c 3 t) (iblk m c 4 t) (iblk m c 5 t)
      (iblk m c 6 t) (iblk m c 7 t)) (ix3 0 r j)
      = hn (fun j => (zc m c ⟨t.val / 2, lt16 t⟩ ⟨1024 * (t.val % 2) + r, by omega⟩ ⟨512 + j, by omega⟩)) (fun k => m ((c : Thread nD τ).loc main_arg4) (ix2 0 k)) j := by
  rw [hn_eq]
  pointwise [k0_pay2, k0_pay45, k0_pay12, k0_pay11, k0_pay10, k0_pay8]
  simp only [blk0 m c t _ _ (lt16 t), blk1, blk2, blk6, blk7, zc, z, xn]

theorem val_10 (t : Fin cfg0.N) (r : Fin 1024) (j : Fin 512) :
    k0_pay22 (k0_pay45 (iblk m c 0 t) (iblk m c 1 t) (iblk m c 2 t) (iblk m c 3 t) (iblk m c 4 t) (iblk m c 5 t)
      (iblk m c 6 t) (iblk m c 7 t)) (ix3 0 r j)
      = hn (fun j => (zc m c ⟨t.val / 2, lt16 t⟩ ⟨1024 * (t.val % 2) + r, by omega⟩ ⟨512 + j, by omega⟩)) (fun k => m ((c : Thread nD τ).loc main_arg4) (ix2 0 k)) j := by
  rw [hn_eq]
  pointwise [k0_pay22, k0_pay45, k0_pay12, k0_pay11, k0_pay10, k0_pay8]
  simp only [blk0 m c t _ _ (lt16 t), blk1, blk2, blk6, blk7, zc, z, xn]

theorem val_8 (t : Fin cfg0.N) (r : Fin 1024) (j : Fin 512) :
    k0_pay19 (k0_pay9 (iblk m c 0 t) (iblk m c 1 t) (View.ld (iblk m c 2 t) r0_2) (iblk m c 7 t) (iblk m c 5 t)) (ix3 0 j r)
      = hn (fun j => (zc m c ⟨t.val / 2, lt16 t⟩ ⟨1024 * (t.val % 2) + r, by omega⟩ ⟨j, by omega⟩)) (fun k => m ((c : Thread nD τ).loc main_arg3) (ix2 0 k)) j * Ideal.ofBits FTy.f32 0x3E38AA3B#32 := by
  rw [hn_eq]
  pointwise [k0_pay19, k0_pay9, k0_pay8]
  simp only [blk0 m c t _ _ (lt16 t), blk1, blk2, blk5, blk7, zc, z, xn]

end Cert.Proof.Inproj
end
end
-- ==== Proof.InprojFinal.lean ====
module

public import proofs.«01_k».proof.Proof.InprojValue

@[expose] public section

/-! The arrays the tiled input projection leaves, entry by entry. -/

set_option maxRecDepth 16384

noncomputable section

namespace Cert.Proof.Inproj

open Cert.Kernel2Ideal Cert.Kernel2Ideal.Gen Idealize.ShloMosaic Idealize.ShloMosaic.TcCoe

variable (m : (ℓ : Loc nD τ sig) → Buf (Elt Ideal) ℓ) (c : Dev nD)

theorem final_8 (G) (hG : ∀ b s (j : Fin 512), G (ix3 b j s) = hn (fun j => zc m c b s ⟨j, by omega⟩) (fun k => m ((c : Thread nD τ).loc main_arg3) (ix2 0 k)) j * Ideal.ofBits FTy.f32 0x3E38AA3B#32) :
    (dats m 0 c).arrAt 8 cfg0.N = G := by
  refine (dats m 0 c).arrAt_eq_of_covers 8 _ (by decide +kernel) fun t hf y => ?_
  blk_simp
  rw [after0_8]
  frame_out
  idx_vars y
  obtain rfl : y0 = 0 := Subsingleton.elim _ _
  rw [show (((View.whole main_v29_0).slice (win0_8.rect t)).emb (ix3 0 y1 y2)) = ix3 ⟨t.val / 2, lt16 t⟩ y1 ⟨1024 * (t.val % 2) + y2, by omega⟩ by blk_ext [index_8], hG]
  exact val_8 m c t y2 y1

theorem final_9 (G) (hG : ∀ b s (j : Fin 512), G (ix3 b s j) = hn (fun j => zc m c b s ⟨512 + j, by omega⟩) (fun k => m ((c : Thread nD τ).loc main_arg4) (ix2 0 k)) j) :
    (dats m 0 c).arrAt 9 cfg0.N = G := by
  refine (dats m 0 c).arrAt_eq_of_covers 9 _ (by decide +kernel) fun t hf y => ?_
  blk_simp
  rw [after0_9]
  frame_out
  idx_vars y
  obtain rfl : y0 = 0 := Subsingleton.elim _ _
  rw [show (((View.whole main_v29_1).slice (win0_9.rect t)).emb (ix3 0 y1 y2)) = ix3 ⟨t.val / 2, lt16 t⟩ ⟨1024 * (t.val % 2) + y1, by omega⟩ y2 by blk_ext [index_9], hG]
  exact val_9 m c t y1 y2

theorem final_10 (G) (hG : ∀ b s (j : Fin 512), G (ix3 b s j) = hn (fun j => zc m c b s ⟨512 + j, by omega⟩) (fun k => m ((c : Thread nD τ).loc main_arg4) (ix2 0 k)) j) :
    (dats m 0 c).arrAt 10 cfg0.N = G := by
  refine (dats m 0 c).arrAt_eq_of_covers 10 _ (by decide +kernel) fun t hf y => ?_
  blk_simp
  rw [after0_10]
  frame_out
  idx_vars y
  obtain rfl : y0 = 0 := Subsingleton.elim _ _
  rw [show (((View.whole main_v29_2).slice (win0_10.rect t)).emb (ix3 0 y1 y2)) = ix3 ⟨t.val / 2, lt16 t⟩ ⟨1024 * (t.val % 2) + y1, by omega⟩ y2 by blk_ext [index_10], hG]
  exact val_10 m c t y1 y2

theorem final_11 (G) (hG : ∀ b s (j : Fin 512), G (ix3 b s j) = zc m c b s ⟨1024 + j, by omega⟩) :
    (dats m 0 c).arrAt 11 cfg0.N = G := by
  refine (dats m 0 c).arrAt_eq_of_covers 11 _ (by decide +kernel) fun t hf y => ?_
  blk_simp
  rw [after0_11]
  frame_out
  idx_vars y
  obtain rfl : y0 = 0 := Subsingleton.elim _ _
  rw [show (((View.whole main_v29_3).slice (win0_11.rect t)).emb (ix3 0 y1 y2)) = ix3 ⟨t.val / 2, lt16 t⟩ ⟨1024 * (t.val % 2) + y1, by omega⟩ y2 by blk_ext [index_11], hG]
  exact val_11 m c t y1 y2

theorem final_13 (G) (hG : ∀ b s (j : Fin 512), G (ix3 b s j) = zc m c b s ⟨1536 + j, by omega⟩ * Ideal.logistic (zc m c b s ⟨1536 + j, by omega⟩)) :
    (dats m 0 c).arrAt 13 cfg0.N = G := by
  refine (dats m 0 c).arrAt_eq_of_covers 13 _ (by decide +kernel) fun t hf y => ?_
  blk_simp
  rw [after0_13]
  frame_out
  idx_vars y
  obtain rfl : y0 = 0 := Subsingleton.elim _ _
  rw [show (((View.whole main_v29_5).slice (win0_13.rect t)).emb (ix3 0 y1 y2)) = ix3 ⟨t.val / 2, lt16 t⟩ ⟨1024 * (t.val % 2) + y1, by omega⟩ y2 by blk_ext [index_13], hG]
  exact val_13 m c t y1 y2

theorem final_14 (G) (hG : ∀ b s (j : Fin 512), G (ix3 b j s) = zc m c b s ⟨2048 + j, by omega⟩ * Ideal.ofBits FTy.f32 0x3E000000#32) :
    (dats m 0 c).arrAt 14 cfg0.N = G := by
  refine (dats m 0 c).arrAt_eq_of_covers 14 _ (by decide +kernel) fun t hf y => ?_
  blk_simp
  rw [after0_14]
  frame_out
  idx_vars y
  obtain rfl : y0 = 0 := Subsingleton.elim _ _
  rw [show (((View.whole main_v29_6).slice (win0_14.rect t)).emb (ix3 0 y1 y2)) = ix3 ⟨t.val / 2, lt16 t⟩ y1 ⟨1024 * (t.val % 2) + y2, by omega⟩ by blk_ext [index_14], hG]
  exact val_14 m c t y2 y1

theorem final_15 (G) (hG : ∀ b s (j : Fin 128), G (ix3 b s j) = if h : j.val < 72 then zc m c b s ⟨2560 + j, by omega⟩ else (0 : EReal)) :
    (dats m 0 c).arrAt 15 cfg0.N = G := by
  refine (dats m 0 c).arrAt_eq_of_covers 15 _ (by decide +kernel) fun t hf y => ?_
  blk_simp
  rw [after0_15]
  frame_out
  idx_vars y
  obtain rfl : y0 = 0 := Subsingleton.elim _ _
  rw [show (((View.whole main_v29_7).slice (win0_15.rect t)).emb (ix3 0 y1 y2)) = ix3 ⟨t.val / 2, lt16 t⟩ ⟨1024 * (t.val % 2) + y1, by omega⟩ y2 by blk_ext [index_15], hG]
  exact val_15 m c t y1 y2

theorem final_16 (G) (hG : ∀ b s (j : Fin 8), G (ix3 b j s) = zc m c b s ⟨2624 + j, by omega⟩) :
    (dats m 0 c).arrAt 16 cfg0.N = G := by
  refine (dats m 0 c).arrAt_eq_of_covers 16 _ (by decide +kernel) fun t hf y => ?_
  blk_simp
  rw [after0_16]
  frame_out
  idx_vars y
  obtain rfl : y0 = 0 := Subsingleton.elim _ _
  rw [show (((View.whole main_v29_8).slice (win0_16.rect t)).emb (ix3 0 y1 y2)) = ix3 ⟨t.val / 2, lt16 t⟩ y1 ⟨1024 * (t.val % 2) + y2, by omega⟩ by blk_ext [index_16], hG]
  exact val_16 m c t y2 y1

theorem final_17 (G) (hG : ∀ b s (j : Fin 128), G (ix3 b s j) = zc m c b s ⟨2560 + j % 64, by omega⟩) :
    (dats m 0 c).arrAt 17 cfg0.N = G := by
  refine (dats m 0 c).arrAt_eq_of_covers 17 _ (by decide +kernel) fun t hf y => ?_
  blk_simp
  rw [after0_17]
  frame_out
  idx_vars y
  obtain rfl : y0 = 0 := Subsingleton.elim _ _
  rw [show (((View.whole main_v29_9).slice (win0_17.rect t)).emb (ix3 0 y1 y2)) = ix3 ⟨t.val / 2, lt16 t⟩ ⟨1024 * (t.val % 2) + y1, by omega⟩ y2 by blk_ext [index_17], hG]
  exact val_17 m c t y1 y2

theorem final_18 (G) (hG : ∀ b s (j : Fin 512), G (ix3 b s j) = zc m c b s ⟨2632 + j, by omega⟩ * Ideal.logistic (zc m c b s ⟨3144 + j, by omega⟩)) :
    (dats m 0 c).arrAt 18 cfg0.N = G := by
  refine (dats m 0 c).arrAt_eq_of_covers 18 _ (by decide +kernel) fun t hf y => ?_
  blk_simp
  rw [after0_18]
  frame_out
  idx_vars y
  obtain rfl : y0 = 0 := Subsingleton.elim _ _
  rw [show (((View.whole main_v29_10).slice (win0_18.rect t)).emb (ix3 0 y1 y2)) = ix3 ⟨t.val / 2, lt16 t⟩ ⟨1024 * (t.val % 2) + y1, by omega⟩ y2 by blk_ext [index_18], hG]
  exact val_18 m c t y1 y2

theorem final_19 (G) (hG : ∀ b s (j : Fin 512), G (ix3 b s j) = zc m c b s ⟨3656 + j, by omega⟩ * Ideal.logistic (zc m c b s ⟨3656 + j, by omega⟩)) :
    (dats m 0 c).arrAt 19 cfg0.N = G := by
  refine (dats m 0 c).arrAt_eq_of_covers 19 _ (by decide +kernel) fun t hf y => ?_
  blk_simp
  rw [after0_19]
  frame_out
  idx_vars y
  obtain rfl : y0 = 0 := Subsingleton.elim _ _
  rw [show (((View.whole main_v29_11).slice (win0_19.rect t)).emb (ix3 0 y1 y2)) = ix3 ⟨t.val / 2, lt16 t⟩ ⟨1024 * (t.val % 2) + y1, by omega⟩ y2 by blk_ext [index_19], hG]
  exact val_19 m c t y1 y2

end Cert.Proof.Inproj
end
end
-- ==== Proof.InprojVt.lean ====
module

public import proofs.«01_k».proof.Proof.InprojValue

@[expose] public section

/-! The arrays the tiled input projection leaves, entry by entry. -/

set_option maxRecDepth 16384

noncomputable section

namespace Cert.Proof.Inproj

open Cert.Kernel2Ideal Cert.Kernel2Ideal.Gen Idealize.ShloMosaic Idealize.ShloMosaic.TcCoe

variable (m : (ℓ : Loc nD τ sig) → Buf (Elt Ideal) ℓ) (c : Dev nD)

theorem val_v (t : Fin cfg0.N) (r : Fin 1024) (j : Fin 512) :
    k0_pay46 (iblk m c 0 t) (iblk m c 1 t) (iblk m c 2 t) (iblk m c 3 t) (iblk m c 4 t) (iblk m c 5 t)
      (iblk m c 6 t) (iblk m c 7 t) (ix2 r j)
      = zc m c ⟨t.val / 2, lt16 t⟩ ⟨1024 * (t.val % 2) + r, by omega⟩ ⟨1024 + j, by omega⟩ := by
  pointwise [k0_pay46, k0_pay44, k0_pay13, k0_pay8]
  simp only [blk0 m c t _ _ (lt16 t), blk1, blk2, zc, z, xn]

set_option maxHeartbeats 1000000 in
/-- The sixteen blocks a tile stores are the blocks of the transposed values. -/
theorem val_12 (t : Fin cfg0.N) (a b : Fin 4) (r : Fin 144) (j : Fin 256) :
    out0_12 (iblk m c 0 t) (iblk m c 1 t) (iblk m c 2 t) (iblk m c 3 t) (iblk m c 4 t) (iblk m c 5 t)
      (iblk m c 6 t) (iblk m c 7 t) (ix5 0 a b r j)
      = if h : r.val < 128 then zc m c ⟨t.val / 2, lt16 t⟩ ⟨1024 * (t.val % 2) + (256 * a + j), by omega⟩ ⟨1024 + (128 * b + r), by omega⟩
        else if r.val < 136 then (1 : EReal) else (0 : EReal) := by
  canon_tiles x h
  all_goals
    idx_vars x
    pointwise [k0_pay1, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay48, k0_pay49]
    by_cases hr : x3.val < 128
    · rw [dif_pos hr, dif_pos (show r.val < 128 by omega)]
      refine (val_v m c t _ _).trans ?_
      congr 1 <;> (apply Fin.ext; simp only; omega)
    · rw [dif_neg hr, dif_neg (show ¬ r.val < 128 by omega)]
      refine (select_slt _ 8 (by omega) (by omega) _ _).trans ?_
      by_cases h8 : r.val < 136
      · rw [if_pos (by omega), if_pos h8]
      · rw [if_neg (by omega), if_neg h8]

theorem final_12 (G) (hG : ∀ b (s : Fin 8) (p : Fin 4) (r : Fin 144) (j : Fin 256), G (ix5 b s p r j)
    = if h : r.val < 128 then zc m c b ⟨256 * s + j, by omega⟩ ⟨1024 + (128 * p + r), by omega⟩
        else if r.val < 136 then (1 : EReal) else (0 : EReal)) :
    (dats m 0 c).arrAt 12 cfg0.N = G := by
  refine (dats m 0 c).arrAt_eq_of_covers 12 _ (by decide +kernel) fun t hf y => ?_
  blk_simp
  rw [after0_12]
  idx_vars y
  obtain rfl : y0 = 0 := Subsingleton.elim _ _
  rw [show (((View.whole main_v29_4).slice (win0_12.rect t)).emb (ix5 0 y1 y2 y3 y4)) = ix5 ⟨t.val / 2, lt16 t⟩ ⟨4 * (t.val % 2) + y1, by omega⟩ y2 y3 y4 by blk_ext [index_12], hG]
  refine (val_12 m c t y1 y2 y3 y4).trans ?_
  split
  · congr 2
    simp only
    omega
  · rfl

end Cert.Proof.Inproj
end
end
-- ==== Proof.InprojRef.lean ====
module

public import proofs.«01_k».proof.Proof.InprojSpec
public import proofs.«01_k».proof.Proof.Gen.Reference2Ideal.Run

@[expose] public section

/-! The plain input projection, entry by entry. -/

set_option maxRecDepth 16384

noncomputable section

namespace Cert.Proof.Inproj.Ref

open Cert.Reference2Ideal Cert.Reference2Ideal.Gen Cert.Reference2Ideal.Value Idealize.ShloMosaic Idealize.ShloMosaic.TcCoe

variable (m : (ℓ : Loc nD τ sig) → Buf (Elt Ideal) ℓ) (c : Dev nD)

/-- Entry `e` of the reference's projection of token `s` of batch row `b`. -/
def zc (b : Fin 16) (s : Fin 2048) (e : Fin 4168) : EReal :=
  z (fun d => m ((c : Thread nD τ).loc main_arg0) (ix3 b s d)) (fun d => m ((c : Thread nD τ).loc main_arg1) (ix2 0 d))
    (fun d => m ((c : Thread nD τ).loc main_arg2) (ix3 0 d e))

/-- The sums of squares of the tokens. -/
def sqR (A : FVec Ideal S16x2048x1024 .f32) : FVec Ideal S16x2048 .f32 :=
  Host.reduceAdd (mulf A A) (constant S_ .f32 0x00000000#32) reducesTo_S16x2048x1024_S16x2048_d2 h_S_

/-- The tokens after the reference's first normalisation. -/
def nR (A : FVec Ideal S16x2048x1024 .f32) (g : FVec Ideal S1x1024 .f32) : FVec Ideal S16x2048x1024 .f32 :=
  mulf (mulf A (broadcastInDim S16x2048x1024 ![0, 1, 2] bcast_S16x2048x1_S16x2048x1024_0_1_2 (Host.rsqrt (addf (Host.divf (broadcastInDim S16x2048x1 ![0, 1] bcast_S16x2048_S16x2048x1_0_1 (sqR A)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ g shapeCasts_S1x1024_S1024)))

theorem sqR_apply (A : FVec Ideal S16x2048x1024 .f32) (b : Fin 16) (s : Fin 2048) :
    sqR A (ix2 b s) = ∑ k : Fin 1024, A (ix3 b s k) * A (ix3 b s k) := by
  pointwise [sqR]

theorem nR_apply (A : FVec Ideal S16x2048x1024 .f32) (g : FVec Ideal S1x1024 .f32) (b : Fin 16) (s : Fin 2048) (d : Fin 1024) :
    nR A g (ix3 b s d) = xn (fun d => A (ix3 b s d)) (fun d => g (ix2 0 d)) d := by
  pointwise [nR, sqR_apply]
  simp only [xn]

/-- The tokens after the reference's first normalisation, at the arguments. -/
def xR : FVec Ideal S16x2048x1024 .f32 :=
  nR (m ((c.tc : Thread nD τ).loc main_arg0)) (m ((c.tc : Thread nD τ).loc main_arg1))

/-- The weight as the reference takes it. -/
def wR : FVec Ideal S1024x4168 .f32 :=
  (shapeCast _ (m ((c.tc : Thread nD τ).loc main_arg2)) shapeCasts_S1x1024x4168_S1024x4168)

/-- The reference's projection of all tokens, from which each result is cut. -/
def zR : FVec Ideal S16x2048x4168 .f32 :=
  Host.dotGeneral (φ₂ := .f32) dot_S16x2048x1024_S1024x4168_S16x2048x4168_2_0_01_1_n_n none (xR m c) (wR m c)

theorem xR_apply (b : Fin 16) (s : Fin 2048) (d : Fin 1024) : xR m c (ix3 b s d)
    = xn (fun d => m ((c : Thread nD τ).loc main_arg0) (ix3 b s d)) (fun d => m ((c : Thread nD τ).loc main_arg1) (ix2 0 d)) d := by
  exact nR_apply _ _ b s d

/-- The weight without its leading axis. -/
theorem cast_apply (W : FVec Ideal S1x1024x4168 .f32) (d : Fin 1024) (e : Fin 4168) :
    shapeCast S1024x4168 W shapeCasts_S1x1024x4168_S1024x4168 (ix2 d e) = W (ix3 0 d e) := by
  pointwise []

theorem wR_apply (d : Fin 1024) (e : Fin 4168) : wR m c (ix2 d e) = m ((c : Thread nD τ).loc main_arg2) (ix3 0 d e) := by
  exact cast_apply _ d e

/-- The reference's product over all 1024 columns, at an index. -/
theorem dot_apply (A : FVec Ideal S16x2048x1024 .f32) (B : FVec Ideal S1024x4168 .f32) (b : Fin 16) (s : Fin 2048) (e : Fin 4168) :
    Host.dotGeneral dot_S16x2048x1024_S1024x4168_S16x2048x4168_2_0_01_1_n_n none A B (ix3 b s e) = ∑ k : Fin 1024, A (ix3 b s k) * B (ix2 k e) := by
  unfold Host.dotGeneral
  rw [Ideal.dotGeneral_def, Ideal.matmul_apply₁ _ rfl rfl, zero_add]
  refine Finset.sum_congr rfl fun k _ => ?_
  congr 1
  · refine congrArg A ?_
    funext a
    fin_cases a <;> rfl
  · refine congrArg B ?_
    funext a
    fin_cases a <;> rfl

theorem zR_apply (b : Fin 16) (s : Fin 2048) (e : Fin 4168) : zR m c (ix3 b s e) = zc m c b s e := by
  refine (dot_apply _ _ b s e).trans ?_
  simp only [xR_apply, wR_apply, zc, z]

/-- Result 0 of the reference. -/
def r0 : FVec Ideal S16x512x2048 .bf16 :=
  truncf .bf16 (transpose S16x512x2048 [0, 2, 1] (mulf (shapeCast _ (mulf (mulf (shapeCast _ (extractStridedSlice S16x2048x512 ![0, 0, 0] (zR m c) slices_S16x2048x4168_S16x2048x512_0_0_0) shapeCasts_S16x2048x512_S16x2048x8x64) (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf (shapeCast _ (extractStridedSlice S16x2048x512 ![0, 0, 0] (zR m c) slices_S16x2048x4168_S16x2048x512_0_0_0) shapeCasts_S16x2048x512_S16x2048x8x64) (shapeCast _ (extractStridedSlice S16x2048x512 ![0, 0, 0] (zR m c) slices_S16x2048x4168_S16x2048x512_0_0_0) shapeCasts_S16x2048x512_S16x2048x8x64)) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 (shapeCast _ (m ((c.tc : Thread nD τ).loc main_arg3)) shapeCasts_S1x64_S64)))) shapeCasts_S16x2048x8x64_S16x2048x512) (broadcastInDim S16x2048x512 ![] bcast_S_S16x2048x512 (constant S_ .f32 0x3E38AA3B#32))) transposes_S16x2048x512_S16x512x2048_0_2_1) bitsLt_bf16_f32

theorem r0_apply (b : Fin 16) (s : Fin 2048) (j : Fin 512) : r0 m c (ix3 b j s) = hn (fun j => zc m c b s ⟨j, by omega⟩) (fun k => m ((c : Thread nD τ).loc main_arg3) (ix2 0 k)) j * Ideal.ofBits FTy.f32 0x3E38AA3B#32 := by
  pointwise [r0]
  simp only [zR_apply, hn, Nat.mul_comm (_ / 64) 64]

/-- Result 1 of the reference. -/
def r1 : FVec Ideal S16x2048x512 .f32 :=
  shapeCast _ (mulf (mulf (shapeCast _ (extractStridedSlice S16x2048x512 ![0, 0, 512] (zR m c) slices_S16x2048x4168_S16x2048x512_0_0_512) shapeCasts_S16x2048x512_S16x2048x8x64) (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf (shapeCast _ (extractStridedSlice S16x2048x512 ![0, 0, 512] (zR m c) slices_S16x2048x4168_S16x2048x512_0_0_512) shapeCasts_S16x2048x512_S16x2048x8x64) (shapeCast _ (extractStridedSlice S16x2048x512 ![0, 0, 512] (zR m c) slices_S16x2048x4168_S16x2048x512_0_0_512) shapeCasts_S16x2048x512_S16x2048x8x64)) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 (shapeCast _ (m ((c.tc : Thread nD τ).loc main_arg4)) shapeCasts_S1x64_S64)))) shapeCasts_S16x2048x8x64_S16x2048x512

theorem r1_apply (b : Fin 16) (s : Fin 2048) (j : Fin 512) : r1 m c (ix3 b s j) = hn (fun j => zc m c b s ⟨512 + j, by omega⟩) (fun k => m ((c : Thread nD τ).loc main_arg4) (ix2 0 k)) j := by
  pointwise [r1]
  simp only [zR_apply, hn, Nat.mul_comm (_ / 64) 64]

/-- Result 2 of the reference. -/
def r2 : FVec Ideal S16x2048x512 .bf16 :=
  truncf .bf16 (shapeCast _ (mulf (mulf (shapeCast _ (extractStridedSlice S16x2048x512 ![0, 0, 512] (zR m c) slices_S16x2048x4168_S16x2048x512_0_0_512) shapeCasts_S16x2048x512_S16x2048x8x64) (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf (shapeCast _ (extractStridedSlice S16x2048x512 ![0, 0, 512] (zR m c) slices_S16x2048x4168_S16x2048x512_0_0_512) shapeCasts_S16x2048x512_S16x2048x8x64) (shapeCast _ (extractStridedSlice S16x2048x512 ![0, 0, 512] (zR m c) slices_S16x2048x4168_S16x2048x512_0_0_512) shapeCasts_S16x2048x512_S16x2048x8x64)) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 (shapeCast _ (m ((c.tc : Thread nD τ).loc main_arg4)) shapeCasts_S1x64_S64)))) shapeCasts_S16x2048x8x64_S16x2048x512) bitsLt_bf16_f32

theorem r2_apply (b : Fin 16) (s : Fin 2048) (j : Fin 512) : r2 m c (ix3 b s j) = hn (fun j => zc m c b s ⟨512 + j, by omega⟩) (fun k => m ((c : Thread nD τ).loc main_arg4) (ix2 0 k)) j := by
  pointwise [r2]
  simp only [zR_apply, hn, Nat.mul_comm (_ / 64) 64]

/-- Result 3 of the reference. -/
def r3 : FVec Ideal S16x2048x512 .f32 :=
  shapeCast _ (shapeCast _ (extractStridedSlice S16x2048x512 ![0, 0, 1024] (zR m c) slices_S16x2048x4168_S16x2048x512_0_0_1024) shapeCasts_S16x2048x512_S16x2048x8x64) shapeCasts_S16x2048x8x64_S16x2048x512

theorem r3_apply (b : Fin 16) (s : Fin 2048) (j : Fin 512) : r3 m c (ix3 b s j) = zc m c b s ⟨1024 + j, by omega⟩ := by
  pointwise [r3]
  simp only [zR_apply]

/-- Result 4 of the reference. -/
def r4 : FVec Ideal S16x8x4x144x256 .bf16 :=
  truncf .bf16 ((concatenate S16x8x4x144x256 3 [⟨S16x8x4x128x256, ((transpose S16x8x4x128x256 [0, 1, 3, 4, 2] (shapeCast _ (shapeCast _ (shapeCast _ (extractStridedSlice S16x2048x512 ![0, 0, 1024] (zR m c) slices_S16x2048x4168_S16x2048x512_0_0_1024) shapeCasts_S16x2048x512_S16x2048x8x64) shapeCasts_S16x2048x8x64_S16x2048x512) shapeCasts_S16x2048x512_S16x8x256x4x128) transposes_S16x8x256x4x128_S16x8x4x128x256_0_1_3_4_2) : FVec Ideal S16x8x4x128x256 .f32)⟩, ⟨S16x8x4x8x256, ((broadcastInDim S16x8x4x8x256 ![] bcast_S_S16x8x4x8x256 (constant S_ .f32 0x3F800000#32)) : FVec Ideal S16x8x4x8x256 .f32)⟩, ⟨S16x8x4x8x256, ((broadcastInDim S16x8x4x8x256 ![] bcast_S_S16x8x4x8x256 (constant S_ .f32 0x00000000#32)) : FVec Ideal S16x8x4x8x256 .f32)⟩] concatenates_S16x8x4x128x256_S16x8x4x8x256_S16x8x4x8x256_S16x8x4x144x256_d3 : FVec Ideal S16x8x4x144x256 .f32)) bitsLt_bf16_f32

theorem r4_apply (b : Fin 16) (s : Fin 8) (p : Fin 4) (r : Fin 144) (j : Fin 256) : r4 m c (ix5 b s p r j)
    = if h : r.val < 128 then zc m c b ⟨256 * s + j, by omega⟩ ⟨1024 + (128 * p + r), by omega⟩
        else if r.val < 136 then (1 : EReal) else (0 : EReal) := by
  pointwise [r4]
  simp only [zR_apply, Nat.mul_comm _ 256, Nat.mul_comm _ 128]
  by_cases h : r.val < 128
  · simp only [h, dite_true]
  · have e : r.val - 128 < 8 ↔ r.val < 136 := by omega
    simp only [h, dite_false, e, dite_eq_ite]

/-- Result 5 of the reference. -/
def r5 : FVec Ideal S16x2048x512 .f32 :=
  mulf (extractStridedSlice S16x2048x512 ![0, 0, 1536] (zR m c) slices_S16x2048x4168_S16x2048x512_0_0_1536) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 1536] (zR m c) slices_S16x2048x4168_S16x2048x512_0_0_1536)))))

theorem r5_apply (b : Fin 16) (s : Fin 2048) (j : Fin 512) : r5 m c (ix3 b s j) = zc m c b s ⟨1536 + j, by omega⟩ * Ideal.logistic (zc m c b s ⟨1536 + j, by omega⟩) := by
  pointwise [r5]
  simp only [zR_apply, Ideal.logistic]

/-- Result 6 of the reference. -/
def r6 : FVec Ideal S16x512x2048 .bf16 :=
  truncf .bf16 (transpose S16x512x2048 [0, 2, 1] (mulf (extractStridedSlice S16x2048x512 ![0, 0, 2048] (zR m c) slices_S16x2048x4168_S16x2048x512_0_0_2048) (broadcastInDim S16x2048x512 ![] bcast_S_S16x2048x512 (constant S_ .f32 0x3E000000#32))) transposes_S16x2048x512_S16x512x2048_0_2_1) bitsLt_bf16_f32

theorem r6_apply (b : Fin 16) (s : Fin 2048) (j : Fin 512) : r6 m c (ix3 b j s) = zc m c b s ⟨2048 + j, by omega⟩ * Ideal.ofBits FTy.f32 0x3E000000#32 := by
  pointwise [r6]
  simp only [zR_apply]

/-- Result 7 of the reference. -/
def r7 : FVec Ideal S16x2048x128 .f32 :=
  (concatenate S16x2048x128 2 [⟨S16x2048x64, ((extractStridedSlice S16x2048x64 ![0, 0, 2560] (zR m c) slices_S16x2048x4168_S16x2048x64_0_0_2560) : FVec Ideal S16x2048x64 .f32)⟩, ⟨S16x2048x8, ((extractStridedSlice S16x2048x8 ![0, 0, 2624] (zR m c) slices_S16x2048x4168_S16x2048x8_0_0_2624) : FVec Ideal S16x2048x8 .f32)⟩, ⟨S16x2048x56, ((broadcastInDim S16x2048x56 ![] bcast_S_S16x2048x56 (constant S_ .f32 0x00000000#32)) : FVec Ideal S16x2048x56 .f32)⟩] concatenates_S16x2048x64_S16x2048x8_S16x2048x56_S16x2048x128_d2 : FVec Ideal S16x2048x128 .f32)

theorem r7_apply (b : Fin 16) (s : Fin 2048) (j : Fin 128) : r7 m c (ix3 b s j) = if h : j.val < 72 then zc m c b s ⟨2560 + j, by omega⟩ else (0 : EReal) := by
  pointwise [r7]
  simp only [zR_apply]
  by_cases h : j.val < 64
  · have h' : j.val < 72 := by omega
    simp only [h, h', dite_true]
  · by_cases h' : j.val < 72
    · have e : j.val - 64 < 8 := by omega
      have e' : 2624 + (j.val - 64) = 2560 + j.val := by omega
      simp only [h, h', e, e', dite_true, dite_false]
    · have e : ¬ j.val - 64 < 8 := by omega
      simp only [h, h', e, dite_false]

/-- Result 8 of the reference. -/
def r8 : FVec Ideal S16x8x2048 .f32 :=
  transpose S16x8x2048 [0, 2, 1] (extractStridedSlice S16x2048x8 ![0, 0, 2624] (zR m c) slices_S16x2048x4168_S16x2048x8_0_0_2624) transposes_S16x2048x8_S16x8x2048_0_2_1

theorem r8_apply (b : Fin 16) (s : Fin 2048) (j : Fin 8) : r8 m c (ix3 b j s) = zc m c b s ⟨2624 + j, by omega⟩ := by
  pointwise [r8]
  simp only [zR_apply]

/-- Result 9 of the reference. -/
def r9 : FVec Ideal S16x2048x128 .bf16 :=
  truncf .bf16 (concatenate S16x2048x128 2 [⟨S16x2048x64, (extractStridedSlice S16x2048x64 ![0, 0, 2560] (zR m c) slices_S16x2048x4168_S16x2048x64_0_0_2560)⟩, ⟨S16x2048x64, (extractStridedSlice S16x2048x64 ![0, 0, 2560] (zR m c) slices_S16x2048x4168_S16x2048x64_0_0_2560)⟩] concatenates_S16x2048x64_S16x2048x64_S16x2048x128_d2) bitsLt_bf16_f32

theorem r9_apply (b : Fin 16) (s : Fin 2048) (j : Fin 128) : r9 m c (ix3 b s j) = zc m c b s ⟨2560 + j % 64, by omega⟩ := by
  pointwise [r9]
  simp only [zR_apply]
  by_cases h : j.val < 64
  · simp only [h, dite_true, Nat.mod_eq_of_lt h]
  · have e : j.val - 64 = j.val % 64 := by omega
    simp only [h, dite_false, e]

/-- Result 10 of the reference. -/
def r10 : FVec Ideal S16x2048x512 .f32 :=
  mulf (extractStridedSlice S16x2048x512 ![0, 0, 2632] (zR m c) slices_S16x2048x4168_S16x2048x512_0_0_2632) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 3144] (zR m c) slices_S16x2048x4168_S16x2048x512_0_0_3144)))))

theorem r10_apply (b : Fin 16) (s : Fin 2048) (j : Fin 512) : r10 m c (ix3 b s j) = zc m c b s ⟨2632 + j, by omega⟩ * Ideal.logistic (zc m c b s ⟨3144 + j, by omega⟩) := by
  pointwise [r10]
  simp only [zR_apply, Ideal.logistic]

/-- Result 11 of the reference. -/
def r11 : FVec Ideal S16x2048x512 .f32 :=
  mulf (extractStridedSlice S16x2048x512 ![0, 0, 3656] (zR m c) slices_S16x2048x4168_S16x2048x512_0_0_3656) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 3656] (zR m c) slices_S16x2048x4168_S16x2048x512_0_0_3656)))))

theorem r11_apply (b : Fin 16) (s : Fin 2048) (j : Fin 512) : r11 m c (ix3 b s j) = zc m c b s ⟨3656 + j, by omega⟩ * Ideal.logistic (zc m c b s ⟨3656 + j, by omega⟩) := by
  pointwise [r11]
  simp only [zR_apply, Ideal.logistic]

end Cert.Proof.Inproj.Ref
end
end
-- ==== Proof.InprojClaim.lean ====
module

public import proofs.«01_k».proof.Defs
public import proofs.«01_k».proof.Proof.InprojFinal
public import proofs.«01_k».proof.Proof.InprojVt
public import proofs.«01_k».proof.Proof.InprojRef
public import proofs.«01_k».proof.Proof.Gen.Kernel2Ideal.Value

@[expose] public section

/-! The input projection returns what its plain form returns. -/

set_option maxRecDepth 16384

noncomputable section

namespace Cert.Proof.Inproj

open Idealize.ShloMosaic Idealize.ShloMosaic.TcCoe Idealize.SL.Sem

/-- The two memories hold the same five arguments. -/
def Agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) : Prop :=
  ∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)

variable {m : (ℓ : Loc Cert.Kernel2Ideal.nD Cert.Kernel2Ideal.τ Cert.Kernel2Ideal.sig) → Buf (Elt Ideal) ℓ}
variable {m' : (ℓ : Loc Cert.Reference2Ideal.nD Cert.Reference2Ideal.τ Cert.Reference2Ideal.sig) → Buf (Elt Ideal) ℓ}

/-- The projection's entries are the same on both sides. -/
theorem zc_agree (h : Agree m m') {c : Dev Cert.Kernel2Ideal.nD} (b : Fin 16) (s : Fin 2048) (e : Fin 4168) : Ref.zc m' c b s e = zc m c b s e := by
  obtain ⟨h0, h1, h2, -, -⟩ := h c
  unfold Ref.zc zc
  rw [h0, h1, h2]

theorem e0 (h : Agree m m') (c : Dev Cert.Kernel2Ideal.nD) : Ref.r0 m' c = (Cert.Kernel2Ideal.Gen.dats m 0 c).arrAt 8 Cert.Kernel2Ideal.cfg0.N :=
  (final_8 m c (Ref.r0 m' c) fun b s j => (Ref.r0_apply m' c b s j).trans (by
    simp only [zc_agree h, (h c).2.2.2.1])).symm

theorem e1 (h : Agree m m') (c : Dev Cert.Kernel2Ideal.nD) : Ref.r1 m' c = (Cert.Kernel2Ideal.Gen.dats m 0 c).arrAt 9 Cert.Kernel2Ideal.cfg0.N :=
  (final_9 m c (Ref.r1 m' c) fun b s j => (Ref.r1_apply m' c b s j).trans (by
    simp only [zc_agree h, (h c).2.2.2.2])).symm

theorem e2 (h : Agree m m') (c : Dev Cert.Kernel2Ideal.nD) : Ref.r2 m' c = (Cert.Kernel2Ideal.Gen.dats m 0 c).arrAt 10 Cert.Kernel2Ideal.cfg0.N :=
  (final_10 m c (Ref.r2 m' c) fun b s j => (Ref.r2_apply m' c b s j).trans (by
    simp only [zc_agree h, (h c).2.2.2.2])).symm

theorem e3 (h : Agree m m') (c : Dev Cert.Kernel2Ideal.nD) : Ref.r3 m' c = (Cert.Kernel2Ideal.Gen.dats m 0 c).arrAt 11 Cert.Kernel2Ideal.cfg0.N :=
  (final_11 m c (Ref.r3 m' c) fun b s j => (Ref.r3_apply m' c b s j).trans (by
    simp only [zc_agree h])).symm

theorem e4 (h : Agree m m') (c : Dev Cert.Kernel2Ideal.nD) : Ref.r4 m' c = (Cert.Kernel2Ideal.Gen.dats m 0 c).arrAt 12 Cert.Kernel2Ideal.cfg0.N :=
  (final_12 m c (Ref.r4 m' c) fun b s p r j => (Ref.r4_apply m' c b s p r j).trans (by
    simp only [zc_agree h])).symm

theorem e5 (h : Agree m m') (c : Dev Cert.Kernel2Ideal.nD) : Ref.r5 m' c = (Cert.Kernel2Ideal.Gen.dats m 0 c).arrAt 13 Cert.Kernel2Ideal.cfg0.N :=
  (final_13 m c (Ref.r5 m' c) fun b s j => (Ref.r5_apply m' c b s j).trans (by
    simp only [zc_agree h])).symm

theorem e6 (h : Agree m m') (c : Dev Cert.Kernel2Ideal.nD) : Ref.r6 m' c = (Cert.Kernel2Ideal.Gen.dats m 0 c).arrAt 14 Cert.Kernel2Ideal.cfg0.N :=
  (final_14 m c (Ref.r6 m' c) fun b s j => (Ref.r6_apply m' c b s j).trans (by
    simp only [zc_agree h])).symm

theorem e7 (h : Agree m m') (c : Dev Cert.Kernel2Ideal.nD) : Ref.r7 m' c = (Cert.Kernel2Ideal.Gen.dats m 0 c).arrAt 15 Cert.Kernel2Ideal.cfg0.N :=
  (final_15 m c (Ref.r7 m' c) fun b s j => (Ref.r7_apply m' c b s j).trans (by
    simp only [zc_agree h])).symm

theorem e8 (h : Agree m m') (c : Dev Cert.Kernel2Ideal.nD) : Ref.r8 m' c = (Cert.Kernel2Ideal.Gen.dats m 0 c).arrAt 16 Cert.Kernel2Ideal.cfg0.N :=
  (final_16 m c (Ref.r8 m' c) fun b s j => (Ref.r8_apply m' c b s j).trans (by
    simp only [zc_agree h])).symm

theorem e9 (h : Agree m m') (c : Dev Cert.Kernel2Ideal.nD) : Ref.r9 m' c = (Cert.Kernel2Ideal.Gen.dats m 0 c).arrAt 17 Cert.Kernel2Ideal.cfg0.N :=
  (final_17 m c (Ref.r9 m' c) fun b s j => (Ref.r9_apply m' c b s j).trans (by
    simp only [zc_agree h])).symm

theorem e10 (h : Agree m m') (c : Dev Cert.Kernel2Ideal.nD) : Ref.r10 m' c = (Cert.Kernel2Ideal.Gen.dats m 0 c).arrAt 18 Cert.Kernel2Ideal.cfg0.N :=
  (final_18 m c (Ref.r10 m' c) fun b s j => (Ref.r10_apply m' c b s j).trans (by
    simp only [zc_agree h])).symm

theorem e11 (h : Agree m m') (c : Dev Cert.Kernel2Ideal.nD) : Ref.r11 m' c = (Cert.Kernel2Ideal.Gen.dats m 0 c).arrAt 19 Cert.Kernel2Ideal.cfg0.N :=
  (final_19 m c (Ref.r11 m' c) fun b s j => (Ref.r11_apply m' c b s j).trans (by
    simp only [zc_agree h])).symm

/-- Every one of the twelve arrays the input projection returns is the reference's, over the extended reals. -/
theorem value : Cert.algebraic_Kernel2Ideal_Reference2Ideal := by
  intro m g m' g' _ h
  refine ⟨_, _, _, _, _, _, _, _, _, _, _, _, Cert.Kernel2Ideal.Value.run_blocks m g, ?_⟩
  refine Idealize.ShloMosaic.θ_run_mono (Cert.Reference2Ideal.Value.run m' g') ?_
  intro r hr c
  obtain ⟨h0, h1, h2, h3, h4, h5, h6, h7, h8, h9, h10, h11, ha⟩ := hr c
  exact ⟨h0.trans (e0 h c), h1.trans (e1 h c), h2.trans (e2 h c), h3.trans (e3 h c), h4.trans (e4 h c), h5.trans (e5 h c), h6.trans (e6 h c), h7.trans (e7 h c), h8.trans (e8 h c), h9.trans (e9 h c), h10.trans (e10 h c), h11.trans (e11 h c), ha⟩

end Cert.Proof.Inproj
-- ==== Proof.MergeSpec.lean ====
module

public import Idealize.ShloMosaic.Lib.Pointwise

@[expose] public section

/-! The merge at the end of a layer, entry by entry over the extended reals: a depthwise convolution of 31 taps, a
    layer normalisation, the swish, and the product of the mixed row with the output weight. -/

set_option maxRecDepth 16384

noncomputable section

namespace Cert.Proof.Merge

open Idealize.ShloMosaic

/-- The convolution at one position of one channel: 31 window entries against 31 taps, and the bias. -/
def taps (u k : Fin 31 → EReal) (b : EReal) : EReal := (∑ w, u w * k w) + b

/-- The mean of a row of 512. -/
def mean (y : Fin 512 → EReal) : EReal := Ideal.div (∑ k, y k) (Ideal.ofBits FTy.f32 0x44000000#32)

/-- Entry `j` of a row of 512 after the layer normalisation with gain `g` and offset `b`. -/
def ln (y g b : Fin 512 → EReal) (j : Fin 512) : EReal :=
  (y j - mean y) * Ideal.rsqrt (mean (fun k => (y k - mean y) * (y k - mean y)) + Ideal.ofBits FTy.f32 0x358637BD#32) * g j + b j

/-- The swish of a normalised entry. -/
def act (y g b : Fin 512 → EReal) (j : Fin 512) : EReal := ln y g b j * Ideal.logistic (ln y g b j)

/-- One entry of the layer's result: the residual, the attention's half and the convolution's half of the product. -/
def out (x : EReal) (a cg : Fin 512 → EReal) (w : Fin 1024 → EReal) : EReal :=
  x + (∑ k : Fin 512, a k * w ⟨k, by omega⟩) + ∑ k : Fin 512, cg k * w ⟨512 + k, by omega⟩

/-- A sum over 1024 terms that are given by halves. -/
theorem sum_halves (f : Fin 1024 → EReal) :
    ∑ k, f k = (∑ k : Fin 512, f ⟨k, by omega⟩) + ∑ k : Fin 512, f ⟨512 + k, by omega⟩ :=
  Fin.sum_univ_add (a := 512) (b := 512) f

/-- 31 terms added one after another. -/
theorem sum31 (f : Fin 31 → EReal) : ∑ w, f w =
    f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 + f 25 + f 26 + f 27 + f 28 + f 29 + f 30 := by
  simp only [Fin.sum_univ_castSucc, Fin.sum_univ_zero, zero_add]
  rfl

/-- The convolution of a row, normalised and passed through the swish: `u j` is the window of channel `j`, `dw` the taps. -/
def conv (u : Fin 512 → Fin 31 → EReal) (dw : Fin 31 → Fin 512 → EReal) (b lng lnb : Fin 512 → EReal) (k : Fin 512) : EReal :=
  act (fun j => taps (u j) (fun w => dw w j) (b j)) lng lnb k

/-- The bias first and then the taps in order. -/
theorem taps_first (u k : Fin 31 → EReal) (b : EReal) : taps u k b =
    b + u 0 * k 0 + u 1 * k 1 + u 2 * k 2 + u 3 * k 3 + u 4 * k 4 + u 5 * k 5 + u 6 * k 6 + u 7 * k 7 + u 8 * k 8 + u 9 * k 9
      + u 10 * k 10 + u 11 * k 11 + u 12 * k 12 + u 13 * k 13 + u 14 * k 14 + u 15 * k 15 + u 16 * k 16 + u 17 * k 17
      + u 18 * k 18 + u 19 * k 19 + u 20 * k 20 + u 21 * k 21 + u 22 * k 22 + u 23 * k 23 + u 24 * k 24 + u 25 * k 25
      + u 26 * k 26 + u 27 * k 27 + u 28 * k 28 + u 29 * k 29 + u 30 * k 30 := by
  rw [taps, sum31]
  ac_rfl

/-- The bias, then the newest entry, then the other taps in order. -/
theorem taps_last (u k : Fin 31 → EReal) (b : EReal) : taps u k b =
    b + u 30 * k 30 + u 0 * k 0 + u 1 * k 1 + u 2 * k 2 + u 3 * k 3 + u 4 * k 4 + u 5 * k 5 + u 6 * k 6 + u 7 * k 7 + u 8 * k 8
      + u 9 * k 9 + u 10 * k 10 + u 11 * k 11 + u 12 * k 12 + u 13 * k 13 + u 14 * k 14 + u 15 * k 15 + u 16 * k 16
      + u 17 * k 17 + u 18 * k 18 + u 19 * k 19 + u 20 * k 20 + u 21 * k 21 + u 22 * k 22 + u 23 * k 23 + u 24 * k 24
      + u 25 * k 25 + u 26 * k 26 + u 27 * k 27 + u 28 * k 28 + u 29 * k 29 := by
  rw [taps, sum31]
  ac_rfl

end Cert.Proof.Merge
end
end
-- ==== Proof.MergeLoads.lean ====
module

public import Idealize.ShloMosaic.Lib.Pipeline.ValueKit
public import proofs.«01_k».proof.Proof.MergeSpec
public import proofs.«01_k».proof.Proof.Gen.Kernel3Ideal.Frame
public import proofs.«01_k».proof.Proof.Gen.Kernel3Ideal.Value

@[expose] public section

/-! What the merge of the prompt holds in its two convolution buffers: the tile's rows behind the 32 rows before it, and
    that array moved up by one to seven rows. -/

set_option maxRecDepth 16384

noncomputable section

namespace Cert.Proof.Merge

open Cert.Kernel3Ideal Cert.Kernel3Ideal.Gen Cert.Kernel3Ideal.Gen.kernelRun0_A.sl Idealize.ShloMosaic Idealize.ShloMosaic.TcCoe

/-- Row `e` of the extended tile: 32 rows of the tile before (zero at the first tile), the tile's 512 rows, then zero. -/
def ext (i : grid0.Coords) (x1 : FVec Ideal S1x512x512 .f32) (x2 : FVec Ideal S1x32x512 .f32) (e : ℕ) (k : Fin 512) : EReal :=
  if h : e < 32 then (if (i 1).val = 0 then 0 else x2 (ix3 0 ⟨e, h⟩ k))
  else if h : e - 32 < 512 then x1 (ix3 0 ⟨e - 32, h⟩ k) else 0

theorem ext_lo (i : grid0.Coords) (x1 : FVec Ideal S1x512x512 .f32) (x2 : FVec Ideal S1x32x512 .f32) (p : Fin 32) (k : Fin 512) :
    ext i x1 x2 p.val k = if (i 1).val = 0 then 0 else x2 (ix3 0 p k) := dif_pos p.isLt

theorem ext_mid (i : grid0.Coords) (x1 : FVec Ideal S1x512x512 .f32) (x2 : FVec Ideal S1x32x512 .f32) (p : Fin 512) (k : Fin 512) :
    ext i x1 x2 (32 + p.val) k = x1 (ix3 0 p k) := by
  rw [ext, dif_neg (by omega), dif_pos (by omega)]
  exact congrArg (fun n => x1 (ix3 0 n k)) (Fin.ext (by show 32 + p.val - 32 = p.val; omega))

theorem ext_hi (i : grid0.Coords) (x1 : FVec Ideal S1x512x512 .f32) (x2 : FVec Ideal S1x32x512 .f32) (e : ℕ) (h : 544 ≤ e) (k : Fin 512) :
    ext i x1 x2 e k = 0 := by
  rw [ext, dif_neg (by omega), dif_neg (by omega)]

theorem sgt_zero : ∀ n : Fin 4, Scalar.cmpi .sgt (BitVec.ofNat 32 n.val) 0#32 = if n.val = 0 then 0#1 else 1#1 := by
  decide

theorem pay2_apply (i : grid0.Coords) (x2 : FVec Ideal S1x32x512 .f32) (p : Fin 32) (k : Fin 512) :
    k0_pay2 (F := Ideal) i x2 (ix2 p k) = if (i 1).val = 0 then 0 else x2 (ix3 0 p k) := by
  unfold k0_pay2
  have h := sgt_zero (i 1)
  rw [h]
  by_cases h0 : (i 1).val = 0
  · simp only [h0, if_true]
    pointwise []
  · simp only [h0, if_false]
    pointwise []

theorem pay3_apply (x1 : FVec Ideal S1x512x512 .f32) (p : Fin 512) (k : Fin 512) :
    k0_pay3 (F := Ideal) x1 (ix2 p k) = x1 (ix3 0 p k) := by
  pointwise [k0_pay3]

theorem pay4_apply (p : Fin 8) (k : Fin 512) : k0_pay4 (F := Ideal) (ix2 p k) = 0 := by
  pointwise [k0_pay4]

/-- The extended tile moved up, the first 544 rows of it. -/
theorem pay5_apply (X : FVec Ideal S552x512 .f32) (o : Fin 1) (e : Fin 544) (k : Fin 512) :
    k0_pay5 (F := Ideal) X (ix3 o e k) = X (ix2 ⟨e.val + 1, by omega⟩ k) := by
  pointwise [k0_pay5]
  exact congrArg (fun n => X (ix2 n k)) (Fin.ext (by show (e.val + 552 - 551) % 552 = e.val + 1; omega))

theorem pay6_apply (X : FVec Ideal S552x512 .f32) (o : Fin 1) (e : Fin 544) (k : Fin 512) :
    k0_pay6 (F := Ideal) X (ix3 o e k) = X (ix2 ⟨e.val + 2, by omega⟩ k) := by
  pointwise [k0_pay6]
  exact congrArg (fun n => X (ix2 n k)) (Fin.ext (by show (e.val + 552 - 550) % 552 = e.val + 2; omega))

/-- A rotation by `552 - q` rows, its first 544 rows as one plane. -/
theorem rot_apply (X : FVec Ideal S552x512 .f32) (n : BitVec 32) (q : ℕ) (hq : q < 8) (hn : n.toNat + q = 552)
    (h : S552x512.Rotates 0 none) (hs : S552x512.Slices ![0, 0] S544x512) (hc : S544x512.ShapeCasts S1x544x512)
    (o : Fin 1) (e : Fin 544) (k : Fin 512) :
    shapeCast S1x544x512 (extractStridedSlice S544x512 ![0, 0] (dynamicRotate 0 n none X h) hs) hc (ix3 o e k)
      = X (ix2 ⟨e.val + q, by omega⟩ k) := by
  pointwise []
  exact congrArg (fun n => X (ix2 n k)) (Fin.ext (by show (e.val + 552 - n.toNat % 552) % 552 = e.val + q; omega))

variable (c : Dev nD) (i : grid0.Coords) (arg3 : Memref sig .tc .vmem S1x512x512 .f32) (harg3 : arg3.IsWhole)
  (arg4 : Memref sig .tc .vmem S1x32x512 .f32) (harg4 : arg4.IsWhole) (arg13 : Memref sig .tc .vmem S552x512 .f32)
  (arg14 : Memref sig .tc .vmem S7x544x512 .f32)
  (x1 : FVec Ideal S1x512x512 .f32) (x2 : FVec Ideal S1x32x512 .f32)

/-- The first buffer holds the extended tile. -/
theorem canon_ext (e : Fin 552) (k : Fin 512) :
    View.canon (HS0_3 (F := Ideal) c i arg3 harg3 arg4 harg4 x1 x2) (ix2 e k) = ext i x1 x2 e k := by
  refine View.canon_apply_of_pieces (Val := Elt Ideal) (e := .f32) (fun y => ext i x1 x2 (y 0).val (y 1)) _ ?_ (ix2 e k) ?_
  · intro p hp
    simp only [HS0_3, List.mem_cons, List.mem_nil_iff, or_false, View.readAt_eq_ld, Memref.IsWhole.read_unread] at hp
    rcases hp with rfl | rfl | rfl
    · intro z
      idx_vars z
      refine (pay4_apply z0 z1).trans (Eq.symm (ext_hi i x1 x2 _ ?_ _))
      show 544 ≤ 544 + 1 * z0.val
      omega
    · intro z
      idx_vars z
      refine (pay3_apply _ z0 z1).trans ?_
      refine (congrFun (View.ld_unit_lit _ _ (by decide)) _).trans ?_
      refine (ext_mid i x1 x2 z0 z1).symm.trans (congrArg₂ (ext i x1 x2) ?_ (Fin.ext ?_))
      · show 32 + z0.val = 32 + 1 * z0.val
        omega
      · show z1.val = 0 + 1 * z1.val
        omega
    · intro z
      idx_vars z
      refine (pay2_apply i _ z0 z1).trans ?_
      refine Eq.trans ?_ ((ext_lo i x1 x2 z0 z1).symm.trans (congrArg₂ (ext i x1 x2) ?_ (Fin.ext ?_)))
      · rw [View.ld_unit_lit _ _ (by decide)]
      · show z0.val = 0 + 1 * z0.val
        omega
      · show z1.val = 0 + 1 * z1.val
        omega
  · simp only [HS0_3, List.mem_cons, List.mem_nil_iff, or_false, exists_eq_or_imp, exists_eq_left, Rect.mem_set_unit, Fin.forall_fin_two]
    have hk : k.val < 512 := k.isLt
    have he : e.val < 552 := e.isLt
    show (544 ≤ e.val ∧ e.val < 544 + 8) ∧ 0 ≤ k.val ∧ k.val < 0 + 512 ∨ (32 ≤ e.val ∧ e.val < 32 + 512) ∧ 0 ≤ k.val ∧ k.val < 0 + 512
      ∨ (0 ≤ e.val ∧ e.val < 0 + 32) ∧ 0 ≤ k.val ∧ k.val < 0 + 512
    omega

/-- A load of 32 rows of the first buffer. -/
theorem ext_load (a : ℕ) (h : ∀ b, (![a, 0] : Fin 2 → ℕ) b + S32x512.size b ≤ S552x512.size b) (p : Fin 32) (k : Fin 512) :
    arg13.view.readCov (HS0_3 (F := Ideal) c i arg3 harg3 arg4 harg4 x1 x2) (Rect.unit (s := S552x512) ![a, 0] S32x512.size h).toLoadRect (ix2 p k)
      = ext i x1 x2 (a + p.val) k := by
  have ha : a + 32 ≤ 552 := h 0
  rw [View.readCov_eq_canon']
  refine Eq.trans (congrArg _ ?_) (canon_ext c i arg3 harg3 arg4 harg4 x1 x2 ⟨a + p.val, by omega⟩ k)
  funext b
  fin_cases b
  · exact Fin.ext (by show a + 1 * p.val = a + p.val; omega)
  · exact Fin.ext (by show 0 + 1 * k.val = k.val; omega)

theorem v17_apply (e : Fin 552) (k : Fin 512) :
    v17 (F := Ideal) c i arg3 harg3 arg4 harg4 arg13 x1 x2 (ix2 e k) = ext i x1 x2 e.val k := by
  unfold v17
  rw [View.readCov_eq_canon']
  refine Eq.trans (congrArg _ ?_) (canon_ext c i arg3 harg3 arg4 harg4 x1 x2 e k)
  funext b
  fin_cases b
  · exact Fin.ext (by show 0 + 1 * e.val = e.val; omega)
  · exact Fin.ext (by show 0 + 1 * k.val = k.val; omega)

/-- The second buffer holds the extended tile moved up by one to seven rows. -/
theorem canon_sh (q : Fin 7) (e : Fin 544) (k : Fin 512) :
    View.canon (HS1_7 (F := Ideal) c i arg3 harg3 arg4 harg4 arg13 x1 x2) (ix3 q e k) = ext i x1 x2 (e.val + q.val + 1) k := by
  refine View.canon_apply_of_pieces (Val := Elt Ideal) (e := .f32) (fun y => ext i x1 x2 ((y 1).val + (y 0).val + 1) (y 2)) _ ?_ (ix3 q e k) ?_
  · intro p hp
    simp only [HS1_7, List.mem_cons, List.mem_nil_iff, or_false] at hp
    rcases hp with rfl | rfl | rfl | rfl | rfl | rfl | rfl
    · intro z
      idx_vars z
      unfold v52 v49 v48
      refine (rot_apply (v17 (F := Ideal) c i arg3 harg3 arg4 harg4 arg13 x1 x2) 545#32 7 (by decide) (by decide) _ _ _ z0 z1 z2).trans ?_
      refine (v17_apply c i arg3 harg3 arg4 harg4 arg13 x1 x2 _ z2).trans ?_
      refine congrArg₂ (ext i x1 x2) ?_ (Fin.ext ?_)
      · show z1.val + 7 = (0 + 1 * z1.val) + (6 + 1 * z0.val) + 1
        omega
      · show z2.val = 0 + 1 * z2.val
        omega
    · intro z
      idx_vars z
      unfold v47 v44 v43
      refine (rot_apply (v17 (F := Ideal) c i arg3 harg3 arg4 harg4 arg13 x1 x2) 546#32 6 (by decide) (by decide) _ _ _ z0 z1 z2).trans ?_
      refine (v17_apply c i arg3 harg3 arg4 harg4 arg13 x1 x2 _ z2).trans ?_
      refine congrArg₂ (ext i x1 x2) ?_ (Fin.ext ?_)
      · show z1.val + 6 = (0 + 1 * z1.val) + (5 + 1 * z0.val) + 1
        omega
      · show z2.val = 0 + 1 * z2.val
        omega
    · intro z
      idx_vars z
      unfold v42 v39 v38
      refine (rot_apply (v17 (F := Ideal) c i arg3 harg3 arg4 harg4 arg13 x1 x2) 547#32 5 (by decide) (by decide) _ _ _ z0 z1 z2).trans ?_
      refine (v17_apply c i arg3 harg3 arg4 harg4 arg13 x1 x2 _ z2).trans ?_
      refine congrArg₂ (ext i x1 x2) ?_ (Fin.ext ?_)
      · show z1.val + 5 = (0 + 1 * z1.val) + (4 + 1 * z0.val) + 1
        omega
      · show z2.val = 0 + 1 * z2.val
        omega
    · intro z
      idx_vars z
      unfold v37 v34 v33
      refine (rot_apply (v17 (F := Ideal) c i arg3 harg3 arg4 harg4 arg13 x1 x2) 548#32 4 (by decide) (by decide) _ _ _ z0 z1 z2).trans ?_
      refine (v17_apply c i arg3 harg3 arg4 harg4 arg13 x1 x2 _ z2).trans ?_
      refine congrArg₂ (ext i x1 x2) ?_ (Fin.ext ?_)
      · show z1.val + 4 = (0 + 1 * z1.val) + (3 + 1 * z0.val) + 1
        omega
      · show z2.val = 0 + 1 * z2.val
        omega
    · intro z
      idx_vars z
      unfold v32 v29 v28
      refine (rot_apply (v17 (F := Ideal) c i arg3 harg3 arg4 harg4 arg13 x1 x2) 549#32 3 (by decide) (by decide) _ _ _ z0 z1 z2).trans ?_
      refine (v17_apply c i arg3 harg3 arg4 harg4 arg13 x1 x2 _ z2).trans ?_
      refine congrArg₂ (ext i x1 x2) ?_ (Fin.ext ?_)
      · show z1.val + 3 = (0 + 1 * z1.val) + (2 + 1 * z0.val) + 1
        omega
      · show z2.val = 0 + 1 * z2.val
        omega
    · intro z
      idx_vars z
      refine (pay6_apply (v17 (F := Ideal) c i arg3 harg3 arg4 harg4 arg13 x1 x2) z0 z1 z2).trans ?_
      refine (v17_apply c i arg3 harg3 arg4 harg4 arg13 x1 x2 _ z2).trans ?_
      refine congrArg₂ (ext i x1 x2) ?_ (Fin.ext ?_)
      · show z1.val + 2 = (0 + 1 * z1.val) + (1 + 1 * z0.val) + 1
        omega
      · show z2.val = 0 + 1 * z2.val
        omega
    · intro z
      idx_vars z
      refine (pay5_apply (v17 (F := Ideal) c i arg3 harg3 arg4 harg4 arg13 x1 x2) z0 z1 z2).trans ?_
      refine (v17_apply c i arg3 harg3 arg4 harg4 arg13 x1 x2 _ z2).trans ?_
      refine congrArg₂ (ext i x1 x2) ?_ (Fin.ext ?_)
      · show z1.val + 1 = (0 + 1 * z1.val) + (0 + 1 * z0.val) + 1
        omega
      · show z2.val = 0 + 1 * z2.val
        omega
  · have hr (n : ℕ) (h : ∀ b, (![n, 0, 0] : Fin 3 → ℕ) b + S1x544x512.size b ≤ S7x544x512.size b) (hn : q.val = n) :
        ix3 q e k ∈ (Rect.unit (s := S7x544x512) ![n, 0, 0] S1x544x512.size h).set := by
      subst hn
      rw [Rect.mem_set_unit]
      intro b
      fin_cases b
      · exact ⟨le_refl _, Nat.lt_succ_self _⟩
      · exact ⟨Nat.zero_le _, by show e.val < 0 + 544; omega⟩
      · exact ⟨Nat.zero_le _, by show k.val < 0 + 512; omega⟩
    simp only [HS1_7, List.mem_cons, List.mem_nil_iff, or_false, exists_eq_or_imp, exists_eq_left]
    have hq : q.val = 6 ∨ q.val = 5 ∨ q.val = 4 ∨ q.val = 3 ∨ q.val = 2 ∨ q.val = 1 ∨ q.val = 0 := by omega
    exact hq.imp (hr 6 _) (Or.imp (hr 5 _) (Or.imp (hr 4 _) (Or.imp (hr 3 _) (Or.imp (hr 2 _) (Or.imp (hr 1 _) (hr 0 _))))))

/-- A load of 32 rows of one plane of the second buffer. -/
theorem sh_load (q a : ℕ) (h : ∀ b, (![q, 0, 0] : Fin 3 → ℕ) b + S1x544x512.size b ≤ S7x544x512.size b)
    (h' : ∀ b, (![a, 0] : Fin 2 → ℕ) b + S32x512.size b ≤ S544x512.size b) (h0) (hs) (hst)
    (hR : (Rect.unit (s := S544x512) ![a, 0] S32x512.size h').toLoadRect.shape.numel
      = ((Rect.unit (s := S7x544x512) ![q, 0, 0] S1x544x512.size h).withinL
          ((Rect.unit (s := S544x512) ![a, 0] S32x512.size h').toLoadRect.consLift ![1, 544, 512] h0 hs) hst).shape.numel)
    (p : Fin 32) (k : Fin 512) :
    LoadRect.valAlong hR (arg14.view.readCov (HS1_7 (F := Ideal) c i arg3 harg3 arg4 harg4 arg13 x1 x2)
        ((Rect.unit (s := S7x544x512) ![q, 0, 0] S1x544x512.size h).withinL
          ((Rect.unit (s := S544x512) ![a, 0] S32x512.size h').toLoadRect.consLift ![1, 544, 512] h0 hs) hst)) (ix2 p k)
      = ext i x1 x2 (a + q + 1 + p.val) k := by
  have ha : a + 32 ≤ 544 := h' 0
  have hq : q + 1 ≤ 7 := h 0
  have e := canon_sh c i arg3 harg3 arg4 harg4 arg13 x1 x2 ⟨q, by omega⟩ ⟨a + p.val, by omega⟩ k
  have hx : Shape.reshapeEquiv hR (ix2 p k) = Fin.cons ⟨0, Nat.one_pos⟩ (ix2 p k) :=
    Shape.reshapeEquiv_cons_one (d := S32x512.size) _ _
  refine (congrFun (View.readCov_eq_canon' _ _ _) _).trans ?_
  rw [show a + q + 1 + p.val = a + p.val + q + 1 by omega]
  refine Eq.trans (congrArg _ ?_) e
  refine (congrArg _ hx).trans ((Rect.idx_withinL _ _ hst _).trans ?_)
  funext b
  fin_cases b
  · exact Fin.ext (by show q + 1 * (0 + 1 * 0) = q; omega)
  · exact Fin.ext (by show 0 + 1 * (a + 1 * p.val) = a + p.val; omega)
  · exact Fin.ext (by show 0 + 1 * (0 + 1 * k.val) = k.val; omega)

/-- A load of the eight copies of one tap. -/
theorem dw_load (arg8 : Memref sig .tc .vmem S31x8x512 .f32) (harg8 : arg8.IsWhole) (x6 : FVec Ideal S31x8x512 .f32)
    (w : ℕ) (h : ∀ b, (![w, 0, 0] : Fin 3 → ℕ) b + S1x8x512.size b ≤ S31x8x512.size b) (s : Fin 8) (k : Fin 512) :
    View.readAt (Elt Ideal) arg8.view (Rect.unit (s := S31x8x512) ![w, 0, 0] S1x8x512.size h).toLoadRect (harg8.unread x6) (ix3 0 s k)
      = x6 (ix3 ⟨w, Nat.lt_of_succ_le (h 0)⟩ s k) := by
  rw [View.readAt_eq_ld, Memref.IsWhole.read_unread]
  refine View.ld_unit_apply_of (Val := Elt Ideal) (e := .f32) (S := S31x8x512) x6 ![w, 0, 0] S1x8x512.size h (ix3 0 s k) _ fun b => ?_
  fin_cases b
  · rfl
  · exact (Nat.zero_add _).symm
  · exact (Nat.zero_add _).symm

/-- A load of 32 rows of the gate. -/
theorem gc_load (arg5 : Memref sig .tc .vmem S1x512x512 .f32) (harg5 : arg5.IsWhole) (x3 : FVec Ideal S1x512x512 .f32)
    (a : ℕ) (h : ∀ b, (![0, a, 0] : Fin 3 → ℕ) b + S1x32x512.size b ≤ S1x512x512.size b) (p : Fin 32) (k : Fin 512) :
    View.readAt (Elt Ideal) arg5.view (Rect.unit (s := S1x512x512) ![0, a, 0] S1x32x512.size h).toLoadRect (harg5.unread x3) (ix3 0 p k)
      = x3 (ix3 0 ⟨a + p.val, by have : a + 32 ≤ 512 := h 1; omega⟩ k) := by
  rw [View.readAt_eq_ld, Memref.IsWhole.read_unread]
  refine View.ld_unit_apply_of (Val := Elt Ideal) (e := .f32) (S := S1x512x512) x3 ![0, a, 0] S1x32x512.size h (ix3 0 p k) _ fun b => ?_
  fin_cases b
  · rfl
  · rfl
  · exact (Nat.zero_add _).symm

end Cert.Proof.Merge
end
end
-- ==== Proof.MergeChunk.lean ====
module

public import proofs.«01_k».proof.Proof.MergeSpec
public import proofs.«01_k».proof.Proof.Gen.Kernel3Ideal.Frame

@[expose] public section

/-! The merge of the prompt works through its 512 rows in sixteen groups of 32. Every group applies one function to the
    rows it loads; here that function, and its entries over the extended reals. -/

set_option maxRecDepth 65536

noncomputable section

namespace Cert.Proof.Merge

open Cert.Kernel3Ideal Cert.Kernel3Ideal.Gen Idealize.ShloMosaic Idealize.ShloMosaic.TcCoe

section
variable {F : FTy → Type} [FloatOps F]

/-- One tap: the eight copies of the tap's row, four times over, against the loaded rows. -/
def tap (acc l : FVec F S32x512 .f32) (d : FVec F S1x8x512 .f32) : FVec F S32x512 .f32 :=
  addf acc (mulf l (concatenate S32x512 0 [⟨S8x512, shapeCast S8x512 d shapeCasts_S1x8x512_S8x512⟩,
    ⟨S8x512, shapeCast S8x512 d shapeCasts_S1x8x512_S8x512⟩, ⟨S8x512, shapeCast S8x512 d shapeCasts_S1x8x512_S8x512⟩,
    ⟨S8x512, shapeCast S8x512 d shapeCasts_S1x8x512_S8x512⟩] concatenates_S8x512_S8x512_S8x512_S8x512_S32x512_d0))

/-- The rows less their mean. -/
def centre (y : FVec F S32x512 .f32) : FVec F S32x512 .f32 :=
  subf y (broadcastTo S32x512 (divf (shapeCast S32x1 (multiReduction .add [1] S32 y 0x00000000#32 reduces_S32x512_S32 (.inl rfl) rfl)
    shapeCasts_S32_S32x1) (broadcast S32x1 (Scalar.ofBits .f32 0x44000000#32))) broadcasts_S32x1_S32x512)

/-- The group's rows: bias and taps, normalised, through the swish, times the gate. -/
def group (b : FVec F S1x512 .f32) (l0 l1 l2 l3 l4 l5 l6 l7 l8 l9 l10 l11 l12 l13 l14 l15 l16 l17 l18 l19 l20 l21 l22 l23 l24 l25 l26 l27 l28 l29 l30 : FVec F S32x512 .f32)
    (d0 d1 d2 d3 d4 d5 d6 d7 d8 d9 d10 d11 d12 d13 d14 d15 d16 d17 d18 d19 d20 d21 d22 d23 d24 d25 d26 d27 d28 d29 d30 : FVec F S1x8x512 .f32)
    (lng lnb : FVec F S1x512 .f32) (gc : FVec F S1x32x512 .f32) : FVec F S32x512 .bf16 :=
  k0_pay23 (centre (tap (tap (tap (tap (tap (tap (tap (tap (tap (tap (tap (tap (tap (tap (tap (tap (tap (tap (tap (tap (tap (tap (tap (tap (tap (tap (tap (tap (tap (tap (tap (k0_pay24 b) l0 d0) l1 d1) l2 d2) l3 d3) l4 d4) l5 d5) l6 d6) l7 d7) l8 d8) l9 d9) l10 d10) l11 d11) l12 d12) l13 d13) l14 d14) l15 d15) l16 d16) l17 d17) l18 d18) l19 d19) l20 d20) l21 d21) l22 d22) l23 d23) l24 d24) l25 d25) l26 d26) l27 d27) l28 d28) l29 d29) l30 d30)) lng lnb gc

variable (b : FVec F S1x512 .f32) (l0 l1 l2 l3 l4 l5 l6 l7 l8 l9 l10 l11 l12 l13 l14 l15 l16 l17 l18 l19 l20 l21 l22 l23 l24 l25 l26 l27 l28 l29 l30 : FVec F S32x512 .f32)
    (d0 d1 d2 d3 d4 d5 d6 d7 d8 d9 d10 d11 d12 d13 d14 d15 d16 d17 d18 d19 d20 d21 d22 d23 d24 d25 d26 d27 d28 d29 d30 : FVec F S1x8x512 .f32)
    (lng lnb : FVec F S1x512 .f32) (gc : FVec F S1x32x512 .f32)

theorem group_0 : k0_pay23 (k0_pay22 (k0_pay21 (k0_pay20 (k0_pay19 (k0_pay17 (k0_pay15 (k0_pay14 (k0_pay13 (k0_pay24 b) l0 d0 l1 d1 l2 d2 l3 d3) l4 d4 l5 d5 l6 d6 l7 d7) l8 d8 l9 d9 l10 d10) l11 (k0_pay16 d11) l12 d12 l13 d13 l14 d14) l15 (k0_pay18 d15) l16 d16 l17 d17 l18 d18) l19 d19 l20 d20 l21 d21 l22 d22) l23 d23 l24 d24 l25 d25 l26 d26) l27 d27 l28 d28 l29 d29 l30 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_1 : k0_pay35 (k0_pay33 (k0_pay32 (k0_pay31 (k0_pay30 (k0_pay29 (k0_pay28 (k0_pay27 (k0_pay26 (k0_pay24 b) l0 (k0_pay25 d0) l1 d1 l2 d2 l3 d3) l4 d4 l5 d5 l6 d6 l7 d7) l8 d8 l9 d9 l10 d10 l11 d11) l12 d12 l13 d13 l14 d14 l15 d15) l16 d16 l17 d17 l18 d18 l19 d19) l20 d20 l21 d21 l22 d22 l23 d23) l24 d24 l25 d25 l26 d26 l27 d27) l28 d28 l29 d29 l30 d30) (k0_pay34 (k0_pay32 (k0_pay31 (k0_pay30 (k0_pay29 (k0_pay28 (k0_pay27 (k0_pay26 (k0_pay24 b) l0 (k0_pay25 d0) l1 d1 l2 d2 l3 d3) l4 d4 l5 d5 l6 d6 l7 d7) l8 d8 l9 d9 l10 d10 l11 d11) l12 d12 l13 d13 l14 d14 l15 d15) l16 d16 l17 d17 l18 d18 l19 d19) l20 d20 l21 d21 l22 d22 l23 d23) l24 d24 l25 d25 l26 d26 l27 d27) l28 d28 l29 d29 l30 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_2 : k0_pay47 (k0_pay46 (k0_pay45 (k0_pay43 (k0_pay41 (k0_pay40 (k0_pay39 (k0_pay38 (k0_pay37 (k0_pay36 b l0 d0) l1 d1 l2 d2 l3 d3 l4 d4) l5 d5 l6 d6 l7 d7 l8 d8) l9 d9 l10 d10 l11 d11 l12 d12) l13 d13 l14 d14 l15 d15 l16 d16) l17 d17 l18 d18 l19 d19) l20 (k0_pay42 d20) l21 d21 l22 d22 l23 d23) (k0_pay44 l24 d24) l25 d25 l26 d26 l27 d27) l28 d28 l29 d29 l30 d30 lng) lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_3 : k0_pay59 (k0_pay58 (k0_pay57 (k0_pay56 (k0_pay55 (k0_pay54 (k0_pay53 (k0_pay51 (k0_pay49 (k0_pay48 b l0 d0 l1 d1) l2 d2 l3 d3 l4 d4) l5 (k0_pay50 d5) l6 d6 l7 d7 l8 d8) (k0_pay52 l9 d9) l10 d10 l11 d11 l12 d12) l13 d13 l14 d14 l15 d15 l16 d16) l17 d17 l18 d18 l19 d19 l20 d20) l21 d21 l22 d22 l23 d23 l24 d24) l25 d25 l26 d26 l27 d27 l28 d28) l29 d29 l30 d30 lng lnb) gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_4 : k0_pay70 (k0_pay68 (k0_pay67 (k0_pay66 (k0_pay65 (k0_pay64 (k0_pay63 (k0_pay61 (k0_pay60 b l0 d0 l1 d1) l2 d2 l3 d3 l4 d4 l5 d5) l6 (k0_pay62 d6) l7 d7 l8 d8 l9 d9) l10 d10 l11 d11 l12 d12 l13 d13) l14 d14 l15 d15 l16 d16 l17 d17) l18 d18 l19 d19 l20 d20 l21 d21) l22 d22 l23 d23 l24 d24 l25 d25) l26 d26 l27 d27 l28 d28) (k0_pay69 l29 d29) l30 d30 lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_5 : k0_pay81 (k0_pay79 (k0_pay77 (k0_pay76 (k0_pay75 (k0_pay74 (k0_pay73 (k0_pay72 (k0_pay71 b l0 d0 l1 d1 l2 d2) l3 d3 l4 d4 l5 d5 l6 d6) l7 d7 l8 d8 l9 d9 l10 d10) l11 d11 l12 d12 l13 d13 l14 d14) l15 d15 l16 d16 l17 d17 l18 d18) l19 d19 l20 d20 l21 d21 l22 d22) l23 d23 l24 d24 l25 d25) l26 (k0_pay78 d26) l27 d27 l28 d28 l29 d29) l30 (k0_pay80 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_6 : k0_pay93 (k0_pay92 (k0_pay91 (k0_pay90 (k0_pay89 (k0_pay87 (k0_pay85 (k0_pay84 (k0_pay83 (k0_pay82 b) l0 d0 l1 d1 l2 d2 l3 d3) l4 d4 l5 d5 l6 d6 l7 d7) l8 d8 l9 d9 l10 d10) l11 (k0_pay86 d11) l12 d12 l13 d13 l14 d14) l15 (k0_pay88 d15) l16 d16 l17 d17 l18 d18) l19 d19 l20 d20 l21 d21 l22 d22) l23 d23 l24 d24 l25 d25 l26 d26) l27 d27 l28 d28 l29 d29 l30 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_7 : k0_pay105 (k0_pay103 (k0_pay102 (k0_pay101 (k0_pay100 (k0_pay99 (k0_pay98 (k0_pay97 (k0_pay96 (k0_pay94 b) l0 (k0_pay95 d0) l1 d1 l2 d2 l3 d3) l4 d4 l5 d5 l6 d6 l7 d7) l8 d8 l9 d9 l10 d10 l11 d11) l12 d12 l13 d13 l14 d14 l15 d15) l16 d16 l17 d17 l18 d18 l19 d19) l20 d20 l21 d21 l22 d22 l23 d23) l24 d24 l25 d25 l26 d26 l27 d27) l28 d28 l29 d29 l30 d30) (k0_pay104 (k0_pay102 (k0_pay101 (k0_pay100 (k0_pay99 (k0_pay98 (k0_pay97 (k0_pay96 (k0_pay94 b) l0 (k0_pay95 d0) l1 d1 l2 d2 l3 d3) l4 d4 l5 d5 l6 d6 l7 d7) l8 d8 l9 d9 l10 d10 l11 d11) l12 d12 l13 d13 l14 d14 l15 d15) l16 d16 l17 d17 l18 d18 l19 d19) l20 d20 l21 d21 l22 d22 l23 d23) l24 d24 l25 d25 l26 d26 l27 d27) l28 d28 l29 d29 l30 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_8 : k0_pay117 (k0_pay116 (k0_pay115 (k0_pay113 (k0_pay111 (k0_pay110 (k0_pay109 (k0_pay108 (k0_pay107 (k0_pay106 b l0 d0) l1 d1 l2 d2 l3 d3 l4 d4) l5 d5 l6 d6 l7 d7 l8 d8) l9 d9 l10 d10 l11 d11 l12 d12) l13 d13 l14 d14 l15 d15 l16 d16) l17 d17 l18 d18 l19 d19) l20 (k0_pay112 d20) l21 d21 l22 d22 l23 d23) (k0_pay114 l24 d24) l25 d25 l26 d26 l27 d27) l28 d28 l29 d29 l30 d30 lng) lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_9 : k0_pay129 (k0_pay128 (k0_pay127 (k0_pay126 (k0_pay125 (k0_pay124 (k0_pay123 (k0_pay121 (k0_pay119 (k0_pay118 b l0 d0 l1 d1) l2 d2 l3 d3 l4 d4) l5 (k0_pay120 d5) l6 d6 l7 d7 l8 d8) (k0_pay122 l9 d9) l10 d10 l11 d11 l12 d12) l13 d13 l14 d14 l15 d15 l16 d16) l17 d17 l18 d18 l19 d19 l20 d20) l21 d21 l22 d22 l23 d23 l24 d24) l25 d25 l26 d26 l27 d27 l28 d28) l29 d29 l30 d30 lng lnb) gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_10 : k0_pay140 (k0_pay138 (k0_pay137 (k0_pay136 (k0_pay135 (k0_pay134 (k0_pay133 (k0_pay131 (k0_pay130 b l0 d0 l1 d1) l2 d2 l3 d3 l4 d4 l5 d5) l6 (k0_pay132 d6) l7 d7 l8 d8 l9 d9) l10 d10 l11 d11 l12 d12 l13 d13) l14 d14 l15 d15 l16 d16 l17 d17) l18 d18 l19 d19 l20 d20 l21 d21) l22 d22 l23 d23 l24 d24 l25 d25) l26 d26 l27 d27 l28 d28) (k0_pay139 l29 d29) l30 d30 lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_11 : k0_pay151 (k0_pay149 (k0_pay147 (k0_pay146 (k0_pay145 (k0_pay144 (k0_pay143 (k0_pay142 (k0_pay141 b l0 d0 l1 d1 l2 d2) l3 d3 l4 d4 l5 d5 l6 d6) l7 d7 l8 d8 l9 d9 l10 d10) l11 d11 l12 d12 l13 d13 l14 d14) l15 d15 l16 d16 l17 d17 l18 d18) l19 d19 l20 d20 l21 d21 l22 d22) l23 d23 l24 d24 l25 d25) l26 (k0_pay148 d26) l27 d27 l28 d28 l29 d29) l30 (k0_pay150 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_12 : k0_pay163 (k0_pay162 (k0_pay161 (k0_pay160 (k0_pay159 (k0_pay157 (k0_pay155 (k0_pay154 (k0_pay153 (k0_pay152 b) l0 d0 l1 d1 l2 d2 l3 d3) l4 d4 l5 d5 l6 d6 l7 d7) l8 d8 l9 d9 l10 d10) l11 (k0_pay156 d11) l12 d12 l13 d13 l14 d14) l15 (k0_pay158 d15) l16 d16 l17 d17 l18 d18) l19 d19 l20 d20 l21 d21 l22 d22) l23 d23 l24 d24 l25 d25 l26 d26) l27 d27 l28 d28 l29 d29 l30 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_13 : k0_pay175 (k0_pay173 (k0_pay172 (k0_pay171 (k0_pay170 (k0_pay169 (k0_pay168 (k0_pay167 (k0_pay166 (k0_pay164 b) l0 (k0_pay165 d0) l1 d1 l2 d2 l3 d3) l4 d4 l5 d5 l6 d6 l7 d7) l8 d8 l9 d9 l10 d10 l11 d11) l12 d12 l13 d13 l14 d14 l15 d15) l16 d16 l17 d17 l18 d18 l19 d19) l20 d20 l21 d21 l22 d22 l23 d23) l24 d24 l25 d25 l26 d26 l27 d27) l28 d28 l29 d29 l30 d30) (k0_pay174 (k0_pay172 (k0_pay171 (k0_pay170 (k0_pay169 (k0_pay168 (k0_pay167 (k0_pay166 (k0_pay164 b) l0 (k0_pay165 d0) l1 d1 l2 d2 l3 d3) l4 d4 l5 d5 l6 d6 l7 d7) l8 d8 l9 d9 l10 d10 l11 d11) l12 d12 l13 d13 l14 d14 l15 d15) l16 d16 l17 d17 l18 d18 l19 d19) l20 d20 l21 d21 l22 d22 l23 d23) l24 d24 l25 d25 l26 d26 l27 d27) l28 d28 l29 d29 l30 d30) lng lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_14 : k0_pay187 (k0_pay186 (k0_pay185 (k0_pay183 (k0_pay181 (k0_pay180 (k0_pay179 (k0_pay178 (k0_pay177 (k0_pay176 b l0 d0) l1 d1 l2 d2 l3 d3 l4 d4) l5 d5 l6 d6 l7 d7 l8 d8) l9 d9 l10 d10 l11 d11 l12 d12) l13 d13 l14 d14 l15 d15 l16 d16) l17 d17 l18 d18 l19 d19) l20 (k0_pay182 d20) l21 d21 l22 d22 l23 d23) (k0_pay184 l24 d24) l25 d25 l26 d26 l27 d27) l28 d28 l29 d29 l30 d30 lng) lnb gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

theorem group_15 : k0_pay199 (k0_pay198 (k0_pay197 (k0_pay196 (k0_pay195 (k0_pay194 (k0_pay193 (k0_pay191 (k0_pay189 (k0_pay188 b l0 d0 l1 d1) l2 d2 l3 d3 l4 d4) l5 (k0_pay190 d5) l6 d6 l7 d7 l8 d8) (k0_pay192 l9 d9) l10 d10 l11 d11 l12 d12) l13 d13 l14 d14 l15 d15 l16 d16) l17 d17 l18 d18 l19 d19 l20 d20) l21 d21 l22 d22 l23 d23 l24 d24) l25 d25 l26 d26 l27 d27 l28 d28) l29 d29 l30 d30 lng lnb) gc
    = group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc := by
  sl_kernel_rfl

end

theorem tap_apply (acc l : FVec Ideal S32x512 .f32) (d : FVec Ideal S1x8x512 .f32) (D : Fin 512 → EReal)
    (hd : ∀ s k, d (ix3 0 s k) = D k) (p : Fin 32) (k : Fin 512) :
    tap acc l d (ix2 p k) = acc (ix2 p k) + l (ix2 p k) * D k := by
  pointwise [tap]
  simp only [hd]
  try split_ifs <;> rfl

theorem bias_apply (b : FVec Ideal S1x512 .f32) (p : Fin 32) (k : Fin 512) : k0_pay24 b (ix2 p k) = b (ix2 0 k) := by
  pointwise [k0_pay24]

theorem fin_apply (y : FVec Ideal S32x512 .f32) (lng lnb : FVec Ideal S1x512 .f32) (gc : FVec Ideal S1x32x512 .f32)
    (p : Fin 32) (k : Fin 512) : k0_pay23 (centre y) lng lnb gc (ix2 p k)
      = act (fun j => y (ix2 p j)) (fun j => lng (ix2 0 j)) (fun j => lnb (ix2 0 j)) k * gc (ix3 0 p k) := by
  pointwise [k0_pay23, centre]
  simp only [act, ln, mean, Ideal.logistic]

/-- An entry of a group, from the values of its loads. -/
theorem group_apply (b : FVec Ideal S1x512 .f32) (l0 l1 l2 l3 l4 l5 l6 l7 l8 l9 l10 l11 l12 l13 l14 l15 l16 l17 l18 l19 l20 l21 l22 l23 l24 l25 l26 l27 l28 l29 l30 : FVec Ideal S32x512 .f32)
    (d0 d1 d2 d3 d4 d5 d6 d7 d8 d9 d10 d11 d12 d13 d14 d15 d16 d17 d18 d19 d20 d21 d22 d23 d24 d25 d26 d27 d28 d29 d30 : FVec Ideal S1x8x512 .f32)
    (lng lnb : FVec Ideal S1x512 .f32) (gc : FVec Ideal S1x32x512 .f32)
    (p : Fin 32) (E : Fin 512 → Fin 31 → EReal) (D : Fin 31 → Fin 512 → EReal)
    (hl0 : ∀ k, l0 (ix2 p k) = E k 0)
    (hl1 : ∀ k, l1 (ix2 p k) = E k 1)
    (hl2 : ∀ k, l2 (ix2 p k) = E k 2)
    (hl3 : ∀ k, l3 (ix2 p k) = E k 3)
    (hl4 : ∀ k, l4 (ix2 p k) = E k 4)
    (hl5 : ∀ k, l5 (ix2 p k) = E k 5)
    (hl6 : ∀ k, l6 (ix2 p k) = E k 6)
    (hl7 : ∀ k, l7 (ix2 p k) = E k 7)
    (hl8 : ∀ k, l8 (ix2 p k) = E k 8)
    (hl9 : ∀ k, l9 (ix2 p k) = E k 9)
    (hl10 : ∀ k, l10 (ix2 p k) = E k 10)
    (hl11 : ∀ k, l11 (ix2 p k) = E k 11)
    (hl12 : ∀ k, l12 (ix2 p k) = E k 12)
    (hl13 : ∀ k, l13 (ix2 p k) = E k 13)
    (hl14 : ∀ k, l14 (ix2 p k) = E k 14)
    (hl15 : ∀ k, l15 (ix2 p k) = E k 15)
    (hl16 : ∀ k, l16 (ix2 p k) = E k 16)
    (hl17 : ∀ k, l17 (ix2 p k) = E k 17)
    (hl18 : ∀ k, l18 (ix2 p k) = E k 18)
    (hl19 : ∀ k, l19 (ix2 p k) = E k 19)
    (hl20 : ∀ k, l20 (ix2 p k) = E k 20)
    (hl21 : ∀ k, l21 (ix2 p k) = E k 21)
    (hl22 : ∀ k, l22 (ix2 p k) = E k 22)
    (hl23 : ∀ k, l23 (ix2 p k) = E k 23)
    (hl24 : ∀ k, l24 (ix2 p k) = E k 24)
    (hl25 : ∀ k, l25 (ix2 p k) = E k 25)
    (hl26 : ∀ k, l26 (ix2 p k) = E k 26)
    (hl27 : ∀ k, l27 (ix2 p k) = E k 27)
    (hl28 : ∀ k, l28 (ix2 p k) = E k 28)
    (hl29 : ∀ k, l29 (ix2 p k) = E k 29)
    (hl30 : ∀ k, l30 (ix2 p k) = E k 30)
    (hd0 : ∀ s k, d0 (ix3 0 s k) = D 0 k)
    (hd1 : ∀ s k, d1 (ix3 0 s k) = D 1 k)
    (hd2 : ∀ s k, d2 (ix3 0 s k) = D 2 k)
    (hd3 : ∀ s k, d3 (ix3 0 s k) = D 3 k)
    (hd4 : ∀ s k, d4 (ix3 0 s k) = D 4 k)
    (hd5 : ∀ s k, d5 (ix3 0 s k) = D 5 k)
    (hd6 : ∀ s k, d6 (ix3 0 s k) = D 6 k)
    (hd7 : ∀ s k, d7 (ix3 0 s k) = D 7 k)
    (hd8 : ∀ s k, d8 (ix3 0 s k) = D 8 k)
    (hd9 : ∀ s k, d9 (ix3 0 s k) = D 9 k)
    (hd10 : ∀ s k, d10 (ix3 0 s k) = D 10 k)
    (hd11 : ∀ s k, d11 (ix3 0 s k) = D 11 k)
    (hd12 : ∀ s k, d12 (ix3 0 s k) = D 12 k)
    (hd13 : ∀ s k, d13 (ix3 0 s k) = D 13 k)
    (hd14 : ∀ s k, d14 (ix3 0 s k) = D 14 k)
    (hd15 : ∀ s k, d15 (ix3 0 s k) = D 15 k)
    (hd16 : ∀ s k, d16 (ix3 0 s k) = D 16 k)
    (hd17 : ∀ s k, d17 (ix3 0 s k) = D 17 k)
    (hd18 : ∀ s k, d18 (ix3 0 s k) = D 18 k)
    (hd19 : ∀ s k, d19 (ix3 0 s k) = D 19 k)
    (hd20 : ∀ s k, d20 (ix3 0 s k) = D 20 k)
    (hd21 : ∀ s k, d21 (ix3 0 s k) = D 21 k)
    (hd22 : ∀ s k, d22 (ix3 0 s k) = D 22 k)
    (hd23 : ∀ s k, d23 (ix3 0 s k) = D 23 k)
    (hd24 : ∀ s k, d24 (ix3 0 s k) = D 24 k)
    (hd25 : ∀ s k, d25 (ix3 0 s k) = D 25 k)
    (hd26 : ∀ s k, d26 (ix3 0 s k) = D 26 k)
    (hd27 : ∀ s k, d27 (ix3 0 s k) = D 27 k)
    (hd28 : ∀ s k, d28 (ix3 0 s k) = D 28 k)
    (hd29 : ∀ s k, d29 (ix3 0 s k) = D 29 k)
    (hd30 : ∀ s k, d30 (ix3 0 s k) = D 30 k)
    (k : Fin 512) : group b l0 l1 l2 l3 l4 l5 l6 l7 l8 l9 l10 l11 l12 l13 l14 l15 l16 l17 l18 l19 l20 l21 l22 l23 l24 l25 l26 l27 l28 l29 l30 d0 d1 d2 d3 d4 d5 d6 d7 d8 d9 d10 d11 d12 d13 d14 d15 d16 d17 d18 d19 d20 d21 d22 d23 d24 d25 d26 d27 d28 d29 d30 lng lnb gc (ix2 p k)
      = conv E D (fun j => b (ix2 0 j)) (fun j => lng (ix2 0 j)) (fun j => lnb (ix2 0 j)) k * gc (ix3 0 p k) := by
  unfold group
  rw [fin_apply, conv]
  congr 2
  funext j
  rw [tap_apply _ _ _ _ hd30, tap_apply _ _ _ _ hd29, tap_apply _ _ _ _ hd28, tap_apply _ _ _ _ hd27, tap_apply _ _ _ _ hd26, tap_apply _ _ _ _ hd25, tap_apply _ _ _ _ hd24, tap_apply _ _ _ _ hd23, tap_apply _ _ _ _ hd22, tap_apply _ _ _ _ hd21, tap_apply _ _ _ _ hd20, tap_apply _ _ _ _ hd19, tap_apply _ _ _ _ hd18, tap_apply _ _ _ _ hd17, tap_apply _ _ _ _ hd16, tap_apply _ _ _ _ hd15, tap_apply _ _ _ _ hd14, tap_apply _ _ _ _ hd13, tap_apply _ _ _ _ hd12, tap_apply _ _ _ _ hd11, tap_apply _ _ _ _ hd10, tap_apply _ _ _ _ hd9, tap_apply _ _ _ _ hd8, tap_apply _ _ _ _ hd7, tap_apply _ _ _ _ hd6, tap_apply _ _ _ _ hd5, tap_apply _ _ _ _ hd4, tap_apply _ _ _ _ hd3, tap_apply _ _ _ _ hd2, tap_apply _ _ _ _ hd1, tap_apply _ _ _ _ hd0, bias_apply,
    hl0, hl1, hl2, hl3, hl4, hl5, hl6, hl7, hl8, hl9, hl10, hl11, hl12, hl13, hl14, hl15, hl16, hl17, hl18, hl19, hl20, hl21, hl22, hl23, hl24, hl25, hl26, hl27, hl28, hl29, hl30, taps_first]

end Cert.Proof.Merge
end
end
-- ==== Proof.MergeGroups0.lean ====
module

public import proofs.«01_k».proof.Proof.MergeLoads
public import proofs.«01_k».proof.Proof.MergeChunk

@[expose] public section

/-! The groups of 32 rows of the merge of the prompt, entry by entry. -/

set_option maxRecDepth 65536
set_option maxHeartbeats 1000000

noncomputable section

namespace Cert.Proof.Merge

open Cert.Kernel3Ideal Cert.Kernel3Ideal.Gen Cert.Kernel3Ideal.Gen.kernelRun0_A.sl Idealize.ShloMosaic Idealize.ShloMosaic.TcCoe

/-- Entry `k` of row `r` of the gated convolution of a tile, from the blocks the kernel is given. -/
def rowv (i : grid0.Coords) (x1 : FVec Ideal S1x512x512 .f32) (x2 : FVec Ideal S1x32x512 .f32) (x3 : FVec Ideal S1x512x512 .f32)
    (x6 : FVec Ideal S31x8x512 .f32) (x7 x8 x9 : FVec Ideal S1x512 .f32) (r k : Fin 512) : EReal :=
  conv (fun k w => ext i x1 x2 (r.val + 2 + w.val) k) (fun w k => x6 (ix3 w 0 k)) (fun j => x7 (ix2 0 j)) (fun j => x8 (ix2 0 j))
    (fun j => x9 (ix2 0 j)) k * x3 (ix3 0 r k)

theorem conv_congr {u u' : Fin 512 → Fin 31 → EReal} {dw : Fin 31 → Fin 512 → EReal} {b lng lnb : Fin 512 → EReal} {k : Fin 512}
    (h : ∀ k w, u k w = u' k w) : conv u dw b lng lnb k = conv u' dw b lng lnb k := by
  rw [show u = u' from funext fun k => funext (h k)]

/-- A load of a row of 512. -/
theorem row_load (arg : Memref sig .tc .vmem S1x512 .f32) (harg : arg.IsWhole) (x : FVec Ideal S1x512 .f32)
    (h : ∀ b, (![0, 0] : Fin 2 → ℕ) b + S1x512.size b ≤ S1x512.size b) :
    View.readAt (Elt Ideal) arg.view (Rect.unit (s := S1x512) ![0, 0] S1x512.size h).toLoadRect (harg.unread x) = x := by
  rw [View.readAt_eq_ld, Memref.IsWhole.read_unread, View.ld_unit_lit _ _ (by decide)]

variable (c : Dev nD) (i : grid0.Coords) (arg3 : Memref sig .tc .vmem S1x512x512 .f32) (harg3 : arg3.IsWhole)
  (arg4 : Memref sig .tc .vmem S1x32x512 .f32) (harg4 : arg4.IsWhole) (arg5 : Memref sig .tc .vmem S1x512x512 .f32) (harg5 : arg5.IsWhole)
  (arg8 : Memref sig .tc .vmem S31x8x512 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x512 .f32) (harg11 : arg11.IsWhole)
  (arg13 : Memref sig .tc .vmem S552x512 .f32) (arg14 : Memref sig .tc .vmem S7x544x512 .f32)
  (x1 : FVec Ideal S1x512x512 .f32) (x2 : FVec Ideal S1x32x512 .f32) (x3 : FVec Ideal S1x512x512 .f32) (x6 : FVec Ideal S31x8x512 .f32)
  (x7 x8 x9 : FVec Ideal S1x512 .f32)

theorem rows_0 (hx6 : ∀ w s k, x6 (ix3 w s k) = x6 (ix3 w 0 k)) (p : Fin 32) (k : Fin 512) :
    k0_pay23 (r_13 c i arg3 harg3 arg4 harg4 arg8 harg8 arg9 harg9 arg13 arg14 x1 x2 x6 x7) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 0, 0] S1x32x512.size inb_S1x512x512_S1x32x512_0_0_0).toLoadRect (harg5.unread x3)) (ix2 p k)
      = rowv i x1 x2 x3 x6 x7 x8 x9 ⟨0 + p.val, by omega⟩ k := by
  refine (congrFun (group_0 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (0 + 2 + w.val + p.val) k) (fun w k => x6 (ix3 w 0 k))
    (fun k => sh_load c i arg3 harg3 arg4 harg4 arg13 arg14 x1 x2 1 0 _ _ _ _ _ _ p k)
    (fun k => sh_load c i arg3 harg3 arg4 harg4 arg13 arg14 x1 x2 2 0 _ _ _ _ _ _ p k)
    (fun k => sh_load c i arg3 harg3 arg4 harg4 arg13 arg14 x1 x2 3 0 _ _ _ _ _ _ p k)
    (fun k => sh_load c i arg3 harg3 arg4 harg4 arg13 arg14 x1 x2 4 0 _ _ _ _ _ _ p k)
    (fun k => sh_load c i arg3 harg3 arg4 harg4 arg13 arg14 x1 x2 5 0 _ _ _ _ _ _ p k)
    (fun k => sh_load c i arg3 harg3 arg4 harg4 arg13 arg14 x1 x2 6 0 _ _ _ _ _ _ p k)
    (fun k => ext_load c i arg3 harg3 arg4 harg4 arg13 x1 x2 8 _ p k)
    (fun k => sh_load c i arg3 harg3 arg4 harg4 arg13 arg14 x1 x2 0 8 _ _ _ _ _ _ p k)
    (fun k => sh_load c i arg3 harg3 arg4 harg4 arg13 arg14 x1 x2 1 8 _ _ _ _ _ _ p k)
    (fun k => sh_load c i arg3 harg3 arg4 harg4 arg13 arg14 x1 x2 2 8 _ _ _ _ _ _ p k)
    (fun k => sh_load c i arg3 harg3 arg4 harg4 arg13 arg14 x1 x2 3 8 _ _ _ _ _ _ p k)
    (fun k => sh_load c i arg3 harg3 arg4 harg4 arg13 arg14 x1 x2 4 8 _ _ _ _ _ _ p k)
    (fun k => sh_load c i arg3 harg3 arg4 harg4 arg13 arg14 x1 x2 5 8 _ _ _ _ _ _ p k)
    (fun k => sh_load c i arg3 harg3 arg4 harg4 arg13 arg14 x1 x2 6 8 _ _ _ _ _ _ p k)
    (fun k => ext_load c i arg3 harg3 arg4 harg4 arg13 x1 x2 16 _ p k)
    (fun k => sh_load c i arg3 harg3 arg4 harg4 arg13 arg14 x1 x2 0 16 _ _ _ _ _ _ p k)
    (fun k => sh_load c i arg3 harg3 arg4 harg4 arg13 arg14 x1 x2 1 16 _ _ _ _ _ _ p k)
    (fun k => sh_load c i arg3 harg3 arg4 harg4 arg13 arg14 x1 x2 2 16 _ _ _ _ _ _ p k)
    (fun k => sh_load c i arg3 harg3 arg4 harg4 arg13 arg14 x1 x2 3 16 _ _ _ _ _ _ p k)
    (fun k => sh_load c i arg3 harg3 arg4 harg4 arg13 arg14 x1 x2 4 16 _ _ _ _ _ _ p k)
    (fun k => sh_load c i arg3 harg3 arg4 harg4 arg13 arg14 x1 x2 5 16 _ _ _ _ _ _ p k)
    (fun k => sh_load c i arg3 harg3 arg4 harg4 arg13 arg14 x1 x2 6 16 _ _ _ _ _ _ p k)
    (fun k => ext_load c i arg3 harg3 arg4 harg4 arg13 x1 x2 24 _ p k)
    (fun k => sh_load c i arg3 harg3 arg4 harg4 arg13 arg14 x1 x2 0 24 _ _ _ _ _ _ p k)
    (fun k => sh_load c i arg3 harg3 arg4 harg4 arg13 arg14 x1 x2 1 24 _ _ _ _ _ _ p k)
    (fun k => sh_load c i arg3 harg3 arg4 harg4 arg13 arg14 x1 x2 2 24 _ _ _ _ _ _ p k)
    (fun k => sh_load c i arg3 harg3 arg4 harg4 arg13 arg14 x1 x2 3 24 _ _ _ _ _ _ p k)
    (fun k => sh_load c i arg3 harg3 arg4 harg4 arg13 arg14 x1 x2 4 24 _ _ _ _ _ _ p k)
    (fun k => sh_load c i arg3 harg3 arg4 harg4 arg13 arg14 x1 x2 5 24 _ _ _ _ _ _ p k)
    (fun k => sh_load c i arg3 harg3 arg4 harg4 arg13 arg14 x1 x2 6 24 _ _ _ _ _ _ p k)
    (fun k => ext_load c i arg3 harg3 arg4 harg4 arg13 x1 x2 32 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 0 _ p k)

theorem rows_1 (hx6 : ∀ w s k, x6 (ix3 w s k) = x6 (ix3 w 0 k)) (p : Fin 32) (k : Fin 512) :
    k0_pay35 (r_27 c i arg3 harg3 arg4 harg4 arg8 harg8 arg9 harg9 arg13 arg14 x1 x2 x6 x7) (r_28 c i arg3 harg3 arg4 harg4 arg8 harg8 arg9 harg9 arg13 arg14 x1 x2 x6 x7) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 32, 0] S1x32x512.size inb_S1x512x512_S1x32x512_0_32_0).toLoadRect (harg5.unread x3)) (ix2 p k)
      = rowv i x1 x2 x3 x6 x7 x8 x9 ⟨32 + p.val, by omega⟩ k := by
  refine (congrFun (group_1 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (32 + 2 + w.val + p.val) k) (fun w k => x6 (ix3 w 0 k))
    (fun k => sh_load c i arg3 harg3 arg4 harg4 arg13 arg14 x1 x2 1 32 _ _ _ _ _ _ p k)
    (fun k => sh_load c i arg3 harg3 arg4 harg4 arg13 arg14 x1 x2 2 32 _ _ _ _ _ _ p k)
    (fun k => sh_load c i arg3 harg3 arg4 harg4 arg13 arg14 x1 x2 3 32 _ _ _ _ _ _ p k)
    (fun k => sh_load c i arg3 harg3 arg4 harg4 arg13 arg14 x1 x2 4 32 _ _ _ _ _ _ p k)
    (fun k => sh_load c i arg3 harg3 arg4 harg4 arg13 arg14 x1 x2 5 32 _ _ _ _ _ _ p k)
    (fun k => sh_load c i arg3 harg3 arg4 harg4 arg13 arg14 x1 x2 6 32 _ _ _ _ _ _ p k)
    (fun k => ext_load c i arg3 harg3 arg4 harg4 arg13 x1 x2 40 _ p k)
    (fun k => sh_load c i arg3 harg3 arg4 harg4 arg13 arg14 x1 x2 0 40 _ _ _ _ _ _ p k)
    (fun k => sh_load c i arg3 harg3 arg4 harg4 arg13 arg14 x1 x2 1 40 _ _ _ _ _ _ p k)
    (fun k => sh_load c i arg3 harg3 arg4 harg4 arg13 arg14 x1 x2 2 40 _ _ _ _ _ _ p k)
    (fun k => sh_load c i arg3 harg3 arg4 harg4 arg13 arg14 x1 x2 3 40 _ _ _ _ _ _ p k)
    (fun k => sh_load c i arg3 harg3 arg4 harg4 arg13 arg14 x1 x2 4 40 _ _ _ _ _ _ p k)
    (fun k => sh_load c i arg3 harg3 arg4 harg4 arg13 arg14 x1 x2 5 40 _ _ _ _ _ _ p k)
    (fun k => sh_load c i arg3 harg3 arg4 harg4 arg13 arg14 x1 x2 6 40 _ _ _ _ _ _ p k)
    (fun k => ext_load c i arg3 harg3 arg4 harg4 arg13 x1 x2 48 _ p k)
    (fun k => sh_load c i arg3 harg3 arg4 harg4 arg13 arg14 x1 x2 0 48 _ _ _ _ _ _ p k)
    (fun k => sh_load c i arg3 harg3 arg4 harg4 arg13 arg14 x1 x2 1 48 _ _ _ _ _ _ p k)
    (fun k => sh_load c i arg3 harg3 arg4 harg4 arg13 arg14 x1 x2 2 48 _ _ _ _ _ _ p k)
    (fun k => sh_load c i arg3 harg3 arg4 harg4 arg13 arg14 x1 x2 3 48 _ _ _ _ _ _ p k)
    (fun k => sh_load c i arg3 harg3 arg4 harg4 arg13 arg14 x1 x2 4 48 _ _ _ _ _ _ p k)
    (fun k => sh_load c i arg3 harg3 arg4 harg4 arg13 arg14 x1 x2 5 48 _ _ _ _ _ _ p k)
    (fun k => sh_load c i arg3 harg3 arg4 harg4 arg13 arg14 x1 x2 6 48 _ _ _ _ _ _ p k)
    (fun k => ext_load c i arg3 harg3 arg4 harg4 arg13 x1 x2 56 _ p k)
    (fun k => sh_load c i arg3 harg3 arg4 harg4 arg13 arg14 x1 x2 0 56 _ _ _ _ _ _ p k)
    (fun k => sh_load c i arg3 harg3 arg4 harg4 arg13 arg14 x1 x2 1 56 _ _ _ _ _ _ p k)
    (fun k => sh_load c i arg3 harg3 arg4 harg4 arg13 arg14 x1 x2 2 56 _ _ _ _ _ _ p k)
    (fun k => sh_load c i arg3 harg3 arg4 harg4 arg13 arg14 x1 x2 3 56 _ _ _ _ _ _ p k)
    (fun k => sh_load c i arg3 harg3 arg4 harg4 arg13 arg14 x1 x2 4 56 _ _ _ _ _ _ p k)
    (fun k => sh_load c i arg3 harg3 arg4 harg4 arg13 arg14 x1 x2 5 56 _ _ _ _ _ _ p k)
    (fun k => sh_load c i arg3 harg3 arg4 harg4 arg13 arg14 x1 x2 6 56 _ _ _ _ _ _ p k)
    (fun k => ext_load c i arg3 harg3 arg4 harg4 arg13 x1 x2 64 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 32 _ p k)

theorem rows_2 (hx6 : ∀ w s k, x6 (ix3 w s k) = x6 (ix3 w 0 k)) (p : Fin 32) (k : Fin 512) :
    k0_pay47 (r_42 c i arg3 harg3 arg4 harg4 arg8 harg8 arg9 harg9 arg10 harg10 arg13 arg14 x1 x2 x6 x7 x8) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 64, 0] S1x32x512.size inb_S1x512x512_S1x32x512_0_64_0).toLoadRect (harg5.unread x3)) (ix2 p k)
      = rowv i x1 x2 x3 x6 x7 x8 x9 ⟨64 + p.val, by omega⟩ k := by
  refine (congrFun (group_2 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (64 + 2 + w.val + p.val) k) (fun w k => x6 (ix3 w 0 k))
    (fun k => sh_load c i arg3 harg3 arg4 harg4 arg13 arg14 x1 x2 1 64 _ _ _ _ _ _ p k)
    (fun k => sh_load c i arg3 harg3 arg4 harg4 arg13 arg14 x1 x2 2 64 _ _ _ _ _ _ p k)
    (fun k => sh_load c i arg3 harg3 arg4 harg4 arg13 arg14 x1 x2 3 64 _ _ _ _ _ _ p k)
    (fun k => sh_load c i arg3 harg3 arg4 harg4 arg13 arg14 x1 x2 4 64 _ _ _ _ _ _ p k)
    (fun k => sh_load c i arg3 harg3 arg4 harg4 arg13 arg14 x1 x2 5 64 _ _ _ _ _ _ p k)
    (fun k => sh_load c i arg3 harg3 arg4 harg4 arg13 arg14 x1 x2 6 64 _ _ _ _ _ _ p k)
    (fun k => ext_load c i arg3 harg3 arg4 harg4 arg13 x1 x2 72 _ p k)
    (fun k => sh_load c i arg3 harg3 arg4 harg4 arg13 arg14 x1 x2 0 72 _ _ _ _ _ _ p k)
    (fun k => sh_load c i arg3 harg3 arg4 harg4 arg13 arg14 x1 x2 1 72 _ _ _ _ _ _ p k)
    (fun k => sh_load c i arg3 harg3 arg4 harg4 arg13 arg14 x1 x2 2 72 _ _ _ _ _ _ p k)
    (fun k => sh_load c i arg3 harg3 arg4 harg4 arg13 arg14 x1 x2 3 72 _ _ _ _ _ _ p k)
    (fun k => sh_load c i arg3 harg3 arg4 harg4 arg13 arg14 x1 x2 4 72 _ _ _ _ _ _ p k)
    (fun k => sh_load c i arg3 harg3 arg4 harg4 arg13 arg14 x1 x2 5 72 _ _ _ _ _ _ p k)
    (fun k => sh_load c i arg3 harg3 arg4 harg4 arg13 arg14 x1 x2 6 72 _ _ _ _ _ _ p k)
    (fun k => ext_load c i arg3 harg3 arg4 harg4 arg13 x1 x2 80 _ p k)
    (fun k => sh_load c i arg3 harg3 arg4 harg4 arg13 arg14 x1 x2 0 80 _ _ _ _ _ _ p k)
    (fun k => sh_load c i arg3 harg3 arg4 harg4 arg13 arg14 x1 x2 1 80 _ _ _ _ _ _ p k)
    (fun k => sh_load c i arg3 harg3 arg4 harg4 arg13 arg14 x1 x2 2 80 _ _ _ _ _ _ p k)
    (fun k => sh_load c i arg3 harg3 arg4 harg4 arg13 arg14 x1 x2 3 80 _ _ _ _ _ _ p k)
    (fun k => sh_load c i arg3 harg3 arg4 harg4 arg13 arg14 x1 x2 4 80 _ _ _ _ _ _ p k)
    (fun k => sh_load c i arg3 harg3 arg4 harg4 arg13 arg14 x1 x2 5 80 _ _ _ _ _ _ p k)
    (fun k => sh_load c i arg3 harg3 arg4 harg4 arg13 arg14 x1 x2 6 80 _ _ _ _ _ _ p k)
    (fun k => ext_load c i arg3 harg3 arg4 harg4 arg13 x1 x2 88 _ p k)
    (fun k => sh_load c i arg3 harg3 arg4 harg4 arg13 arg14 x1 x2 0 88 _ _ _ _ _ _ p k)
    (fun k => sh_load c i arg3 harg3 arg4 harg4 arg13 arg14 x1 x2 1 88 _ _ _ _ _ _ p k)
    (fun k => sh_load c i arg3 harg3 arg4 harg4 arg13 arg14 x1 x2 2 88 _ _ _ _ _ _ p k)
    (fun k => sh_load c i arg3 harg3 arg4 harg4 arg13 arg14 x1 x2 3 88 _ _ _ _ _ _ p k)
    (fun k => sh_load c i arg3 harg3 arg4 harg4 arg13 arg14 x1 x2 4 88 _ _ _ _ _ _ p k)
    (fun k => sh_load c i arg3 harg3 arg4 harg4 arg13 arg14 x1 x2 5 88 _ _ _ _ _ _ p k)
    (fun k => sh_load c i arg3 harg3 arg4 harg4 arg13 arg14 x1 x2 6 88 _ _ _ _ _ _ p k)
    (fun k => ext_load c i arg3 harg3 arg4 harg4 arg13 x1 x2 96 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 64 _ p k)

theorem rows_3 (hx6 : ∀ w s k, x6 (ix3 w s k) = x6 (ix3 w 0 k)) (p : Fin 32) (k : Fin 512) :
    k0_pay59 (r_59 c i arg3 harg3 arg4 harg4 arg8 harg8 arg9 harg9 arg10 harg10 arg11 harg11 arg13 arg14 x1 x2 x6 x7 x8 x9) (View.readAt (Elt Ideal) arg5.view (Rect.unit (s := S1x512x512) ![0, 96, 0] S1x32x512.size inb_S1x512x512_S1x32x512_0_96_0).toLoadRect (harg5.unread x3)) (ix2 p k)
      = rowv i x1 x2 x3 x6 x7 x8 x9 ⟨96 + p.val, by omega⟩ k := by
  refine (congrFun (group_3 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (96 + 2 + w.val + p.val) k) (fun w k => x6 (ix3 w 0 k))
    (fun k => sh_load c i arg3 harg3 arg4 harg4 arg13 arg14 x1 x2 1 96 _ _ _ _ _ _ p k)
    (fun k => sh_load c i arg3 harg3 arg4 harg4 arg13 arg14 x1 x2 2 96 _ _ _ _ _ _ p k)
    (fun k => sh_load c i arg3 harg3 arg4 harg4 arg13 arg14 x1 x2 3 96 _ _ _ _ _ _ p k)
    (fun k => sh_load c i arg3 harg3 arg4 harg4 arg13 arg14 x1 x2 4 96 _ _ _ _ _ _ p k)
    (fun k => sh_load c i arg3 harg3 arg4 harg4 arg13 arg14 x1 x2 5 96 _ _ _ _ _ _ p k)
    (fun k => sh_load c i arg3 harg3 arg4 harg4 arg13 arg14 x1 x2 6 96 _ _ _ _ _ _ p k)
    (fun k => ext_load c i arg3 harg3 arg4 harg4 arg13 x1 x2 104 _ p k)
    (fun k => sh_load c i arg3 harg3 arg4 harg4 arg13 arg14 x1 x2 0 104 _ _ _ _ _ _ p k)
    (fun k => sh_load c i arg3 harg3 arg4 harg4 arg13 arg14 x1 x2 1 104 _ _ _ _ _ _ p k)
    (fun k => sh_load c i arg3 harg3 arg4 harg4 arg13 arg14 x1 x2 2 104 _ _ _ _ _ _ p k)
    (fun k => sh_load c i arg3 harg3 arg4 harg4 arg13 arg14 x1 x2 3 104 _ _ _ _ _ _ p k)
    (fun k => sh_load c i arg3 harg3 arg4 harg4 arg13 arg14 x1 x2 4 104 _ _ _ _ _ _ p k)
    (fun k => sh_load c i arg3 harg3 arg4 harg4 arg13 arg14 x1 x2 5 104 _ _ _ _ _ _ p k)
    (fun k => sh_load c i arg3 harg3 arg4 harg4 arg13 arg14 x1 x2 6 104 _ _ _ _ _ _ p k)
    (fun k => ext_load c i arg3 harg3 arg4 harg4 arg13 x1 x2 112 _ p k)
    (fun k => sh_load c i arg3 harg3 arg4 harg4 arg13 arg14 x1 x2 0 112 _ _ _ _ _ _ p k)
    (fun k => sh_load c i arg3 harg3 arg4 harg4 arg13 arg14 x1 x2 1 112 _ _ _ _ _ _ p k)
    (fun k => sh_load c i arg3 harg3 arg4 harg4 arg13 arg14 x1 x2 2 112 _ _ _ _ _ _ p k)
    (fun k => sh_load c i arg3 harg3 arg4 harg4 arg13 arg14 x1 x2 3 112 _ _ _ _ _ _ p k)
    (fun k => sh_load c i arg3 harg3 arg4 harg4 arg13 arg14 x1 x2 4 112 _ _ _ _ _ _ p k)
    (fun k => sh_load c i arg3 harg3 arg4 harg4 arg13 arg14 x1 x2 5 112 _ _ _ _ _ _ p k)
    (fun k => sh_load c i arg3 harg3 arg4 harg4 arg13 arg14 x1 x2 6 112 _ _ _ _ _ _ p k)
    (fun k => ext_load c i arg3 harg3 arg4 harg4 arg13 x1 x2 120 _ p k)
    (fun k => sh_load c i arg3 harg3 arg4 harg4 arg13 arg14 x1 x2 0 120 _ _ _ _ _ _ p k)
    (fun k => sh_load c i arg3 harg3 arg4 harg4 arg13 arg14 x1 x2 1 120 _ _ _ _ _ _ p k)
    (fun k => sh_load c i arg3 harg3 arg4 harg4 arg13 arg14 x1 x2 2 120 _ _ _ _ _ _ p k)
    (fun k => sh_load c i arg3 harg3 arg4 harg4 arg13 arg14 x1 x2 3 120 _ _ _ _ _ _ p k)
    (fun k => sh_load c i arg3 harg3 arg4 harg4 arg13 arg14 x1 x2 4 120 _ _ _ _ _ _ p k)
    (fun k => sh_load c i arg3 harg3 arg4 harg4 arg13 arg14 x1 x2 5 120 _ _ _ _ _ _ p k)
    (fun k => sh_load c i arg3 harg3 arg4 harg4 arg13 arg14 x1 x2 6 120 _ _ _ _ _ _ p k)
    (fun k => ext_load c i arg3 harg3 arg4 harg4 arg13 x1 x2 128 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 96 _ p k)

end Cert.Proof.Merge
end
end
-- ==== Proof.MergeGroups1.lean ====
module

public import proofs.«01_k».proof.Proof.MergeGroups0

@[expose] public section

/-! The groups of 32 rows of the merge of the prompt, entry by entry. -/

set_option maxRecDepth 65536
set_option maxHeartbeats 1000000

noncomputable section

namespace Cert.Proof.Merge

open Cert.Kernel3Ideal Cert.Kernel3Ideal.Gen Cert.Kernel3Ideal.Gen.kernelRun0_A.sl Idealize.ShloMosaic Idealize.ShloMosaic.TcCoe

variable (c : Dev nD) (i : grid0.Coords) (arg3 : Memref sig .tc .vmem S1x512x512 .f32) (harg3 : arg3.IsWhole)
  (arg4 : Memref sig .tc .vmem S1x32x512 .f32) (harg4 : arg4.IsWhole) (arg5 : Memref sig .tc .vmem S1x512x512 .f32) (harg5 : arg5.IsWhole)
  (arg8 : Memref sig .tc .vmem S31x8x512 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x512 .f32) (harg11 : arg11.IsWhole)
  (arg13 : Memref sig .tc .vmem S552x512 .f32) (arg14 : Memref sig .tc .vmem S7x544x512 .f32)
  (x1 : FVec Ideal S1x512x512 .f32) (x2 : FVec Ideal S1x32x512 .f32) (x3 : FVec Ideal S1x512x512 .f32) (x6 : FVec Ideal S31x8x512 .f32)
  (x7 x8 x9 : FVec Ideal S1x512 .f32)

theorem rows_4 (hx6 : ∀ w s k, x6 (ix3 w s k) = x6 (ix3 w 0 k)) (p : Fin 32) (k : Fin 512) :
    k0_pay70 (r_71 c i arg3 harg3 arg4 harg4 arg8 harg8 arg9 harg9 arg13 arg14 x1 x2 x6 x7) (r_72 c i arg3 harg3 arg4 harg4 arg8 harg8 arg13 arg14 x1 x2 x6) (v1399 c i arg3 harg3 arg4 harg4 arg13 x1 x2) (View.readAt (Elt Ideal) arg8.view (Rect.unit (s := S31x8x512) ![30, 0, 0] S1x8x512.size inb_S31x8x512_S1x8x512_30_0_0).toLoadRect (harg8.unread x6)) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 128, 0] S1x32x512.size inb_S1x512x512_S1x32x512_0_128_0).toLoadRect (harg5.unread x3)) (ix2 p k)
      = rowv i x1 x2 x3 x6 x7 x8 x9 ⟨128 + p.val, by omega⟩ k := by
  refine (congrFun (group_4 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (128 + 2 + w.val + p.val) k) (fun w k => x6 (ix3 w 0 k))
    (fun k => sh_load c i arg3 harg3 arg4 harg4 arg13 arg14 x1 x2 1 128 _ _ _ _ _ _ p k)
    (fun k => sh_load c i arg3 harg3 arg4 harg4 arg13 arg14 x1 x2 2 128 _ _ _ _ _ _ p k)
    (fun k => sh_load c i arg3 harg3 arg4 harg4 arg13 arg14 x1 x2 3 128 _ _ _ _ _ _ p k)
    (fun k => sh_load c i arg3 harg3 arg4 harg4 arg13 arg14 x1 x2 4 128 _ _ _ _ _ _ p k)
    (fun k => sh_load c i arg3 harg3 arg4 harg4 arg13 arg14 x1 x2 5 128 _ _ _ _ _ _ p k)
    (fun k => sh_load c i arg3 harg3 arg4 harg4 arg13 arg14 x1 x2 6 128 _ _ _ _ _ _ p k)
    (fun k => ext_load c i arg3 harg3 arg4 harg4 arg13 x1 x2 136 _ p k)
    (fun k => sh_load c i arg3 harg3 arg4 harg4 arg13 arg14 x1 x2 0 136 _ _ _ _ _ _ p k)
    (fun k => sh_load c i arg3 harg3 arg4 harg4 arg13 arg14 x1 x2 1 136 _ _ _ _ _ _ p k)
    (fun k => sh_load c i arg3 harg3 arg4 harg4 arg13 arg14 x1 x2 2 136 _ _ _ _ _ _ p k)
    (fun k => sh_load c i arg3 harg3 arg4 harg4 arg13 arg14 x1 x2 3 136 _ _ _ _ _ _ p k)
    (fun k => sh_load c i arg3 harg3 arg4 harg4 arg13 arg14 x1 x2 4 136 _ _ _ _ _ _ p k)
    (fun k => sh_load c i arg3 harg3 arg4 harg4 arg13 arg14 x1 x2 5 136 _ _ _ _ _ _ p k)
    (fun k => sh_load c i arg3 harg3 arg4 harg4 arg13 arg14 x1 x2 6 136 _ _ _ _ _ _ p k)
    (fun k => ext_load c i arg3 harg3 arg4 harg4 arg13 x1 x2 144 _ p k)
    (fun k => sh_load c i arg3 harg3 arg4 harg4 arg13 arg14 x1 x2 0 144 _ _ _ _ _ _ p k)
    (fun k => sh_load c i arg3 harg3 arg4 harg4 arg13 arg14 x1 x2 1 144 _ _ _ _ _ _ p k)
    (fun k => sh_load c i arg3 harg3 arg4 harg4 arg13 arg14 x1 x2 2 144 _ _ _ _ _ _ p k)
    (fun k => sh_load c i arg3 harg3 arg4 harg4 arg13 arg14 x1 x2 3 144 _ _ _ _ _ _ p k)
    (fun k => sh_load c i arg3 harg3 arg4 harg4 arg13 arg14 x1 x2 4 144 _ _ _ _ _ _ p k)
    (fun k => sh_load c i arg3 harg3 arg4 harg4 arg13 arg14 x1 x2 5 144 _ _ _ _ _ _ p k)
    (fun k => sh_load c i arg3 harg3 arg4 harg4 arg13 arg14 x1 x2 6 144 _ _ _ _ _ _ p k)
    (fun k => ext_load c i arg3 harg3 arg4 harg4 arg13 x1 x2 152 _ p k)
    (fun k => sh_load c i arg3 harg3 arg4 harg4 arg13 arg14 x1 x2 0 152 _ _ _ _ _ _ p k)
    (fun k => sh_load c i arg3 harg3 arg4 harg4 arg13 arg14 x1 x2 1 152 _ _ _ _ _ _ p k)
    (fun k => sh_load c i arg3 harg3 arg4 harg4 arg13 arg14 x1 x2 2 152 _ _ _ _ _ _ p k)
    (fun k => sh_load c i arg3 harg3 arg4 harg4 arg13 arg14 x1 x2 3 152 _ _ _ _ _ _ p k)
    (fun k => sh_load c i arg3 harg3 arg4 harg4 arg13 arg14 x1 x2 4 152 _ _ _ _ _ _ p k)
    (fun k => sh_load c i arg3 harg3 arg4 harg4 arg13 arg14 x1 x2 5 152 _ _ _ _ _ _ p k)
    (fun k => sh_load c i arg3 harg3 arg4 harg4 arg13 arg14 x1 x2 6 152 _ _ _ _ _ _ p k)
    (fun k => ext_load c i arg3 harg3 arg4 harg4 arg13 x1 x2 160 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 128 _ p k)

theorem rows_5 (hx6 : ∀ w s k, x6 (ix3 w s k) = x6 (ix3 w 0 k)) (p : Fin 32) (k : Fin 512) :
    k0_pay81 (r_82 c i arg3 harg3 arg4 harg4 arg8 harg8 arg9 harg9 arg13 arg14 x1 x2 x6 x7) (v1676 c i arg3 harg3 arg4 harg4 arg13 x1 x2) (r_83 c arg8 harg8 x6) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 160, 0] S1x32x512.size inb_S1x512x512_S1x32x512_0_160_0).toLoadRect (harg5.unread x3)) (ix2 p k)
      = rowv i x1 x2 x3 x6 x7 x8 x9 ⟨160 + p.val, by omega⟩ k := by
  refine (congrFun (group_5 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (160 + 2 + w.val + p.val) k) (fun w k => x6 (ix3 w 0 k))
    (fun k => sh_load c i arg3 harg3 arg4 harg4 arg13 arg14 x1 x2 1 160 _ _ _ _ _ _ p k)
    (fun k => sh_load c i arg3 harg3 arg4 harg4 arg13 arg14 x1 x2 2 160 _ _ _ _ _ _ p k)
    (fun k => sh_load c i arg3 harg3 arg4 harg4 arg13 arg14 x1 x2 3 160 _ _ _ _ _ _ p k)
    (fun k => sh_load c i arg3 harg3 arg4 harg4 arg13 arg14 x1 x2 4 160 _ _ _ _ _ _ p k)
    (fun k => sh_load c i arg3 harg3 arg4 harg4 arg13 arg14 x1 x2 5 160 _ _ _ _ _ _ p k)
    (fun k => sh_load c i arg3 harg3 arg4 harg4 arg13 arg14 x1 x2 6 160 _ _ _ _ _ _ p k)
    (fun k => ext_load c i arg3 harg3 arg4 harg4 arg13 x1 x2 168 _ p k)
    (fun k => sh_load c i arg3 harg3 arg4 harg4 arg13 arg14 x1 x2 0 168 _ _ _ _ _ _ p k)
    (fun k => sh_load c i arg3 harg3 arg4 harg4 arg13 arg14 x1 x2 1 168 _ _ _ _ _ _ p k)
    (fun k => sh_load c i arg3 harg3 arg4 harg4 arg13 arg14 x1 x2 2 168 _ _ _ _ _ _ p k)
    (fun k => sh_load c i arg3 harg3 arg4 harg4 arg13 arg14 x1 x2 3 168 _ _ _ _ _ _ p k)
    (fun k => sh_load c i arg3 harg3 arg4 harg4 arg13 arg14 x1 x2 4 168 _ _ _ _ _ _ p k)
    (fun k => sh_load c i arg3 harg3 arg4 harg4 arg13 arg14 x1 x2 5 168 _ _ _ _ _ _ p k)
    (fun k => sh_load c i arg3 harg3 arg4 harg4 arg13 arg14 x1 x2 6 168 _ _ _ _ _ _ p k)
    (fun k => ext_load c i arg3 harg3 arg4 harg4 arg13 x1 x2 176 _ p k)
    (fun k => sh_load c i arg3 harg3 arg4 harg4 arg13 arg14 x1 x2 0 176 _ _ _ _ _ _ p k)
    (fun k => sh_load c i arg3 harg3 arg4 harg4 arg13 arg14 x1 x2 1 176 _ _ _ _ _ _ p k)
    (fun k => sh_load c i arg3 harg3 arg4 harg4 arg13 arg14 x1 x2 2 176 _ _ _ _ _ _ p k)
    (fun k => sh_load c i arg3 harg3 arg4 harg4 arg13 arg14 x1 x2 3 176 _ _ _ _ _ _ p k)
    (fun k => sh_load c i arg3 harg3 arg4 harg4 arg13 arg14 x1 x2 4 176 _ _ _ _ _ _ p k)
    (fun k => sh_load c i arg3 harg3 arg4 harg4 arg13 arg14 x1 x2 5 176 _ _ _ _ _ _ p k)
    (fun k => sh_load c i arg3 harg3 arg4 harg4 arg13 arg14 x1 x2 6 176 _ _ _ _ _ _ p k)
    (fun k => ext_load c i arg3 harg3 arg4 harg4 arg13 x1 x2 184 _ p k)
    (fun k => sh_load c i arg3 harg3 arg4 harg4 arg13 arg14 x1 x2 0 184 _ _ _ _ _ _ p k)
    (fun k => sh_load c i arg3 harg3 arg4 harg4 arg13 arg14 x1 x2 1 184 _ _ _ _ _ _ p k)
    (fun k => sh_load c i arg3 harg3 arg4 harg4 arg13 arg14 x1 x2 2 184 _ _ _ _ _ _ p k)
    (fun k => sh_load c i arg3 harg3 arg4 harg4 arg13 arg14 x1 x2 3 184 _ _ _ _ _ _ p k)
    (fun k => sh_load c i arg3 harg3 arg4 harg4 arg13 arg14 x1 x2 4 184 _ _ _ _ _ _ p k)
    (fun k => sh_load c i arg3 harg3 arg4 harg4 arg13 arg14 x1 x2 5 184 _ _ _ _ _ _ p k)
    (fun k => sh_load c i arg3 harg3 arg4 harg4 arg13 arg14 x1 x2 6 184 _ _ _ _ _ _ p k)
    (fun k => ext_load c i arg3 harg3 arg4 harg4 arg13 x1 x2 192 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 160 _ p k)

theorem rows_6 (hx6 : ∀ w s k, x6 (ix3 w s k) = x6 (ix3 w 0 k)) (p : Fin 32) (k : Fin 512) :
    k0_pay93 (r_98 c i arg3 harg3 arg4 harg4 arg8 harg8 arg9 harg9 arg13 arg14 x1 x2 x6 x7) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 192, 0] S1x32x512.size inb_S1x512x512_S1x32x512_0_192_0).toLoadRect (harg5.unread x3)) (ix2 p k)
      = rowv i x1 x2 x3 x6 x7 x8 x9 ⟨192 + p.val, by omega⟩ k := by
  refine (congrFun (group_6 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (192 + 2 + w.val + p.val) k) (fun w k => x6 (ix3 w 0 k))
    (fun k => sh_load c i arg3 harg3 arg4 harg4 arg13 arg14 x1 x2 1 192 _ _ _ _ _ _ p k)
    (fun k => sh_load c i arg3 harg3 arg4 harg4 arg13 arg14 x1 x2 2 192 _ _ _ _ _ _ p k)
    (fun k => sh_load c i arg3 harg3 arg4 harg4 arg13 arg14 x1 x2 3 192 _ _ _ _ _ _ p k)
    (fun k => sh_load c i arg3 harg3 arg4 harg4 arg13 arg14 x1 x2 4 192 _ _ _ _ _ _ p k)
    (fun k => sh_load c i arg3 harg3 arg4 harg4 arg13 arg14 x1 x2 5 192 _ _ _ _ _ _ p k)
    (fun k => sh_load c i arg3 harg3 arg4 harg4 arg13 arg14 x1 x2 6 192 _ _ _ _ _ _ p k)
    (fun k => ext_load c i arg3 harg3 arg4 harg4 arg13 x1 x2 200 _ p k)
    (fun k => sh_load c i arg3 harg3 arg4 harg4 arg13 arg14 x1 x2 0 200 _ _ _ _ _ _ p k)
    (fun k => sh_load c i arg3 harg3 arg4 harg4 arg13 arg14 x1 x2 1 200 _ _ _ _ _ _ p k)
    (fun k => sh_load c i arg3 harg3 arg4 harg4 arg13 arg14 x1 x2 2 200 _ _ _ _ _ _ p k)
    (fun k => sh_load c i arg3 harg3 arg4 harg4 arg13 arg14 x1 x2 3 200 _ _ _ _ _ _ p k)
    (fun k => sh_load c i arg3 harg3 arg4 harg4 arg13 arg14 x1 x2 4 200 _ _ _ _ _ _ p k)
    (fun k => sh_load c i arg3 harg3 arg4 harg4 arg13 arg14 x1 x2 5 200 _ _ _ _ _ _ p k)
    (fun k => sh_load c i arg3 harg3 arg4 harg4 arg13 arg14 x1 x2 6 200 _ _ _ _ _ _ p k)
    (fun k => ext_load c i arg3 harg3 arg4 harg4 arg13 x1 x2 208 _ p k)
    (fun k => sh_load c i arg3 harg3 arg4 harg4 arg13 arg14 x1 x2 0 208 _ _ _ _ _ _ p k)
    (fun k => sh_load c i arg3 harg3 arg4 harg4 arg13 arg14 x1 x2 1 208 _ _ _ _ _ _ p k)
    (fun k => sh_load c i arg3 harg3 arg4 harg4 arg13 arg14 x1 x2 2 208 _ _ _ _ _ _ p k)
    (fun k => sh_load c i arg3 harg3 arg4 harg4 arg13 arg14 x1 x2 3 208 _ _ _ _ _ _ p k)
    (fun k => sh_load c i arg3 harg3 arg4 harg4 arg13 arg14 x1 x2 4 208 _ _ _ _ _ _ p k)
    (fun k => sh_load c i arg3 harg3 arg4 harg4 arg13 arg14 x1 x2 5 208 _ _ _ _ _ _ p k)
    (fun k => sh_load c i arg3 harg3 arg4 harg4 arg13 arg14 x1 x2 6 208 _ _ _ _ _ _ p k)
    (fun k => ext_load c i arg3 harg3 arg4 harg4 arg13 x1 x2 216 _ p k)
    (fun k => sh_load c i arg3 harg3 arg4 harg4 arg13 arg14 x1 x2 0 216 _ _ _ _ _ _ p k)
    (fun k => sh_load c i arg3 harg3 arg4 harg4 arg13 arg14 x1 x2 1 216 _ _ _ _ _ _ p k)
    (fun k => sh_load c i arg3 harg3 arg4 harg4 arg13 arg14 x1 x2 2 216 _ _ _ _ _ _ p k)
    (fun k => sh_load c i arg3 harg3 arg4 harg4 arg13 arg14 x1 x2 3 216 _ _ _ _ _ _ p k)
    (fun k => sh_load c i arg3 harg3 arg4 harg4 arg13 arg14 x1 x2 4 216 _ _ _ _ _ _ p k)
    (fun k => sh_load c i arg3 harg3 arg4 harg4 arg13 arg14 x1 x2 5 216 _ _ _ _ _ _ p k)
    (fun k => sh_load c i arg3 harg3 arg4 harg4 arg13 arg14 x1 x2 6 216 _ _ _ _ _ _ p k)
    (fun k => ext_load c i arg3 harg3 arg4 harg4 arg13 x1 x2 224 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 192 _ p k)

theorem rows_7 (hx6 : ∀ w s k, x6 (ix3 w s k) = x6 (ix3 w 0 k)) (p : Fin 32) (k : Fin 512) :
    k0_pay105 (r_112 c i arg3 harg3 arg4 harg4 arg8 harg8 arg9 harg9 arg13 arg14 x1 x2 x6 x7) (r_113 c i arg3 harg3 arg4 harg4 arg8 harg8 arg9 harg9 arg13 arg14 x1 x2 x6 x7) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 224, 0] S1x32x512.size inb_S1x512x512_S1x32x512_0_224_0).toLoadRect (harg5.unread x3)) (ix2 p k)
      = rowv i x1 x2 x3 x6 x7 x8 x9 ⟨224 + p.val, by omega⟩ k := by
  refine (congrFun (group_7 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (224 + 2 + w.val + p.val) k) (fun w k => x6 (ix3 w 0 k))
    (fun k => sh_load c i arg3 harg3 arg4 harg4 arg13 arg14 x1 x2 1 224 _ _ _ _ _ _ p k)
    (fun k => sh_load c i arg3 harg3 arg4 harg4 arg13 arg14 x1 x2 2 224 _ _ _ _ _ _ p k)
    (fun k => sh_load c i arg3 harg3 arg4 harg4 arg13 arg14 x1 x2 3 224 _ _ _ _ _ _ p k)
    (fun k => sh_load c i arg3 harg3 arg4 harg4 arg13 arg14 x1 x2 4 224 _ _ _ _ _ _ p k)
    (fun k => sh_load c i arg3 harg3 arg4 harg4 arg13 arg14 x1 x2 5 224 _ _ _ _ _ _ p k)
    (fun k => sh_load c i arg3 harg3 arg4 harg4 arg13 arg14 x1 x2 6 224 _ _ _ _ _ _ p k)
    (fun k => ext_load c i arg3 harg3 arg4 harg4 arg13 x1 x2 232 _ p k)
    (fun k => sh_load c i arg3 harg3 arg4 harg4 arg13 arg14 x1 x2 0 232 _ _ _ _ _ _ p k)
    (fun k => sh_load c i arg3 harg3 arg4 harg4 arg13 arg14 x1 x2 1 232 _ _ _ _ _ _ p k)
    (fun k => sh_load c i arg3 harg3 arg4 harg4 arg13 arg14 x1 x2 2 232 _ _ _ _ _ _ p k)
    (fun k => sh_load c i arg3 harg3 arg4 harg4 arg13 arg14 x1 x2 3 232 _ _ _ _ _ _ p k)
    (fun k => sh_load c i arg3 harg3 arg4 harg4 arg13 arg14 x1 x2 4 232 _ _ _ _ _ _ p k)
    (fun k => sh_load c i arg3 harg3 arg4 harg4 arg13 arg14 x1 x2 5 232 _ _ _ _ _ _ p k)
    (fun k => sh_load c i arg3 harg3 arg4 harg4 arg13 arg14 x1 x2 6 232 _ _ _ _ _ _ p k)
    (fun k => ext_load c i arg3 harg3 arg4 harg4 arg13 x1 x2 240 _ p k)
    (fun k => sh_load c i arg3 harg3 arg4 harg4 arg13 arg14 x1 x2 0 240 _ _ _ _ _ _ p k)
    (fun k => sh_load c i arg3 harg3 arg4 harg4 arg13 arg14 x1 x2 1 240 _ _ _ _ _ _ p k)
    (fun k => sh_load c i arg3 harg3 arg4 harg4 arg13 arg14 x1 x2 2 240 _ _ _ _ _ _ p k)
    (fun k => sh_load c i arg3 harg3 arg4 harg4 arg13 arg14 x1 x2 3 240 _ _ _ _ _ _ p k)
    (fun k => sh_load c i arg3 harg3 arg4 harg4 arg13 arg14 x1 x2 4 240 _ _ _ _ _ _ p k)
    (fun k => sh_load c i arg3 harg3 arg4 harg4 arg13 arg14 x1 x2 5 240 _ _ _ _ _ _ p k)
    (fun k => sh_load c i arg3 harg3 arg4 harg4 arg13 arg14 x1 x2 6 240 _ _ _ _ _ _ p k)
    (fun k => ext_load c i arg3 harg3 arg4 harg4 arg13 x1 x2 248 _ p k)
    (fun k => sh_load c i arg3 harg3 arg4 harg4 arg13 arg14 x1 x2 0 248 _ _ _ _ _ _ p k)
    (fun k => sh_load c i arg3 harg3 arg4 harg4 arg13 arg14 x1 x2 1 248 _ _ _ _ _ _ p k)
    (fun k => sh_load c i arg3 harg3 arg4 harg4 arg13 arg14 x1 x2 2 248 _ _ _ _ _ _ p k)
    (fun k => sh_load c i arg3 harg3 arg4 harg4 arg13 arg14 x1 x2 3 248 _ _ _ _ _ _ p k)
    (fun k => sh_load c i arg3 harg3 arg4 harg4 arg13 arg14 x1 x2 4 248 _ _ _ _ _ _ p k)
    (fun k => sh_load c i arg3 harg3 arg4 harg4 arg13 arg14 x1 x2 5 248 _ _ _ _ _ _ p k)
    (fun k => sh_load c i arg3 harg3 arg4 harg4 arg13 arg14 x1 x2 6 248 _ _ _ _ _ _ p k)
    (fun k => ext_load c i arg3 harg3 arg4 harg4 arg13 x1 x2 256 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 224 _ p k)

end Cert.Proof.Merge
end
end
-- ==== Proof.MergeGroups2.lean ====
module

public import proofs.«01_k».proof.Proof.MergeGroups0

@[expose] public section

/-! The groups of 32 rows of the merge of the prompt, entry by entry. -/

set_option maxRecDepth 65536
set_option maxHeartbeats 1000000

noncomputable section

namespace Cert.Proof.Merge

open Cert.Kernel3Ideal Cert.Kernel3Ideal.Gen Cert.Kernel3Ideal.Gen.kernelRun0_A.sl Idealize.ShloMosaic Idealize.ShloMosaic.TcCoe

variable (c : Dev nD) (i : grid0.Coords) (arg3 : Memref sig .tc .vmem S1x512x512 .f32) (harg3 : arg3.IsWhole)
  (arg4 : Memref sig .tc .vmem S1x32x512 .f32) (harg4 : arg4.IsWhole) (arg5 : Memref sig .tc .vmem S1x512x512 .f32) (harg5 : arg5.IsWhole)
  (arg8 : Memref sig .tc .vmem S31x8x512 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x512 .f32) (harg11 : arg11.IsWhole)
  (arg13 : Memref sig .tc .vmem S552x512 .f32) (arg14 : Memref sig .tc .vmem S7x544x512 .f32)
  (x1 : FVec Ideal S1x512x512 .f32) (x2 : FVec Ideal S1x32x512 .f32) (x3 : FVec Ideal S1x512x512 .f32) (x6 : FVec Ideal S31x8x512 .f32)
  (x7 x8 x9 : FVec Ideal S1x512 .f32)

theorem rows_8 (hx6 : ∀ w s k, x6 (ix3 w s k) = x6 (ix3 w 0 k)) (p : Fin 32) (k : Fin 512) :
    k0_pay117 (r_127 c i arg3 harg3 arg4 harg4 arg8 harg8 arg9 harg9 arg10 harg10 arg13 arg14 x1 x2 x6 x7 x8) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 256, 0] S1x32x512.size inb_S1x512x512_S1x32x512_0_256_0).toLoadRect (harg5.unread x3)) (ix2 p k)
      = rowv i x1 x2 x3 x6 x7 x8 x9 ⟨256 + p.val, by omega⟩ k := by
  refine (congrFun (group_8 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (256 + 2 + w.val + p.val) k) (fun w k => x6 (ix3 w 0 k))
    (fun k => sh_load c i arg3 harg3 arg4 harg4 arg13 arg14 x1 x2 1 256 _ _ _ _ _ _ p k)
    (fun k => sh_load c i arg3 harg3 arg4 harg4 arg13 arg14 x1 x2 2 256 _ _ _ _ _ _ p k)
    (fun k => sh_load c i arg3 harg3 arg4 harg4 arg13 arg14 x1 x2 3 256 _ _ _ _ _ _ p k)
    (fun k => sh_load c i arg3 harg3 arg4 harg4 arg13 arg14 x1 x2 4 256 _ _ _ _ _ _ p k)
    (fun k => sh_load c i arg3 harg3 arg4 harg4 arg13 arg14 x1 x2 5 256 _ _ _ _ _ _ p k)
    (fun k => sh_load c i arg3 harg3 arg4 harg4 arg13 arg14 x1 x2 6 256 _ _ _ _ _ _ p k)
    (fun k => ext_load c i arg3 harg3 arg4 harg4 arg13 x1 x2 264 _ p k)
    (fun k => sh_load c i arg3 harg3 arg4 harg4 arg13 arg14 x1 x2 0 264 _ _ _ _ _ _ p k)
    (fun k => sh_load c i arg3 harg3 arg4 harg4 arg13 arg14 x1 x2 1 264 _ _ _ _ _ _ p k)
    (fun k => sh_load c i arg3 harg3 arg4 harg4 arg13 arg14 x1 x2 2 264 _ _ _ _ _ _ p k)
    (fun k => sh_load c i arg3 harg3 arg4 harg4 arg13 arg14 x1 x2 3 264 _ _ _ _ _ _ p k)
    (fun k => sh_load c i arg3 harg3 arg4 harg4 arg13 arg14 x1 x2 4 264 _ _ _ _ _ _ p k)
    (fun k => sh_load c i arg3 harg3 arg4 harg4 arg13 arg14 x1 x2 5 264 _ _ _ _ _ _ p k)
    (fun k => sh_load c i arg3 harg3 arg4 harg4 arg13 arg14 x1 x2 6 264 _ _ _ _ _ _ p k)
    (fun k => ext_load c i arg3 harg3 arg4 harg4 arg13 x1 x2 272 _ p k)
    (fun k => sh_load c i arg3 harg3 arg4 harg4 arg13 arg14 x1 x2 0 272 _ _ _ _ _ _ p k)
    (fun k => sh_load c i arg3 harg3 arg4 harg4 arg13 arg14 x1 x2 1 272 _ _ _ _ _ _ p k)
    (fun k => sh_load c i arg3 harg3 arg4 harg4 arg13 arg14 x1 x2 2 272 _ _ _ _ _ _ p k)
    (fun k => sh_load c i arg3 harg3 arg4 harg4 arg13 arg14 x1 x2 3 272 _ _ _ _ _ _ p k)
    (fun k => sh_load c i arg3 harg3 arg4 harg4 arg13 arg14 x1 x2 4 272 _ _ _ _ _ _ p k)
    (fun k => sh_load c i arg3 harg3 arg4 harg4 arg13 arg14 x1 x2 5 272 _ _ _ _ _ _ p k)
    (fun k => sh_load c i arg3 harg3 arg4 harg4 arg13 arg14 x1 x2 6 272 _ _ _ _ _ _ p k)
    (fun k => ext_load c i arg3 harg3 arg4 harg4 arg13 x1 x2 280 _ p k)
    (fun k => sh_load c i arg3 harg3 arg4 harg4 arg13 arg14 x1 x2 0 280 _ _ _ _ _ _ p k)
    (fun k => sh_load c i arg3 harg3 arg4 harg4 arg13 arg14 x1 x2 1 280 _ _ _ _ _ _ p k)
    (fun k => sh_load c i arg3 harg3 arg4 harg4 arg13 arg14 x1 x2 2 280 _ _ _ _ _ _ p k)
    (fun k => sh_load c i arg3 harg3 arg4 harg4 arg13 arg14 x1 x2 3 280 _ _ _ _ _ _ p k)
    (fun k => sh_load c i arg3 harg3 arg4 harg4 arg13 arg14 x1 x2 4 280 _ _ _ _ _ _ p k)
    (fun k => sh_load c i arg3 harg3 arg4 harg4 arg13 arg14 x1 x2 5 280 _ _ _ _ _ _ p k)
    (fun k => sh_load c i arg3 harg3 arg4 harg4 arg13 arg14 x1 x2 6 280 _ _ _ _ _ _ p k)
    (fun k => ext_load c i arg3 harg3 arg4 harg4 arg13 x1 x2 288 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 256 _ p k)

theorem rows_9 (hx6 : ∀ w s k, x6 (ix3 w s k) = x6 (ix3 w 0 k)) (p : Fin 32) (k : Fin 512) :
    k0_pay129 (r_143 c i arg3 harg3 arg4 harg4 arg8 harg8 arg9 harg9 arg10 harg10 arg11 harg11 arg13 arg14 x1 x2 x6 x7 x8 x9) (View.readAt (Elt Ideal) arg5.view (Rect.unit (s := S1x512x512) ![0, 288, 0] S1x32x512.size inb_S1x512x512_S1x32x512_0_288_0).toLoadRect (harg5.unread x3)) (ix2 p k)
      = rowv i x1 x2 x3 x6 x7 x8 x9 ⟨288 + p.val, by omega⟩ k := by
  refine (congrFun (group_9 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (288 + 2 + w.val + p.val) k) (fun w k => x6 (ix3 w 0 k))
    (fun k => sh_load c i arg3 harg3 arg4 harg4 arg13 arg14 x1 x2 1 288 _ _ _ _ _ _ p k)
    (fun k => sh_load c i arg3 harg3 arg4 harg4 arg13 arg14 x1 x2 2 288 _ _ _ _ _ _ p k)
    (fun k => sh_load c i arg3 harg3 arg4 harg4 arg13 arg14 x1 x2 3 288 _ _ _ _ _ _ p k)
    (fun k => sh_load c i arg3 harg3 arg4 harg4 arg13 arg14 x1 x2 4 288 _ _ _ _ _ _ p k)
    (fun k => sh_load c i arg3 harg3 arg4 harg4 arg13 arg14 x1 x2 5 288 _ _ _ _ _ _ p k)
    (fun k => sh_load c i arg3 harg3 arg4 harg4 arg13 arg14 x1 x2 6 288 _ _ _ _ _ _ p k)
    (fun k => ext_load c i arg3 harg3 arg4 harg4 arg13 x1 x2 296 _ p k)
    (fun k => sh_load c i arg3 harg3 arg4 harg4 arg13 arg14 x1 x2 0 296 _ _ _ _ _ _ p k)
    (fun k => sh_load c i arg3 harg3 arg4 harg4 arg13 arg14 x1 x2 1 296 _ _ _ _ _ _ p k)
    (fun k => sh_load c i arg3 harg3 arg4 harg4 arg13 arg14 x1 x2 2 296 _ _ _ _ _ _ p k)
    (fun k => sh_load c i arg3 harg3 arg4 harg4 arg13 arg14 x1 x2 3 296 _ _ _ _ _ _ p k)
    (fun k => sh_load c i arg3 harg3 arg4 harg4 arg13 arg14 x1 x2 4 296 _ _ _ _ _ _ p k)
    (fun k => sh_load c i arg3 harg3 arg4 harg4 arg13 arg14 x1 x2 5 296 _ _ _ _ _ _ p k)
    (fun k => sh_load c i arg3 harg3 arg4 harg4 arg13 arg14 x1 x2 6 296 _ _ _ _ _ _ p k)
    (fun k => ext_load c i arg3 harg3 arg4 harg4 arg13 x1 x2 304 _ p k)
    (fun k => sh_load c i arg3 harg3 arg4 harg4 arg13 arg14 x1 x2 0 304 _ _ _ _ _ _ p k)
    (fun k => sh_load c i arg3 harg3 arg4 harg4 arg13 arg14 x1 x2 1 304 _ _ _ _ _ _ p k)
    (fun k => sh_load c i arg3 harg3 arg4 harg4 arg13 arg14 x1 x2 2 304 _ _ _ _ _ _ p k)
    (fun k => sh_load c i arg3 harg3 arg4 harg4 arg13 arg14 x1 x2 3 304 _ _ _ _ _ _ p k)
    (fun k => sh_load c i arg3 harg3 arg4 harg4 arg13 arg14 x1 x2 4 304 _ _ _ _ _ _ p k)
    (fun k => sh_load c i arg3 harg3 arg4 harg4 arg13 arg14 x1 x2 5 304 _ _ _ _ _ _ p k)
    (fun k => sh_load c i arg3 harg3 arg4 harg4 arg13 arg14 x1 x2 6 304 _ _ _ _ _ _ p k)
    (fun k => ext_load c i arg3 harg3 arg4 harg4 arg13 x1 x2 312 _ p k)
    (fun k => sh_load c i arg3 harg3 arg4 harg4 arg13 arg14 x1 x2 0 312 _ _ _ _ _ _ p k)
    (fun k => sh_load c i arg3 harg3 arg4 harg4 arg13 arg14 x1 x2 1 312 _ _ _ _ _ _ p k)
    (fun k => sh_load c i arg3 harg3 arg4 harg4 arg13 arg14 x1 x2 2 312 _ _ _ _ _ _ p k)
    (fun k => sh_load c i arg3 harg3 arg4 harg4 arg13 arg14 x1 x2 3 312 _ _ _ _ _ _ p k)
    (fun k => sh_load c i arg3 harg3 arg4 harg4 arg13 arg14 x1 x2 4 312 _ _ _ _ _ _ p k)
    (fun k => sh_load c i arg3 harg3 arg4 harg4 arg13 arg14 x1 x2 5 312 _ _ _ _ _ _ p k)
    (fun k => sh_load c i arg3 harg3 arg4 harg4 arg13 arg14 x1 x2 6 312 _ _ _ _ _ _ p k)
    (fun k => ext_load c i arg3 harg3 arg4 harg4 arg13 x1 x2 320 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 288 _ p k)

theorem rows_10 (hx6 : ∀ w s k, x6 (ix3 w s k) = x6 (ix3 w 0 k)) (p : Fin 32) (k : Fin 512) :
    k0_pay140 (r_154 c i arg3 harg3 arg4 harg4 arg8 harg8 arg9 harg9 arg13 arg14 x1 x2 x6 x7) (r_155 c i arg3 harg3 arg4 harg4 arg8 harg8 arg13 arg14 x1 x2 x6) (v3061 c i arg3 harg3 arg4 harg4 arg13 x1 x2) (View.readAt (Elt Ideal) arg8.view (Rect.unit (s := S31x8x512) ![30, 0, 0] S1x8x512.size inb_S31x8x512_S1x8x512_30_0_0).toLoadRect (harg8.unread x6)) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 320, 0] S1x32x512.size inb_S1x512x512_S1x32x512_0_320_0).toLoadRect (harg5.unread x3)) (ix2 p k)
      = rowv i x1 x2 x3 x6 x7 x8 x9 ⟨320 + p.val, by omega⟩ k := by
  refine (congrFun (group_10 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (320 + 2 + w.val + p.val) k) (fun w k => x6 (ix3 w 0 k))
    (fun k => sh_load c i arg3 harg3 arg4 harg4 arg13 arg14 x1 x2 1 320 _ _ _ _ _ _ p k)
    (fun k => sh_load c i arg3 harg3 arg4 harg4 arg13 arg14 x1 x2 2 320 _ _ _ _ _ _ p k)
    (fun k => sh_load c i arg3 harg3 arg4 harg4 arg13 arg14 x1 x2 3 320 _ _ _ _ _ _ p k)
    (fun k => sh_load c i arg3 harg3 arg4 harg4 arg13 arg14 x1 x2 4 320 _ _ _ _ _ _ p k)
    (fun k => sh_load c i arg3 harg3 arg4 harg4 arg13 arg14 x1 x2 5 320 _ _ _ _ _ _ p k)
    (fun k => sh_load c i arg3 harg3 arg4 harg4 arg13 arg14 x1 x2 6 320 _ _ _ _ _ _ p k)
    (fun k => ext_load c i arg3 harg3 arg4 harg4 arg13 x1 x2 328 _ p k)
    (fun k => sh_load c i arg3 harg3 arg4 harg4 arg13 arg14 x1 x2 0 328 _ _ _ _ _ _ p k)
    (fun k => sh_load c i arg3 harg3 arg4 harg4 arg13 arg14 x1 x2 1 328 _ _ _ _ _ _ p k)
    (fun k => sh_load c i arg3 harg3 arg4 harg4 arg13 arg14 x1 x2 2 328 _ _ _ _ _ _ p k)
    (fun k => sh_load c i arg3 harg3 arg4 harg4 arg13 arg14 x1 x2 3 328 _ _ _ _ _ _ p k)
    (fun k => sh_load c i arg3 harg3 arg4 harg4 arg13 arg14 x1 x2 4 328 _ _ _ _ _ _ p k)
    (fun k => sh_load c i arg3 harg3 arg4 harg4 arg13 arg14 x1 x2 5 328 _ _ _ _ _ _ p k)
    (fun k => sh_load c i arg3 harg3 arg4 harg4 arg13 arg14 x1 x2 6 328 _ _ _ _ _ _ p k)
    (fun k => ext_load c i arg3 harg3 arg4 harg4 arg13 x1 x2 336 _ p k)
    (fun k => sh_load c i arg3 harg3 arg4 harg4 arg13 arg14 x1 x2 0 336 _ _ _ _ _ _ p k)
    (fun k => sh_load c i arg3 harg3 arg4 harg4 arg13 arg14 x1 x2 1 336 _ _ _ _ _ _ p k)
    (fun k => sh_load c i arg3 harg3 arg4 harg4 arg13 arg14 x1 x2 2 336 _ _ _ _ _ _ p k)
    (fun k => sh_load c i arg3 harg3 arg4 harg4 arg13 arg14 x1 x2 3 336 _ _ _ _ _ _ p k)
    (fun k => sh_load c i arg3 harg3 arg4 harg4 arg13 arg14 x1 x2 4 336 _ _ _ _ _ _ p k)
    (fun k => sh_load c i arg3 harg3 arg4 harg4 arg13 arg14 x1 x2 5 336 _ _ _ _ _ _ p k)
    (fun k => sh_load c i arg3 harg3 arg4 harg4 arg13 arg14 x1 x2 6 336 _ _ _ _ _ _ p k)
    (fun k => ext_load c i arg3 harg3 arg4 harg4 arg13 x1 x2 344 _ p k)
    (fun k => sh_load c i arg3 harg3 arg4 harg4 arg13 arg14 x1 x2 0 344 _ _ _ _ _ _ p k)
    (fun k => sh_load c i arg3 harg3 arg4 harg4 arg13 arg14 x1 x2 1 344 _ _ _ _ _ _ p k)
    (fun k => sh_load c i arg3 harg3 arg4 harg4 arg13 arg14 x1 x2 2 344 _ _ _ _ _ _ p k)
    (fun k => sh_load c i arg3 harg3 arg4 harg4 arg13 arg14 x1 x2 3 344 _ _ _ _ _ _ p k)
    (fun k => sh_load c i arg3 harg3 arg4 harg4 arg13 arg14 x1 x2 4 344 _ _ _ _ _ _ p k)
    (fun k => sh_load c i arg3 harg3 arg4 harg4 arg13 arg14 x1 x2 5 344 _ _ _ _ _ _ p k)
    (fun k => sh_load c i arg3 harg3 arg4 harg4 arg13 arg14 x1 x2 6 344 _ _ _ _ _ _ p k)
    (fun k => ext_load c i arg3 harg3 arg4 harg4 arg13 x1 x2 352 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 320 _ p k)

theorem rows_11 (hx6 : ∀ w s k, x6 (ix3 w s k) = x6 (ix3 w 0 k)) (p : Fin 32) (k : Fin 512) :
    k0_pay151 (r_165 c i arg3 harg3 arg4 harg4 arg8 harg8 arg9 harg9 arg13 arg14 x1 x2 x6 x7) (v3338 c i arg3 harg3 arg4 harg4 arg13 x1 x2) (r_166 c arg8 harg8 x6) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 352, 0] S1x32x512.size inb_S1x512x512_S1x32x512_0_352_0).toLoadRect (harg5.unread x3)) (ix2 p k)
      = rowv i x1 x2 x3 x6 x7 x8 x9 ⟨352 + p.val, by omega⟩ k := by
  refine (congrFun (group_11 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (352 + 2 + w.val + p.val) k) (fun w k => x6 (ix3 w 0 k))
    (fun k => sh_load c i arg3 harg3 arg4 harg4 arg13 arg14 x1 x2 1 352 _ _ _ _ _ _ p k)
    (fun k => sh_load c i arg3 harg3 arg4 harg4 arg13 arg14 x1 x2 2 352 _ _ _ _ _ _ p k)
    (fun k => sh_load c i arg3 harg3 arg4 harg4 arg13 arg14 x1 x2 3 352 _ _ _ _ _ _ p k)
    (fun k => sh_load c i arg3 harg3 arg4 harg4 arg13 arg14 x1 x2 4 352 _ _ _ _ _ _ p k)
    (fun k => sh_load c i arg3 harg3 arg4 harg4 arg13 arg14 x1 x2 5 352 _ _ _ _ _ _ p k)
    (fun k => sh_load c i arg3 harg3 arg4 harg4 arg13 arg14 x1 x2 6 352 _ _ _ _ _ _ p k)
    (fun k => ext_load c i arg3 harg3 arg4 harg4 arg13 x1 x2 360 _ p k)
    (fun k => sh_load c i arg3 harg3 arg4 harg4 arg13 arg14 x1 x2 0 360 _ _ _ _ _ _ p k)
    (fun k => sh_load c i arg3 harg3 arg4 harg4 arg13 arg14 x1 x2 1 360 _ _ _ _ _ _ p k)
    (fun k => sh_load c i arg3 harg3 arg4 harg4 arg13 arg14 x1 x2 2 360 _ _ _ _ _ _ p k)
    (fun k => sh_load c i arg3 harg3 arg4 harg4 arg13 arg14 x1 x2 3 360 _ _ _ _ _ _ p k)
    (fun k => sh_load c i arg3 harg3 arg4 harg4 arg13 arg14 x1 x2 4 360 _ _ _ _ _ _ p k)
    (fun k => sh_load c i arg3 harg3 arg4 harg4 arg13 arg14 x1 x2 5 360 _ _ _ _ _ _ p k)
    (fun k => sh_load c i arg3 harg3 arg4 harg4 arg13 arg14 x1 x2 6 360 _ _ _ _ _ _ p k)
    (fun k => ext_load c i arg3 harg3 arg4 harg4 arg13 x1 x2 368 _ p k)
    (fun k => sh_load c i arg3 harg3 arg4 harg4 arg13 arg14 x1 x2 0 368 _ _ _ _ _ _ p k)
    (fun k => sh_load c i arg3 harg3 arg4 harg4 arg13 arg14 x1 x2 1 368 _ _ _ _ _ _ p k)
    (fun k => sh_load c i arg3 harg3 arg4 harg4 arg13 arg14 x1 x2 2 368 _ _ _ _ _ _ p k)
    (fun k => sh_load c i arg3 harg3 arg4 harg4 arg13 arg14 x1 x2 3 368 _ _ _ _ _ _ p k)
    (fun k => sh_load c i arg3 harg3 arg4 harg4 arg13 arg14 x1 x2 4 368 _ _ _ _ _ _ p k)
    (fun k => sh_load c i arg3 harg3 arg4 harg4 arg13 arg14 x1 x2 5 368 _ _ _ _ _ _ p k)
    (fun k => sh_load c i arg3 harg3 arg4 harg4 arg13 arg14 x1 x2 6 368 _ _ _ _ _ _ p k)
    (fun k => ext_load c i arg3 harg3 arg4 harg4 arg13 x1 x2 376 _ p k)
    (fun k => sh_load c i arg3 harg3 arg4 harg4 arg13 arg14 x1 x2 0 376 _ _ _ _ _ _ p k)
    (fun k => sh_load c i arg3 harg3 arg4 harg4 arg13 arg14 x1 x2 1 376 _ _ _ _ _ _ p k)
    (fun k => sh_load c i arg3 harg3 arg4 harg4 arg13 arg14 x1 x2 2 376 _ _ _ _ _ _ p k)
    (fun k => sh_load c i arg3 harg3 arg4 harg4 arg13 arg14 x1 x2 3 376 _ _ _ _ _ _ p k)
    (fun k => sh_load c i arg3 harg3 arg4 harg4 arg13 arg14 x1 x2 4 376 _ _ _ _ _ _ p k)
    (fun k => sh_load c i arg3 harg3 arg4 harg4 arg13 arg14 x1 x2 5 376 _ _ _ _ _ _ p k)
    (fun k => sh_load c i arg3 harg3 arg4 harg4 arg13 arg14 x1 x2 6 376 _ _ _ _ _ _ p k)
    (fun k => ext_load c i arg3 harg3 arg4 harg4 arg13 x1 x2 384 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 352 _ p k)

end Cert.Proof.Merge
end
end
-- ==== Proof.MergeGroups3.lean ====
module

public import proofs.«01_k».proof.Proof.MergeGroups0

@[expose] public section

/-! The groups of 32 rows of the merge of the prompt, entry by entry. -/

set_option maxRecDepth 65536
set_option maxHeartbeats 1000000

noncomputable section

namespace Cert.Proof.Merge

open Cert.Kernel3Ideal Cert.Kernel3Ideal.Gen Cert.Kernel3Ideal.Gen.kernelRun0_A.sl Idealize.ShloMosaic Idealize.ShloMosaic.TcCoe

variable (c : Dev nD) (i : grid0.Coords) (arg3 : Memref sig .tc .vmem S1x512x512 .f32) (harg3 : arg3.IsWhole)
  (arg4 : Memref sig .tc .vmem S1x32x512 .f32) (harg4 : arg4.IsWhole) (arg5 : Memref sig .tc .vmem S1x512x512 .f32) (harg5 : arg5.IsWhole)
  (arg8 : Memref sig .tc .vmem S31x8x512 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x512 .f32) (harg11 : arg11.IsWhole)
  (arg13 : Memref sig .tc .vmem S552x512 .f32) (arg14 : Memref sig .tc .vmem S7x544x512 .f32)
  (x1 : FVec Ideal S1x512x512 .f32) (x2 : FVec Ideal S1x32x512 .f32) (x3 : FVec Ideal S1x512x512 .f32) (x6 : FVec Ideal S31x8x512 .f32)
  (x7 x8 x9 : FVec Ideal S1x512 .f32)

theorem rows_12 (hx6 : ∀ w s k, x6 (ix3 w s k) = x6 (ix3 w 0 k)) (p : Fin 32) (k : Fin 512) :
    k0_pay163 (r_181 c i arg3 harg3 arg4 harg4 arg8 harg8 arg9 harg9 arg13 arg14 x1 x2 x6 x7) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 384, 0] S1x32x512.size inb_S1x512x512_S1x32x512_0_384_0).toLoadRect (harg5.unread x3)) (ix2 p k)
      = rowv i x1 x2 x3 x6 x7 x8 x9 ⟨384 + p.val, by omega⟩ k := by
  refine (congrFun (group_12 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (384 + 2 + w.val + p.val) k) (fun w k => x6 (ix3 w 0 k))
    (fun k => sh_load c i arg3 harg3 arg4 harg4 arg13 arg14 x1 x2 1 384 _ _ _ _ _ _ p k)
    (fun k => sh_load c i arg3 harg3 arg4 harg4 arg13 arg14 x1 x2 2 384 _ _ _ _ _ _ p k)
    (fun k => sh_load c i arg3 harg3 arg4 harg4 arg13 arg14 x1 x2 3 384 _ _ _ _ _ _ p k)
    (fun k => sh_load c i arg3 harg3 arg4 harg4 arg13 arg14 x1 x2 4 384 _ _ _ _ _ _ p k)
    (fun k => sh_load c i arg3 harg3 arg4 harg4 arg13 arg14 x1 x2 5 384 _ _ _ _ _ _ p k)
    (fun k => sh_load c i arg3 harg3 arg4 harg4 arg13 arg14 x1 x2 6 384 _ _ _ _ _ _ p k)
    (fun k => ext_load c i arg3 harg3 arg4 harg4 arg13 x1 x2 392 _ p k)
    (fun k => sh_load c i arg3 harg3 arg4 harg4 arg13 arg14 x1 x2 0 392 _ _ _ _ _ _ p k)
    (fun k => sh_load c i arg3 harg3 arg4 harg4 arg13 arg14 x1 x2 1 392 _ _ _ _ _ _ p k)
    (fun k => sh_load c i arg3 harg3 arg4 harg4 arg13 arg14 x1 x2 2 392 _ _ _ _ _ _ p k)
    (fun k => sh_load c i arg3 harg3 arg4 harg4 arg13 arg14 x1 x2 3 392 _ _ _ _ _ _ p k)
    (fun k => sh_load c i arg3 harg3 arg4 harg4 arg13 arg14 x1 x2 4 392 _ _ _ _ _ _ p k)
    (fun k => sh_load c i arg3 harg3 arg4 harg4 arg13 arg14 x1 x2 5 392 _ _ _ _ _ _ p k)
    (fun k => sh_load c i arg3 harg3 arg4 harg4 arg13 arg14 x1 x2 6 392 _ _ _ _ _ _ p k)
    (fun k => ext_load c i arg3 harg3 arg4 harg4 arg13 x1 x2 400 _ p k)
    (fun k => sh_load c i arg3 harg3 arg4 harg4 arg13 arg14 x1 x2 0 400 _ _ _ _ _ _ p k)
    (fun k => sh_load c i arg3 harg3 arg4 harg4 arg13 arg14 x1 x2 1 400 _ _ _ _ _ _ p k)
    (fun k => sh_load c i arg3 harg3 arg4 harg4 arg13 arg14 x1 x2 2 400 _ _ _ _ _ _ p k)
    (fun k => sh_load c i arg3 harg3 arg4 harg4 arg13 arg14 x1 x2 3 400 _ _ _ _ _ _ p k)
    (fun k => sh_load c i arg3 harg3 arg4 harg4 arg13 arg14 x1 x2 4 400 _ _ _ _ _ _ p k)
    (fun k => sh_load c i arg3 harg3 arg4 harg4 arg13 arg14 x1 x2 5 400 _ _ _ _ _ _ p k)
    (fun k => sh_load c i arg3 harg3 arg4 harg4 arg13 arg14 x1 x2 6 400 _ _ _ _ _ _ p k)
    (fun k => ext_load c i arg3 harg3 arg4 harg4 arg13 x1 x2 408 _ p k)
    (fun k => sh_load c i arg3 harg3 arg4 harg4 arg13 arg14 x1 x2 0 408 _ _ _ _ _ _ p k)
    (fun k => sh_load c i arg3 harg3 arg4 harg4 arg13 arg14 x1 x2 1 408 _ _ _ _ _ _ p k)
    (fun k => sh_load c i arg3 harg3 arg4 harg4 arg13 arg14 x1 x2 2 408 _ _ _ _ _ _ p k)
    (fun k => sh_load c i arg3 harg3 arg4 harg4 arg13 arg14 x1 x2 3 408 _ _ _ _ _ _ p k)
    (fun k => sh_load c i arg3 harg3 arg4 harg4 arg13 arg14 x1 x2 4 408 _ _ _ _ _ _ p k)
    (fun k => sh_load c i arg3 harg3 arg4 harg4 arg13 arg14 x1 x2 5 408 _ _ _ _ _ _ p k)
    (fun k => sh_load c i arg3 harg3 arg4 harg4 arg13 arg14 x1 x2 6 408 _ _ _ _ _ _ p k)
    (fun k => ext_load c i arg3 harg3 arg4 harg4 arg13 x1 x2 416 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 384 _ p k)

theorem rows_13 (hx6 : ∀ w s k, x6 (ix3 w s k) = x6 (ix3 w 0 k)) (p : Fin 32) (k : Fin 512) :
    k0_pay175 (r_195 c i arg3 harg3 arg4 harg4 arg8 harg8 arg9 harg9 arg13 arg14 x1 x2 x6 x7) (r_196 c i arg3 harg3 arg4 harg4 arg8 harg8 arg9 harg9 arg13 arg14 x1 x2 x6 x7) (View.readAt (Elt Ideal) arg10.view (Rect.unit (s := S1x512) ![0, 0] S1x512.size inb_S1x512_S1x512_0_0).toLoadRect (harg10.unread x8)) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 416, 0] S1x32x512.size inb_S1x512x512_S1x32x512_0_416_0).toLoadRect (harg5.unread x3)) (ix2 p k)
      = rowv i x1 x2 x3 x6 x7 x8 x9 ⟨416 + p.val, by omega⟩ k := by
  refine (congrFun (group_13 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (416 + 2 + w.val + p.val) k) (fun w k => x6 (ix3 w 0 k))
    (fun k => sh_load c i arg3 harg3 arg4 harg4 arg13 arg14 x1 x2 1 416 _ _ _ _ _ _ p k)
    (fun k => sh_load c i arg3 harg3 arg4 harg4 arg13 arg14 x1 x2 2 416 _ _ _ _ _ _ p k)
    (fun k => sh_load c i arg3 harg3 arg4 harg4 arg13 arg14 x1 x2 3 416 _ _ _ _ _ _ p k)
    (fun k => sh_load c i arg3 harg3 arg4 harg4 arg13 arg14 x1 x2 4 416 _ _ _ _ _ _ p k)
    (fun k => sh_load c i arg3 harg3 arg4 harg4 arg13 arg14 x1 x2 5 416 _ _ _ _ _ _ p k)
    (fun k => sh_load c i arg3 harg3 arg4 harg4 arg13 arg14 x1 x2 6 416 _ _ _ _ _ _ p k)
    (fun k => ext_load c i arg3 harg3 arg4 harg4 arg13 x1 x2 424 _ p k)
    (fun k => sh_load c i arg3 harg3 arg4 harg4 arg13 arg14 x1 x2 0 424 _ _ _ _ _ _ p k)
    (fun k => sh_load c i arg3 harg3 arg4 harg4 arg13 arg14 x1 x2 1 424 _ _ _ _ _ _ p k)
    (fun k => sh_load c i arg3 harg3 arg4 harg4 arg13 arg14 x1 x2 2 424 _ _ _ _ _ _ p k)
    (fun k => sh_load c i arg3 harg3 arg4 harg4 arg13 arg14 x1 x2 3 424 _ _ _ _ _ _ p k)
    (fun k => sh_load c i arg3 harg3 arg4 harg4 arg13 arg14 x1 x2 4 424 _ _ _ _ _ _ p k)
    (fun k => sh_load c i arg3 harg3 arg4 harg4 arg13 arg14 x1 x2 5 424 _ _ _ _ _ _ p k)
    (fun k => sh_load c i arg3 harg3 arg4 harg4 arg13 arg14 x1 x2 6 424 _ _ _ _ _ _ p k)
    (fun k => ext_load c i arg3 harg3 arg4 harg4 arg13 x1 x2 432 _ p k)
    (fun k => sh_load c i arg3 harg3 arg4 harg4 arg13 arg14 x1 x2 0 432 _ _ _ _ _ _ p k)
    (fun k => sh_load c i arg3 harg3 arg4 harg4 arg13 arg14 x1 x2 1 432 _ _ _ _ _ _ p k)
    (fun k => sh_load c i arg3 harg3 arg4 harg4 arg13 arg14 x1 x2 2 432 _ _ _ _ _ _ p k)
    (fun k => sh_load c i arg3 harg3 arg4 harg4 arg13 arg14 x1 x2 3 432 _ _ _ _ _ _ p k)
    (fun k => sh_load c i arg3 harg3 arg4 harg4 arg13 arg14 x1 x2 4 432 _ _ _ _ _ _ p k)
    (fun k => sh_load c i arg3 harg3 arg4 harg4 arg13 arg14 x1 x2 5 432 _ _ _ _ _ _ p k)
    (fun k => sh_load c i arg3 harg3 arg4 harg4 arg13 arg14 x1 x2 6 432 _ _ _ _ _ _ p k)
    (fun k => ext_load c i arg3 harg3 arg4 harg4 arg13 x1 x2 440 _ p k)
    (fun k => sh_load c i arg3 harg3 arg4 harg4 arg13 arg14 x1 x2 0 440 _ _ _ _ _ _ p k)
    (fun k => sh_load c i arg3 harg3 arg4 harg4 arg13 arg14 x1 x2 1 440 _ _ _ _ _ _ p k)
    (fun k => sh_load c i arg3 harg3 arg4 harg4 arg13 arg14 x1 x2 2 440 _ _ _ _ _ _ p k)
    (fun k => sh_load c i arg3 harg3 arg4 harg4 arg13 arg14 x1 x2 3 440 _ _ _ _ _ _ p k)
    (fun k => sh_load c i arg3 harg3 arg4 harg4 arg13 arg14 x1 x2 4 440 _ _ _ _ _ _ p k)
    (fun k => sh_load c i arg3 harg3 arg4 harg4 arg13 arg14 x1 x2 5 440 _ _ _ _ _ _ p k)
    (fun k => sh_load c i arg3 harg3 arg4 harg4 arg13 arg14 x1 x2 6 440 _ _ _ _ _ _ p k)
    (fun k => ext_load c i arg3 harg3 arg4 harg4 arg13 x1 x2 448 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 416 _ p k)

theorem rows_14 (hx6 : ∀ w s k, x6 (ix3 w s k) = x6 (ix3 w 0 k)) (p : Fin 32) (k : Fin 512) :
    k0_pay187 (r_210 c i arg3 harg3 arg4 harg4 arg8 harg8 arg9 harg9 arg10 harg10 arg13 arg14 x1 x2 x6 x7 x8) (View.readAt (Elt Ideal) arg11.view (Rect.unit (s := S1x512) ![0, 0] S1x512.size inb_S1x512_S1x512_0_0).toLoadRect (harg11.unread x9)) (View.readAt (Elt Ideal) arg5.view (Rect.unit (s := S1x512x512) ![0, 448, 0] S1x32x512.size inb_S1x512x512_S1x32x512_0_448_0).toLoadRect (harg5.unread x3)) (ix2 p k)
      = rowv i x1 x2 x3 x6 x7 x8 x9 ⟨448 + p.val, by omega⟩ k := by
  refine (congrFun (group_14 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (448 + 2 + w.val + p.val) k) (fun w k => x6 (ix3 w 0 k))
    (fun k => sh_load c i arg3 harg3 arg4 harg4 arg13 arg14 x1 x2 1 448 _ _ _ _ _ _ p k)
    (fun k => sh_load c i arg3 harg3 arg4 harg4 arg13 arg14 x1 x2 2 448 _ _ _ _ _ _ p k)
    (fun k => sh_load c i arg3 harg3 arg4 harg4 arg13 arg14 x1 x2 3 448 _ _ _ _ _ _ p k)
    (fun k => sh_load c i arg3 harg3 arg4 harg4 arg13 arg14 x1 x2 4 448 _ _ _ _ _ _ p k)
    (fun k => sh_load c i arg3 harg3 arg4 harg4 arg13 arg14 x1 x2 5 448 _ _ _ _ _ _ p k)
    (fun k => sh_load c i arg3 harg3 arg4 harg4 arg13 arg14 x1 x2 6 448 _ _ _ _ _ _ p k)
    (fun k => ext_load c i arg3 harg3 arg4 harg4 arg13 x1 x2 456 _ p k)
    (fun k => sh_load c i arg3 harg3 arg4 harg4 arg13 arg14 x1 x2 0 456 _ _ _ _ _ _ p k)
    (fun k => sh_load c i arg3 harg3 arg4 harg4 arg13 arg14 x1 x2 1 456 _ _ _ _ _ _ p k)
    (fun k => sh_load c i arg3 harg3 arg4 harg4 arg13 arg14 x1 x2 2 456 _ _ _ _ _ _ p k)
    (fun k => sh_load c i arg3 harg3 arg4 harg4 arg13 arg14 x1 x2 3 456 _ _ _ _ _ _ p k)
    (fun k => sh_load c i arg3 harg3 arg4 harg4 arg13 arg14 x1 x2 4 456 _ _ _ _ _ _ p k)
    (fun k => sh_load c i arg3 harg3 arg4 harg4 arg13 arg14 x1 x2 5 456 _ _ _ _ _ _ p k)
    (fun k => sh_load c i arg3 harg3 arg4 harg4 arg13 arg14 x1 x2 6 456 _ _ _ _ _ _ p k)
    (fun k => ext_load c i arg3 harg3 arg4 harg4 arg13 x1 x2 464 _ p k)
    (fun k => sh_load c i arg3 harg3 arg4 harg4 arg13 arg14 x1 x2 0 464 _ _ _ _ _ _ p k)
    (fun k => sh_load c i arg3 harg3 arg4 harg4 arg13 arg14 x1 x2 1 464 _ _ _ _ _ _ p k)
    (fun k => sh_load c i arg3 harg3 arg4 harg4 arg13 arg14 x1 x2 2 464 _ _ _ _ _ _ p k)
    (fun k => sh_load c i arg3 harg3 arg4 harg4 arg13 arg14 x1 x2 3 464 _ _ _ _ _ _ p k)
    (fun k => sh_load c i arg3 harg3 arg4 harg4 arg13 arg14 x1 x2 4 464 _ _ _ _ _ _ p k)
    (fun k => sh_load c i arg3 harg3 arg4 harg4 arg13 arg14 x1 x2 5 464 _ _ _ _ _ _ p k)
    (fun k => sh_load c i arg3 harg3 arg4 harg4 arg13 arg14 x1 x2 6 464 _ _ _ _ _ _ p k)
    (fun k => ext_load c i arg3 harg3 arg4 harg4 arg13 x1 x2 472 _ p k)
    (fun k => sh_load c i arg3 harg3 arg4 harg4 arg13 arg14 x1 x2 0 472 _ _ _ _ _ _ p k)
    (fun k => sh_load c i arg3 harg3 arg4 harg4 arg13 arg14 x1 x2 1 472 _ _ _ _ _ _ p k)
    (fun k => sh_load c i arg3 harg3 arg4 harg4 arg13 arg14 x1 x2 2 472 _ _ _ _ _ _ p k)
    (fun k => sh_load c i arg3 harg3 arg4 harg4 arg13 arg14 x1 x2 3 472 _ _ _ _ _ _ p k)
    (fun k => sh_load c i arg3 harg3 arg4 harg4 arg13 arg14 x1 x2 4 472 _ _ _ _ _ _ p k)
    (fun k => sh_load c i arg3 harg3 arg4 harg4 arg13 arg14 x1 x2 5 472 _ _ _ _ _ _ p k)
    (fun k => sh_load c i arg3 harg3 arg4 harg4 arg13 arg14 x1 x2 6 472 _ _ _ _ _ _ p k)
    (fun k => ext_load c i arg3 harg3 arg4 harg4 arg13 x1 x2 480 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 448 _ p k)

theorem rows_15 (hx6 : ∀ w s k, x6 (ix3 w s k) = x6 (ix3 w 0 k)) (p : Fin 32) (k : Fin 512) :
    k0_pay199 (r_226 c i arg3 harg3 arg4 harg4 arg8 harg8 arg9 harg9 arg10 harg10 arg11 harg11 arg13 arg14 x1 x2 x6 x7 x8 x9) (View.readAt (Elt Ideal) arg5.view (Rect.unit (s := S1x512x512) ![0, 480, 0] S1x32x512.size inb_S1x512x512_S1x32x512_0_480_0).toLoadRect (harg5.unread x3)) (ix2 p k)
      = rowv i x1 x2 x3 x6 x7 x8 x9 ⟨480 + p.val, by omega⟩ k := by
  refine (congrFun (group_15 (F := Ideal) ..) _).trans ?_
  refine (group_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p (fun k w => ext i x1 x2 (480 + 2 + w.val + p.val) k) (fun w k => x6 (ix3 w 0 k))
    (fun k => sh_load c i arg3 harg3 arg4 harg4 arg13 arg14 x1 x2 1 480 _ _ _ _ _ _ p k)
    (fun k => sh_load c i arg3 harg3 arg4 harg4 arg13 arg14 x1 x2 2 480 _ _ _ _ _ _ p k)
    (fun k => sh_load c i arg3 harg3 arg4 harg4 arg13 arg14 x1 x2 3 480 _ _ _ _ _ _ p k)
    (fun k => sh_load c i arg3 harg3 arg4 harg4 arg13 arg14 x1 x2 4 480 _ _ _ _ _ _ p k)
    (fun k => sh_load c i arg3 harg3 arg4 harg4 arg13 arg14 x1 x2 5 480 _ _ _ _ _ _ p k)
    (fun k => sh_load c i arg3 harg3 arg4 harg4 arg13 arg14 x1 x2 6 480 _ _ _ _ _ _ p k)
    (fun k => ext_load c i arg3 harg3 arg4 harg4 arg13 x1 x2 488 _ p k)
    (fun k => sh_load c i arg3 harg3 arg4 harg4 arg13 arg14 x1 x2 0 488 _ _ _ _ _ _ p k)
    (fun k => sh_load c i arg3 harg3 arg4 harg4 arg13 arg14 x1 x2 1 488 _ _ _ _ _ _ p k)
    (fun k => sh_load c i arg3 harg3 arg4 harg4 arg13 arg14 x1 x2 2 488 _ _ _ _ _ _ p k)
    (fun k => sh_load c i arg3 harg3 arg4 harg4 arg13 arg14 x1 x2 3 488 _ _ _ _ _ _ p k)
    (fun k => sh_load c i arg3 harg3 arg4 harg4 arg13 arg14 x1 x2 4 488 _ _ _ _ _ _ p k)
    (fun k => sh_load c i arg3 harg3 arg4 harg4 arg13 arg14 x1 x2 5 488 _ _ _ _ _ _ p k)
    (fun k => sh_load c i arg3 harg3 arg4 harg4 arg13 arg14 x1 x2 6 488 _ _ _ _ _ _ p k)
    (fun k => ext_load c i arg3 harg3 arg4 harg4 arg13 x1 x2 496 _ p k)
    (fun k => sh_load c i arg3 harg3 arg4 harg4 arg13 arg14 x1 x2 0 496 _ _ _ _ _ _ p k)
    (fun k => sh_load c i arg3 harg3 arg4 harg4 arg13 arg14 x1 x2 1 496 _ _ _ _ _ _ p k)
    (fun k => sh_load c i arg3 harg3 arg4 harg4 arg13 arg14 x1 x2 2 496 _ _ _ _ _ _ p k)
    (fun k => sh_load c i arg3 harg3 arg4 harg4 arg13 arg14 x1 x2 3 496 _ _ _ _ _ _ p k)
    (fun k => sh_load c i arg3 harg3 arg4 harg4 arg13 arg14 x1 x2 4 496 _ _ _ _ _ _ p k)
    (fun k => sh_load c i arg3 harg3 arg4 harg4 arg13 arg14 x1 x2 5 496 _ _ _ _ _ _ p k)
    (fun k => sh_load c i arg3 harg3 arg4 harg4 arg13 arg14 x1 x2 6 496 _ _ _ _ _ _ p k)
    (fun k => ext_load c i arg3 harg3 arg4 harg4 arg13 x1 x2 504 _ p k)
    (fun k => sh_load c i arg3 harg3 arg4 harg4 arg13 arg14 x1 x2 0 504 _ _ _ _ _ _ p k)
    (fun k => sh_load c i arg3 harg3 arg4 harg4 arg13 arg14 x1 x2 1 504 _ _ _ _ _ _ p k)
    (fun k => sh_load c i arg3 harg3 arg4 harg4 arg13 arg14 x1 x2 2 504 _ _ _ _ _ _ p k)
    (fun k => sh_load c i arg3 harg3 arg4 harg4 arg13 arg14 x1 x2 3 504 _ _ _ _ _ _ p k)
    (fun k => sh_load c i arg3 harg3 arg4 harg4 arg13 arg14 x1 x2 4 504 _ _ _ _ _ _ p k)
    (fun k => sh_load c i arg3 harg3 arg4 harg4 arg13 arg14 x1 x2 5 504 _ _ _ _ _ _ p k)
    (fun k => sh_load c i arg3 harg3 arg4 harg4 arg13 arg14 x1 x2 6 504 _ _ _ _ _ _ p k)
    (fun k => ext_load c i arg3 harg3 arg4 harg4 arg13 x1 x2 512 _ p k)
    (fun s k => (dw_load arg8 harg8 x6 0 _ s k).trans (hx6 0 s k))
    (fun s k => (dw_load arg8 harg8 x6 1 _ s k).trans (hx6 1 s k))
    (fun s k => (dw_load arg8 harg8 x6 2 _ s k).trans (hx6 2 s k))
    (fun s k => (dw_load arg8 harg8 x6 3 _ s k).trans (hx6 3 s k))
    (fun s k => (dw_load arg8 harg8 x6 4 _ s k).trans (hx6 4 s k))
    (fun s k => (dw_load arg8 harg8 x6 5 _ s k).trans (hx6 5 s k))
    (fun s k => (dw_load arg8 harg8 x6 6 _ s k).trans (hx6 6 s k))
    (fun s k => (dw_load arg8 harg8 x6 7 _ s k).trans (hx6 7 s k))
    (fun s k => (dw_load arg8 harg8 x6 8 _ s k).trans (hx6 8 s k))
    (fun s k => (dw_load arg8 harg8 x6 9 _ s k).trans (hx6 9 s k))
    (fun s k => (dw_load arg8 harg8 x6 10 _ s k).trans (hx6 10 s k))
    (fun s k => (dw_load arg8 harg8 x6 11 _ s k).trans (hx6 11 s k))
    (fun s k => (dw_load arg8 harg8 x6 12 _ s k).trans (hx6 12 s k))
    (fun s k => (dw_load arg8 harg8 x6 13 _ s k).trans (hx6 13 s k))
    (fun s k => (dw_load arg8 harg8 x6 14 _ s k).trans (hx6 14 s k))
    (fun s k => (dw_load arg8 harg8 x6 15 _ s k).trans (hx6 15 s k))
    (fun s k => (dw_load arg8 harg8 x6 16 _ s k).trans (hx6 16 s k))
    (fun s k => (dw_load arg8 harg8 x6 17 _ s k).trans (hx6 17 s k))
    (fun s k => (dw_load arg8 harg8 x6 18 _ s k).trans (hx6 18 s k))
    (fun s k => (dw_load arg8 harg8 x6 19 _ s k).trans (hx6 19 s k))
    (fun s k => (dw_load arg8 harg8 x6 20 _ s k).trans (hx6 20 s k))
    (fun s k => (dw_load arg8 harg8 x6 21 _ s k).trans (hx6 21 s k))
    (fun s k => (dw_load arg8 harg8 x6 22 _ s k).trans (hx6 22 s k))
    (fun s k => (dw_load arg8 harg8 x6 23 _ s k).trans (hx6 23 s k))
    (fun s k => (dw_load arg8 harg8 x6 24 _ s k).trans (hx6 24 s k))
    (fun s k => (dw_load arg8 harg8 x6 25 _ s k).trans (hx6 25 s k))
    (fun s k => (dw_load arg8 harg8 x6 26 _ s k).trans (hx6 26 s k))
    (fun s k => (dw_load arg8 harg8 x6 27 _ s k).trans (hx6 27 s k))
    (fun s k => (dw_load arg8 harg8 x6 28 _ s k).trans (hx6 28 s k))
    (fun s k => (dw_load arg8 harg8 x6 29 _ s k).trans (hx6 29 s k))
    (fun s k => (dw_load arg8 harg8 x6 30 _ s k).trans (hx6 30 s k)) k).trans ?_
  rw [row_load arg9 harg9 x7, row_load arg10 harg10 x8, row_load arg11 harg11 x9]
  exact congrArg₂ (· * ·) (conv_congr fun k w => congrArg (fun n => ext i x1 x2 n k) (by dsimp only; omega)) (gc_load arg5 harg5 x3 480 _ p k)

end Cert.Proof.Merge
end
end
-- ==== Proof.MergeCg.lean ====
module

public import proofs.«01_k».proof.Proof.MergeGroups1
public import proofs.«01_k».proof.Proof.MergeGroups2
public import proofs.«01_k».proof.Proof.MergeGroups3

@[expose] public section

/-! The gated convolution of a tile, and the block the merge of the prompt stores. -/

set_option maxRecDepth 65536

noncomputable section

namespace Cert.Proof.Merge

open Cert.Kernel3Ideal Cert.Kernel3Ideal.Gen Cert.Kernel3Ideal.Gen.kernelRun0_A.sl Idealize.ShloMosaic Idealize.ShloMosaic.TcCoe

variable (c : Dev nD) (i : grid0.Coords) (arg3 : Memref sig .tc .vmem S1x512x512 .f32) (harg3 : arg3.IsWhole)
  (arg4 : Memref sig .tc .vmem S1x32x512 .f32) (harg4 : arg4.IsWhole) (arg5 : Memref sig .tc .vmem S1x512x512 .f32) (harg5 : arg5.IsWhole)
  (arg8 : Memref sig .tc .vmem S31x8x512 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x512 .f32) (harg11 : arg11.IsWhole)
  (arg13 : Memref sig .tc .vmem S552x512 .f32) (arg14 : Memref sig .tc .vmem S7x544x512 .f32)
  (x1 : FVec Ideal S1x512x512 .f32) (x2 : FVec Ideal S1x32x512 .f32) (x3 : FVec Ideal S1x512x512 .f32) (x6 : FVec Ideal S31x8x512 .f32)
  (x7 x8 x9 : FVec Ideal S1x512 .f32)
  (arg15 : Memref sig .tc .vmem S512x512 .bf16)

/-- The gated convolution of a tile, as one array. -/
def tile (i : grid0.Coords) (x1 : FVec Ideal S1x512x512 .f32) (x2 : FVec Ideal S1x32x512 .f32) (x3 : FVec Ideal S1x512x512 .f32)
    (x6 : FVec Ideal S31x8x512 .f32) (x7 x8 x9 : FVec Ideal S1x512 .f32) : FVec Ideal S512x512 .bf16 :=
  fun y => rowv i x1 x2 x3 x6 x7 x8 x9 (y 0) (y 1)

/-- The third buffer holds the gated convolution of the tile's 512 rows. -/
theorem canon_cg (hx6 : ∀ w s k, x6 (ix3 w s k) = x6 (ix3 w 0 k)) (r k : Fin 512) :
    View.canon (HS2_16 (F := Ideal) c i arg3 harg3 arg4 harg4 arg5 harg5 arg8 harg8 arg9 harg9 arg10 harg10 arg11 harg11 arg13 arg14 x1 x2 x3 x6 x7 x8 x9) (ix2 r k) = tile i x1 x2 x3 x6 x7 x8 x9 (ix2 r k) := by
  refine View.canon_apply_of_pieces (Val := Elt Ideal) (S := S512x512) (e := .bf16) (tile i x1 x2 x3 x6 x7 x8 x9)
    (HS2_16 (F := Ideal) c i arg3 harg3 arg4 harg4 arg5 harg5 arg8 harg8 arg9 harg9 arg10 harg10 arg11 harg11 arg13 arg14 x1 x2 x3 x6 x7 x8 x9) ?_ (ix2 r k) ?_
  · intro p hp
    simp only [HS2_16, List.mem_cons, List.mem_nil_iff, or_false] at hp
    rcases hp with rfl | rfl | rfl | rfl | rfl | rfl | rfl | rfl | rfl | rfl | rfl | rfl | rfl | rfl | rfl | rfl
    · intro z
      idx_vars z
      refine (rows_15 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 480 + z0.val = 480 + 1 * z0.val
        omega
      · show z1.val = 0 + 1 * z1.val
        omega
    · intro z
      idx_vars z
      refine (rows_14 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 448 + z0.val = 448 + 1 * z0.val
        omega
      · show z1.val = 0 + 1 * z1.val
        omega
    · intro z
      idx_vars z
      refine (rows_13 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 416 + z0.val = 416 + 1 * z0.val
        omega
      · show z1.val = 0 + 1 * z1.val
        omega
    · intro z
      idx_vars z
      refine (rows_12 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 384 + z0.val = 384 + 1 * z0.val
        omega
      · show z1.val = 0 + 1 * z1.val
        omega
    · intro z
      idx_vars z
      refine (rows_11 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 352 + z0.val = 352 + 1 * z0.val
        omega
      · show z1.val = 0 + 1 * z1.val
        omega
    · intro z
      idx_vars z
      refine (rows_10 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 320 + z0.val = 320 + 1 * z0.val
        omega
      · show z1.val = 0 + 1 * z1.val
        omega
    · intro z
      idx_vars z
      refine (rows_9 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 288 + z0.val = 288 + 1 * z0.val
        omega
      · show z1.val = 0 + 1 * z1.val
        omega
    · intro z
      idx_vars z
      refine (rows_8 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 256 + z0.val = 256 + 1 * z0.val
        omega
      · show z1.val = 0 + 1 * z1.val
        omega
    · intro z
      idx_vars z
      refine (rows_7 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 224 + z0.val = 224 + 1 * z0.val
        omega
      · show z1.val = 0 + 1 * z1.val
        omega
    · intro z
      idx_vars z
      refine (rows_6 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 192 + z0.val = 192 + 1 * z0.val
        omega
      · show z1.val = 0 + 1 * z1.val
        omega
    · intro z
      idx_vars z
      refine (rows_5 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 160 + z0.val = 160 + 1 * z0.val
        omega
      · show z1.val = 0 + 1 * z1.val
        omega
    · intro z
      idx_vars z
      refine (rows_4 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 128 + z0.val = 128 + 1 * z0.val
        omega
      · show z1.val = 0 + 1 * z1.val
        omega
    · intro z
      idx_vars z
      refine (rows_3 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 96 + z0.val = 96 + 1 * z0.val
        omega
      · show z1.val = 0 + 1 * z1.val
        omega
    · intro z
      idx_vars z
      refine (rows_2 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 64 + z0.val = 64 + 1 * z0.val
        omega
      · show z1.val = 0 + 1 * z1.val
        omega
    · intro z
      idx_vars z
      refine (rows_1 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 32 + z0.val = 32 + 1 * z0.val
        omega
      · show z1.val = 0 + 1 * z1.val
        omega
    · intro z
      idx_vars z
      refine (rows_0 c i arg3 harg3 arg4 harg4 arg5 harg5 arg8 harg8 arg9 harg9 arg10 harg10 arg11 harg11 arg13 arg14 x1 x2 x3 x6 x7 x8 x9 hx6 z0 z1).trans (congrArg₂ (rowv i x1 x2 x3 x6 x7 x8 x9) (Fin.ext ?_) (Fin.ext ?_))
      · show 0 + z0.val = 0 + 1 * z0.val
        omega
      · show z1.val = 0 + 1 * z1.val
        omega
  · simp only [HS2_16, List.mem_cons, List.mem_nil_iff, or_false, exists_eq_or_imp, exists_eq_left, Rect.mem_set_unit, Fin.forall_fin_two]
    have hk : k.val < 512 := k.isLt
    have hr : r.val < 512 := r.isLt
    show (480 ≤ r.val ∧ r.val < 480 + 32) ∧ 0 ≤ k.val ∧ k.val < 0 + 512
      ∨ (448 ≤ r.val ∧ r.val < 448 + 32) ∧ 0 ≤ k.val ∧ k.val < 0 + 512
      ∨ (416 ≤ r.val ∧ r.val < 416 + 32) ∧ 0 ≤ k.val ∧ k.val < 0 + 512
      ∨ (384 ≤ r.val ∧ r.val < 384 + 32) ∧ 0 ≤ k.val ∧ k.val < 0 + 512
      ∨ (352 ≤ r.val ∧ r.val < 352 + 32) ∧ 0 ≤ k.val ∧ k.val < 0 + 512
      ∨ (320 ≤ r.val ∧ r.val < 320 + 32) ∧ 0 ≤ k.val ∧ k.val < 0 + 512
      ∨ (288 ≤ r.val ∧ r.val < 288 + 32) ∧ 0 ≤ k.val ∧ k.val < 0 + 512
      ∨ (256 ≤ r.val ∧ r.val < 256 + 32) ∧ 0 ≤ k.val ∧ k.val < 0 + 512
      ∨ (224 ≤ r.val ∧ r.val < 224 + 32) ∧ 0 ≤ k.val ∧ k.val < 0 + 512
      ∨ (192 ≤ r.val ∧ r.val < 192 + 32) ∧ 0 ≤ k.val ∧ k.val < 0 + 512
      ∨ (160 ≤ r.val ∧ r.val < 160 + 32) ∧ 0 ≤ k.val ∧ k.val < 0 + 512
      ∨ (128 ≤ r.val ∧ r.val < 128 + 32) ∧ 0 ≤ k.val ∧ k.val < 0 + 512
      ∨ (96 ≤ r.val ∧ r.val < 96 + 32) ∧ 0 ≤ k.val ∧ k.val < 0 + 512
      ∨ (64 ≤ r.val ∧ r.val < 64 + 32) ∧ 0 ≤ k.val ∧ k.val < 0 + 512
      ∨ (32 ≤ r.val ∧ r.val < 32 + 32) ∧ 0 ≤ k.val ∧ k.val < 0 + 512
      ∨ (0 ≤ r.val ∧ r.val < 0 + 32) ∧ 0 ≤ k.val ∧ k.val < 0 + 512
    omega

theorem cg_load (hx6 : ∀ w s k, x6 (ix3 w s k) = x6 (ix3 w 0 k)) (r k : Fin 512) :
    v4493 (F := Ideal) c i arg3 harg3 arg4 harg4 arg5 harg5 arg8 harg8 arg9 harg9 arg10 harg10 arg11 harg11 arg13 arg14 arg15 x1 x2 x3 x6 x7 x8 x9 (ix2 r k) = rowv i x1 x2 x3 x6 x7 x8 x9 r k := by
  unfold v4493
  rw [View.readCov_eq_canon']
  refine Eq.trans (congrArg _ ?_) (canon_cg c i arg3 harg3 arg4 harg4 arg5 harg5 arg8 harg8 arg9 harg9 arg10 harg10 arg11 harg11 arg13 arg14 x1 x2 x3 x6 x7 x8 x9 hx6 r k)
  funext b
  fin_cases b
  · exact Fin.ext (by show 0 + 1 * r.val = r.val; omega)
  · exact Fin.ext (by show 0 + 1 * k.val = k.val; omega)

/-- The stored entry from the loaded arrays. -/
theorem store_apply (X : FVec Ideal S1x512x1024 .f32) (A : FVec Ideal S1x512x512 .bf16) (W0 W1 : FVec Ideal S512x1024 .bf16)
    (Q : FVec Ideal S512x512 .bf16) (r : Fin 512) (j : Fin 1024) :
    k0_pay1 (F := Ideal) (k0_pay200 X A W0 Q W1) (ix3 0 r j)
      = X (ix3 0 r j) + (∑ k : Fin 512, A (ix3 0 r k) * W0 (ix2 k j)) + ∑ k : Fin 512, Q (ix2 r k) * W1 (ix2 k j) := by
  pointwise [k0_pay1, k0_pay200]

/-- A load of 512 rows of the output weight. -/
theorem wo_load (arg : Memref sig .tc .vmem S1024x1024 .bf16) (harg : arg.IsWhole) (x : FVec Ideal S1024x1024 .bf16) (a : ℕ)
    (h : ∀ b, (![a, 0] : Fin 2 → ℕ) b + S512x1024.size b ≤ S1024x1024.size b) (k : Fin 512) (j : Fin 1024) :
    View.readAt (Elt Ideal) arg.view (Rect.unit (s := S1024x1024) ![a, 0] S512x1024.size h).toLoadRect (harg.unread x) (ix2 k j)
      = x (ix2 ⟨a + k.val, by have : a + 512 ≤ 1024 := h 0; omega⟩ j) := by
  rw [View.readAt_eq_ld, Memref.IsWhole.read_unread]
  refine View.ld_unit_apply_of (Val := Elt Ideal) (e := .bf16) (S := S1024x1024) x ![a, 0] S512x1024.size h (ix2 k j) _ fun b => ?_
  fin_cases b
  · rfl
  · exact (Nat.zero_add _).symm

/-- Entry `j` of row `r` of the block the kernel stores, from the blocks it is given. -/
theorem out_apply (arg2 : Memref sig .tc .vmem S1x512x512 .bf16) (harg2 : arg2.IsWhole) (arg6 : Memref sig .tc .vmem S1x512x1024 .f32)
    (harg6 : arg6.IsWhole) (arg7 : Memref sig .tc .vmem S1024x1024 .bf16) (harg7 : arg7.IsWhole)
    (arg12 : Memref sig .tc .vmem S1x512x1024 .f32) (harg12 : arg12.IsWhole) (harg13 : arg13.IsWhole) (harg14 : arg14.IsWhole)
    (harg15 : arg15.IsWhole) (x0 : FVec Ideal S1x512x512 .bf16) (x4 : FVec Ideal S1x512x1024 .f32) (x5 : FVec Ideal S1024x1024 .bf16)
    (hx6 : ∀ w s k, x6 (ix3 w s k) = x6 (ix3 w 0 k)) (r : Fin 512) (j : Fin 1024) :
    out0_A_10 (F := Ideal) c i arg2 harg2 arg3 harg3 arg4 harg4 arg5 harg5 arg6 harg6 arg7 harg7 arg8 harg8 arg9 harg9 arg10 harg10 arg11 harg11
        arg12 harg12 arg13 harg13 arg14 harg14 arg15 harg15 x0 x1 x2 x3 x4 x5 x6 x7 x8 x9 (ix3 0 r j)
      = out (x4 (ix3 0 r j)) (fun k => x0 (ix3 0 r k)) (fun k => rowv i x1 x2 x3 x6 x7 x8 x9 r k) (fun k => x5 (ix2 k j)) := by
  unfold out0_A_10
  refine (View.read_writes_apply_eq_canon (Val := Elt Ideal) (s := S1x512x1024) (e := .f32) VO0_10 VO0_10.junk (ix3 0 r j)
    [⟨Rect.unit (s := S1x512x1024) ![0, 0, 0] S1x512x1024.size inb_S1x512x1024_S1x512x1024_0_0_0,
      k0_pay1 (r_227 (F := Ideal) c i arg2 harg2 arg3 harg3 arg4 harg4 arg5 harg5 arg6 harg6 arg7 harg7 arg8 harg8 arg9 harg9 arg10 harg10 arg11
        harg11 arg13 arg14 arg15 x0 x1 x2 x3 x4 x5 x6 x7 x8 x9)⟩] ⟨_, List.mem_singleton_self _, ?_⟩).trans ?_
  · simp only [Rect.mem_set_unit]
    intro b
    fin_cases b
    · exact ⟨Nat.le_refl _, Nat.one_pos⟩
    · exact ⟨Nat.zero_le _, by show r.val < 0 + 512; omega⟩
    · exact ⟨Nat.zero_le _, by show j.val < 0 + 1024; omega⟩
  rw [View.canon_cons_unit_lit _ _ _ (by decide)]
  unfold r_227
  refine (store_apply _ _ _ _ _ r j).trans ?_
  rw [View.readAt_eq_ld, Memref.IsWhole.read_unread, View.ld_unit_lit _ _ (by decide), View.readAt_eq_ld, Memref.IsWhole.read_unread,
    View.ld_unit_lit _ _ (by decide)]
  simp only [cg_load c i arg3 harg3 arg4 harg4 arg5 harg5 arg8 harg8 arg9 harg9 arg10 harg10 arg11 harg11 arg13 arg14 x1 x2 x3 x6 x7 x8 x9 arg15 hx6]
  refine congrArg₂ (fun a b : EReal => a + b) (congrArg₂ (fun a b : EReal => a + b) rfl (Finset.sum_congr rfl fun k _ => congrArg (fun b : EReal => _ * b) ?_))
    (Finset.sum_congr rfl fun k _ => congrArg (fun b : EReal => rowv i x1 x2 x3 x6 x7 x8 x9 r k * b) ?_)
  · refine (wo_load arg7 harg7 x5 0 _ k j).trans (congrArg (fun n => x5 (ix2 n j)) (Fin.ext (Nat.zero_add _)))
  · exact wo_load arg7 harg7 x5 512 _ k j

end Cert.Proof.Merge
end
end
-- ==== Proof.MergeHost.lean ====
module

public import proofs.«01_k».proof.Proof.MergeCg

@[expose] public section

/-! The blocks the kernel of the prompt's merge loads, from the launch contents of the arguments. -/

set_option maxRecDepth 16384

noncomputable section

namespace Cert.Proof.Merge

open Cert.Kernel3Ideal Cert.Kernel3Ideal.Gen Idealize.ShloMosaic Idealize.ShloMosaic.TcCoe

variable (m : (ℓ : Loc nD τ sig) → Buf (Elt Ideal) ℓ) (c : Dev nD)

theorem V_v1 (k j : Fin 1024) : V m c main_v1 (ix2 k j) = m ((c : Thread nD τ).loc main_arg4) (ix3 0 k j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v10 (w : Fin 31) (s : Fin 8) (j : Fin 512) : V m c main_v10 (ix3 w s j) = m ((c : Thread nD τ).loc main_arg5) (ix3 0 w j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v3 (j : Fin 512) : V m c main_v3 (ix2 0 j) = m ((c : Thread nD τ).loc main_arg6) (ix2 0 j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v5 (j : Fin 512) : V m c main_v5 (ix2 0 j) = m ((c : Thread nD τ).loc main_arg7) (ix2 0 j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v7 (j : Fin 512) : V m c main_v7 (ix2 0 j) = m ((c : Thread nD τ).loc main_arg8) (ix2 0 j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem index_0 : ∀ t : Fin cfg0.N, win0_0.index t = ![(grid0.coords t 0).val, (grid0.coords t 1).val, 0] := (by decide +kernel : ∀ t : Fin grid0.N, _)
theorem index_1 : ∀ t : Fin cfg0.N, win0_1.index t = ![(grid0.coords t 0).val, (grid0.coords t 1).val, 0] := (by decide +kernel : ∀ t : Fin grid0.N, _)
theorem index_2 : ∀ t : Fin cfg0.N, win0_2.index t = ![(grid0.coords t 0).val, (grid0.coords t 1).val * 16 - 1, 0] := (by decide +kernel : ∀ t : Fin grid0.N, _)
theorem index_3 : ∀ t : Fin cfg0.N, win0_3.index t = ![(grid0.coords t 0).val, (grid0.coords t 1).val, 0] := (by decide +kernel : ∀ t : Fin grid0.N, _)
theorem index_4 : ∀ t : Fin cfg0.N, win0_4.index t = ![(grid0.coords t 0).val, (grid0.coords t 1).val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![(grid0.coords t 0).val, (grid0.coords t 1).val, 0] := (by decide +kernel : ∀ t : Fin grid0.N, _)

/-- The batch of a grid point. -/
def bat (t : Fin cfg0.N) : Fin 16 := ⟨(grid0.coords t 0).val, (grid0.coords t 0).isLt⟩

/-- The tile of a grid point. -/
def tl (t : Fin cfg0.N) : Fin 4 := ⟨(grid0.coords t 1).val, (grid0.coords t 1).isLt⟩

/-- The row of the array that row `r` of a point's tile is. -/
def row (t : Fin cfg0.N) (r : Fin 512) : Fin 2048 := ⟨(tl t).val * 512 + r.val, by omega⟩

theorem blk0 (t : Fin cfg0.N) (r : Fin 512) (j : Fin 512) : iblk m c 0 t (ix3 0 r j) = m ((c : Thread nD τ).loc main_arg0) (ix3 (bat t) (row t r) j) := by
  blk_simp [iblk]
  refine (congrFun (V_main_arg0 m c) _).trans (congrArg _ ?_)
  blk_ext [index_0, bat, row, tl]

theorem blk1 (t : Fin cfg0.N) (r : Fin 512) (j : Fin 512) : iblk m c 1 t (ix3 0 r j) = m ((c : Thread nD τ).loc main_arg1) (ix3 (bat t) (row t r) j) := by
  blk_simp [iblk]
  refine (congrFun (V_main_arg1 m c) _).trans (congrArg _ ?_)
  blk_ext [index_1, bat, row, tl]

theorem blk3 (t : Fin cfg0.N) (r : Fin 512) (j : Fin 512) : iblk m c 3 t (ix3 0 r j) = m ((c : Thread nD τ).loc main_arg2) (ix3 (bat t) (row t r) j) := by
  blk_simp [iblk]
  refine (congrFun (V_main_arg2 m c) _).trans (congrArg _ ?_)
  blk_ext [index_3, bat, row, tl]

theorem blk4 (t : Fin cfg0.N) (r : Fin 512) (j : Fin 1024) : iblk m c 4 t (ix3 0 r j) = m ((c : Thread nD τ).loc main_arg3) (ix3 (bat t) (row t r) j) := by
  blk_simp [iblk]
  refine (congrFun (V_main_arg3 m c) _).trans (congrArg _ ?_)
  blk_ext [index_4, bat, row, tl]

/-- The 32 rows before the tile, in a tile that is not the first. -/
theorem blk2 (t : Fin cfg0.N) (h : (tl t).val ≠ 0) (e : Fin 32) (j : Fin 512) :
    iblk m c 2 t (ix3 0 e j) = m ((c : Thread nD τ).loc main_arg1) (ix3 (bat t) ⟨(tl t).val * 512 + e.val - 32, by omega⟩ j) := by
  blk_simp [iblk]
  refine (congrFun (V_main_arg1 m c) _).trans (congrArg _ ?_)
  have h' : (grid0.coords t 1).val ≠ 0 := h
  blk_ext [index_2, bat, tl]

theorem blk5 (t : Fin cfg0.N) (k j : Fin 1024) : iblk m c 5 t (ix2 k j) = m ((c : Thread nD τ).loc main_arg4) (ix3 0 k j) := by
  blk_simp [iblk]
  refine Eq.trans (congrArg _ ?_) (V_v1 m c k j)
  blk_ext [index_5]

theorem blk6 (t : Fin cfg0.N) (w : Fin 31) (s : Fin 8) (j : Fin 512) : iblk m c 6 t (ix3 w s j) = m ((c : Thread nD τ).loc main_arg5) (ix3 0 w j) := by
  blk_simp [iblk]
  refine Eq.trans (congrArg _ ?_) (V_v10 m c w s j)
  blk_ext [index_6]

theorem blk7 (t : Fin cfg0.N) (j : Fin 512) : iblk m c 7 t (ix2 0 j) = m ((c : Thread nD τ).loc main_arg6) (ix2 0 j) := by
  blk_simp [iblk]
  refine Eq.trans (congrArg _ ?_) (V_v3 m c j)
  blk_ext [index_7]

theorem blk8 (t : Fin cfg0.N) (j : Fin 512) : iblk m c 8 t (ix2 0 j) = m ((c : Thread nD τ).loc main_arg7) (ix2 0 j) := by
  blk_simp [iblk]
  refine Eq.trans (congrArg _ ?_) (V_v5 m c j)
  blk_ext [index_8]

theorem blk9 (t : Fin cfg0.N) (j : Fin 512) : iblk m c 9 t (ix2 0 j) = m ((c : Thread nD τ).loc main_arg8) (ix2 0 j) := by
  blk_simp [iblk]
  refine Eq.trans (congrArg _ ?_) (V_v7 m c j)
  blk_ext [index_9]

end Cert.Proof.Merge
end
end
-- ==== Proof.MergeValue.lean ====
module

public import proofs.«01_k».proof.Proof.MergeHost

@[expose] public section

/-! The array the kernel of the prompt's merge leaves, entry by entry. -/

set_option maxRecDepth 16384

noncomputable section

namespace Cert.Proof.Merge

open Cert.Kernel3Ideal Cert.Kernel3Ideal.Gen Idealize.ShloMosaic Idealize.ShloMosaic.TcCoe

variable (m : (ℓ : Loc nD τ sig) → Buf (Elt Ideal) ℓ) (c : Dev nD)

/-- The convolution's window at time `n`: the 31 entries up to `n`, zero before the start. -/
def past (u : Fin 2048 → EReal) (n : Fin 2048) (w : Fin 31) : EReal :=
  if h : 30 ≤ n.val + w.val then u ⟨n.val + w.val - 30, by omega⟩ else 0

/-- Entry `j` of the result at time `n` of batch `b`, from the arguments. -/
def y (A0 : FVec Ideal S16x2048x512 .bf16) (A1 A2 : FVec Ideal S16x2048x512 .f32) (A3 : FVec Ideal S16x2048x1024 .f32)
    (A4 : FVec Ideal S1x1024x1024 .f32) (A5 : FVec Ideal S1x31x512 .f32) (A6 A7 A8 : FVec Ideal S1x512 .f32)
    (b : Fin 16) (n : Fin 2048) (j : Fin 1024) : EReal :=
  out (A3 (ix3 b n j)) (fun k => A0 (ix3 b n k))
    (fun k => conv (fun j => past (fun n => A1 (ix3 b n j)) n) (fun w j => A5 (ix3 0 w j)) (fun j => A6 (ix2 0 j)) (fun j => A7 (ix2 0 j))
      (fun j => A8 (ix2 0 j)) k * A2 (ix3 b n k))
    (fun k => A4 (ix3 0 k j))

/-- That entry at the launch contents of the arguments. -/
def yc (b : Fin 16) (n : Fin 2048) (j : Fin 1024) : EReal :=
  y (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b n j

/-- The extended tile at the window's rows is the array at the window's times, zero before the start. -/
theorem ext_past (t : Fin cfg0.N) (r : Fin 512) (w : Fin 31) (k : Fin 512) :
    ext (grid0.coords t) (iblk m c 1 t) (iblk m c 2 t) (r.val + 2 + w.val) k
      = past (fun n => m ((c : Thread nD τ).loc main_arg1) (ix3 (bat t) n k)) (row t r) w := by
  have ht : (row t r).val = (tl t).val * 512 + r.val := rfl
  by_cases he : r.val + 2 + w.val < 32
  · refine (ext_lo (grid0.coords t) (iblk m c 1 t) (iblk m c 2 t) ⟨r.val + 2 + w.val, he⟩ k).trans ?_
    by_cases h : (tl t).val = 0
    · refine (if_pos h).trans ?_
      rw [past, dif_neg (by omega)]
    · refine (if_neg h).trans ?_
      rw [past, dif_pos (by omega), blk2 m c t h]
      exact congrArg (fun n => m ((c : Thread nD τ).loc main_arg1) (ix3 (bat t) n k)) (Fin.ext (by dsimp only; omega))
  · have e := ext_mid (grid0.coords t) (iblk m c 1 t) (iblk m c 2 t) ⟨r.val + 2 + w.val - 32, by omega⟩ k
    rw [show 32 + (⟨r.val + 2 + w.val - 32, by omega⟩ : Fin 512).val = r.val + 2 + w.val by dsimp only; omega] at e
    rw [e, past, dif_pos (by omega), blk1]
    exact congrArg (fun n => m ((c : Thread nD τ).loc main_arg1) (ix3 (bat t) n k)) (Fin.ext (by simp only [row]; omega))

theorem final_10 (G) (hG : ∀ b n (j : Fin 1024), G (ix3 b n j) = yc m c b n j) :
    (dats m 0 c).arrAt 10 cfg0.N = G := by
  refine (dats m 0 c).arrAt_eq_of_covers 10 _ (by decide +kernel) fun t hf y => ?_
  blk_simp
  rw [after0_10]
  unfold outsAt0
  idx_vars y
  rw [show (((View.whole main_v11).slice (win0_10.rect t)).emb (ix3 y0 y1 y2)) = ix3 (bat t) (row t y1) y2 by blk_ext [index_10, bat, row, tl], hG,
    show y0 = 0 from Subsingleton.elim _ _]
  refine (out_apply (hx6 := fun w s k => (blk6 m c t w s k).trans (blk6 m c t w 0 k).symm) (r := y1) (j := y2) ..).trans ?_
  simp only [rowv, ext_past, blk0, blk3, blk4, blk5, blk6, blk7, blk8, blk9, yc, Merge.y]

end Cert.Proof.Merge
end
end
-- ==== Proof.MergeRef.lean ====
module

public import proofs.«01_k».proof.Proof.MergeValue
public import proofs.«01_k».proof.Proof.Gen.Reference3Ideal.Run

@[expose] public section

/-! The plain merge of the prompt, entry by entry. -/

set_option maxRecDepth 16384

noncomputable section

namespace Cert.Proof.Merge.Ref

open Cert.Reference3Ideal Cert.Reference3Ideal.Gen Cert.Reference3Ideal.Value Cert.Proof.Merge Idealize.ShloMosaic Idealize.ShloMosaic.TcCoe

variable (V0 : Valuation τ sig (Elt Ideal))

theorem v82_apply (E : FVec Ideal S16x2078x512 .f32) (K : FVec Ideal S31x512 .f32) (hE : res_main_v0 V0 = E) (hK : res_main_v1 V0 = K)
    (b : Fin 16) (n : Fin 2048) (j : Fin 512) : res_main_v82 V0 (ix3 b n j) = 0 + E (ix3 b ⟨n.val, by omega⟩ j) * K (ix2 0 j) + E (ix3 b ⟨1 + n.val, by omega⟩ j) * K (ix2 1 j) + E (ix3 b ⟨2 + n.val, by omega⟩ j) * K (ix2 2 j) + E (ix3 b ⟨3 + n.val, by omega⟩ j) * K (ix2 3 j) + E (ix3 b ⟨4 + n.val, by omega⟩ j) * K (ix2 4 j) + E (ix3 b ⟨5 + n.val, by omega⟩ j) * K (ix2 5 j) + E (ix3 b ⟨6 + n.val, by omega⟩ j) * K (ix2 6 j) + E (ix3 b ⟨7 + n.val, by omega⟩ j) * K (ix2 7 j) + E (ix3 b ⟨8 + n.val, by omega⟩ j) * K (ix2 8 j) + E (ix3 b ⟨9 + n.val, by omega⟩ j) * K (ix2 9 j) + E (ix3 b ⟨10 + n.val, by omega⟩ j) * K (ix2 10 j) := by
  unfold res_main_v82
  rw [hE, hK]
  pointwise []

theorem v159_apply (E : FVec Ideal S16x2078x512 .f32) (K : FVec Ideal S31x512 .f32) (P : FVec Ideal S16x2048x512 .f32)
    (hE : res_main_v0 V0 = E) (hK : res_main_v1 V0 = K) (hP : res_main_v82 V0 = P)
    (b : Fin 16) (n : Fin 2048) (j : Fin 512) : res_main_v159 V0 (ix3 b n j) = P (ix3 b n j) + E (ix3 b ⟨11 + n.val, by omega⟩ j) * K (ix2 11 j) + E (ix3 b ⟨12 + n.val, by omega⟩ j) * K (ix2 12 j) + E (ix3 b ⟨13 + n.val, by omega⟩ j) * K (ix2 13 j) + E (ix3 b ⟨14 + n.val, by omega⟩ j) * K (ix2 14 j) + E (ix3 b ⟨15 + n.val, by omega⟩ j) * K (ix2 15 j) + E (ix3 b ⟨16 + n.val, by omega⟩ j) * K (ix2 16 j) + E (ix3 b ⟨17 + n.val, by omega⟩ j) * K (ix2 17 j) + E (ix3 b ⟨18 + n.val, by omega⟩ j) * K (ix2 18 j) + E (ix3 b ⟨19 + n.val, by omega⟩ j) * K (ix2 19 j) + E (ix3 b ⟨20 + n.val, by omega⟩ j) * K (ix2 20 j) + E (ix3 b ⟨21 + n.val, by omega⟩ j) * K (ix2 21 j) := by
  unfold res_main_v159
  rw [hE, hK, hP]
  pointwise []

theorem v225_apply (E : FVec Ideal S16x2078x512 .f32) (K : FVec Ideal S31x512 .f32) (P : FVec Ideal S16x2048x512 .f32) (B : FVec Ideal S1x512 .f32)
    (hE : res_main_v0 V0 = E) (hK : res_main_v1 V0 = K) (hP : res_main_v159 V0 = P) (hB : V0 (Proc.devRef .tc main_arg6) = B)
    (b : Fin 16) (n : Fin 2048) (j : Fin 512) : res_main_v225 V0 (ix3 b n j) = P (ix3 b n j) + E (ix3 b ⟨22 + n.val, by omega⟩ j) * K (ix2 22 j) + E (ix3 b ⟨23 + n.val, by omega⟩ j) * K (ix2 23 j) + E (ix3 b ⟨24 + n.val, by omega⟩ j) * K (ix2 24 j) + E (ix3 b ⟨25 + n.val, by omega⟩ j) * K (ix2 25 j) + E (ix3 b ⟨26 + n.val, by omega⟩ j) * K (ix2 26 j) + E (ix3 b ⟨27 + n.val, by omega⟩ j) * K (ix2 27 j) + E (ix3 b ⟨28 + n.val, by omega⟩ j) * K (ix2 28 j) + E (ix3 b ⟨29 + n.val, by omega⟩ j) * K (ix2 29 j) + E (ix3 b ⟨30 + n.val, by omega⟩ j) * K (ix2 30 j) + B (ix2 0 j) := by
  unfold res_main_v225
  rw [hE, hK, hP, hB]
  pointwise []

theorem v229_apply (P : FVec Ideal S16x2048x512 .f32) (hP : res_main_v225 V0 = P) (b : Fin 16) (n : Fin 2048) :
    res_main_v229 V0 (ix3 b n 0) = mean (fun j => P (ix3 b n j)) := by
  unfold res_main_v229
  rw [hP]
  pointwise []
  simp only [mean]

theorem v231_apply (P : FVec Ideal S16x2048x512 .f32) (M : FVec Ideal S16x2048x1 .f32) (hP : res_main_v225 V0 = P) (hM : res_main_v229 V0 = M)
    (b : Fin 16) (n : Fin 2048) (j : Fin 512) : res_main_v231 V0 (ix3 b n j) = P (ix3 b n j) - M (ix3 b n 0) := by
  unfold res_main_v231
  rw [hP, hM]
  pointwise []

theorem v249_apply (P D : FVec Ideal S16x2048x512 .f32) (M : FVec Ideal S16x2048x1 .f32) (g o : FVec Ideal S1x512 .f32)
    (hP : res_main_v225 V0 = P) (hM : res_main_v229 V0 = M) (hD : res_main_v231 V0 = D)
    (hg : V0 (Proc.devRef .tc main_arg7) = g) (ho : V0 (Proc.devRef .tc main_arg8) = o)
    (b : Fin 16) (n : Fin 2048) (j : Fin 512) : res_main_v249 V0 (ix3 b n j)
      = (P (ix3 b n j) - M (ix3 b n 0)) * Ideal.rsqrt (mean (fun k => D (ix3 b n k) * D (ix3 b n k)) + Ideal.ofBits FTy.f32 0x358637BD#32)
          * g (ix2 0 j) + o (ix2 0 j) := by
  unfold res_main_v249
  rw [hP, hM, hD, hg, ho]
  pointwise []
  simp only [mean]

theorem sitofp_zero : (FloatOps.sitofp FTy.f32 (0#32) : Ideal .f32) = (0 : EReal) := by
  simp [FloatOps.sitofp]

/-- The reference's padded array: the window of a time. -/
theorem v0_apply (u : FVec Ideal S16x2048x512 .f32) (hu : V0 (Proc.devRef .tc main_arg1) = u)
    (b : Fin 16) (n : Fin 2048) (w : Fin 31) (e : Fin 2078) (he : e.val = n.val + w.val) (j : Fin 512) :
    res_main_v0 V0 (ix3 b e j) = past (fun n => u (ix3 b n j)) n w := by
  unfold res_main_v0
  rw [hu]
  pointwise []
  have hn : e.val < 2078 := e.isLt
  by_cases h : 30 ≤ n.val + w.val
  · rw [past, dif_pos h]
    refine (dif_pos fun a => ?_).trans (congrArg (fun n => u (ix3 b n j)) (Fin.ext (by dsimp only; omega)))
    fin_cases a
    · exact ⟨Nat.zero_le _, Nat.mod_one _, by show (b.val - 0) / 1 < 16; omega⟩
    · exact ⟨by show 30 ≤ e.val; omega, Nat.mod_one _, by show (e.val - 30) / 1 < 2048; omega⟩
    · exact ⟨Nat.zero_le _, Nat.mod_one _, by show (j.val - 0) / 1 < 512; omega⟩
  · rw [past, dif_neg h]
    refine (dif_neg fun g => ?_).trans sitofp_zero
    have g1 : 30 ≤ e.val := (g (1 : Fin 3)).1
    omega

theorem v1_apply (W : FVec Ideal S1x31x512 .f32) (hW : V0 (Proc.devRef .tc main_arg5) = W)
    (w : Fin 31) (j : Fin 512) : res_main_v1 V0 (ix2 w j) = W (ix3 0 w j) := by
  unfold res_main_v1
  rw [hW]
  pointwise []

/-- The row that the output weight is applied to: the gated attention and the gated convolution. -/
def mixR (a : FVec Ideal S16x2048x512 .bf16) (gc n : FVec Ideal S16x2048x512 .f32) : FVec Ideal S16x2048x1024 .f32 :=
  concatenate S16x2048x1024 2 [⟨S16x2048x512, (extf .f32 a bitsLt_bf16_f32)⟩, ⟨S16x2048x512, (mulf (mulf n (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf n))))) gc)⟩] concatenates_S16x2048x512_S16x2048x512_S16x2048x1024_d2

theorem mixR_apply (a : FVec Ideal S16x2048x512 .bf16) (gc v : FVec Ideal S16x2048x512 .f32) (b : Fin 16) (n : Fin 2048) (k : Fin 1024) :
    mixR a gc v (ix3 b n k) = if h : k.val < 512 then a (ix3 b n ⟨k, h⟩)
      else v (ix3 b n ⟨k - 512, by omega⟩) * Ideal.logistic (v (ix3 b n ⟨k - 512, by omega⟩)) * gc (ix3 b n ⟨k - 512, by omega⟩) := by
  pointwise [mixR]
  simp only [Ideal.logistic]

/-- The reference's product over all 1024 columns, at an index. -/
theorem dot_apply (A : FVec Ideal S16x2048x1024 .f32) (B : FVec Ideal S1024x1024 .f32) (b : Fin 16) (n : Fin 2048) (j : Fin 1024) :
    Host.dotGeneral (φ₂ := .f32) dot_S16x2048x1024_S1024x1024_S16x2048x1024_2_0_01_1_n_n none A B (ix3 b n j)
      = ∑ k : Fin 1024, A (ix3 b n k) * B (ix2 k j) := by
  unfold Host.dotGeneral
  rw [Ideal.dotGeneral_def, Ideal.matmul_apply₁ _ rfl rfl, zero_add]
  refine Finset.sum_congr rfl fun k _ => ?_
  congr 1
  · refine congrArg A ?_
    funext a
    fin_cases a <;> rfl
  · refine congrArg B ?_
    funext a
    fin_cases a <;> rfl

/-- The reference's result from its mixed row. -/
def yR (X A : FVec Ideal S16x2048x1024 .f32) (W : FVec Ideal S1x1024x1024 .f32) : FVec Ideal S16x2048x1024 .f32 :=
  addf X (Host.dotGeneral (φ₂ := .f32) dot_S16x2048x1024_S1024x1024_S16x2048x1024_2_0_01_1_n_n none A
    (shapeCast _ W shapeCasts_S1x1024x1024_S1024x1024))

theorem castW_apply (W : FVec Ideal S1x1024x1024 .f32) (k j : Fin 1024) :
    shapeCast S1024x1024 W shapeCasts_S1x1024x1024_S1024x1024 (ix2 k j) = W (ix3 0 k j) := by
  pointwise []

theorem yR_apply (X A : FVec Ideal S16x2048x1024 .f32) (W : FVec Ideal S1x1024x1024 .f32)
    (b : Fin 16) (n : Fin 2048) (j : Fin 1024) : yR X A W (ix3 b n j) = X (ix3 b n j) + ∑ k : Fin 1024, A (ix3 b n k) * W (ix3 0 k j) := by
  refine congrArg (fun v : EReal => X (ix3 b n j) + v) ((dot_apply A _ b n j).trans ?_)
  simp only [castW_apply]

/-- The reference's convolution before the normalisation. -/
theorem conv_apply (u : FVec Ideal S16x2048x512 .f32) (W : FVec Ideal S1x31x512 .f32) (B : FVec Ideal S1x512 .f32)
    (hu : V0 (Proc.devRef .tc main_arg1) = u) (hW : V0 (Proc.devRef .tc main_arg5) = W) (hB : V0 (Proc.devRef .tc main_arg6) = B)
    (b : Fin 16) (n : Fin 2048) (j : Fin 512) :
    res_main_v225 V0 (ix3 b n j) = taps (past (fun n => u (ix3 b n j)) n) (fun w => W (ix3 0 w j)) (B (ix2 0 j)) := by
  rw [v225_apply V0 _ _ _ B rfl rfl rfl hB, v159_apply V0 _ _ _ rfl rfl rfl, v82_apply V0 _ _ rfl rfl, taps, sum31, zero_add]
  rw [show res_main_v0 V0 (ix3 b ⟨n.val, by omega⟩ j) = past (fun n => u (ix3 b n j)) n 0 from v0_apply V0 u hu b n 0 _ rfl j]
  rw [show res_main_v0 V0 (ix3 b ⟨1 + n.val, by omega⟩ j) = past (fun n => u (ix3 b n j)) n 1 from v0_apply V0 u hu b n 1 _ (Nat.add_comm _ _) j]
  rw [show res_main_v0 V0 (ix3 b ⟨2 + n.val, by omega⟩ j) = past (fun n => u (ix3 b n j)) n 2 from v0_apply V0 u hu b n 2 _ (Nat.add_comm _ _) j]
  rw [show res_main_v0 V0 (ix3 b ⟨3 + n.val, by omega⟩ j) = past (fun n => u (ix3 b n j)) n 3 from v0_apply V0 u hu b n 3 _ (Nat.add_comm _ _) j]
  rw [show res_main_v0 V0 (ix3 b ⟨4 + n.val, by omega⟩ j) = past (fun n => u (ix3 b n j)) n 4 from v0_apply V0 u hu b n 4 _ (Nat.add_comm _ _) j]
  rw [show res_main_v0 V0 (ix3 b ⟨5 + n.val, by omega⟩ j) = past (fun n => u (ix3 b n j)) n 5 from v0_apply V0 u hu b n 5 _ (Nat.add_comm _ _) j]
  rw [show res_main_v0 V0 (ix3 b ⟨6 + n.val, by omega⟩ j) = past (fun n => u (ix3 b n j)) n 6 from v0_apply V0 u hu b n 6 _ (Nat.add_comm _ _) j]
  rw [show res_main_v0 V0 (ix3 b ⟨7 + n.val, by omega⟩ j) = past (fun n => u (ix3 b n j)) n 7 from v0_apply V0 u hu b n 7 _ (Nat.add_comm _ _) j]
  rw [show res_main_v0 V0 (ix3 b ⟨8 + n.val, by omega⟩ j) = past (fun n => u (ix3 b n j)) n 8 from v0_apply V0 u hu b n 8 _ (Nat.add_comm _ _) j]
  rw [show res_main_v0 V0 (ix3 b ⟨9 + n.val, by omega⟩ j) = past (fun n => u (ix3 b n j)) n 9 from v0_apply V0 u hu b n 9 _ (Nat.add_comm _ _) j]
  rw [show res_main_v0 V0 (ix3 b ⟨10 + n.val, by omega⟩ j) = past (fun n => u (ix3 b n j)) n 10 from v0_apply V0 u hu b n 10 _ (Nat.add_comm _ _) j]
  rw [show res_main_v0 V0 (ix3 b ⟨11 + n.val, by omega⟩ j) = past (fun n => u (ix3 b n j)) n 11 from v0_apply V0 u hu b n 11 _ (Nat.add_comm _ _) j]
  rw [show res_main_v0 V0 (ix3 b ⟨12 + n.val, by omega⟩ j) = past (fun n => u (ix3 b n j)) n 12 from v0_apply V0 u hu b n 12 _ (Nat.add_comm _ _) j]
  rw [show res_main_v0 V0 (ix3 b ⟨13 + n.val, by omega⟩ j) = past (fun n => u (ix3 b n j)) n 13 from v0_apply V0 u hu b n 13 _ (Nat.add_comm _ _) j]
  rw [show res_main_v0 V0 (ix3 b ⟨14 + n.val, by omega⟩ j) = past (fun n => u (ix3 b n j)) n 14 from v0_apply V0 u hu b n 14 _ (Nat.add_comm _ _) j]
  rw [show res_main_v0 V0 (ix3 b ⟨15 + n.val, by omega⟩ j) = past (fun n => u (ix3 b n j)) n 15 from v0_apply V0 u hu b n 15 _ (Nat.add_comm _ _) j]
  rw [show res_main_v0 V0 (ix3 b ⟨16 + n.val, by omega⟩ j) = past (fun n => u (ix3 b n j)) n 16 from v0_apply V0 u hu b n 16 _ (Nat.add_comm _ _) j]
  rw [show res_main_v0 V0 (ix3 b ⟨17 + n.val, by omega⟩ j) = past (fun n => u (ix3 b n j)) n 17 from v0_apply V0 u hu b n 17 _ (Nat.add_comm _ _) j]
  rw [show res_main_v0 V0 (ix3 b ⟨18 + n.val, by omega⟩ j) = past (fun n => u (ix3 b n j)) n 18 from v0_apply V0 u hu b n 18 _ (Nat.add_comm _ _) j]
  rw [show res_main_v0 V0 (ix3 b ⟨19 + n.val, by omega⟩ j) = past (fun n => u (ix3 b n j)) n 19 from v0_apply V0 u hu b n 19 _ (Nat.add_comm _ _) j]
  rw [show res_main_v0 V0 (ix3 b ⟨20 + n.val, by omega⟩ j) = past (fun n => u (ix3 b n j)) n 20 from v0_apply V0 u hu b n 20 _ (Nat.add_comm _ _) j]
  rw [show res_main_v0 V0 (ix3 b ⟨21 + n.val, by omega⟩ j) = past (fun n => u (ix3 b n j)) n 21 from v0_apply V0 u hu b n 21 _ (Nat.add_comm _ _) j]
  rw [show res_main_v0 V0 (ix3 b ⟨22 + n.val, by omega⟩ j) = past (fun n => u (ix3 b n j)) n 22 from v0_apply V0 u hu b n 22 _ (Nat.add_comm _ _) j]
  rw [show res_main_v0 V0 (ix3 b ⟨23 + n.val, by omega⟩ j) = past (fun n => u (ix3 b n j)) n 23 from v0_apply V0 u hu b n 23 _ (Nat.add_comm _ _) j]
  rw [show res_main_v0 V0 (ix3 b ⟨24 + n.val, by omega⟩ j) = past (fun n => u (ix3 b n j)) n 24 from v0_apply V0 u hu b n 24 _ (Nat.add_comm _ _) j]
  rw [show res_main_v0 V0 (ix3 b ⟨25 + n.val, by omega⟩ j) = past (fun n => u (ix3 b n j)) n 25 from v0_apply V0 u hu b n 25 _ (Nat.add_comm _ _) j]
  rw [show res_main_v0 V0 (ix3 b ⟨26 + n.val, by omega⟩ j) = past (fun n => u (ix3 b n j)) n 26 from v0_apply V0 u hu b n 26 _ (Nat.add_comm _ _) j]
  rw [show res_main_v0 V0 (ix3 b ⟨27 + n.val, by omega⟩ j) = past (fun n => u (ix3 b n j)) n 27 from v0_apply V0 u hu b n 27 _ (Nat.add_comm _ _) j]
  rw [show res_main_v0 V0 (ix3 b ⟨28 + n.val, by omega⟩ j) = past (fun n => u (ix3 b n j)) n 28 from v0_apply V0 u hu b n 28 _ (Nat.add_comm _ _) j]
  rw [show res_main_v0 V0 (ix3 b ⟨29 + n.val, by omega⟩ j) = past (fun n => u (ix3 b n j)) n 29 from v0_apply V0 u hu b n 29 _ (Nat.add_comm _ _) j]
  rw [show res_main_v0 V0 (ix3 b ⟨30 + n.val, by omega⟩ j) = past (fun n => u (ix3 b n j)) n 30 from v0_apply V0 u hu b n 30 _ (Nat.add_comm _ _) j]
  simp only [v1_apply V0 W hW]

/-- The reference's normalised convolution. -/
theorem ln_apply (u : FVec Ideal S16x2048x512 .f32) (W : FVec Ideal S1x31x512 .f32) (B g o : FVec Ideal S1x512 .f32)
    (hu : V0 (Proc.devRef .tc main_arg1) = u) (hW : V0 (Proc.devRef .tc main_arg5) = W) (hB : V0 (Proc.devRef .tc main_arg6) = B)
    (hg : V0 (Proc.devRef .tc main_arg7) = g) (ho : V0 (Proc.devRef .tc main_arg8) = o) (b : Fin 16) (n : Fin 2048) (j : Fin 512) :
    res_main_v249 V0 (ix3 b n j)
      = ln (fun j => taps (past (fun n => u (ix3 b n j)) n) (fun w => W (ix3 0 w j)) (B (ix2 0 j)))
          (fun j => g (ix2 0 j)) (fun j => o (ix2 0 j)) j := by
  rw [v249_apply V0 _ _ _ g o rfl rfl rfl hg ho]
  simp only [v231_apply V0 _ _ rfl rfl, v229_apply V0 _ rfl, conv_apply V0 u W B hu hW hB, ln]

/-- The reference's result, as the run leaves it. -/
def r0 : FVec Ideal S16x2048x1024 .f32 :=
  yR (V0 (Proc.devRef .tc main_arg3)) (mixR (V0 (Proc.devRef .tc main_arg0)) (V0 (Proc.devRef .tc main_arg2)) (res_main_v249 V0))
    (V0 (Proc.devRef .tc main_arg4))

theorem r0_apply (A0 : FVec Ideal S16x2048x512 .bf16) (A1 A2 : FVec Ideal S16x2048x512 .f32) (A3 : FVec Ideal S16x2048x1024 .f32)
    (A4 : FVec Ideal S1x1024x1024 .f32) (A5 : FVec Ideal S1x31x512 .f32) (A6 A7 A8 : FVec Ideal S1x512 .f32)
    (h0 : V0 (Proc.devRef .tc main_arg0) = A0) (h1 : V0 (Proc.devRef .tc main_arg1) = A1) (h2 : V0 (Proc.devRef .tc main_arg2) = A2)
    (h3 : V0 (Proc.devRef .tc main_arg3) = A3) (h4 : V0 (Proc.devRef .tc main_arg4) = A4) (h5 : V0 (Proc.devRef .tc main_arg5) = A5)
    (h6 : V0 (Proc.devRef .tc main_arg6) = A6) (h7 : V0 (Proc.devRef .tc main_arg7) = A7) (h8 : V0 (Proc.devRef .tc main_arg8) = A8)
    (b : Fin 16) (n : Fin 2048) (j : Fin 1024) :
    r0 V0 (ix3 b n j) = y A0 A1 A2 A3 A4 A5 A6 A7 A8 b n j := by
  unfold r0
  rw [h0, h2, h3, h4, yR_apply, sum_halves]
  have h (k : Fin 512) : ¬ 512 + k.val < 512 := by omega
  simp only [mixR_apply, Fin.is_lt, dite_true, h, dite_false, Nat.add_sub_cancel_left, Fin.eta,
    ln_apply V0 A1 A5 A6 A7 A8 h1 h5 h6 h7 h8, y, out, conv, act, add_assoc]

end Cert.Proof.Merge.Ref
end
end
-- ==== Proof.MergeClaim.lean ====
module

public import proofs.«01_k».proof.Defs
public import proofs.«01_k».proof.Proof.MergeRef

@[expose] public section

/-! The merge of the prompt returns what its plain form returns. -/

set_option maxRecDepth 16384

noncomputable section

namespace Cert.Proof.Merge

open Idealize.ShloMosaic Idealize.ShloMosaic.TcCoe Idealize.SL.Sem

/-- The array the merge of the prompt returns is the reference's, over the extended reals. -/
theorem value : Cert.algebraic_Kernel3Ideal_Reference3Ideal := by
  intro m g m' g' _ h
  refine ⟨_, Cert.Kernel3Ideal.Value.run_blocks m g, ?_⟩
  refine Idealize.ShloMosaic.θ_run_mono (Cert.Reference3Ideal.Value.run m' g') ?_
  intro r hr c
  obtain ⟨hv, ha⟩ := hr c
  obtain ⟨h0, h1, h2, h3, h4, h5, h6, h7, h8⟩ := h c
  have e : Ref.r0 (StableHlo.launchContents m' c) = (Cert.Kernel3Ideal.Gen.dats m 0 c).arrAt 10 Cert.Kernel3Ideal.cfg0.N :=
    (final_10 m c (Ref.r0 (StableHlo.launchContents m' c)) fun b n j =>
      Ref.r0_apply (StableHlo.launchContents m' c) _ _ _ _ _ _ _ _ _ h0 h1 h2 h3 h4 h5 h6 h7 h8 b n j).symm
  exact ⟨hv.trans e, ha⟩

end Cert.Proof.Merge
end
end
-- ==== Proof.SampleInRef.lean ====
module

public import proofs.«01_k».proof.Proof.InprojSpec
public import proofs.«01_k».proof.Proof.Gen.Reference4Ideal.Run

@[expose] public section

/-! The plain input projection of the samples, entry by entry. -/

set_option maxRecDepth 16384

noncomputable section

namespace Cert.Proof.SampleIn.Ref

open Cert.Proof.Inproj Cert.Reference4Ideal Cert.Reference4Ideal.Gen Cert.Reference4Ideal.Value Idealize.ShloMosaic Idealize.ShloMosaic.TcCoe

variable (m : (ℓ : Loc nD τ sig) → Buf (Elt Ideal) ℓ) (c : Dev nD)

/-- Entry `e` of the projection of sample `r`, from the launch contents of the arguments. -/
def zc (r : Fin 32) (e : Fin 4168) : EReal :=
  Inproj.z (fun d => m ((c : Thread nD τ).loc main_arg0) (ix3 r 0 d)) (fun d => m ((c : Thread nD τ).loc main_arg1) (ix2 0 d))
    (fun d => m ((c : Thread nD τ).loc main_arg2) (ix3 0 d e))

/-- The sums of squares of the samples. -/
def sqR (A : FVec Ideal S32x1x1024 .f32) : FVec Ideal S32x1 .f32 :=
  Host.reduceAdd (mulf A A) (constant S_ .f32 0x00000000#32) reducesTo_S32x1x1024_S32x1_d2 h_S_

/-- The samples after the first normalisation. -/
def nR (A : FVec Ideal S32x1x1024 .f32) (g : FVec Ideal S1x1024 .f32) : FVec Ideal S32x1x1024 .f32 :=
  mulf (mulf A (broadcastInDim S32x1x1024 ![0, 1, 2] bcast_S32x1x1_S32x1x1024_0_1_2 (Host.rsqrt (addf (Host.divf (broadcastInDim S32x1x1 ![0, 1] bcast_S32x1_S32x1x1_0_1 (sqR A)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 (shapeCast _ g shapeCasts_S1x1024_S1024)))

theorem sqR_apply (A : FVec Ideal S32x1x1024 .f32) (r : Fin 32) :
    sqR A (ix2 r 0) = ∑ k : Fin 1024, A (ix3 r 0 k) * A (ix3 r 0 k) := by
  pointwise [sqR]

theorem nR_apply (A : FVec Ideal S32x1x1024 .f32) (g : FVec Ideal S1x1024 .f32) (r : Fin 32) (d : Fin 1024) :
    nR A g (ix3 r 0 d) = xn (fun d => A (ix3 r 0 d)) (fun d => g (ix2 0 d)) d := by
  pointwise [nR, sqR_apply]
  simp only [xn]

/-- The weight without its leading axis. -/
theorem cast_apply (W : FVec Ideal S1x1024x4168 .f32) (d : Fin 1024) (e : Fin 4168) :
    shapeCast S1024x4168 W shapeCasts_S1x1024x4168_S1024x4168 (ix2 d e) = W (ix3 0 d e) := by
  pointwise []

/-- The product over all 1024 columns, at an index. -/
theorem dot_apply (A : FVec Ideal S32x1x1024 .f32) (B : FVec Ideal S1024x4168 .f32) (r : Fin 32) (e : Fin 4168) :
    Host.dotGeneral (φ₂ := .f32) dot_S32x1x1024_S1024x4168_S32x1x4168_2_0_01_1_n_n none A B (ix3 r 0 e)
      = ∑ k : Fin 1024, A (ix3 r 0 k) * B (ix2 k e) := by
  unfold Host.dotGeneral
  rw [Ideal.dotGeneral_def, Ideal.matmul_apply₁ _ rfl rfl, zero_add]
  refine Finset.sum_congr rfl fun k _ => ?_
  congr 1
  · refine congrArg A ?_
    funext a
    fin_cases a <;> rfl
  · refine congrArg B ?_
    funext a
    fin_cases a <;> rfl

/-- The projection of all samples, from which each result is cut. -/
def zR : FVec Ideal S32x1x4168 .f32 :=
  Host.dotGeneral (φ₂ := .f32) dot_S32x1x1024_S1024x4168_S32x1x4168_2_0_01_1_n_n none
    (nR (m ((c.tc : Thread nD τ).loc main_arg0)) (m ((c.tc : Thread nD τ).loc main_arg1)))
    (shapeCast S1024x4168 (m ((c.tc : Thread nD τ).loc main_arg2)) shapeCasts_S1x1024x4168_S1024x4168)

theorem zR_apply (r : Fin 32) (e : Fin 4168) : zR m c (ix3 r 0 e) = zc m c r e := by
  refine (dot_apply _ _ r e).trans ?_
  unfold zc z
  refine Finset.sum_congr rfl fun k _ => ?_
  exact congrArg₂ _ (nR_apply _ _ r k) (cast_apply _ k e)

/-- The queries, as the plain form leaves them. -/
def r0 : FVec Ideal S1x32x512 .f32 :=
  transpose S1x32x512 [1, 0, 2] (shapeCast _ (mulf (mulf (shapeCast _ (extractStridedSlice S32x1x512 ![0, 0, 0] (zR m c) slices_S32x1x4168_S32x1x512_0_0_0) shapeCasts_S32x1x512_S32x1x8x64) (broadcastInDim S32x1x8x64 ![0, 1, 2, 3] bcast_S32x1x8x1_S32x1x8x64_0_1_2_3 (Host.rsqrt (addf (Host.divf (broadcastInDim S32x1x8x1 ![0, 1, 2] bcast_S32x1x8_S32x1x8x1_0_1_2 (Host.reduceAdd (mulf (shapeCast _ (extractStridedSlice S32x1x512 ![0, 0, 0] (zR m c) slices_S32x1x4168_S32x1x512_0_0_0) shapeCasts_S32x1x512_S32x1x8x64) (shapeCast _ (extractStridedSlice S32x1x512 ![0, 0, 0] (zR m c) slices_S32x1x4168_S32x1x512_0_0_0) shapeCasts_S32x1x512_S32x1x8x64)) (constant S_ .f32 0x00000000#32) reducesTo_S32x1x8x64_S32x1x8_d3 h_S_)) (broadcastInDim S32x1x8x1 ![] bcast_S_S32x1x8x1 (constant S_ .f32 0x42800000#32))) (broadcastInDim S32x1x8x1 ![] bcast_S_S32x1x8x1 (constant S_ .f32 0x358637BD#32)))))) (broadcastInDim S32x1x8x64 ![0, 1, 2, 3] bcast_S1x1x1x64_S32x1x8x64_0_1_2_3 (broadcastInDim S1x1x1x64 ![3] bcast_S64_S1x1x1x64_3 (shapeCast _ (m ((c.tc : Thread nD τ).loc main_arg3)) shapeCasts_S1x64_S64)))) shapeCasts_S32x1x8x64_S32x1x512) transposes_S32x1x512_S1x32x512_1_0_2

theorem r0_apply (r : Fin 32) (j : Fin 512) : r0 m c (ix3 0 r j) = hn (fun j => zc m c r ⟨j, by omega⟩) (fun k => m ((c : Thread nD τ).loc main_arg3) (ix2 0 k)) j := by
  pointwise [r0]
  simp only [zR_apply, hn, Nat.mul_comm (_ / 64) 64]

/-- The keys, as the plain form leaves them. -/
def r1 : FVec Ideal S1x32x512 .f32 :=
  transpose S1x32x512 [1, 0, 2] (shapeCast _ (mulf (mulf (shapeCast _ (extractStridedSlice S32x1x512 ![0, 0, 512] (zR m c) slices_S32x1x4168_S32x1x512_0_0_512) shapeCasts_S32x1x512_S32x1x8x64) (broadcastInDim S32x1x8x64 ![0, 1, 2, 3] bcast_S32x1x8x1_S32x1x8x64_0_1_2_3 (Host.rsqrt (addf (Host.divf (broadcastInDim S32x1x8x1 ![0, 1, 2] bcast_S32x1x8_S32x1x8x1_0_1_2 (Host.reduceAdd (mulf (shapeCast _ (extractStridedSlice S32x1x512 ![0, 0, 512] (zR m c) slices_S32x1x4168_S32x1x512_0_0_512) shapeCasts_S32x1x512_S32x1x8x64) (shapeCast _ (extractStridedSlice S32x1x512 ![0, 0, 512] (zR m c) slices_S32x1x4168_S32x1x512_0_0_512) shapeCasts_S32x1x512_S32x1x8x64)) (constant S_ .f32 0x00000000#32) reducesTo_S32x1x8x64_S32x1x8_d3 h_S_)) (broadcastInDim S32x1x8x1 ![] bcast_S_S32x1x8x1 (constant S_ .f32 0x42800000#32))) (broadcastInDim S32x1x8x1 ![] bcast_S_S32x1x8x1 (constant S_ .f32 0x358637BD#32)))))) (broadcastInDim S32x1x8x64 ![0, 1, 2, 3] bcast_S1x1x1x64_S32x1x8x64_0_1_2_3 (broadcastInDim S1x1x1x64 ![3] bcast_S64_S1x1x1x64_3 (shapeCast _ (m ((c.tc : Thread nD τ).loc main_arg4)) shapeCasts_S1x64_S64)))) shapeCasts_S32x1x8x64_S32x1x512) transposes_S32x1x512_S1x32x512_1_0_2

theorem r1_apply (r : Fin 32) (j : Fin 512) : r1 m c (ix3 0 r j) = hn (fun j => zc m c r ⟨512 + j, by omega⟩) (fun k => m ((c : Thread nD τ).loc main_arg4) (ix2 0 k)) j := by
  pointwise [r1]
  simp only [zR_apply, hn, Nat.mul_comm (_ / 64) 64]

/-- The values, as the plain form leaves them. -/
def r2 : FVec Ideal S1x32x512 .f32 :=
  transpose S1x32x512 [1, 0, 2] (shapeCast _ (shapeCast _ (extractStridedSlice S32x1x512 ![0, 0, 1024] (zR m c) slices_S32x1x4168_S32x1x512_0_0_1024) shapeCasts_S32x1x512_S32x1x8x64) shapeCasts_S32x1x8x64_S32x1x512) transposes_S32x1x512_S1x32x512_1_0_2

theorem r2_apply (r : Fin 32) (j : Fin 512) : r2 m c (ix3 0 r j) = zc m c r ⟨1024 + j, by omega⟩ := by
  pointwise [r2]
  simp only [zR_apply]

/-- The gate of the attention, as the plain form leaves them. -/
def r3 : FVec Ideal S1x32x512 .f32 :=
  transpose S1x32x512 [1, 0, 2] (mulf (extractStridedSlice S32x1x512 ![0, 0, 1536] (zR m c) slices_S32x1x4168_S32x1x512_0_0_1536) (Host.divf (broadcastInDim S32x1x512 ![] bcast_S_S32x1x512 (constant S_ .f32 0x3F800000#32)) (addf (broadcastInDim S32x1x512 ![] bcast_S_S32x1x512 (constant S_ .f32 0x3F800000#32)) (Host.exp (Host.negf (extractStridedSlice S32x1x512 ![0, 0, 1536] (zR m c) slices_S32x1x4168_S32x1x512_0_0_1536)))))) transposes_S32x1x512_S1x32x512_1_0_2

theorem r3_apply (r : Fin 32) (j : Fin 512) : r3 m c (ix3 0 r j) = zc m c r ⟨1536 + j, by omega⟩ * Ideal.logistic (zc m c r ⟨1536 + j, by omega⟩) := by
  pointwise [r3]
  simp only [zR_apply, Ideal.logistic]

/-- The index queries, as the plain form leaves them. -/
def r4 : FVec Ideal S1x32x512 .f32 :=
  transpose S1x32x512 [1, 0, 2] (extractStridedSlice S32x1x512 ![0, 0, 2048] (zR m c) slices_S32x1x4168_S32x1x512_0_0_2048) transposes_S32x1x512_S1x32x512_1_0_2

theorem r4_apply (r : Fin 32) (j : Fin 512) : r4 m c (ix3 0 r j) = zc m c r ⟨2048 + j, by omega⟩ := by
  pointwise [r4]
  simp only [zR_apply]

/-- The index keys and head weights, as the plain form leaves them. -/
def r5 : FVec Ideal S1x32x128 .f32 :=
  transpose S1x32x128 [1, 0, 2] ((concatenate S32x1x128 2 [⟨S32x1x64, ((extractStridedSlice S32x1x64 ![0, 0, 2560] (zR m c) slices_S32x1x4168_S32x1x64_0_0_2560) : FVec Ideal S32x1x64 .f32)⟩, ⟨S32x1x8, ((extractStridedSlice S32x1x8 ![0, 0, 2624] (zR m c) slices_S32x1x4168_S32x1x8_0_0_2624) : FVec Ideal S32x1x8 .f32)⟩, ⟨S32x1x56, ((broadcastInDim S32x1x56 ![] bcast_S_S32x1x56 (constant S_ .f32 0x00000000#32)) : FVec Ideal S32x1x56 .f32)⟩] concatenates_S32x1x64_S32x1x8_S32x1x56_S32x1x128_d2 : FVec Ideal S32x1x128 .f32)) transposes_S32x1x128_S1x32x128_1_0_2

theorem r5_apply (r : Fin 32) (j : Fin 128) : r5 m c (ix3 0 r j) = if h : j.val < 72 then zc m c r ⟨2560 + j, by omega⟩ else (0 : EReal) := by
  pointwise [r5]
  simp only [zR_apply]
  by_cases h : j.val < 64
  · have h' : j.val < 72 := by omega
    simp only [h, h', dite_true]
  · by_cases h' : j.val < 72
    · have e : j.val - 64 < 8 := by omega
      have e' : 2624 + (j.val - 64) = 2560 + j.val := by omega
      simp only [h, h', e, e', dite_true, dite_false]
    · have e : ¬ j.val - 64 < 8 := by omega
      simp only [h, h', e, dite_false]

/-- The gated input of the convolution, as the plain form leaves them. -/
def r6 : FVec Ideal S1x32x512 .f32 :=
  transpose S1x32x512 [1, 0, 2] (mulf (extractStridedSlice S32x1x512 ![0, 0, 2632] (zR m c) slices_S32x1x4168_S32x1x512_0_0_2632) (Host.divf (broadcastInDim S32x1x512 ![] bcast_S_S32x1x512 (constant S_ .f32 0x3F800000#32)) (addf (broadcastInDim S32x1x512 ![] bcast_S_S32x1x512 (constant S_ .f32 0x3F800000#32)) (Host.exp (Host.negf (extractStridedSlice S32x1x512 ![0, 0, 3144] (zR m c) slices_S32x1x4168_S32x1x512_0_0_3144)))))) transposes_S32x1x512_S1x32x512_1_0_2

theorem r6_apply (r : Fin 32) (j : Fin 512) : r6 m c (ix3 0 r j) = zc m c r ⟨2632 + j, by omega⟩ * Ideal.logistic (zc m c r ⟨3144 + j, by omega⟩) := by
  pointwise [r6]
  simp only [zR_apply, Ideal.logistic]

/-- The gate of the convolution, as the plain form leaves them. -/
def r7 : FVec Ideal S1x32x512 .f32 :=
  transpose S1x32x512 [1, 0, 2] (mulf (extractStridedSlice S32x1x512 ![0, 0, 3656] (zR m c) slices_S32x1x4168_S32x1x512_0_0_3656) (Host.divf (broadcastInDim S32x1x512 ![] bcast_S_S32x1x512 (constant S_ .f32 0x3F800000#32)) (addf (broadcastInDim S32x1x512 ![] bcast_S_S32x1x512 (constant S_ .f32 0x3F800000#32)) (Host.exp (Host.negf (extractStridedSlice S32x1x512 ![0, 0, 3656] (zR m c) slices_S32x1x4168_S32x1x512_0_0_3656)))))) transposes_S32x1x512_S1x32x512_1_0_2

theorem r7_apply (r : Fin 32) (j : Fin 512) : r7 m c (ix3 0 r j) = zc m c r ⟨3656 + j, by omega⟩ * Ideal.logistic (zc m c r ⟨3656 + j, by omega⟩) := by
  pointwise [r7]
  simp only [zR_apply, Ideal.logistic]

/-- The gated input of the convolution, sample by sample. -/
def uR : FVec Ideal S32x1x512 .f32 :=
  (mulf (extractStridedSlice S32x1x512 ![0, 0, 2632] (zR m c) slices_S32x1x4168_S32x1x512_0_0_2632) (Host.divf (broadcastInDim S32x1x512 ![] bcast_S_S32x1x512 (constant S_ .f32 0x3F800000#32)) (addf (broadcastInDim S32x1x512 ![] bcast_S_S32x1x512 (constant S_ .f32 0x3F800000#32)) (Host.exp (Host.negf (extractStridedSlice S32x1x512 ![0, 0, 3144] (zR m c) slices_S32x1x4168_S32x1x512_0_0_3144))))))

theorem uR_apply (r : Fin 32) (j : Fin 512) : uR m c (ix3 r 0 j) = zc m c r ⟨2632 + j, by omega⟩ * Ideal.logistic (zc m c r ⟨3144 + j, by omega⟩) := by
  pointwise [uR]
  simp only [zR_apply, Ideal.logistic]

/-- The last thirty rows of the convolution's state and the new row after it. -/
def shiftR (S : FVec Ideal S1x32x30x512 .f32) (u : FVec Ideal S32x1x512 .f32) : FVec Ideal S1x32x30x512 .f32 :=
  broadcastInDim S1x32x30x512 ![1, 2, 3] bcast_S32x30x512_S1x32x30x512_1_2_3 (extractStridedSlice S32x30x512 ![0, 1, 0] (concatenate S32x31x512 1 [⟨S32x30x512, (shapeCast S32x30x512 S shapeCasts_S1x32x30x512_S32x30x512 : FVec Ideal S32x30x512 .f32)⟩, ⟨S32x1x512, u⟩] concatenates_S32x30x512_S32x1x512_S32x31x512_d1 : FVec Ideal S32x31x512 .f32) slices_S32x31x512_S32x30x512_0_1_0)

theorem shiftR_apply (S : FVec Ideal S1x32x30x512 .f32) (u : FVec Ideal S32x1x512 .f32) (r : Fin 32) (w : Fin 30) (j : Fin 512) :
    shiftR S u (ix4 0 r w j) = if h : w.val < 29 then S (ix4 0 r ⟨1 + w.val, by omega⟩ j) else u (ix3 r 0 j) := by
  pointwise [shiftR]
  by_cases h : w.val < 29
  · have h' : 1 + w.val < 30 := by omega
    simp only [h, h', dite_true]
  · have h' : ¬ 1 + w.val < 30 := by omega
    simp only [h, h', dite_false]
    exact congrArg (fun k : Fin 1 => u (ix3 r k j)) (Subsingleton.elim _ _)

/-- The new state of the convolution, as the plain form leaves it. -/
def r8 : FVec Ideal S1x32x30x512 .f32 :=
  shiftR (m ((c.tc : Thread nD τ).loc main_arg5)) (uR m c)

end Cert.Proof.SampleIn.Ref
end
end
-- ==== Proof.SampleInHost.lean ====
module

public import proofs.«01_k».proof.Proof.Gen.Kernel4Ideal.Frame
public import proofs.«01_k».proof.Proof.InprojHost

@[expose] public section

/-! What the input projection of the samples reads: the arrays prepared before it, and its blocks of them. -/

set_option maxRecDepth 16384

noncomputable section

namespace Cert.Proof.SampleIn

open Cert.Proof.Inproj Cert.Kernel4Ideal Cert.Kernel4Ideal.Gen Idealize.ShloMosaic Idealize.ShloMosaic.TcCoe

variable (m : (ℓ : Loc nD τ sig) → Buf (Elt Ideal) ℓ) (c : Dev nD)

theorem V_v29 (r : Fin 32) (d : Fin 1024) : V m c main_v29 (ix3 0 r d) = m ((c : Thread nD τ).loc main_arg0) (ix3 r 0 d) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v9 (d : Fin 1024) : V m c main_v9 (ix2 0 d) = m ((c : Thread nD τ).loc main_arg1) (ix2 0 d) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v2 (d : Fin 1024) (j : Fin 2560) : V m c main_v2 (ix2 d j) = m ((c : Thread nD τ).loc main_arg2) (ix3 0 d ⟨j, by omega⟩) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v5 (d : Fin 1024) (j : Fin 128) : V m c main_v5 (ix2 d j) = if h : j.val < 72 then m ((c : Thread nD τ).loc main_arg2) (ix3 0 d ⟨2560 + j, by omega⟩) else (0 : EReal) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise
  split
  · rfl
  · exact sitofp_zero

theorem V_v7 (d : Fin 1024) (j : Fin 1536) : V m c main_v7 (ix2 d j) = m ((c : Thread nD τ).loc main_arg2) (ix3 0 d ⟨2632 + j, by omega⟩) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v14 (d : Fin 512) : V m c main_v14 (ix2 0 d) = m ((c : Thread nD τ).loc main_arg3) (ix2 0 ⟨d % 64, by omega⟩) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v19 (d : Fin 512) : V m c main_v19 (ix2 0 d) = m ((c : Thread nD τ).loc main_arg4) (ix2 0 ⟨d % 64, by omega⟩) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v28 (d e : Fin 512) : V m c main_v28 (ix2 d e) = if d.val / 64 = e.val / 64 then Ideal.ofBits FTy.f32 0x3C800000#32 else (0 : EReal) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise
  exact select_eq _ _ (by omega) (by omega) _

/-! The one point of the grid reads every array whole. -/

theorem index_0 : ∀ t : Fin cfg0.N, win0_0.index t = ![0, 0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0, 0] := (by decide +kernel : ∀ t : Fin grid0.N, _)
theorem index_9 : ∀ t : Fin cfg0.N, win0_9.index t = ![0, 0, 0] := (by decide +kernel : ∀ t : Fin grid0.N, _)
theorem index_10 : ∀ t : Fin cfg0.N, win0_10.index t = ![0, 0, 0] := (by decide +kernel : ∀ t : Fin grid0.N, _)
theorem index_11 : ∀ t : Fin cfg0.N, win0_11.index t = ![0, 0, 0] := (by decide +kernel : ∀ t : Fin grid0.N, _)
theorem index_12 : ∀ t : Fin cfg0.N, win0_12.index t = ![0, 0, 0] := (by decide +kernel : ∀ t : Fin grid0.N, _)
theorem index_13 : ∀ t : Fin cfg0.N, win0_13.index t = ![0, 0, 0] := (by decide +kernel : ∀ t : Fin grid0.N, _)
theorem index_14 : ∀ t : Fin cfg0.N, win0_14.index t = ![0, 0, 0] := (by decide +kernel : ∀ t : Fin grid0.N, _)
theorem index_15 : ∀ t : Fin cfg0.N, win0_15.index t = ![0, 0, 0] := (by decide +kernel : ∀ t : Fin grid0.N, _)

theorem blk0 (t : Fin cfg0.N) (r : Fin 32) (d : Fin 1024) : iblk m c 0 t (ix3 0 r d) = m ((c : Thread nD τ).loc main_arg0) (ix3 r 0 d) := by
  blk_simp [iblk]
  refine Eq.trans (congrArg _ ?_) (V_v29 m c r d)
  blk_ext [index_0]

theorem blk1 (t : Fin cfg0.N) (d : Fin 1024) : iblk m c 1 t (ix2 0 d) = m ((c : Thread nD τ).loc main_arg1) (ix2 0 d) := by
  blk_simp [iblk]
  refine Eq.trans (congrArg _ ?_) (V_v9 m c d)
  blk_ext [index_1]

theorem blk2 (t : Fin cfg0.N) (d : Fin 1024) (j : Fin 2560) : iblk m c 2 t (ix2 d j) = m ((c : Thread nD τ).loc main_arg2) (ix3 0 d ⟨j, by omega⟩) := by
  blk_simp [iblk]
  refine Eq.trans (congrArg _ ?_) (V_v2 m c d j)
  blk_ext [index_2]

theorem blk3 (t : Fin cfg0.N) (d : Fin 1024) (j : Fin 128) : iblk m c 3 t (ix2 d j) = if h : j.val < 72 then m ((c : Thread nD τ).loc main_arg2) (ix3 0 d ⟨2560 + j, by omega⟩) else (0 : EReal) := by
  blk_simp [iblk]
  refine Eq.trans (congrArg _ ?_) (V_v5 m c d j)
  blk_ext [index_3]

theorem blk4 (t : Fin cfg0.N) (d : Fin 1024) (j : Fin 1536) : iblk m c 4 t (ix2 d j) = m ((c : Thread nD τ).loc main_arg2) (ix3 0 d ⟨2632 + j, by omega⟩) := by
  blk_simp [iblk]
  refine Eq.trans (congrArg _ ?_) (V_v7 m c d j)
  blk_ext [index_4]

theorem blk5 (t : Fin cfg0.N) (d : Fin 512) : iblk m c 5 t (ix2 0 d) = m ((c : Thread nD τ).loc main_arg3) (ix2 0 ⟨d % 64, by omega⟩) := by
  blk_simp [iblk]
  refine Eq.trans (congrArg _ ?_) (V_v14 m c d)
  blk_ext [index_5]

theorem blk6 (t : Fin cfg0.N) (d : Fin 512) : iblk m c 6 t (ix2 0 d) = m ((c : Thread nD τ).loc main_arg4) (ix2 0 ⟨d % 64, by omega⟩) := by
  blk_simp [iblk]
  refine Eq.trans (congrArg _ ?_) (V_v19 m c d)
  blk_ext [index_6]

theorem blk7 (t : Fin cfg0.N) (d e : Fin 512) : iblk m c 7 t (ix2 d e) = if d.val / 64 = e.val / 64 then Ideal.ofBits FTy.f32 0x3C800000#32 else (0 : EReal) := by
  blk_simp [iblk]
  refine Eq.trans (congrArg _ ?_) (V_v28 m c d e)
  blk_ext [index_7]

end Cert.Proof.SampleIn
end
end
-- ==== Proof.SampleInValue.lean ====
module

public import proofs.«01_k».proof.Proof.SampleInHost

@[expose] public section

/-! The arrays the input projection of the samples leaves, entry by entry. -/

set_option maxRecDepth 16384

noncomputable section

namespace Cert.Proof.SampleIn

open Cert.Proof.Inproj Cert.Kernel4Ideal Cert.Kernel4Ideal.Gen Idealize.ShloMosaic Idealize.ShloMosaic.TcCoe

variable (m : (ℓ : Loc nD τ sig) → Buf (Elt Ideal) ℓ) (c : Dev nD)

/-- Entry `e` of the projection of sample `r`, from the launch contents of the arguments. -/
def zc (r : Fin 32) (e : Fin 4168) : EReal :=
  Inproj.z (fun d => m ((c : Thread nD τ).loc main_arg0) (ix3 r 0 d)) (fun d => m ((c : Thread nD τ).loc main_arg1) (ix2 0 d))
    (fun d => m ((c : Thread nD τ).loc main_arg2) (ix3 0 d e))

theorem val_8 (t : Fin cfg0.N) (r : Fin 32) (j : Fin 512) :
    k0_pay11 (k0_pay2 (iblk m c 0 t) (iblk m c 1 t) (View.ld (iblk m c 2 t) r0_2) (iblk m c 7 t) (iblk m c 5 t)) (ix3 0 r j)
      = hn (fun j => zc m c r ⟨j, by omega⟩) (fun k => m ((c : Thread nD τ).loc main_arg3) (ix2 0 k)) j := by
  rw [hn_eq]
  pointwise [k0_pay11, k0_pay2, k0_pay1]
  simp only [blk0, blk1, blk2, blk5, blk7, zc, z, xn]

theorem val_9 (t : Fin cfg0.N) (r : Fin 32) (j : Fin 512) :
    k0_pay13 (k0_pay5 (k0_pay3 (iblk m c 0 t) (iblk m c 1 t) (View.ld (iblk m c 2 t) r0_5)) (k0_pay4 (iblk m c 0 t) (iblk m c 1 t) (View.ld (iblk m c 2 t) r0_5)) (iblk m c 7 t) (iblk m c 6 t)) (ix3 0 r j)
      = hn (fun j => zc m c r ⟨512 + j, by omega⟩) (fun k => m ((c : Thread nD τ).loc main_arg4) (ix2 0 k)) j := by
  rw [hn_eq]
  pointwise [k0_pay13, k0_pay5, k0_pay3, k0_pay4, k0_pay1]
  simp only [blk0, blk1, blk2, blk6, blk7, zc, z, xn]

theorem val_10 (t : Fin cfg0.N) (r : Fin 32) (j : Fin 512) :
    k0_pay14 (k0_pay6 (k0_pay19 (iblk m c 0 t) (iblk m c 1 t) (iblk m c 2 t) (iblk m c 3 t) (iblk m c 4 t) (iblk m c 5 t) (iblk m c 6 t) (iblk m c 7 t)) (View.ld (iblk m c 2 t) r0_6)) (ix3 0 r j)
      = zc m c r ⟨1024 + j, by omega⟩ := by
  pointwise [k0_pay14, k0_pay6, k0_pay19, k0_pay1]
  simp only [blk0, blk1, blk2, zc, z, xn]

theorem val_11 (t : Fin cfg0.N) (r : Fin 32) (j : Fin 512) :
    k0_pay15 (k0_pay7 (k0_pay19 (iblk m c 0 t) (iblk m c 1 t) (iblk m c 2 t) (iblk m c 3 t) (iblk m c 4 t) (iblk m c 5 t) (iblk m c 6 t) (iblk m c 7 t)) (View.ld (iblk m c 2 t) r0_7)) (ix3 0 r j)
      = zc m c r ⟨1536 + j, by omega⟩ * Ideal.logistic (zc m c r ⟨1536 + j, by omega⟩) := by
  pointwise [k0_pay15, k0_pay7, k0_pay19, k0_pay1]
  simp only [blk0, blk1, blk2, zc, z, xn]

theorem val_12 (t : Fin cfg0.N) (r : Fin 32) (j : Fin 512) :
    k0_pay12 (k0_pay8 (k0_pay19 (iblk m c 0 t) (iblk m c 1 t) (iblk m c 2 t) (iblk m c 3 t) (iblk m c 4 t) (iblk m c 5 t) (iblk m c 6 t) (iblk m c 7 t)) (View.ld (iblk m c 2 t) r0_8)) (ix3 0 r j)
      = zc m c r ⟨2048 + j, by omega⟩ := by
  pointwise [k0_pay12, k0_pay8, k0_pay19, k0_pay1]
  simp only [blk0, blk1, blk2, zc, z, xn]

theorem val_13 (t : Fin cfg0.N) (r : Fin 32) (j : Fin 128) :
    k0_pay16 (k0_pay9 (k0_pay19 (iblk m c 0 t) (iblk m c 1 t) (iblk m c 2 t) (iblk m c 3 t) (iblk m c 4 t) (iblk m c 5 t) (iblk m c 6 t) (iblk m c 7 t)) (iblk m c 3 t)) (ix3 0 r j)
      = if h : j.val < 72 then zc m c r ⟨2560 + j, by omega⟩ else (0 : EReal) := by
  pointwise [k0_pay16, k0_pay9, k0_pay19, k0_pay1]
  simp only [blk0, blk1, blk3, zc, z, xn]
  by_cases h : j.val < 72
  · simp only [h, dite_true]
  · simp only [h, dite_false, mul_zero, Finset.sum_const_zero]

theorem val_14 (t : Fin cfg0.N) (r : Fin 32) (j : Fin 512) :
    k0_pay17 (k0_pay10 (k0_pay19 (iblk m c 0 t) (iblk m c 1 t) (iblk m c 2 t) (iblk m c 3 t) (iblk m c 4 t) (iblk m c 5 t) (iblk m c 6 t) (iblk m c 7 t)) (View.ld (iblk m c 4 t) r0_10) (View.ld (iblk m c 4 t) r0_11)) (ix3 0 r j)
      = zc m c r ⟨2632 + j, by omega⟩ * Ideal.logistic (zc m c r ⟨3144 + j, by omega⟩) := by
  pointwise [k0_pay17, k0_pay10, k0_pay19, k0_pay1]
  simp only [blk0, blk1, blk4, zc, z, xn, ← Nat.add_assoc, Nat.reduceAdd]

theorem val_15 (t : Fin cfg0.N) (r : Fin 32) (j : Fin 512) :
    k0_pay18 (k0_pay19 (iblk m c 0 t) (iblk m c 1 t) (iblk m c 2 t) (iblk m c 3 t) (iblk m c 4 t) (iblk m c 5 t) (iblk m c 6 t) (iblk m c 7 t)) (View.ld (iblk m c 4 t) r0_12) (ix3 0 r j)
      = zc m c r ⟨3656 + j, by omega⟩ * Ideal.logistic (zc m c r ⟨3656 + j, by omega⟩) := by
  pointwise [k0_pay18, k0_pay19, k0_pay1]
  simp only [blk0, blk1, blk4, zc, z, xn, ← Nat.add_assoc, Nat.reduceAdd]

theorem final_8 (G) (hG : ∀ r (j : Fin 512), G (ix3 0 r j) = hn (fun j => zc m c r ⟨j, by omega⟩) (fun k => m ((c : Thread nD τ).loc main_arg3) (ix2 0 k)) j) :
    (dats m 0 c).arrAt 8 cfg0.N = G := by
  refine (dats m 0 c).arrAt_eq_of_covers 8 _ (by decide +kernel) fun t hf y => ?_
  blk_simp
  rw [after0_8]
  frame_out
  idx_vars y
  obtain rfl : y0 = 0 := Subsingleton.elim _ _
  rw [show (((View.whole main_v30_0).slice (win0_8.rect t)).emb (ix3 0 y1 y2)) = ix3 0 y1 y2 by blk_ext [index_8], hG]
  exact val_8 m c t y1 y2

theorem final_9 (G) (hG : ∀ r (j : Fin 512), G (ix3 0 r j) = hn (fun j => zc m c r ⟨512 + j, by omega⟩) (fun k => m ((c : Thread nD τ).loc main_arg4) (ix2 0 k)) j) :
    (dats m 0 c).arrAt 9 cfg0.N = G := by
  refine (dats m 0 c).arrAt_eq_of_covers 9 _ (by decide +kernel) fun t hf y => ?_
  blk_simp
  rw [after0_9]
  frame_out
  idx_vars y
  obtain rfl : y0 = 0 := Subsingleton.elim _ _
  rw [show (((View.whole main_v30_1).slice (win0_9.rect t)).emb (ix3 0 y1 y2)) = ix3 0 y1 y2 by blk_ext [index_9], hG]
  exact val_9 m c t y1 y2

theorem final_10 (G) (hG : ∀ r (j : Fin 512), G (ix3 0 r j) = zc m c r ⟨1024 + j, by omega⟩) :
    (dats m 0 c).arrAt 10 cfg0.N = G := by
  refine (dats m 0 c).arrAt_eq_of_covers 10 _ (by decide +kernel) fun t hf y => ?_
  blk_simp
  rw [after0_10]
  frame_out
  idx_vars y
  obtain rfl : y0 = 0 := Subsingleton.elim _ _
  rw [show (((View.whole main_v30_2).slice (win0_10.rect t)).emb (ix3 0 y1 y2)) = ix3 0 y1 y2 by blk_ext [index_10], hG]
  exact val_10 m c t y1 y2

theorem final_11 (G) (hG : ∀ r (j : Fin 512), G (ix3 0 r j) = zc m c r ⟨1536 + j, by omega⟩ * Ideal.logistic (zc m c r ⟨1536 + j, by omega⟩)) :
    (dats m 0 c).arrAt 11 cfg0.N = G := by
  refine (dats m 0 c).arrAt_eq_of_covers 11 _ (by decide +kernel) fun t hf y => ?_
  blk_simp
  rw [after0_11]
  frame_out
  idx_vars y
  obtain rfl : y0 = 0 := Subsingleton.elim _ _
  rw [show (((View.whole main_v30_3).slice (win0_11.rect t)).emb (ix3 0 y1 y2)) = ix3 0 y1 y2 by blk_ext [index_11], hG]
  exact val_11 m c t y1 y2

theorem final_12 (G) (hG : ∀ r (j : Fin 512), G (ix3 0 r j) = zc m c r ⟨2048 + j, by omega⟩) :
    (dats m 0 c).arrAt 12 cfg0.N = G := by
  refine (dats m 0 c).arrAt_eq_of_covers 12 _ (by decide +kernel) fun t hf y => ?_
  blk_simp
  rw [after0_12]
  frame_out
  idx_vars y
  obtain rfl : y0 = 0 := Subsingleton.elim _ _
  rw [show (((View.whole main_v30_4).slice (win0_12.rect t)).emb (ix3 0 y1 y2)) = ix3 0 y1 y2 by blk_ext [index_12], hG]
  exact val_12 m c t y1 y2

theorem final_13 (G) (hG : ∀ r (j : Fin 128), G (ix3 0 r j) = if h : j.val < 72 then zc m c r ⟨2560 + j, by omega⟩ else (0 : EReal)) :
    (dats m 0 c).arrAt 13 cfg0.N = G := by
  refine (dats m 0 c).arrAt_eq_of_covers 13 _ (by decide +kernel) fun t hf y => ?_
  blk_simp
  rw [after0_13]
  frame_out
  idx_vars y
  obtain rfl : y0 = 0 := Subsingleton.elim _ _
  rw [show (((View.whole main_v30_5).slice (win0_13.rect t)).emb (ix3 0 y1 y2)) = ix3 0 y1 y2 by blk_ext [index_13], hG]
  exact val_13 m c t y1 y2

theorem final_14 (G) (hG : ∀ r (j : Fin 512), G (ix3 0 r j) = zc m c r ⟨2632 + j, by omega⟩ * Ideal.logistic (zc m c r ⟨3144 + j, by omega⟩)) :
    (dats m 0 c).arrAt 14 cfg0.N = G := by
  refine (dats m 0 c).arrAt_eq_of_covers 14 _ (by decide +kernel) fun t hf y => ?_
  blk_simp
  rw [after0_14]
  frame_out
  idx_vars y
  obtain rfl : y0 = 0 := Subsingleton.elim _ _
  rw [show (((View.whole main_v30_6).slice (win0_14.rect t)).emb (ix3 0 y1 y2)) = ix3 0 y1 y2 by blk_ext [index_14], hG]
  exact val_14 m c t y1 y2

theorem final_15 (G) (hG : ∀ r (j : Fin 512), G (ix3 0 r j) = zc m c r ⟨3656 + j, by omega⟩ * Ideal.logistic (zc m c r ⟨3656 + j, by omega⟩)) :
    (dats m 0 c).arrAt 15 cfg0.N = G := by
  refine (dats m 0 c).arrAt_eq_of_covers 15 _ (by decide +kernel) fun t hf y => ?_
  blk_simp
  rw [after0_15]
  frame_out
  idx_vars y
  obtain rfl : y0 = 0 := Subsingleton.elim _ _
  rw [show (((View.whole main_v30_7).slice (win0_15.rect t)).emb (ix3 0 y1 y2)) = ix3 0 y1 y2 by blk_ext [index_15], hG]
  exact val_15 m c t y1 y2

end Cert.Proof.SampleIn
end
end
-- ==== Proof.SampleInRun.lean ====
module

public import proofs.«01_k».proof.Proof.InprojSpec
public import proofs.«01_k».proof.Proof.Gen.Kernel4Ideal.Frame

@[expose] public section

/-! What every execution of the input projection of the samples leaves: the eight arrays of the call, the rows of the
    convolution's state moved on by one with the new row after them, and the arguments as they were. -/

set_option maxRecDepth 16384

noncomputable section

namespace Cert.Proof.SampleIn

open Cert.Proof.Inproj Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg) (c : Dev nD)

/-- The new state of the convolution from its old state and the new row of each sample: the oldest row goes, the new one
    comes last. -/
def shiftK (S : FVec Ideal S1x32x30x512 .f32) (u : FVec Ideal S1x32x512 .f32) : FVec Ideal S1x32x30x512 .f32 :=
  broadcastInDim S1x32x30x512 ![1, 2, 3] bcast_S32x30x512_S1x32x30x512_1_2_3
    (concatenate S32x30x512 1 [⟨S32x29x512, (extractStridedSlice S32x29x512 ![0, 1, 0] (shapeCast S32x30x512 S shapeCasts_S1x32x30x512_S32x30x512) slices_S32x30x512_S32x29x512_0_1_0 : FVec Ideal S32x29x512 .f32)⟩,
      ⟨S32x1x512, (broadcastInDim S32x1x512 ![0, 2] bcast_S32x512_S32x1x512_0_2 (shapeCast S32x512 u shapeCasts_S1x32x512_S32x512) : FVec Ideal S32x1x512 .f32)⟩]
      concatenates_S32x29x512_S32x1x512_S32x30x512_d1 : FVec Ideal S32x30x512 .f32)

/-- The host's operations after the call leave the new state of the convolution. -/
theorem tail_state : Pipeline.afterTail₀ cfgs (dats m) 0 (V0 m) [hostOps1] c main_v36
    = shiftK (m ((c : Thread nD τ).loc main_arg5)) ((dats m 0 c).arrAt 14 cfg0.N) := by
  have hu := Pipeline.withArrays_arr spec0 launch0.win.arr_inj c (V0 m c) (fun w => (dats m 0 c).arrAt w cfg0.N) 14
  have hs := Pipeline.withArrays_of_ne spec0 c (V0 m c) (fun w => (dats m 0 c).arrAt w cfg0.N) main_arg5 (by decide : ∀ w, Pipeline.arrRef spec0 w ≠ main_arg5)
  have hV := V_main_arg5 m c
  unfold Pipeline.afterTail₀
  simp only [hostOps1, List.flatten_cons, List.flatten_nil, List.append_nil]
  after_results_simp
  rw [← hV]
  exact congrArg₂ shiftK hs hu

/-- Every execution ends with the call's arrays as the grid leaves them, the new state, and the arguments as they were. -/
theorem run_blocks : θ_run defs (onTc (τ := τ) (main (F := Ideal))) ⟨m, fun _ => 0, ρ⟩ fun r => ∀ c : Dev nD,
      r.2.mem ((c : Thread nD τ).loc main_v30_0) = (dats m 0 c).arrAt 8 cfg0.N
      ∧ r.2.mem ((c : Thread nD τ).loc main_v30_1) = (dats m 0 c).arrAt 9 cfg0.N
      ∧ r.2.mem ((c : Thread nD τ).loc main_v30_2) = (dats m 0 c).arrAt 10 cfg0.N
      ∧ r.2.mem ((c : Thread nD τ).loc main_v30_3) = (dats m 0 c).arrAt 11 cfg0.N
      ∧ r.2.mem ((c : Thread nD τ).loc main_v30_4) = (dats m 0 c).arrAt 12 cfg0.N
      ∧ r.2.mem ((c : Thread nD τ).loc main_v30_5) = (dats m 0 c).arrAt 13 cfg0.N
      ∧ r.2.mem ((c : Thread nD τ).loc main_v30_6) = (dats m 0 c).arrAt 14 cfg0.N
      ∧ r.2.mem ((c : Thread nD τ).loc main_v30_7) = (dats m 0 c).arrAt 15 cfg0.N
      ∧ r.2.mem ((c : Thread nD τ).loc main_v36) = shiftK (m ((c : Thread nD τ).loc main_arg5)) ((dats m 0 c).arrAt 14 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 8, (h c).1 9, (h c).1 10, (h c).1 11, (h c).1 12, (h c).1 13, (h c).1 14, (h c).1 15,
      ((h c).2 main_v36 (Pipeline.mem_restRefs_of main_v36 (by decide) (by decide))).trans (tail_state m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-- Row `w` of the new state is row `1 + w` of the old one, and its last row is the new row. -/
theorem shiftK_apply (S : FVec Ideal S1x32x30x512 .f32) (u : FVec Ideal S1x32x512 .f32) (r : Fin 32) (w : Fin 30) (j : Fin 512) :
    shiftK S u (ix4 0 r w j) = if h : w.val < 29 then S (ix4 0 r ⟨1 + w.val, by omega⟩ j) else u (ix3 0 r j) := by
  pointwise [shiftK]

end Cert.Proof.SampleIn
end
end
-- ==== Proof.SampleInClaim.lean ====
module

public import proofs.«01_k».proof.Defs
public import proofs.«01_k».proof.Proof.SampleInRef
public import proofs.«01_k».proof.Proof.SampleInValue
public import proofs.«01_k».proof.Proof.SampleInRun

@[expose] public section

/-! The input projection of the samples returns what its plain form returns. -/

set_option maxRecDepth 16384

noncomputable section

namespace Cert.Proof.SampleIn

open Idealize.ShloMosaic Idealize.ShloMosaic.TcCoe Idealize.SL.Sem

/-- The two memories hold the same six arguments. -/
def Agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) : Prop :=
  ∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)

variable {m : (ℓ : Loc Cert.Kernel4Ideal.nD Cert.Kernel4Ideal.τ Cert.Kernel4Ideal.sig) → Buf (Elt Ideal) ℓ}
variable {m' : (ℓ : Loc Cert.Reference4Ideal.nD Cert.Reference4Ideal.τ Cert.Reference4Ideal.sig) → Buf (Elt Ideal) ℓ}

/-- The projection's entries are the same on both sides. -/
theorem zc_agree (h : Agree m m') {c : Dev Cert.Kernel4Ideal.nD} (r : Fin 32) (e : Fin 4168) : Ref.zc m' c r e = zc m c r e := by
  obtain ⟨h0, h1, h2, -⟩ := h c
  unfold Ref.zc zc
  rw [h0, h1, h2]

theorem e0 (h : Agree m m') (c : Dev Cert.Kernel4Ideal.nD) : Ref.r0 m' c = (Cert.Kernel4Ideal.Gen.dats m 0 c).arrAt 8 Cert.Kernel4Ideal.cfg0.N :=
  (final_8 m c (Ref.r0 m' c) fun r j => (Ref.r0_apply m' c r j).trans (by
    simp only [zc_agree h, (h c).2.2.2.1])).symm

theorem e1 (h : Agree m m') (c : Dev Cert.Kernel4Ideal.nD) : Ref.r1 m' c = (Cert.Kernel4Ideal.Gen.dats m 0 c).arrAt 9 Cert.Kernel4Ideal.cfg0.N :=
  (final_9 m c (Ref.r1 m' c) fun r j => (Ref.r1_apply m' c r j).trans (by
    simp only [zc_agree h, (h c).2.2.2.2.1])).symm

theorem e2 (h : Agree m m') (c : Dev Cert.Kernel4Ideal.nD) : Ref.r2 m' c = (Cert.Kernel4Ideal.Gen.dats m 0 c).arrAt 10 Cert.Kernel4Ideal.cfg0.N :=
  (final_10 m c (Ref.r2 m' c) fun r j => (Ref.r2_apply m' c r j).trans (by
    simp only [zc_agree h])).symm

theorem e3 (h : Agree m m') (c : Dev Cert.Kernel4Ideal.nD) : Ref.r3 m' c = (Cert.Kernel4Ideal.Gen.dats m 0 c).arrAt 11 Cert.Kernel4Ideal.cfg0.N :=
  (final_11 m c (Ref.r3 m' c) fun r j => (Ref.r3_apply m' c r j).trans (by
    simp only [zc_agree h])).symm

theorem e4 (h : Agree m m') (c : Dev Cert.Kernel4Ideal.nD) : Ref.r4 m' c = (Cert.Kernel4Ideal.Gen.dats m 0 c).arrAt 12 Cert.Kernel4Ideal.cfg0.N :=
  (final_12 m c (Ref.r4 m' c) fun r j => (Ref.r4_apply m' c r j).trans (by
    simp only [zc_agree h])).symm

theorem e5 (h : Agree m m') (c : Dev Cert.Kernel4Ideal.nD) : Ref.r5 m' c = (Cert.Kernel4Ideal.Gen.dats m 0 c).arrAt 13 Cert.Kernel4Ideal.cfg0.N :=
  (final_13 m c (Ref.r5 m' c) fun r j => (Ref.r5_apply m' c r j).trans (by
    simp only [zc_agree h])).symm

theorem e6 (h : Agree m m') (c : Dev Cert.Kernel4Ideal.nD) : Ref.r6 m' c = (Cert.Kernel4Ideal.Gen.dats m 0 c).arrAt 14 Cert.Kernel4Ideal.cfg0.N :=
  (final_14 m c (Ref.r6 m' c) fun r j => (Ref.r6_apply m' c r j).trans (by
    simp only [zc_agree h])).symm

theorem e7 (h : Agree m m') (c : Dev Cert.Kernel4Ideal.nD) : Ref.r7 m' c = (Cert.Kernel4Ideal.Gen.dats m 0 c).arrAt 15 Cert.Kernel4Ideal.cfg0.N :=
  (final_15 m c (Ref.r7 m' c) fun r j => (Ref.r7_apply m' c r j).trans (by
    simp only [zc_agree h])).symm

/-- The gated input of the convolution, sample by sample, is what the call leaves. -/
theorem u_agree (h : Agree m m') (c : Dev Cert.Kernel4Ideal.nD) (r : Fin 32) (j : Fin 512) :
    Ref.uR m' c (ix3 r 0 j) = (Cert.Kernel4Ideal.Gen.dats m 0 c).arrAt 14 Cert.Kernel4Ideal.cfg0.N (ix3 0 r j) :=
  ((Ref.uR_apply m' c r j).trans (Ref.r6_apply m' c r j).symm).trans (congrFun (e6 h c) (ix3 0 r j))

/-- The new state of the convolution is the same on both sides. -/
theorem e8 (h : Agree m m') (c : Dev Cert.Kernel4Ideal.nD) : Ref.r8 m' c
    = shiftK (m ((c.tc : Thread Cert.Kernel4Ideal.nD Cert.Kernel4Ideal.τ).loc Cert.Kernel4Ideal.main_arg5)) ((Cert.Kernel4Ideal.Gen.dats m 0 c).arrAt 14 Cert.Kernel4Ideal.cfg0.N) := by
  funext y
  idx_vars y
  obtain rfl : y0 = 0 := Subsingleton.elim _ _
  refine (Ref.shiftR_apply _ _ y1 y2 y3).trans (Eq.trans ?_ (shiftK_apply _ _ y1 y2 y3).symm)
  rw [(h c).2.2.2.2.2, u_agree h c]

/-- All eight arrays of the projection of the samples and the convolution's new state, over the extended reals. -/
theorem value : Cert.algebraic_Kernel4Ideal_Reference4Ideal := by
  intro m g m' g' _ h
  refine ⟨_, _, _, _, _, _, _, _, _, run_blocks m g, ?_⟩
  refine Idealize.ShloMosaic.θ_run_mono (Cert.Reference4Ideal.Value.run m' g') ?_
  intro r hr c
  obtain ⟨h0, h1, h2, h3, h4, h5, h6, h7, h8, ha⟩ := hr c
  exact ⟨h0.trans (e0 h c), h1.trans (e1 h c), h2.trans (e2 h c), h3.trans (e3 h c), h4.trans (e4 h c), h5.trans (e5 h c), h6.trans (e6 h c), h7.trans (e7 h c), h8.trans (e8 h c), ha⟩

end Cert.Proof.SampleIn
end
end
-- ==== Proof.SampleMergePay.lean ====
module

public import proofs.«01_k».proof.Proof.Gen.Kernel5Ideal.Value
public import Idealize.ShloMosaic.Lib.Pointwise
public import Idealize.ShloMosaic.Lib.Claim
public import Idealize.ShloMosaic.Lib.Pipeline.ValueKit
public import proofs.«01_k».proof.Proof.MergeSpec

@[expose] public section

/-! What the kernel of the sample's merge computes from the blocks it loads, entry by entry. -/

set_option maxRecDepth 16384

noncomputable section

namespace Cert.Proof.SampleMerge

open Cert.Kernel5Ideal Cert.Kernel5Ideal.Gen Cert.Proof.Merge Idealize.ShloMosaic Idealize.ShloMosaic.TcCoe

/-- The first 29 taps of the kernel's convolution. -/
theorem acc_apply (x2 : FVec Ideal S32x512 .f32) (x4 : FVec Ideal S30x32x512 .f32) (x7 : FVec Ideal S31x512 .f32)
    (x8 : FVec Ideal S1x512 .f32) (r : Fin 32) (j : Fin 512) :
    k0_pay17 (k0_pay14 (k0_pay11 (k0_pay8 (k0_pay5 (k0_pay2 x8 x2 (View.ld x7 r0_2) (View.ld x4 r0_3) (View.ld x7 r0_4) (View.ld x4 r0_5) (View.ld x7 r0_6) (View.ld x4 r0_7) (View.ld x7 r0_8)) (k0_pay3 (View.ld x4 r0_9)) (k0_pay4 (View.ld x7 r0_10)) (View.ld x4 r0_11) (View.ld x7 r0_12) (View.ld x4 r0_13) (View.ld x7 r0_14) (View.ld x4 r0_15) (View.ld x7 r0_16) (View.ld x4 r0_17) (View.ld x7 r0_18)) (k0_pay6 (View.ld x4 r0_19)) (k0_pay7 (View.ld x7 r0_20)) (View.ld x4 r0_21) (View.ld x7 r0_22) (View.ld x4 r0_23) (View.ld x7 r0_24) (View.ld x4 r0_25) (View.ld x7 r0_26) (View.ld x4 r0_27) (View.ld x7 r0_28)) (k0_pay9 (View.ld x4 r0_29)) (k0_pay10 (View.ld x7 r0_30)) (View.ld x4 r0_31) (View.ld x7 r0_32) (View.ld x4 r0_33) (View.ld x7 r0_34) (View.ld x4 r0_35) (View.ld x7 r0_36) (View.ld x4 r0_37) (View.ld x7 r0_38)) (k0_pay12 (View.ld x4 r0_39)) (k0_pay13 (View.ld x7 r0_40)) (View.ld x4 r0_41) (View.ld x7 r0_42) (View.ld x4 r0_43) (View.ld x7 r0_44) (View.ld x4 r0_45) (View.ld x7 r0_46) (View.ld x4 r0_47) (View.ld x7 r0_48)) (k0_pay15 (View.ld x4 r0_49)) (k0_pay16 (View.ld x7 r0_50)) (View.ld x4 r0_51) (View.ld x7 r0_52) (View.ld x4 r0_53) (View.ld x7 r0_54) (View.ld x4 r0_55) (View.ld x7 r0_56) (View.ld x4 r0_57) (View.ld x7 r0_58) (ix2 r j)
      = x8 (ix2 0 j) + x2 (ix2 r j) * x7 (ix2 30 j) + x4 (ix3 0 r j) * x7 (ix2 0 j) + x4 (ix3 1 r j) * x7 (ix2 1 j) + x4 (ix3 2 r j) * x7 (ix2 2 j) + x4 (ix3 3 r j) * x7 (ix2 3 j) + x4 (ix3 4 r j) * x7 (ix2 4 j) + x4 (ix3 5 r j) * x7 (ix2 5 j) + x4 (ix3 6 r j) * x7 (ix2 6 j) + x4 (ix3 7 r j) * x7 (ix2 7 j) + x4 (ix3 8 r j) * x7 (ix2 8 j) + x4 (ix3 9 r j) * x7 (ix2 9 j) + x4 (ix3 10 r j) * x7 (ix2 10 j) + x4 (ix3 11 r j) * x7 (ix2 11 j) + x4 (ix3 12 r j) * x7 (ix2 12 j) + x4 (ix3 13 r j) * x7 (ix2 13 j) + x4 (ix3 14 r j) * x7 (ix2 14 j) + x4 (ix3 15 r j) * x7 (ix2 15 j) + x4 (ix3 16 r j) * x7 (ix2 16 j) + x4 (ix3 17 r j) * x7 (ix2 17 j) + x4 (ix3 18 r j) * x7 (ix2 18 j) + x4 (ix3 19 r j) * x7 (ix2 19 j) + x4 (ix3 20 r j) * x7 (ix2 20 j) + x4 (ix3 21 r j) * x7 (ix2 21 j) + x4 (ix3 22 r j) * x7 (ix2 22 j) + x4 (ix3 23 r j) * x7 (ix2 23 j) + x4 (ix3 24 r j) * x7 (ix2 24 j) + x4 (ix3 25 r j) * x7 (ix2 25 j) + x4 (ix3 26 r j) * x7 (ix2 26 j) + x4 (ix3 27 r j) * x7 (ix2 27 j) := by
  pointwise [k0_pay2, k0_pay3, k0_pay4, k0_pay5, k0_pay6, k0_pay7, k0_pay8, k0_pay9, k0_pay10, k0_pay11, k0_pay12, k0_pay13, k0_pay14, k0_pay15, k0_pay16, k0_pay17]

/-- The kernel's gated convolution of a row, from the sum `p` of its first 29 taps. -/
theorem cg_apply (p x3 : FVec Ideal S32x512 .f32) (x4 : FVec Ideal S30x32x512 .f32) (x7 : FVec Ideal S31x512 .f32)
    (x9 x10 : FVec Ideal S1x512 .f32) (r : Fin 32) (j : Fin 512) :
    k0_pay20 p (k0_pay18 (View.ld x4 r0_59)) (k0_pay19 (View.ld x7 r0_60)) (View.ld x4 r0_61) (View.ld x7 r0_62) x9
        x10 x3 (ix2 r j)
      = act (fun j => p (ix2 r j) + x4 (ix3 28 r j) * x7 (ix2 28 j) + x4 (ix3 29 r j) * x7 (ix2 29 j))
          (fun j => x9 (ix2 0 j)) (fun j => x10 (ix2 0 j)) j * x3 (ix2 r j) := by
  pointwise [k0_pay20, k0_pay18, k0_pay19]
  simp only [act, ln, mean, Ideal.logistic]

/-- The kernel's result from its gated convolution `q`. -/
theorem y_apply (q : FVec Ideal S32x512 .bf16) (x0 x1 : FVec Ideal S32x512 .f32) (x5 : FVec Ideal S32x1024 .f32)
    (x6 : FVec Ideal S1024x1024 .bf16) (r : Fin 32) (j : Fin 1024) :
    k0_pay1 q x0 x1 x5 (View.ld x6 r0_64) (View.ld x6 r0_65) (ix2 r j)
      = out (x5 (ix2 r j)) (fun k => x0 (ix2 r k) * x1 (ix2 r k)) (fun k => q (ix2 r k)) (fun k => x6 (ix2 k j)) := by
  pointwise [k0_pay1]
  simp only [out]

end Cert.Proof.SampleMerge
end
end
-- ==== Proof.SampleMergeHost.lean ====
module

public import proofs.«01_k».proof.Proof.SampleMergePay

@[expose] public section

/-! The blocks the kernel of the sample's merge loads, from the launch contents of the arguments. -/

set_option maxRecDepth 16384

noncomputable section

namespace Cert.Proof.SampleMerge

open Cert.Kernel5Ideal Cert.Kernel5Ideal.Gen Cert.Proof.Merge Idealize.ShloMosaic Idealize.ShloMosaic.TcCoe

variable (m : (ℓ : Loc nD τ sig) → Buf (Elt Ideal) ℓ) (c : Dev nD)

theorem V_v9 (w : Fin 30) (r : Fin 32) (j : Fin 512) : V m c main_v9 (ix3 w r j) = m ((c : Thread nD τ).loc main_arg4) (ix4 0 r w j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v10 (r : Fin 32) (j : Fin 1024) : V m c main_v10 (ix2 r j) = m ((c : Thread nD τ).loc main_arg5) (ix3 r 0 j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v1 (k j : Fin 1024) : V m c main_v1 (ix2 k j) = m ((c : Thread nD τ).loc main_arg6) (ix3 0 k j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v11 (w : Fin 31) (j : Fin 512) : V m c main_v11 (ix2 w j) = m ((c : Thread nD τ).loc main_arg7) (ix3 0 w j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v3 (j : Fin 512) : V m c main_v3 (ix2 0 j) = m ((c : Thread nD τ).loc main_arg8) (ix2 0 j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v5 (j : Fin 512) : V m c main_v5 (ix2 0 j) = m ((c : Thread nD τ).loc main_arg9) (ix2 0 j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem V_v7 (j : Fin 512) : V m c main_v7 (ix2 0 j) = m ((c : Thread nD τ).loc main_arg10) (ix2 0 j) := by
  simp only [V, hostOps0, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)

theorem blk0 (t : Fin cfg0.N) (r : Fin 32) (j : Fin 512) : iblk m c 0 t (ix2 r j) = m ((c : Thread nD τ).loc main_arg0) (ix2 r j) := by
  blk_simp [iblk]
  refine (congrFun (V_main_arg0 m c) _).trans (congrArg _ ?_)
  blk_ext [index_0]

theorem blk1 (t : Fin cfg0.N) (r : Fin 32) (j : Fin 512) : iblk m c 1 t (ix2 r j) = m ((c : Thread nD τ).loc main_arg1) (ix2 r j) := by
  blk_simp [iblk]
  refine (congrFun (V_main_arg1 m c) _).trans (congrArg _ ?_)
  blk_ext [index_1]

theorem blk2 (t : Fin cfg0.N) (r : Fin 32) (j : Fin 512) : iblk m c 2 t (ix2 r j) = m ((c : Thread nD τ).loc main_arg2) (ix2 r j) := by
  blk_simp [iblk]
  refine (congrFun (V_main_arg2 m c) _).trans (congrArg _ ?_)
  blk_ext [index_2]

theorem blk3 (t : Fin cfg0.N) (r : Fin 32) (j : Fin 512) : iblk m c 3 t (ix2 r j) = m ((c : Thread nD τ).loc main_arg3) (ix2 r j) := by
  blk_simp [iblk]
  refine (congrFun (V_main_arg3 m c) _).trans (congrArg _ ?_)
  blk_ext [index_3]

theorem blk4 (t : Fin cfg0.N) (w : Fin 30) (r : Fin 32) (j : Fin 512) : iblk m c 4 t (ix3 w r j) = m ((c : Thread nD τ).loc main_arg4) (ix4 0 r w j) := by
  blk_simp [iblk]
  refine Eq.trans (congrArg _ ?_) (V_v9 m c w r j)
  blk_ext [index_4]

theorem blk5 (t : Fin cfg0.N) (r : Fin 32) (j : Fin 1024) : iblk m c 5 t (ix2 r j) = m ((c : Thread nD τ).loc main_arg5) (ix3 r 0 j) := by
  blk_simp [iblk]
  refine Eq.trans (congrArg _ ?_) (V_v10 m c r j)
  blk_ext [index_5]

theorem blk6 (t : Fin cfg0.N) (k j : Fin 1024) : iblk m c 6 t (ix2 k j) = m ((c : Thread nD τ).loc main_arg6) (ix3 0 k j) := by
  blk_simp [iblk]
  refine Eq.trans (congrArg _ ?_) (V_v1 m c k j)
  blk_ext [index_6]

theorem blk7 (t : Fin cfg0.N) (w : Fin 31) (j : Fin 512) : iblk m c 7 t (ix2 w j) = m ((c : Thread nD τ).loc main_arg7) (ix3 0 w j) := by
  blk_simp [iblk]
  refine Eq.trans (congrArg _ ?_) (V_v11 m c w j)
  blk_ext [index_7]

theorem blk8 (t : Fin cfg0.N) (j : Fin 512) : iblk m c 8 t (ix2 0 j) = m ((c : Thread nD τ).loc main_arg8) (ix2 0 j) := by
  blk_simp [iblk]
  refine Eq.trans (congrArg _ ?_) (V_v3 m c j)
  blk_ext [index_8]

theorem blk9 (t : Fin cfg0.N) (j : Fin 512) : iblk m c 9 t (ix2 0 j) = m ((c : Thread nD τ).loc main_arg9) (ix2 0 j) := by
  blk_simp [iblk]
  refine Eq.trans (congrArg _ ?_) (V_v5 m c j)
  blk_ext [index_9]

theorem blk10 (t : Fin cfg0.N) (j : Fin 512) : iblk m c 10 t (ix2 0 j) = m ((c : Thread nD τ).loc main_arg10) (ix2 0 j) := by
  blk_simp [iblk]
  refine Eq.trans (congrArg _ ?_) (V_v7 m c j)
  blk_ext [index_10]

end Cert.Proof.SampleMerge
end
end
-- ==== Proof.SampleMergeValue.lean ====
module

public import proofs.«01_k».proof.Proof.SampleMergeHost

@[expose] public section

/-! The array the kernel of the sample's merge leaves, entry by entry. -/

set_option maxRecDepth 16384

noncomputable section

namespace Cert.Proof.SampleMerge

open Cert.Kernel5Ideal Cert.Kernel5Ideal.Gen Cert.Proof.Merge Idealize.ShloMosaic Idealize.ShloMosaic.TcCoe

variable (m : (ℓ : Loc nD τ sig) → Buf (Elt Ideal) ℓ) (c : Dev nD)

/-- The convolution's window: the 30 entries of the state and the new entry. -/
def win (st : Fin 30 → EReal) (u : EReal) (w : Fin 31) : EReal :=
  if h : w.val < 30 then st ⟨w, h⟩ else u

/-- Entry `j` of the result for sample `r`, from the arguments. -/
def y (A0 A1 A2 A3 : FVec Ideal S32x512 .f32) (A4 : FVec Ideal S1x32x30x512 .f32) (A5 : FVec Ideal S32x1x1024 .f32)
    (A6 : FVec Ideal S1x1024x1024 .f32) (A7 : FVec Ideal S1x31x512 .f32) (A8 A9 A10 : FVec Ideal S1x512 .f32)
    (r : Fin 32) (j : Fin 1024) : EReal :=
  out (A5 (ix3 r 0 j)) (fun k => A0 (ix2 r k) * A1 (ix2 r k))
    (fun k => conv (fun j => win (fun w => A4 (ix4 0 r w j)) (A2 (ix2 r j))) (fun w j => A7 (ix3 0 w j)) (fun j => A8 (ix2 0 j)) (fun j => A9 (ix2 0 j))
      (fun j => A10 (ix2 0 j)) k * A3 (ix2 r k))
    (fun k => A6 (ix3 0 k j))

/-- That entry at the launch contents of the arguments. -/
def yc (r : Fin 32) (j : Fin 1024) : EReal :=
  y (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) r j

theorem taps_win (st : Fin 30 → EReal) (u : EReal) (k : Fin 31 → EReal) (b : EReal) :
    taps (win st u) k b = b + u * k 30 + st 0 * k 0 + st 1 * k 1 + st 2 * k 2 + st 3 * k 3 + st 4 * k 4 + st 5 * k 5 + st 6 * k 6 + st 7 * k 7 + st 8 * k 8 + st 9 * k 9 + st 10 * k 10 + st 11 * k 11 + st 12 * k 12 + st 13 * k 13 + st 14 * k 14 + st 15 * k 15 + st 16 * k 16 + st 17 * k 17 + st 18 * k 18 + st 19 * k 19 + st 20 * k 20 + st 21 * k 21 + st 22 * k 22 + st 23 * k 23 + st 24 * k 24 + st 25 * k 25 + st 26 * k 26 + st 27 * k 27 + st 28 * k 28 + st 29 * k 29 := by
  have h (w : Fin 30) : win st u ⟨w, by omega⟩ = st w := dif_pos w.isLt
  rw [taps_last, show win st u 30 = u from rfl, show win st u 0 = st 0 from h 0, show win st u 1 = st 1 from h 1, show win st u 2 = st 2 from h 2, show win st u 3 = st 3 from h 3, show win st u 4 = st 4 from h 4, show win st u 5 = st 5 from h 5, show win st u 6 = st 6 from h 6, show win st u 7 = st 7 from h 7, show win st u 8 = st 8 from h 8, show win st u 9 = st 9 from h 9, show win st u 10 = st 10 from h 10, show win st u 11 = st 11 from h 11, show win st u 12 = st 12 from h 12, show win st u 13 = st 13 from h 13, show win st u 14 = st 14 from h 14, show win st u 15 = st 15 from h 15, show win st u 16 = st 16 from h 16, show win st u 17 = st 17 from h 17, show win st u 18 = st 18 from h 18, show win st u 19 = st 19 from h 19, show win st u 20 = st 20 from h 20, show win st u 21 = st 21 from h 21, show win st u 22 = st 22 from h 22, show win st u 23 = st 23 from h 23, show win st u 24 = st 24 from h 24, show win st u 25 = st 25 from h 25, show win st u 26 = st 26 from h 26, show win st u 27 = st 27 from h 27, show win st u 28 = st 28 from h 28, show win st u 29 = st 29 from h 29]

/-- Entry `j` of the block the kernel stores for sample `r`, from the blocks it loads. -/
theorem val_11 (x0 x1 x2 x3 : FVec Ideal S32x512 .f32) (x4 : FVec Ideal S30x32x512 .f32) (x5 : FVec Ideal S32x1024 .f32)
    (x6 : FVec Ideal S1024x1024 .bf16) (x7 : FVec Ideal S31x512 .f32) (x8 x9 x10 : FVec Ideal S1x512 .f32) (r : Fin 32) (j : Fin 1024) :
    k0_pay1 (F := Ideal) (k0_pay20 (k0_pay17 (k0_pay14 (k0_pay11 (k0_pay8 (k0_pay5 (k0_pay2 x8 x2 (View.ld x7 r0_2) (View.ld x4 r0_3) (View.ld x7 r0_4) (View.ld x4 r0_5) (View.ld x7 r0_6) (View.ld x4 r0_7) (View.ld x7 r0_8)) (k0_pay3 (View.ld x4 r0_9)) (k0_pay4 (View.ld x7 r0_10)) (View.ld x4 r0_11) (View.ld x7 r0_12) (View.ld x4 r0_13) (View.ld x7 r0_14) (View.ld x4 r0_15) (View.ld x7 r0_16) (View.ld x4 r0_17) (View.ld x7 r0_18)) (k0_pay6 (View.ld x4 r0_19)) (k0_pay7 (View.ld x7 r0_20)) (View.ld x4 r0_21) (View.ld x7 r0_22) (View.ld x4 r0_23) (View.ld x7 r0_24) (View.ld x4 r0_25) (View.ld x7 r0_26) (View.ld x4 r0_27) (View.ld x7 r0_28)) (k0_pay9 (View.ld x4 r0_29)) (k0_pay10 (View.ld x7 r0_30)) (View.ld x4 r0_31) (View.ld x7 r0_32) (View.ld x4 r0_33) (View.ld x7 r0_34) (View.ld x4 r0_35) (View.ld x7 r0_36) (View.ld x4 r0_37) (View.ld x7 r0_38)) (k0_pay12 (View.ld x4 r0_39)) (k0_pay13 (View.ld x7 r0_40)) (View.ld x4 r0_41) (View.ld x7 r0_42) (View.ld x4 r0_43) (View.ld x7 r0_44) (View.ld x4 r0_45) (View.ld x7 r0_46) (View.ld x4 r0_47) (View.ld x7 r0_48)) (k0_pay15 (View.ld x4 r0_49)) (k0_pay16 (View.ld x7 r0_50)) (View.ld x4 r0_51) (View.ld x7 r0_52) (View.ld x4 r0_53) (View.ld x7 r0_54) (View.ld x4 r0_55) (View.ld x7 r0_56) (View.ld x4 r0_57) (View.ld x7 r0_58)) (k0_pay18 (View.ld x4 r0_59)) (k0_pay19 (View.ld x7 r0_60)) (View.ld x4 r0_61) (View.ld x7 r0_62) x9 x10 x3) x0 x1 x5 (View.ld x6 r0_64) (View.ld x6 r0_65) (ix2 r j)
      = out (x5 (ix2 r j)) (fun k => x0 (ix2 r k) * x1 (ix2 r k))
          (fun k => conv (fun j => win (fun w => x4 (ix3 w r j)) (x2 (ix2 r j))) (fun w j => x7 (ix2 w j)) (fun j => x8 (ix2 0 j))
            (fun j => x9 (ix2 0 j)) (fun j => x10 (ix2 0 j)) k * x3 (ix2 r k))
          (fun k => x6 (ix2 k j)) := by
  rw [y_apply]
  simp only [cg_apply, acc_apply, conv, taps_win]

theorem final_11 (G) (hG : ∀ r (j : Fin 1024), G (ix2 r j) = yc m c r j) :
    (dats m 0 c).arrAt 11 cfg0.N = G := by
  refine (dats m 0 c).arrAt_eq_of_covers 11 _ (by decide +kernel) fun t hf y => ?_
  blk_simp
  rw [after0_11]
  frame_out
  idx_vars y
  rw [show (((View.whole main_v12).slice (win0_11.rect t)).emb (ix2 y0 y1)) = ix2 y0 y1 by blk_ext [index_11], hG]
  refine (val_11 (iblk m c 0 t) (iblk m c 1 t) (iblk m c 2 t) (iblk m c 3 t) (iblk m c 4 t) (iblk m c 5 t) (iblk m c 6 t)
    (iblk m c 7 t) (iblk m c 8 t) (iblk m c 9 t) (iblk m c 10 t) y0 y1).trans ?_
  simp only [blk0, blk1, blk2, blk3, blk4, blk5, blk6, blk7, blk8, blk9, blk10, yc, y]

end Cert.Proof.SampleMerge
end
end
-- ==== Proof.SampleMergeRef.lean ====
module

public import proofs.«01_k».proof.Proof.SampleMergeValue
public import proofs.«01_k».proof.Proof.Gen.Reference5Ideal.Run

@[expose] public section

/-! The plain merge of the sample, entry by entry. -/

set_option maxRecDepth 16384

noncomputable section

namespace Cert.Proof.SampleMerge.Ref

open Cert.Reference5Ideal Cert.Reference5Ideal.Gen Cert.Reference5Ideal.Value Cert.Proof.Merge Idealize.ShloMosaic Idealize.ShloMosaic.TcCoe

variable (V0 : Valuation τ sig (Elt Ideal))

theorem v91_apply (E : FVec Ideal S32x31x512 .f32) (K : FVec Ideal S31x512 .f32) (hE : res_main_v2 V0 = E) (hK : res_main_v3 V0 = K)
    (r : Fin 32) (j : Fin 512) : res_main_v91 V0 (ix3 r 0 j) = 0 + E (ix3 r 0 j) * K (ix2 0 j) + E (ix3 r 1 j) * K (ix2 1 j) + E (ix3 r 2 j) * K (ix2 2 j) + E (ix3 r 3 j) * K (ix2 3 j) + E (ix3 r 4 j) * K (ix2 4 j) + E (ix3 r 5 j) * K (ix2 5 j) + E (ix3 r 6 j) * K (ix2 6 j) + E (ix3 r 7 j) * K (ix2 7 j) + E (ix3 r 8 j) * K (ix2 8 j) + E (ix3 r 9 j) * K (ix2 9 j) + E (ix3 r 10 j) * K (ix2 10 j) + E (ix3 r 11 j) * K (ix2 11 j) := by
  unfold res_main_v91
  rw [hE, hK]
  pointwise []

theorem v175_apply (E : FVec Ideal S32x31x512 .f32) (K : FVec Ideal S31x512 .f32) (P : FVec Ideal S32x1x512 .f32)
    (hE : res_main_v2 V0 = E) (hK : res_main_v3 V0 = K) (hP : res_main_v91 V0 = P)
    (r : Fin 32) (j : Fin 512) : res_main_v175 V0 (ix3 r 0 j) = P (ix3 r 0 j) + E (ix3 r 12 j) * K (ix2 12 j) + E (ix3 r 13 j) * K (ix2 13 j) + E (ix3 r 14 j) * K (ix2 14 j) + E (ix3 r 15 j) * K (ix2 15 j) + E (ix3 r 16 j) * K (ix2 16 j) + E (ix3 r 17 j) * K (ix2 17 j) + E (ix3 r 18 j) * K (ix2 18 j) + E (ix3 r 19 j) * K (ix2 19 j) + E (ix3 r 20 j) * K (ix2 20 j) + E (ix3 r 21 j) * K (ix2 21 j) + E (ix3 r 22 j) * K (ix2 22 j) + E (ix3 r 23 j) * K (ix2 23 j) := by
  unfold res_main_v175
  rw [hE, hK, hP]
  pointwise []

theorem v227_apply (E : FVec Ideal S32x31x512 .f32) (K : FVec Ideal S31x512 .f32) (P : FVec Ideal S32x1x512 .f32) (B : FVec Ideal S1x512 .f32)
    (hE : res_main_v2 V0 = E) (hK : res_main_v3 V0 = K) (hP : res_main_v175 V0 = P) (hB : V0 (Proc.devRef .tc main_arg8) = B)
    (r : Fin 32) (j : Fin 512) : res_main_v227 V0 (ix3 r 0 j) = P (ix3 r 0 j) + E (ix3 r 24 j) * K (ix2 24 j) + E (ix3 r 25 j) * K (ix2 25 j) + E (ix3 r 26 j) * K (ix2 26 j) + E (ix3 r 27 j) * K (ix2 27 j) + E (ix3 r 28 j) * K (ix2 28 j) + E (ix3 r 29 j) * K (ix2 29 j) + E (ix3 r 30 j) * K (ix2 30 j) + B (ix2 0 j) := by
  unfold res_main_v227
  rw [hE, hK, hP, hB]
  pointwise []

theorem v231_apply (P : FVec Ideal S32x1x512 .f32) (hP : res_main_v227 V0 = P) (r : Fin 32) :
    res_main_v231 V0 (ix3 r 0 0) = mean (fun j => P (ix3 r 0 j)) := by
  unfold res_main_v231
  rw [hP]
  pointwise []
  simp only [mean]

theorem v233_apply (P : FVec Ideal S32x1x512 .f32) (M : FVec Ideal S32x1x1 .f32) (hP : res_main_v227 V0 = P) (hM : res_main_v231 V0 = M)
    (r : Fin 32) (j : Fin 512) : res_main_v233 V0 (ix3 r 0 j) = P (ix3 r 0 j) - M (ix3 r 0 0) := by
  unfold res_main_v233
  rw [hP, hM]
  pointwise []

theorem v251_apply (P D : FVec Ideal S32x1x512 .f32) (M : FVec Ideal S32x1x1 .f32) (g b : FVec Ideal S1x512 .f32)
    (hP : res_main_v227 V0 = P) (hM : res_main_v231 V0 = M) (hD : res_main_v233 V0 = D)
    (hg : V0 (Proc.devRef .tc main_arg9) = g) (hb : V0 (Proc.devRef .tc main_arg10) = b)
    (r : Fin 32) (j : Fin 512) : res_main_v251 V0 (ix3 r 0 j)
      = (P (ix3 r 0 j) - M (ix3 r 0 0)) * Ideal.rsqrt (mean (fun k => D (ix3 r 0 k) * D (ix3 r 0 k)) + Ideal.ofBits FTy.f32 0x358637BD#32)
          * g (ix2 0 j) + b (ix2 0 j) := by
  unfold res_main_v251
  rw [hP, hM, hD, hg, hb]
  pointwise []
  simp only [mean]

/-- The reference's window: the state's rows and then the new one. -/
theorem v2_apply (S : FVec Ideal S1x32x30x512 .f32) (u : FVec Ideal S32x512 .f32)
    (hS : V0 (Proc.devRef .tc main_arg4) = S) (hu : V0 (Proc.devRef .tc main_arg2) = u)
    (r : Fin 32) (w : Fin 31) (j : Fin 512) : res_main_v2 V0 (ix3 r w j) = win (fun w => S (ix4 0 r w j)) (u (ix2 r j)) w := by
  unfold res_main_v2
  rw [hS, hu]
  pointwise []
  simp only [win]

theorem v3_apply (W : FVec Ideal S1x31x512 .f32) (hW : V0 (Proc.devRef .tc main_arg7) = W)
    (w : Fin 31) (j : Fin 512) : res_main_v3 V0 (ix2 w j) = W (ix3 0 w j) := by
  unfold res_main_v3
  rw [hW]
  pointwise []

/-- The row that the output weight is applied to: the gated attention and the gated convolution. -/
def mixR (a ga gc : FVec Ideal S32x512 .f32) (n : FVec Ideal S32x1x512 .f32) : FVec Ideal S32x1024 .f32 :=
  concatenate S32x1024 1 [⟨S32x512, (mulf a ga)⟩, ⟨S32x512, (mulf (shapeCast _ (mulf n (Host.divf (broadcastInDim S32x1x512 ![] bcast_S_S32x1x512 (constant S_ .f32 0x3F800000#32)) (addf (broadcastInDim S32x1x512 ![] bcast_S_S32x1x512 (constant S_ .f32 0x3F800000#32)) (Host.exp (Host.negf n))))) shapeCasts_S32x1x512_S32x512) gc)⟩] concatenates_S32x512_S32x512_S32x1024_d1

theorem mixR_apply (a ga gc : FVec Ideal S32x512 .f32) (n : FVec Ideal S32x1x512 .f32) (r : Fin 32) (k : Fin 1024) :
    mixR a ga gc n (ix2 r k) = if h : k.val < 512 then a (ix2 r ⟨k, h⟩) * ga (ix2 r ⟨k, h⟩)
      else n (ix3 r 0 ⟨k - 512, by omega⟩) * Ideal.logistic (n (ix3 r 0 ⟨k - 512, by omega⟩)) * gc (ix2 r ⟨k - 512, by omega⟩) := by
  pointwise [mixR]
  simp only [Ideal.logistic]

/-- The reference's product over all 1024 columns, at an index. -/
theorem dot_apply (A : FVec Ideal S32x1024 .f32) (B : FVec Ideal S1024x1024 .f32) (r : Fin 32) (j : Fin 1024) :
    Host.dotGeneral (φ₂ := .f32) dot_S32x1024_S1024x1024_S32x1024_1_0_0_1_n_n none A B (ix2 r j) = ∑ k : Fin 1024, A (ix2 r k) * B (ix2 k j) := by
  unfold Host.dotGeneral
  rw [Ideal.dotGeneral_def, Ideal.matmul_apply₁ _ rfl rfl, zero_add]
  refine Finset.sum_congr rfl fun k _ => ?_
  congr 1
  · refine congrArg A ?_
    funext a
    fin_cases a <;> rfl
  · refine congrArg B ?_
    funext a
    fin_cases a <;> rfl

/-- The reference's result from its mixed row. -/
def yR (X : FVec Ideal S32x1x1024 .f32) (A : FVec Ideal S32x1024 .f32) (W : FVec Ideal S1x1024x1024 .f32) : FVec Ideal S32x1024 .f32 :=
  addf (shapeCast _ X shapeCasts_S32x1x1024_S32x1024) (Host.dotGeneral (φ₂ := .f32) dot_S32x1024_S1024x1024_S32x1024_1_0_0_1_n_n none A
    (shapeCast _ W shapeCasts_S1x1024x1024_S1024x1024))

theorem castX_apply (X : FVec Ideal S32x1x1024 .f32) (r : Fin 32) (j : Fin 1024) :
    shapeCast S32x1024 X shapeCasts_S32x1x1024_S32x1024 (ix2 r j) = X (ix3 r 0 j) := by
  pointwise []

theorem castW_apply (W : FVec Ideal S1x1024x1024 .f32) (k j : Fin 1024) :
    shapeCast S1024x1024 W shapeCasts_S1x1024x1024_S1024x1024 (ix2 k j) = W (ix3 0 k j) := by
  pointwise []

theorem yR_apply (X : FVec Ideal S32x1x1024 .f32) (A : FVec Ideal S32x1024 .f32) (W : FVec Ideal S1x1024x1024 .f32)
    (r : Fin 32) (j : Fin 1024) : yR X A W (ix2 r j) = X (ix3 r 0 j) + ∑ k : Fin 1024, A (ix2 r k) * W (ix3 0 k j) := by
  refine congrArg₂ (fun a b : EReal => a + b) (castX_apply X r j) ((dot_apply A _ r j).trans ?_)
  simp only [castW_apply]

/-- The reference's convolution before the normalisation. -/
theorem conv_apply (S : FVec Ideal S1x32x30x512 .f32) (u : FVec Ideal S32x512 .f32) (W : FVec Ideal S1x31x512 .f32) (B : FVec Ideal S1x512 .f32)
    (hS : V0 (Proc.devRef .tc main_arg4) = S) (hu : V0 (Proc.devRef .tc main_arg2) = u)
    (hW : V0 (Proc.devRef .tc main_arg7) = W) (hB : V0 (Proc.devRef .tc main_arg8) = B) (r : Fin 32) (j : Fin 512) :
    res_main_v227 V0 (ix3 r 0 j)
      = taps (win (fun w => S (ix4 0 r w j)) (u (ix2 r j))) (fun w => W (ix3 0 w j)) (B (ix2 0 j)) := by
  rw [v227_apply V0 _ _ _ B rfl rfl rfl hB, v175_apply V0 _ _ _ rfl rfl rfl, v91_apply V0 _ _ rfl rfl, taps, sum31, zero_add]
  simp only [v2_apply V0 S u hS hu, v3_apply V0 W hW]

/-- The reference's normalised convolution. -/
theorem ln_apply (S : FVec Ideal S1x32x30x512 .f32) (u : FVec Ideal S32x512 .f32) (W : FVec Ideal S1x31x512 .f32) (B g b : FVec Ideal S1x512 .f32)
    (hS : V0 (Proc.devRef .tc main_arg4) = S) (hu : V0 (Proc.devRef .tc main_arg2) = u)
    (hW : V0 (Proc.devRef .tc main_arg7) = W) (hB : V0 (Proc.devRef .tc main_arg8) = B)
    (hg : V0 (Proc.devRef .tc main_arg9) = g) (hb : V0 (Proc.devRef .tc main_arg10) = b) (r : Fin 32) (j : Fin 512) :
    res_main_v251 V0 (ix3 r 0 j)
      = ln (fun j => taps (win (fun w => S (ix4 0 r w j)) (u (ix2 r j))) (fun w => W (ix3 0 w j)) (B (ix2 0 j)))
          (fun j => g (ix2 0 j)) (fun j => b (ix2 0 j)) j := by
  rw [v251_apply V0 _ _ _ g b rfl rfl rfl hg hb]
  simp only [v233_apply V0 _ _ rfl rfl, v231_apply V0 _ rfl, conv_apply V0 S u W B hS hu hW hB, ln]

/-- The reference's result, as the run leaves it. -/
def r0 : FVec Ideal S32x1024 .f32 :=
  yR (V0 (Proc.devRef .tc main_arg5)) (mixR (V0 (Proc.devRef .tc main_arg0)) (V0 (Proc.devRef .tc main_arg1)) (V0 (Proc.devRef .tc main_arg3))
    (res_main_v251 V0)) (V0 (Proc.devRef .tc main_arg6))

theorem r0_apply (A0 A1 A2 A3 : FVec Ideal S32x512 .f32) (A4 : FVec Ideal S1x32x30x512 .f32) (A5 : FVec Ideal S32x1x1024 .f32)
    (A6 : FVec Ideal S1x1024x1024 .f32) (A7 : FVec Ideal S1x31x512 .f32) (A8 A9 A10 : FVec Ideal S1x512 .f32)
    (h0 : V0 (Proc.devRef .tc main_arg0) = A0) (h1 : V0 (Proc.devRef .tc main_arg1) = A1) (h2 : V0 (Proc.devRef .tc main_arg2) = A2)
    (h3 : V0 (Proc.devRef .tc main_arg3) = A3) (h4 : V0 (Proc.devRef .tc main_arg4) = A4) (h5 : V0 (Proc.devRef .tc main_arg5) = A5)
    (h6 : V0 (Proc.devRef .tc main_arg6) = A6) (h7 : V0 (Proc.devRef .tc main_arg7) = A7) (h8 : V0 (Proc.devRef .tc main_arg8) = A8)
    (h9 : V0 (Proc.devRef .tc main_arg9) = A9) (h10 : V0 (Proc.devRef .tc main_arg10) = A10) (r : Fin 32) (j : Fin 1024) :
    r0 V0 (ix2 r j) = y A0 A1 A2 A3 A4 A5 A6 A7 A8 A9 A10 r j := by
  unfold r0
  rw [h0, h1, h3, h5, h6, yR_apply, sum_halves]
  have h (k : Fin 512) : ¬ 512 + k.val < 512 := by omega
  simp only [mixR_apply, Fin.is_lt, dite_true, h, dite_false, Nat.add_sub_cancel_left, Fin.eta,
    ln_apply V0 A4 A2 A7 A8 A9 A10 h4 h2 h7 h8 h9 h10, y, out, conv, act, add_assoc]

end Cert.Proof.SampleMerge.Ref
end
end
-- ==== Proof.SampleMergeClaim.lean ====
module

public import proofs.«01_k».proof.Defs
public import proofs.«01_k».proof.Proof.SampleMergeRef

@[expose] public section

/-! The merge of the sample returns what its plain form returns. -/

set_option maxRecDepth 16384

noncomputable section

namespace Cert.Proof.SampleMerge

open Idealize.ShloMosaic Idealize.ShloMosaic.TcCoe Idealize.SL.Sem

/-- The array the merge of the sample returns is the reference's, over the extended reals. -/
theorem value : Cert.algebraic_Kernel5Ideal_Reference5Ideal := by
  intro m g m' g' _ h
  refine ⟨_, Cert.Kernel5Ideal.Value.run_blocks m g, ?_⟩
  refine Idealize.ShloMosaic.θ_run_mono (Cert.Reference5Ideal.Value.run m' g') ?_
  intro r hr c
  obtain ⟨hv, ha⟩ := hr c
  obtain ⟨h0, h1, h2, h3, h4, h5, h6, h7, h8, h9, h10⟩ := h c
  have e : Ref.r0 (StableHlo.launchContents m' c) = (Cert.Kernel5Ideal.Gen.dats m 0 c).arrAt 11 Cert.Kernel5Ideal.cfg0.N :=
    (final_11 m c (Ref.r0 (StableHlo.launchContents m' c)) fun r j =>
      Ref.r0_apply (StableHlo.launchContents m' c) _ _ _ _ _ _ _ _ _ _ _ h0 h1 h2 h3 h4 h5 h6 h7 h8 h9 h10 r j).symm
  exact ⟨hv.trans e, ha⟩

end Cert.Proof.SampleMerge
end
end
-- ==== Proof.BiasSpec.lean ====
module

public import Mathlib.Analysis.SpecialFunctions.Log.Basic
public import Mathlib.Analysis.Complex.Exponential
public import Idealize.ShloMosaic.Lib.Pointwise
public import Idealize.ShloMosaic.Lib.Claim
public import proofs.«01_k».proof.Proof.MergeSpec

@[expose] public section

/-! The relative-position bucket of a distance: by thresholds, and by a logarithm. -/

set_option maxRecDepth 16384

noncomputable section

namespace Cert.Proof.Bias

open Idealize.ShloMosaic

/-- The entry of `f` that a distance selects, the largest threshold it reaches deciding. -/
def pick {α : Type} (d : BitVec 32) (f : Fin 32 → α) : α :=
  Scalar.select (IntOp.cmpi .sge d 113#32) (f 31)
    (Scalar.select (IntOp.cmpi .sge d 99#32) (f 30)
    (Scalar.select (IntOp.cmpi .sge d 87#32) (f 29)
    (Scalar.select (IntOp.cmpi .sge d 77#32) (f 28)
    (Scalar.select (IntOp.cmpi .sge d 67#32) (f 27)
    (Scalar.select (IntOp.cmpi .sge d 59#32) (f 26)
    (Scalar.select (IntOp.cmpi .sge d 52#32) (f 25)
    (Scalar.select (IntOp.cmpi .sge d 46#32) (f 24)
    (Scalar.select (IntOp.cmpi .sge d 40#32) (f 23)
    (Scalar.select (IntOp.cmpi .sge d 35#32) (f 22)
    (Scalar.select (IntOp.cmpi .sge d 31#32) (f 21)
    (Scalar.select (IntOp.cmpi .sge d 27#32) (f 20)
    (Scalar.select (IntOp.cmpi .sge d 24#32) (f 19)
    (Scalar.select (IntOp.cmpi .sge d 21#32) (f 18)
    (Scalar.select (IntOp.cmpi .sge d 19#32) (f 17)
    (Scalar.select (IntOp.cmpi .sge d 16#32) (f 16)
    (Scalar.select (IntOp.cmpi .sge d 15#32) (f 15)
    (Scalar.select (IntOp.cmpi .sge d 14#32) (f 14)
    (Scalar.select (IntOp.cmpi .sge d 13#32) (f 13)
    (Scalar.select (IntOp.cmpi .sge d 12#32) (f 12)
    (Scalar.select (IntOp.cmpi .sge d 11#32) (f 11)
    (Scalar.select (IntOp.cmpi .sge d 10#32) (f 10)
    (Scalar.select (IntOp.cmpi .sge d 9#32) (f 9)
    (Scalar.select (IntOp.cmpi .sge d 8#32) (f 8)
    (Scalar.select (IntOp.cmpi .sge d 7#32) (f 7)
    (Scalar.select (IntOp.cmpi .sge d 6#32) (f 6)
    (Scalar.select (IntOp.cmpi .sge d 5#32) (f 5)
    (Scalar.select (IntOp.cmpi .sge d 4#32) (f 4)
    (Scalar.select (IntOp.cmpi .sge d 3#32) (f 3)
    (Scalar.select (IntOp.cmpi .sge d 2#32) (f 2)
    (Scalar.select (IntOp.cmpi .sge d 1#32) (f 1)
    (f 0)))))))))))))))))))))))))))))))

/-- The bucket of a distance. -/
def bk (d : BitVec 32) : Fin 32 := pick d id

theorem pick_eq {α : Type} (d : BitVec 32) (f : Fin 32 → α) : pick d f = f (bk d) := by
  simp only [bk, pick, Scalar.select, apply_ite f, id]

/-- An entry of the table at distance `d`: the bias over the far bucket's, in powers of two; the mask's value for a key after its query. -/
def ent (d : BitVec 32) (l : Fin 32 → EReal) : EReal :=
  Scalar.select (IntOp.cmpi .sge d 0#32) ((l (bk d) - l 31) * Ideal.ofBits .f32 0x3FB8AA3B#32) (Ideal.ofBits .f32 0xF149F2CA#32)

/-- The logarithm's base in the printed program, a rounding of `log 8`. -/
def base : ℝ := 8721810 / 4194304

theorem base_pos : 0 < base := by unfold base; norm_num

theorem base_bits : Ideal.ofBits .f32 0x40051592#32 = ((base : ℝ) : EReal) := by
  simp [Ideal.ofBits, Ideal.ieee, -EReal.coe_mul, base]; norm_num

theorem sixteen_bits : Ideal.ofBits .f32 0x41800000#32 = ((16 : ℝ) : EReal) := by
  simp [Ideal.ofBits, Ideal.ieee, -EReal.coe_mul]; norm_num

theorem quarter_hi : Real.exp (base / 4) ≤ 1.682 := by
  refine (Real.exp_bound' (by unfold base; norm_num) (by unfold base; norm_num) (n := 8) (by norm_num)).trans ?_
  unfold base
  norm_num [Finset.sum_range_succ, Nat.factorial]

theorem quarter_lo : 1.6815 ≤ Real.exp (base / 4) := by
  refine le_trans ?_ (Real.sum_le_exp_of_nonneg (by unfold base; norm_num) 8)
  unfold base
  norm_num [Finset.sum_range_succ, Nat.factorial]

theorem exp_base : Real.exp base = Real.exp (base / 4) ^ 4 := by
  rw [← Real.exp_nat_mul]
  congr 1
  push_cast
  ring

theorem base_hi : base ≤ Real.log 8.01 := by
  rw [Real.le_log_iff_exp_le (by norm_num), exp_base]
  exact (pow_le_pow_left₀ (Real.exp_pos _).le quarter_hi 4).trans (by norm_num)

theorem base_lo : Real.log 7.99 < base := by
  rw [Real.log_lt_iff_lt_exp (by norm_num), exp_base]
  exact lt_of_lt_of_le (by norm_num) (pow_le_pow_left₀ (by norm_num) quarter_lo 4)

/-- How far the logarithm places the distance `n` above the sixteenth bucket. -/
def lev (n : ℕ) : ℝ := Real.log ((n : ℝ) / 16) / base * 16

theorem log_pow16 (n : ℕ) : 16 * Real.log ((n : ℝ) / 16) = Real.log (((n : ℝ) / 16) ^ 16) := by
  rw [Real.log_pow]
  norm_num

theorem lev_ge (n k : ℕ) (hn : 16 ≤ n) (h : (8.01 : ℝ) ^ k ≤ ((n : ℝ) / 16) ^ 16) : (k : ℝ) ≤ lev n := by
  have h2 := Real.log_le_log (by positivity) h
  rw [Real.log_pow, ← log_pow16] at h2
  have h4 : (k : ℝ) * base ≤ k * Real.log 8.01 := mul_le_mul_of_nonneg_left base_hi (Nat.cast_nonneg k)
  unfold lev
  rw [div_mul_eq_mul_div, le_div_iff₀ base_pos]
  linarith

theorem lev_lt (n k : ℕ) (hn : 16 ≤ n) (hk : 1 ≤ k) (h : ((n : ℝ) / 16) ^ 16 ≤ (7.99 : ℝ) ^ k) : lev n < k := by
  have h0 : (0 : ℝ) < n := by exact_mod_cast (by omega : 0 < n)
  have h2 := Real.log_le_log (by positivity) h
  rw [← log_pow16, Real.log_pow] at h2
  have h4 : (k : ℝ) * Real.log 7.99 < k * base := mul_lt_mul_of_pos_left base_lo (by exact_mod_cast hk)
  unfold lev
  rw [div_mul_eq_mul_div, div_lt_iff₀ base_pos]
  linarith

theorem lev_nonneg (n : ℕ) (hn : 16 ≤ n) : 0 ≤ lev n := by
  have h : (1 : ℝ) ≤ (n : ℝ) / 16 := by
    rw [le_div_iff₀ (by norm_num)]
    exact_mod_cast (by omega : 1 * 16 ≤ n)
  exact mul_nonneg (div_nonneg (Real.log_nonneg h) base_pos.le) (by norm_num)

theorem floor_ge (n a k : ℕ) (ha : a ≤ n) (ha16 : 16 ≤ a) (h : 801 ^ k * 16 ^ 16 ≤ a ^ 16 * 100 ^ k) : (k : ℤ) ≤ ⌊lev n⌋ := by
  refine Int.le_floor.2 ?_
  refine lev_ge n k (ha16.trans ha) ?_
  have h' : (801 : ℝ) ^ k * 16 ^ 16 ≤ (n : ℝ) ^ 16 * 100 ^ k := by
    exact_mod_cast h.trans (Nat.mul_le_mul_right _ (Nat.pow_le_pow_left ha 16))
  rw [show (8.01 : ℝ) = 801 / 100 by norm_num, div_pow, div_pow, div_le_div_iff₀ (by positivity) (by positivity)]
  exact h'

theorem floor_lt (n b k : ℕ) (hb : n ≤ b) (hn : 16 ≤ n) (hk : 1 ≤ k) (h : b ^ 16 * 100 ^ k ≤ 799 ^ k * 16 ^ 16) : ⌊lev n⌋ < (k : ℤ) := by
  refine Int.floor_lt.2 ?_
  refine lev_lt n k hn hk ?_
  have h' : (n : ℝ) ^ 16 * 100 ^ k ≤ (799 : ℝ) ^ k * 16 ^ 16 := by
    exact_mod_cast (Nat.mul_le_mul_right _ (Nat.pow_le_pow_left hb 16)).trans h
  rw [show (7.99 : ℝ) = 799 / 100 by norm_num, div_pow, div_pow, div_le_div_iff₀ (by positivity) (by positivity)]
  exact h'

/-- The bucket by the logarithm, before the clamp. -/
def large (n : ℕ) : BitVec 32 :=
  IntOp.minsi (16#32 + Ideal.fptosi 32 ((lev n : ℝ) : EReal)) 31#32

theorem fptosi_lev (n : ℕ) (hn : 16 ≤ n) (hn' : n ≤ 511) : Ideal.fptosi 32 ((lev n : ℝ) : EReal) = BitVec.ofInt 32 ⌊lev n⌋ := by
  have h0 : 0 ≤ ⌊lev n⌋ := Int.floor_nonneg.2 (lev_nonneg n hn)
  have h1 : ⌊lev n⌋ < (27 : ℕ) := floor_lt n 511 27 hn' hn (by norm_num) (by norm_num)
  unfold Ideal.fptosi
  refine congrArg _ ?_
  show max _ (min _ (if 0 ≤ lev n then ⌊lev n⌋ else ⌈lev n⌉)) = _
  rw [if_pos (lev_nonneg n hn)]
  norm_num
  omega

/-- From sixteen on, the logarithm's bucket is the thresholds'. -/
theorem large_eq (n : ℕ) (hn : 16 ≤ n) (hn' : n ≤ 511) : large n = BitVec.ofNat 32 (bk (BitVec.ofNat 32 n)).val := by
  unfold large
  rw [fptosi_lev n hn hn']
  by_cases h0 : n ≤ 18
  · have e : ⌊lev n⌋ = 0 := by
      have a : (0 : ℤ) ≤ ⌊lev n⌋ := Int.floor_nonneg.2 (lev_nonneg n hn)
      have b : ⌊lev n⌋ < ((1 : ℕ) : ℤ) := floor_lt n 18 1 h0 hn (by norm_num) (by norm_num)
      omega
    rw [e]
    interval_cases n <;> decide
  by_cases h1 : n ≤ 20
  · have e : ⌊lev n⌋ = 1 := by
      have a : ((1 : ℕ) : ℤ) ≤ ⌊lev n⌋ := floor_ge n 19 1 (by omega) (by norm_num) (by norm_num)
      have b : ⌊lev n⌋ < ((2 : ℕ) : ℤ) := floor_lt n 20 2 h1 hn (by norm_num) (by norm_num)
      omega
    rw [e]
    interval_cases n <;> decide
  by_cases h2 : n ≤ 23
  · have e : ⌊lev n⌋ = 2 := by
      have a : ((2 : ℕ) : ℤ) ≤ ⌊lev n⌋ := floor_ge n 21 2 (by omega) (by norm_num) (by norm_num)
      have b : ⌊lev n⌋ < ((3 : ℕ) : ℤ) := floor_lt n 23 3 h2 hn (by norm_num) (by norm_num)
      omega
    rw [e]
    interval_cases n <;> decide
  by_cases h3 : n ≤ 26
  · have e : ⌊lev n⌋ = 3 := by
      have a : ((3 : ℕ) : ℤ) ≤ ⌊lev n⌋ := floor_ge n 24 3 (by omega) (by norm_num) (by norm_num)
      have b : ⌊lev n⌋ < ((4 : ℕ) : ℤ) := floor_lt n 26 4 h3 hn (by norm_num) (by norm_num)
      omega
    rw [e]
    interval_cases n <;> decide
  by_cases h4 : n ≤ 30
  · have e : ⌊lev n⌋ = 4 := by
      have a : ((4 : ℕ) : ℤ) ≤ ⌊lev n⌋ := floor_ge n 27 4 (by omega) (by norm_num) (by norm_num)
      have b : ⌊lev n⌋ < ((5 : ℕ) : ℤ) := floor_lt n 30 5 h4 hn (by norm_num) (by norm_num)
      omega
    rw [e]
    interval_cases n <;> decide
  by_cases h5 : n ≤ 34
  · have e : ⌊lev n⌋ = 5 := by
      have a : ((5 : ℕ) : ℤ) ≤ ⌊lev n⌋ := floor_ge n 31 5 (by omega) (by norm_num) (by norm_num)
      have b : ⌊lev n⌋ < ((6 : ℕ) : ℤ) := floor_lt n 34 6 h5 hn (by norm_num) (by norm_num)
      omega
    rw [e]
    interval_cases n <;> decide
  by_cases h6 : n ≤ 39
  · have e : ⌊lev n⌋ = 6 := by
      have a : ((6 : ℕ) : ℤ) ≤ ⌊lev n⌋ := floor_ge n 35 6 (by omega) (by norm_num) (by norm_num)
      have b : ⌊lev n⌋ < ((7 : ℕ) : ℤ) := floor_lt n 39 7 h6 hn (by norm_num) (by norm_num)
      omega
    rw [e]
    interval_cases n <;> decide
  by_cases h7 : n ≤ 45
  · have e : ⌊lev n⌋ = 7 := by
      have a : ((7 : ℕ) : ℤ) ≤ ⌊lev n⌋ := floor_ge n 40 7 (by omega) (by norm_num) (by norm_num)
      have b : ⌊lev n⌋ < ((8 : ℕ) : ℤ) := floor_lt n 45 8 h7 hn (by norm_num) (by norm_num)
      omega
    rw [e]
    interval_cases n <;> decide
  by_cases h8 : n ≤ 51
  · have e : ⌊lev n⌋ = 8 := by
      have a : ((8 : ℕ) : ℤ) ≤ ⌊lev n⌋ := floor_ge n 46 8 (by omega) (by norm_num) (by norm_num)
      have b : ⌊lev n⌋ < ((9 : ℕ) : ℤ) := floor_lt n 51 9 h8 hn (by norm_num) (by norm_num)
      omega
    rw [e]
    interval_cases n <;> decide
  by_cases h9 : n ≤ 58
  · have e : ⌊lev n⌋ = 9 := by
      have a : ((9 : ℕ) : ℤ) ≤ ⌊lev n⌋ := floor_ge n 52 9 (by omega) (by norm_num) (by norm_num)
      have b : ⌊lev n⌋ < ((10 : ℕ) : ℤ) := floor_lt n 58 10 h9 hn (by norm_num) (by norm_num)
      omega
    rw [e]
    interval_cases n <;> decide
  by_cases h10 : n ≤ 66
  · have e : ⌊lev n⌋ = 10 := by
      have a : ((10 : ℕ) : ℤ) ≤ ⌊lev n⌋ := floor_ge n 59 10 (by omega) (by norm_num) (by norm_num)
      have b : ⌊lev n⌋ < ((11 : ℕ) : ℤ) := floor_lt n 66 11 h10 hn (by norm_num) (by norm_num)
      omega
    rw [e]
    interval_cases n <;> decide
  by_cases h11 : n ≤ 76
  · have e : ⌊lev n⌋ = 11 := by
      have a : ((11 : ℕ) : ℤ) ≤ ⌊lev n⌋ := floor_ge n 67 11 (by omega) (by norm_num) (by norm_num)
      have b : ⌊lev n⌋ < ((12 : ℕ) : ℤ) := floor_lt n 76 12 h11 hn (by norm_num) (by norm_num)
      omega
    rw [e]
    interval_cases n <;> decide
  by_cases h12 : n ≤ 86
  · have e : ⌊lev n⌋ = 12 := by
      have a : ((12 : ℕ) : ℤ) ≤ ⌊lev n⌋ := floor_ge n 77 12 (by omega) (by norm_num) (by norm_num)
      have b : ⌊lev n⌋ < ((13 : ℕ) : ℤ) := floor_lt n 86 13 h12 hn (by norm_num) (by norm_num)
      omega
    rw [e]
    interval_cases n <;> decide
  by_cases h13 : n ≤ 98
  · have e : ⌊lev n⌋ = 13 := by
      have a : ((13 : ℕ) : ℤ) ≤ ⌊lev n⌋ := floor_ge n 87 13 (by omega) (by norm_num) (by norm_num)
      have b : ⌊lev n⌋ < ((14 : ℕ) : ℤ) := floor_lt n 98 14 h13 hn (by norm_num) (by norm_num)
      omega
    rw [e]
    interval_cases n <;> decide
  by_cases h14 : n ≤ 112
  · have e : ⌊lev n⌋ = 14 := by
      have a : ((14 : ℕ) : ℤ) ≤ ⌊lev n⌋ := floor_ge n 99 14 (by omega) (by norm_num) (by norm_num)
      have b : ⌊lev n⌋ < ((15 : ℕ) : ℤ) := floor_lt n 112 15 h14 hn (by norm_num) (by norm_num)
      omega
    rw [e]
    interval_cases n <;> decide
  have a : ((15 : ℕ) : ℤ) ≤ ⌊lev n⌋ := floor_ge n 113 15 (by omega) (by norm_num) (by norm_num)
  have b : ⌊lev n⌋ < ((27 : ℕ) : ℤ) := floor_lt n 511 27 hn' hn (by norm_num) (by norm_num)
  have hb : bk (BitVec.ofNat 32 n) = 31 := by
    have hs : IntOp.cmpi .sge (BitVec.ofNat 32 n) 113#32 = 1 := by
      simp only [IntOp.cmpi, BitVec.sle_eq_decide]
      have : (BitVec.ofNat 32 n).toInt = n := by
        rw [BitVec.toInt_eq_toNat_cond, BitVec.toNat_ofNat, Nat.mod_eq_of_lt (by omega), if_pos (by omega)]
      rw [this]
      have : (113#32).toInt ≤ (n : ℤ) := by
        show (113 : ℤ) ≤ n
        omega
      rw [decide_eq_true this]
      rfl
    simp only [bk, pick, Scalar.select, if_pos hs, id]
  rw [hb]
  generalize ⌊lev n⌋ = z at a b
  have a' : 15 ≤ z := a
  have b' : z < 27 := b
  interval_cases z <;> decide

end Cert.Proof.Bias
end
end
-- ==== Proof.BiasTiles.lean ====
module

public import Idealize.ShloMosaic.Lib.Pipeline.ValueKit
public import proofs.«01_k».proof.Proof.Gen.Kernel6Ideal.Value
public import proofs.«01_k».proof.Proof.BiasSpec

@[expose] public section

/-! The sixteen tiles the bias tables' kernel stores, each as one chain of selections. -/

set_option maxRecDepth 65536

noncomputable section

namespace Cert.Proof.Bias

open Cert.Kernel6Ideal Cert.Kernel6Ideal.Gen Cert.Kernel6Ideal.Gen.kernelRun0_A.sl Idealize.ShloMosaic Idealize.ShloMosaic.TcCoe

variable (c : Dev nD) (arg0 : Memref sig .tc .smem S32x8 .f32) (harg0 : arg0.IsWhole) (x0 : FVec Ideal S32x8 .f32)

/-- One tile from the distances and one head's column of biases. -/
def tab (D : IVec S256x256 32) (l : Fin 32 → Elt Ideal .f32) : FVec Ideal S256x256 .f32 :=
  select (cmpi .sge D (broadcast S256x256 0#32))
    (select (cmpi .sge D (broadcast S256x256 113#32)) (broadcast S256x256 (Scalar.mulf (Scalar.subf (l 31) (l 31)) (Scalar.ofBits .f32 0x3FB8AA3B#32)))
    (select (cmpi .sge D (broadcast S256x256 99#32)) (broadcast S256x256 (Scalar.mulf (Scalar.subf (l 30) (l 31)) (Scalar.ofBits .f32 0x3FB8AA3B#32)))
    (select (cmpi .sge D (broadcast S256x256 87#32)) (broadcast S256x256 (Scalar.mulf (Scalar.subf (l 29) (l 31)) (Scalar.ofBits .f32 0x3FB8AA3B#32)))
    (select (cmpi .sge D (broadcast S256x256 77#32)) (broadcast S256x256 (Scalar.mulf (Scalar.subf (l 28) (l 31)) (Scalar.ofBits .f32 0x3FB8AA3B#32)))
    (select (cmpi .sge D (broadcast S256x256 67#32)) (broadcast S256x256 (Scalar.mulf (Scalar.subf (l 27) (l 31)) (Scalar.ofBits .f32 0x3FB8AA3B#32)))
    (select (cmpi .sge D (broadcast S256x256 59#32)) (broadcast S256x256 (Scalar.mulf (Scalar.subf (l 26) (l 31)) (Scalar.ofBits .f32 0x3FB8AA3B#32)))
    (select (cmpi .sge D (broadcast S256x256 52#32)) (broadcast S256x256 (Scalar.mulf (Scalar.subf (l 25) (l 31)) (Scalar.ofBits .f32 0x3FB8AA3B#32)))
    (select (cmpi .sge D (broadcast S256x256 46#32)) (broadcast S256x256 (Scalar.mulf (Scalar.subf (l 24) (l 31)) (Scalar.ofBits .f32 0x3FB8AA3B#32)))
    (select (cmpi .sge D (broadcast S256x256 40#32)) (broadcast S256x256 (Scalar.mulf (Scalar.subf (l 23) (l 31)) (Scalar.ofBits .f32 0x3FB8AA3B#32)))
    (select (cmpi .sge D (broadcast S256x256 35#32)) (broadcast S256x256 (Scalar.mulf (Scalar.subf (l 22) (l 31)) (Scalar.ofBits .f32 0x3FB8AA3B#32)))
    (select (cmpi .sge D (broadcast S256x256 31#32)) (broadcast S256x256 (Scalar.mulf (Scalar.subf (l 21) (l 31)) (Scalar.ofBits .f32 0x3FB8AA3B#32)))
    (select (cmpi .sge D (broadcast S256x256 27#32)) (broadcast S256x256 (Scalar.mulf (Scalar.subf (l 20) (l 31)) (Scalar.ofBits .f32 0x3FB8AA3B#32)))
    (select (cmpi .sge D (broadcast S256x256 24#32)) (broadcast S256x256 (Scalar.mulf (Scalar.subf (l 19) (l 31)) (Scalar.ofBits .f32 0x3FB8AA3B#32)))
    (select (cmpi .sge D (broadcast S256x256 21#32)) (broadcast S256x256 (Scalar.mulf (Scalar.subf (l 18) (l 31)) (Scalar.ofBits .f32 0x3FB8AA3B#32)))
    (select (cmpi .sge D (broadcast S256x256 19#32)) (broadcast S256x256 (Scalar.mulf (Scalar.subf (l 17) (l 31)) (Scalar.ofBits .f32 0x3FB8AA3B#32)))
    (select (cmpi .sge D (broadcast S256x256 16#32)) (broadcast S256x256 (Scalar.mulf (Scalar.subf (l 16) (l 31)) (Scalar.ofBits .f32 0x3FB8AA3B#32)))
    (select (cmpi .sge D (broadcast S256x256 15#32)) (broadcast S256x256 (Scalar.mulf (Scalar.subf (l 15) (l 31)) (Scalar.ofBits .f32 0x3FB8AA3B#32)))
    (select (cmpi .sge D (broadcast S256x256 14#32)) (broadcast S256x256 (Scalar.mulf (Scalar.subf (l 14) (l 31)) (Scalar.ofBits .f32 0x3FB8AA3B#32)))
    (select (cmpi .sge D (broadcast S256x256 13#32)) (broadcast S256x256 (Scalar.mulf (Scalar.subf (l 13) (l 31)) (Scalar.ofBits .f32 0x3FB8AA3B#32)))
    (select (cmpi .sge D (broadcast S256x256 12#32)) (broadcast S256x256 (Scalar.mulf (Scalar.subf (l 12) (l 31)) (Scalar.ofBits .f32 0x3FB8AA3B#32)))
    (select (cmpi .sge D (broadcast S256x256 11#32)) (broadcast S256x256 (Scalar.mulf (Scalar.subf (l 11) (l 31)) (Scalar.ofBits .f32 0x3FB8AA3B#32)))
    (select (cmpi .sge D (broadcast S256x256 10#32)) (broadcast S256x256 (Scalar.mulf (Scalar.subf (l 10) (l 31)) (Scalar.ofBits .f32 0x3FB8AA3B#32)))
    (select (cmpi .sge D (broadcast S256x256 9#32)) (broadcast S256x256 (Scalar.mulf (Scalar.subf (l 9) (l 31)) (Scalar.ofBits .f32 0x3FB8AA3B#32)))
    (select (cmpi .sge D (broadcast S256x256 8#32)) (broadcast S256x256 (Scalar.mulf (Scalar.subf (l 8) (l 31)) (Scalar.ofBits .f32 0x3FB8AA3B#32)))
    (select (cmpi .sge D (broadcast S256x256 7#32)) (broadcast S256x256 (Scalar.mulf (Scalar.subf (l 7) (l 31)) (Scalar.ofBits .f32 0x3FB8AA3B#32)))
    (select (cmpi .sge D (broadcast S256x256 6#32)) (broadcast S256x256 (Scalar.mulf (Scalar.subf (l 6) (l 31)) (Scalar.ofBits .f32 0x3FB8AA3B#32)))
    (select (cmpi .sge D (broadcast S256x256 5#32)) (broadcast S256x256 (Scalar.mulf (Scalar.subf (l 5) (l 31)) (Scalar.ofBits .f32 0x3FB8AA3B#32)))
    (select (cmpi .sge D (broadcast S256x256 4#32)) (broadcast S256x256 (Scalar.mulf (Scalar.subf (l 4) (l 31)) (Scalar.ofBits .f32 0x3FB8AA3B#32)))
    (select (cmpi .sge D (broadcast S256x256 3#32)) (broadcast S256x256 (Scalar.mulf (Scalar.subf (l 3) (l 31)) (Scalar.ofBits .f32 0x3FB8AA3B#32)))
    (select (cmpi .sge D (broadcast S256x256 2#32)) (broadcast S256x256 (Scalar.mulf (Scalar.subf (l 2) (l 31)) (Scalar.ofBits .f32 0x3FB8AA3B#32)))
    (select (cmpi .sge D (broadcast S256x256 1#32)) (broadcast S256x256 (Scalar.mulf (Scalar.subf (l 1) (l 31)) (Scalar.ofBits .f32 0x3FB8AA3B#32)))
    (broadcast S256x256 (Scalar.mulf (Scalar.subf (l 0) (l 31)) (Scalar.ofBits .f32 0x3FB8AA3B#32))))))))))))))))))))))))))))))))))
    (broadcast S256x256 (Scalar.ofBits .f32 0xF149F2CA#32))

theorem inb_cell (j : Fin 32) (h : Fin 8) : ∀ b, (![j.val, h.val] : Fin 2 → ℕ) b + S1x1.size b ≤ S32x8.size b := by
  intro b
  have := j.isLt
  have := h.isLt
  fin_cases b
  · show j.val + 1 ≤ 32
    omega
  · show h.val + 1 ≤ 8
    omega

/-- One head's column, as the kernel loads it. -/
def col (h : Fin 8) (j : Fin 32) : Elt Ideal .f32 :=
  View.readAt (Elt Ideal) arg0.view (Rect.unit (s := S32x8) ![j.val, h.val] S1x1.size (inb_cell j h)).toLoadRect (harg0.unread x0)
    (Shape.Idx.first (s := S1x1) (by decide))

theorem col_eq (h : Fin 8) (j : Fin 32) : col arg0 harg0 x0 h j = x0 (ix2 j h) := by
  unfold col
  rw [View.readAt_eq_ld, Memref.IsWhole.read_unread]
  refine View.ld_unit_apply_of (Val := Elt Ideal) (e := .f32) (S := S32x8) x0 ![j.val, h.val] S1x1.size (inb_cell j h) _ _ fun b => ?_
  fin_cases b <;> rfl

theorem tab_apply (D : IVec S256x256 32) (l : Fin 32 → Elt Ideal .f32) (y : S256x256.Idx) : tab D l y = ent (D y) l := by
  unfold ent
  rw [← pick_eq (D y) (fun j => (l j - l 31) * Ideal.ofBits .f32 0x3FB8AA3B#32)]
  rfl

theorem tile_0_0 : k0_pay16 (F := Ideal) (r_39 c arg0 harg0 x0) (k0_pay15 k0_pay2)
    = shapeCast S1x1x1x256x256 (tab k0_pay2 (col arg0 harg0 x0 0)) shapeCasts_S256x256_S1x1x1x256x256 := rfl

theorem tile_0_1 : k0_pay32 (F := Ideal) k0_pay2 (r_79 c arg0 harg0 x0) (k0_pay30 k0_pay2) (r_80 c arg0 harg0 x0) cst_199
    = shapeCast S1x1x1x256x256 (tab k0_pay2 (col arg0 harg0 x0 1)) shapeCasts_S256x256_S1x1x1x256x256 := rfl

theorem tile_0_2 : k0_pay48 (F := Ideal) k0_pay2 (r_81 c arg0 harg0 x0) (r_121 c arg0 harg0 x0) k0_pay47 (r_81 c arg0 harg0 x0)
    = shapeCast S1x1x1x256x256 (tab k0_pay2 (col arg0 harg0 x0 2)) shapeCasts_S256x256_S1x1x1x256x256 := rfl

theorem tile_0_3 : k0_pay64 (F := Ideal) k0_pay2 (r_122 c arg0 harg0 x0) (r_161 c arg0 harg0 x0) (k0_pay62 k0_pay2) (r_162 c arg0 harg0 x0) (r_122 c arg0 harg0 x0)
    = shapeCast S1x1x1x256x256 (tab k0_pay2 (col arg0 harg0 x0 3)) shapeCasts_S256x256_S1x1x1x256x256 := rfl

theorem tile_0_4 : k0_pay79 (F := Ideal) k0_pay2 (r_163 c arg0 harg0 x0) (r_202 c arg0 harg0 x0) (99#32) (r_203 c arg0 harg0 x0) (r_163 c arg0 harg0 x0)
    = shapeCast S1x1x1x256x256 (tab k0_pay2 (col arg0 harg0 x0 4)) shapeCasts_S256x256_S1x1x1x256x256 := rfl

theorem tile_0_5 : k0_pay93 (F := Ideal) k0_pay2 (r_204 c arg0 harg0 x0) (r_242 c arg0 harg0 x0) (k0_pay92 k0_pay2) (r_241 c arg0 harg0 x0) (r_243 c arg0 harg0 x0) (r_204 c arg0 harg0 x0)
    = shapeCast S1x1x1x256x256 (tab k0_pay2 (col arg0 harg0 x0 5)) shapeCasts_S256x256_S1x1x1x256x256 := rfl

theorem tile_0_6 : k0_pay106 (F := Ideal) k0_pay2 (r_244 c arg0 harg0 x0) (r_281 c arg0 harg0 x0) (r_282 c arg0 harg0 x0) (r_283 c arg0 harg0 x0) (r_244 c arg0 harg0 x0)
    = shapeCast S1x1x1x256x256 (tab k0_pay2 (col arg0 harg0 x0 6)) shapeCasts_S256x256_S1x1x1x256x256 := rfl

theorem tile_0_7 : k0_pay118 (F := Ideal) k0_pay2 (r_284 c arg0 harg0 x0) (r_319 c arg0 harg0 x0) (k0_pay117 k0_pay2) (r_320 c arg0 harg0 x0) (r_321 c arg0 harg0 x0) (r_322 c arg0 harg0 x0) (r_284 c arg0 harg0 x0)
    = shapeCast S1x1x1x256x256 (tab k0_pay2 (col arg0 harg0 x0 7)) shapeCasts_S256x256_S1x1x1x256x256 := rfl

theorem tile_1_0 : k0_pay132 (F := Ideal) (r_330 c arg0 harg0 x0)
    = shapeCast S1x1x1x256x256 (tab (k0_pay119 v0 v1) (col arg0 harg0 x0 0)) shapeCasts_S256x256_S1x1x1x256x256 := rfl

theorem tile_1_1 : k0_pay145 (F := Ideal) (r_337 c arg0 harg0 x0) (k0_pay143 (k0_pay119 v0 v1)) k0_pay144
    = shapeCast S1x1x1x256x256 (tab (k0_pay119 v0 v1) (col arg0 harg0 x0 1)) shapeCasts_S256x256_S1x1x1x256x256 := rfl

theorem tile_1_2 : k0_pay158 (F := Ideal) (k0_pay119 v0 v1) (r_344 c arg0 harg0 x0) (k0_pay156 (k0_pay119 v0 v1)) (r_345 c arg0 harg0 x0)
    = shapeCast S1x1x1x256x256 (tab (k0_pay119 v0 v1) (col arg0 harg0 x0 2)) shapeCasts_S256x256_S1x1x1x256x256 := rfl

theorem tile_1_3 : k0_pay170 (F := Ideal) (k0_pay119 v0 v1) (r_122 c arg0 harg0 x0) (r_352 c arg0 harg0 x0) (k0_pay169 (k0_pay119 v0 v1)) (r_122 c arg0 harg0 x0)
    = shapeCast S1x1x1x256x256 (tab (k0_pay119 v0 v1) (col arg0 harg0 x0 3)) shapeCasts_S256x256_S1x1x1x256x256 := rfl

theorem tile_1_4 : k0_pay184 (F := Ideal) (k0_pay119 v0 v1) (r_163 c arg0 harg0 x0) (r_359 c arg0 harg0 x0) (k0_pay182 (k0_pay119 v0 v1)) (r_360 c arg0 harg0 x0) (r_163 c arg0 harg0 x0)
    = shapeCast S1x1x1x256x256 (tab (k0_pay119 v0 v1) (col arg0 harg0 x0 4)) shapeCasts_S256x256_S1x1x1x256x256 := rfl

theorem tile_1_5 : k0_pay198 (F := Ideal) (k0_pay119 v0 v1) (r_204 c arg0 harg0 x0) (r_368 c arg0 harg0 x0) (k0_pay197 (k0_pay119 v0 v1)) (r_243 c arg0 harg0 x0) (r_204 c arg0 harg0 x0)
    = shapeCast S1x1x1x256x256 (tab (k0_pay119 v0 v1) (col arg0 harg0 x0 5)) shapeCasts_S256x256_S1x1x1x256x256 := rfl

theorem tile_1_6 : k0_pay214 (F := Ideal) (k0_pay119 v0 v1) (r_244 c arg0 harg0 x0) (r_376 c arg0 harg0 x0) (k0_pay212 (k0_pay119 v0 v1)) (r_377 c arg0 harg0 x0) cst_199 (r_283 c arg0 harg0 x0) (r_244 c arg0 harg0 x0)
    = shapeCast S1x1x1x256x256 (tab (k0_pay119 v0 v1) (col arg0 harg0 x0 6)) shapeCasts_S256x256_S1x1x1x256x256 := rfl

theorem tile_1_7 : k0_pay1 (F := Ideal) (k0_pay119 v0 v1) (r_284 c arg0 harg0 x0) (r_387 c arg0 harg0 x0) (k0_pay231 (k0_pay119 v0 v1)) (r_388 c arg0 harg0 x0)
    = shapeCast S1x1x1x256x256 (tab (k0_pay119 v0 v1) (col arg0 harg0 x0 7)) shapeCasts_S256x256_S1x1x1x256x256 := rfl

end Cert.Proof.Bias
end
end
-- ==== Proof.BiasValue.lean ====
module

public import proofs.«01_k».proof.Proof.BiasTiles

@[expose] public section

/-! The tables the kernel of the bias leaves, entry by entry. -/

set_option maxRecDepth 65536

noncomputable section

namespace Cert.Proof.Bias

open Cert.Kernel6Ideal Cert.Kernel6Ideal.Gen Cert.Kernel6Ideal.Gen.kernelRun0_A.sl Idealize.ShloMosaic Idealize.ShloMosaic.TcCoe

variable (m : (ℓ : Loc nD τ sig) → Buf (Elt Ideal) ℓ) (c : Dev nD)

/-- The distance of a query `s` from a key `r`, the key's tile before the query's or the query's own. -/
def word (w r s : ℕ) : BitVec 32 := (if w = 0 then 256#32 else 0#32) + BitVec.ofNat 32 s - BitVec.ofNat 32 r

/-- The tables, from the biases by bucket and head. -/
def tables (x0 : FVec Ideal S32x8 .f32) : FVec Ideal S1x2x4x256x512 .f32 := fun y =>
  ent (word (y 1).val (y 3).val ((y 4).val % 256)) fun j => x0 (ix2 j ⟨2 * (y 2).val + (y 4).val / 256, by
    have : (y 2).val < 4 := (y 2).isLt
    have : (y 4).val < 512 := (y 4).isLt
    omega⟩)

theorem dist0 (r s : Fin 256) : k0_pay2 (ix2 r s) = word 0 r.val s.val := by
  pointwise [k0_pay2, word]
  rfl

theorem dist1 (r s : Fin 256) : k0_pay119 v0 v1 (ix2 r s) = word 1 r.val s.val := by
  pointwise [k0_pay119, v0, v1, word]
  rfl

theorem cast_apply (X : FVec Ideal S256x256 .f32) (r s : Fin 256) :
    shapeCast S1x1x1x256x256 X shapeCasts_S256x256_S1x1x1x256x256 (ix5 0 0 0 r s) = X (ix2 r s) := by
  pointwise []

variable (arg0 : Memref sig .tc .smem S32x8 .f32) (harg0 : arg0.IsWhole) (arg1 : Memref sig .tc .vmem S1x2x4x256x512 .f32)
  (harg1 : arg1.IsWhole) (x0 : FVec Ideal S32x8 .f32)

/-- A stored tile is its part of the tables. -/
theorem piece (w : ℕ) (h : Fin 8) (D : IVec S256x256 32) (hD : ∀ r s : Fin 256, D (ix2 r s) = word w r.val s.val)
    (P : FVec Ideal S1x1x1x256x256 .f32) (hP : P = shapeCast S1x1x1x256x256 (tab D (col arg0 harg0 x0 h)) shapeCasts_S256x256_S1x1x1x256x256)
    (z : S1x1x1x256x256.Idx) (y : S1x2x4x256x512.Idx) (h1 : (y 1).val = w + 1 * (z 1).val) (h2 : (y 2).val = h.val / 2 + 1 * (z 2).val)
    (h3 : (y 3).val = 0 + 1 * (z 3).val) (h4 : (y 4).val = 256 * (h.val % 2) + 1 * (z 4).val) : P z = tables x0 y := by
  idx_vars z
  rw [show z0 = 0 from Subsingleton.elim _ _, show z1 = 0 from Subsingleton.elim _ _, show z2 = 0 from Subsingleton.elim _ _, hP]
  have h1' : (y 1).val = w + 1 * z1.val := h1
  have h2' : (y 2).val = h.val / 2 + 1 * z2.val := h2
  have h3' : (y 3).val = 0 + 1 * z3.val := h3
  have h4' : (y 4).val = 256 * (h.val % 2) + 1 * z4.val := h4
  have b1 : z1.val < 1 := z1.isLt
  have b2 : z2.val < 1 := z2.isLt
  have b4 : z4.val < 256 := z4.isLt
  refine (cast_apply _ z3 z4).trans ?_
  rw [tab_apply, hD]
  unfold tables
  have e1 : (y 1).val = w := by omega
  have e3 : (y 3).val = z3.val := by omega
  have e4 : (y 4).val % 256 = z4.val := by omega
  rw [e1, e3, e4]
  refine congrArg _ (funext fun j => (col_eq arg0 harg0 x0 h j).trans (congrArg (fun n => x0 (ix2 j n)) (Fin.ext ?_)))
  show h.val = 2 * (y 2).val + (y 4).val / 256
  omega

/-- Every store is a part of the tables. -/
theorem pieces : ∀ p ∈ (kernelRun0_A (F := Ideal) c arg0 harg0 arg1 harg1 x0).1, ∀ z : p.1.shape.Idx, p.2 z = tables x0 (p.1.emb z) := by
  unfold kernelRun0_A
  simp only [List.forall_mem_cons, List.not_mem_nil, false_imp_iff, implies_true, and_true]
  exact ⟨fun z => piece arg0 harg0 x0 1 7 _ dist1 _ (tile_1_7 c arg0 harg0 x0) z _ rfl rfl rfl rfl,
    fun z => piece arg0 harg0 x0 1 6 _ dist1 _ (tile_1_6 c arg0 harg0 x0) z _ rfl rfl rfl rfl,
    fun z => piece arg0 harg0 x0 1 5 _ dist1 _ (tile_1_5 c arg0 harg0 x0) z _ rfl rfl rfl rfl,
    fun z => piece arg0 harg0 x0 1 4 _ dist1 _ (tile_1_4 c arg0 harg0 x0) z _ rfl rfl rfl rfl,
    fun z => piece arg0 harg0 x0 1 3 _ dist1 _ (tile_1_3 c arg0 harg0 x0) z _ rfl rfl rfl rfl,
    fun z => piece arg0 harg0 x0 1 2 _ dist1 _ (tile_1_2 c arg0 harg0 x0) z _ rfl rfl rfl rfl,
    fun z => piece arg0 harg0 x0 1 1 _ dist1 _ (tile_1_1 c arg0 harg0 x0) z _ rfl rfl rfl rfl,
    fun z => piece arg0 harg0 x0 1 0 _ dist1 _ (tile_1_0 c arg0 harg0 x0) z _ rfl rfl rfl rfl,
    fun z => piece arg0 harg0 x0 0 7 _ dist0 _ (tile_0_7 c arg0 harg0 x0) z _ rfl rfl rfl rfl,
    fun z => piece arg0 harg0 x0 0 6 _ dist0 _ (tile_0_6 c arg0 harg0 x0) z _ rfl rfl rfl rfl,
    fun z => piece arg0 harg0 x0 0 5 _ dist0 _ (tile_0_5 c arg0 harg0 x0) z _ rfl rfl rfl rfl,
    fun z => piece arg0 harg0 x0 0 4 _ dist0 _ (tile_0_4 c arg0 harg0 x0) z _ rfl rfl rfl rfl,
    fun z => piece arg0 harg0 x0 0 3 _ dist0 _ (tile_0_3 c arg0 harg0 x0) z _ rfl rfl rfl rfl,
    fun z => piece arg0 harg0 x0 0 2 _ dist0 _ (tile_0_2 c arg0 harg0 x0) z _ rfl rfl rfl rfl,
    fun z => piece arg0 harg0 x0 0 1 _ dist0 _ (tile_0_1 c arg0 harg0 x0) z _ rfl rfl rfl rfl,
    fun z => piece arg0 harg0 x0 0 0 _ dist0 _ (tile_0_0 c arg0 harg0 x0) z _ rfl rfl rfl rfl⟩

/-- The block the kernel leaves is the tables. -/
theorem out_eq (y : S1x2x4x256x512.Idx) : out0_A_1 (F := Ideal) c arg0 harg0 arg1 harg1 x0 y = tables x0 y := by
  have hc := cover0_A_1 (F := Ideal) c arg0 harg0 arg1 harg1 x0 y
  have hp := pieces c arg0 harg0 arg1 harg1 x0
  unfold out0_A_1
  generalize (kernelRun0_A (F := Ideal) c arg0 harg0 arg1 harg1 x0).1 = L at hc hp ⊢
  exact (View.read_writes_apply_eq_canon (Val := Elt Ideal) (s := S1x2x4x256x512) (e := .f32) VO0_1 VO0_1.junk y L hc).trans
    (View.canon_apply_of_pieces (Val := Elt Ideal) (S := S1x2x4x256x512) (e := .f32) (tables x0) L hp y hc)

theorem emb0 (t : Fin cfg0.N) (y : S32x8.Idx) : ((View.whole main_arg0).slice (win0_0.rect t)).emb y = y := by
  funext b
  refine Fin.ext ?_
  fin_cases b
  · show 0 * 32 + 1 * (y 0).val = (y 0).val
    omega
  · show 0 * 8 + 1 * (y 1).val = (y 1).val
    omega

theorem emb1 (t : Fin cfg0.N) (y : S1x2x4x256x512.Idx) : ((View.whole main_v0).slice (win0_1.rect t)).emb y = y := by
  funext b
  refine Fin.ext ?_
  fin_cases b
  · show 0 * 1 + 1 * (y 0).val = (y 0).val
    omega
  · show 0 * 2 + 1 * (y 1).val = (y 1).val
    omega
  · show 0 * 4 + 1 * (y 2).val = (y 2).val
    omega
  · show 0 * 256 + 1 * (y 3).val = (y 3).val
    omega
  · show 0 * 512 + 1 * (y 4).val = (y 4).val
    omega

theorem blk0 (t : Fin cfg0.N) : iblk m c 0 t = m ((c : Thread nD τ).loc main_arg0) := by
  funext y
  blk_simp [iblk]
  exact congrArg (m ((c : Thread nD τ).loc main_arg0)) (emb0 t y)

theorem final_1 (G) (hG : ∀ y, G y = tables (m ((c : Thread nD τ).loc main_arg0)) y) : (dats m 0 c).arrAt 1 cfg0.N = G := by
  refine (dats m 0 c).arrAt_eq_of_covers 1 _ (by decide +kernel) fun t hf y => ?_
  blk_simp
  rw [after0_1]
  unfold outsAt0
  refine (out_eq c (ms0_0 t) (hs0_0 t) (ms0_1 t) (hs0_1 t) (iblk m c 0 t) y).trans ?_
  rw [blk0]
  exact ((congrArg G (emb1 t y)).trans (hG y)).symm

end Cert.Proof.Bias
end
end
-- ==== Proof.BiasRef.lean ====
module

public import proofs.«01_k».proof.Proof.BiasValue
public import proofs.«01_k».proof.Proof.Gen.Reference6Ideal.Run

@[expose] public section

/-! The plain tables of the bias, entry by entry. -/

set_option maxRecDepth 16384

noncomputable section

namespace Cert.Proof.Bias.Ref

open Cert.Reference6Ideal Cert.Reference6Ideal.Gen Cert.Reference6Ideal.Value Cert.Proof.Bias Idealize.ShloMosaic Idealize.ShloMosaic.TcCoe

/-- The distances. -/
def distR : IVec S2x256x256 32 := concatenate S2x256x256 0 [⟨S1x256x256, (broadcastInDim S1x256x256 ![1, 2] bcast_S256x256_S1x256x256_1_2 (subi (broadcastInDim S256x256 ![0, 1] bcast_S1x256_S256x256_0_1 (addi (broadcastInDim S1x256 ![] bcast_S_S1x256 (constantI S_ 32 256#32)) (broadcastInDim S1x256 ![1] bcast_S256_S1x256_1 (iotaInDim S256 32 0)))) (broadcastInDim S256x256 ![0, 1] bcast_S256x1_S256x256_0_1 (broadcastInDim S256x1 ![0] bcast_S256_S256x1_0 (iotaInDim S256 32 0)))))⟩, ⟨S1x256x256, (broadcastInDim S1x256x256 ![1, 2] bcast_S256x256_S1x256x256_1_2 (subi (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0)))))⟩] concatenates_S1x256x256_S1x256x256_S2x256x256_d0

/-- The buckets of distances. -/
def bucketR (D : IVec S2x256x256 32) : IVec S2x256x256 32 :=
  select (cmpi .slt (maxsi D (broadcastInDim S2x256x256 ![] bcast_S_S2x256x256 (constantI S_ 32 0#32))) (broadcastInDim S2x256x256 ![] bcast_S_S2x256x256 (constantI S_ 32 16#32))) (maxsi D (broadcastInDim S2x256x256 ![] bcast_S_S2x256x256 (constantI S_ 32 0#32))) (minsi (addi (broadcastInDim S2x256x256 ![] bcast_S_S2x256x256 (constantI S_ 32 16#32)) (fptosi 32 (mulf (Host.divf (Host.log (Host.divf (sitofp (F := Ideal) .f32 (maxsi (maxsi D (broadcastInDim S2x256x256 ![] bcast_S_S2x256x256 (constantI S_ 32 0#32))) (broadcastInDim S2x256x256 ![] bcast_S_S2x256x256 (constantI S_ 32 1#32)))) (broadcastInDim S2x256x256 ![] bcast_S_S2x256x256 (constant S_ .f32 0x41800000#32)))) (broadcastInDim S2x256x256 ![] bcast_S_S2x256x256 (constant S_ .f32 0x40051592#32))) (broadcastInDim S2x256x256 ![] bcast_S_S2x256x256 (constant S_ .f32 0x41800000#32)) : (⟨S2x256x256, .f32⟩ : BufTy).Contents (Elt Ideal)))) (broadcastInDim S2x256x256 ![] bcast_S_S2x256x256 (constantI S_ 32 31#32)))

/-- The rows taken, a negative bucket counted from the end. -/
def wrapR (B : IVec S2x256x256 32) : IVec S2x256x256 32 := select (cmpi .slt B (broadcastInDim S2x256x256 ![] bcast_S_S2x256x256 (constantI S_ 32 0#32))) (addi B (broadcastInDim S2x256x256 ![] bcast_S_S2x256x256 (constantI S_ 32 32#32))) B

/-- The biases by distance and head, masked. -/
def tabR (D I : IVec S2x256x256 32) (X : FVec Ideal S32x8 .f32) : FVec Ideal S2x256x256x8 .f32 :=
  select (broadcastInDim S2x256x256x8 ![0, 1, 2, 3] bcast_S2x256x256x1_S2x256x256x8_0_1_2_3 (broadcastInDim S2x256x256x1 ![0, 1, 2] bcast_S2x256x256_S2x256x256x1_0_1_2 (cmpi .sge D (broadcastInDim S2x256x256 ![] bcast_S_S2x256x256 (constantI S_ 32 0#32))))) (mulf (Host.gather gather_S32x8_S2x256x256x1_S2x256x256x8_3_0_n_n_0_3_18 (subf X (broadcastInDim S32x8 ![0, 1] bcast_S1x8_S32x8_0_1 (broadcastInDim S1x8 ![1] bcast_S8_S1x8_1 (shapeCast _ (extractStridedSlice S1x8 ![31, 0] X slices_S32x8_S1x8_31_0) shapeCasts_S1x8_S8)))) (broadcastInDim S2x256x256x1 ![0, 1, 2] bcast_S2x256x256_S2x256x256x1_0_1_2 I)) (broadcastInDim S2x256x256x8 ![] bcast_S_S2x256x256x8 (constant S_ .f32 0x3FB8AA3B#32))) (broadcastInDim S2x256x256x8 ![] bcast_S_S2x256x256x8 (id (constant S_ .f32 0xF149F2CA#32)))

/-- The tables, laid out by pairs of heads. -/
def layR (T : FVec Ideal S2x256x256x8 .f32) : FVec Ideal S1x2x4x256x512 .f32 :=
  shapeCast S1x2x4x256x512 (transpose S1x2x4x256x2x256 [0, 1, 4, 2, 5, 3] (shapeCast S1x2x256x256x4x2 T shapeCasts_S2x256x256x8_S1x2x256x256x4x2) transposes_S1x2x256x256x4x2_S1x2x4x256x2x256_0_1_4_2_5_3) shapeCasts_S1x2x4x256x2x256_S1x2x4x256x512

theorem res_eq (m : (ℓ : Loc nD τ sig) → Buf (Elt Ideal) ℓ) (c : Dev nD) :
    res_main_v55 m c = layR (tabR distR (wrapR (bucketR distR)) (m ((c.tc : Thread nD τ).loc main_arg0))) := rfl

theorem distR_apply (w : Fin 2) (r s : Fin 256) : distR (ix3 w r s) = word w.val r.val s.val := by
  pointwise [distR, word]
  fin_cases w
  · rfl
  · show BitVec.ofNat 32 s.val - BitVec.ofNat 32 r.val = 0#32 + BitVec.ofNat 32 s.val - BitVec.ofNat 32 r.val
    rw [BitVec.zero_add]

theorem layR_apply (T : FVec Ideal S2x256x256x8 .f32) (w : Fin 2) (p : Fin 4) (r : Fin 256) (q : Fin 512) :
    layR T (ix5 0 w p r q) = T (ix4 w r ⟨q.val % 256, Nat.mod_lt _ (by decide)⟩ ⟨2 * p.val + q.val / 256, by omega⟩) := by
  pointwise [layR]
  refine congrArg (fun n => T (ix4 w r _ n)) (Fin.ext ?_)
  dsimp only
  omega

/-- The gather takes the row the start index names. -/
theorem gather_apply (X : FVec Ideal S32x8 .f32) (I : IVec S2x256x256x1 32) (w : Fin 2) (r s : Fin 256) (h : Fin 8) :
    Host.gather gather_S32x8_S2x256x256x1_S2x256x256x8_3_0_n_n_0_3_18 X I (ix4 w r s h)
      = X (ix2 ⟨min (I (ix4 w r s 0)).toInt.toNat 31, by omega⟩ h) := by
  unfold Host.gather
  congr 1
  funext a
  refine Fin.ext ?_
  show (gather_S32x8_S2x256x256x1_S2x256x256x8_3_0_n_n_0_3_18).start (ix4 w r s h) I a
    + (gather_S32x8_S2x256x256x1_S2x256x256x8_3_0_n_n_0_3_18).batchCoord (ix4 w r s h) a
    + (gather_S32x8_S2x256x256x1_S2x256x256x8_3_0_n_n_0_3_18).offCoord (ix4 w r s h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S2x256x256x1_S2x256x256x8_3_0_n_n_0_3_18).startIndexMap from List.mem_singleton.mpr rfl)]
    have hsi : (gather_S32x8_S2x256x256x1_S2x256x256x8_3_0_n_n_0_3_18).siIdx (ix4 w r s h)
        ⟨List.idxOf (0 : Fin 2) (gather_S32x8_S2x256x256x1_S2x256x256x8_3_0_n_n_0_3_18).startIndexMap,
          List.idxOf_lt_length_iff.2 (List.mem_singleton.mpr rfl)⟩ = ix4 w r s 0 := by
      funext b
      refine Fin.ext ?_
      fin_cases b <;> rfl
    rw [hsi]
    rfl
  · unfold GatherDims.start GatherDims.offCoord
    rw [dif_neg (by decide), dif_pos (by decide), Nat.add_zero, Nat.zero_add]
    rfl

/-- The bucket of one distance, the plain way. -/
def bw (d : BitVec 32) : BitVec 32 :=
  Scalar.select (IntOp.cmpi .slt (IntOp.maxsi d 0#32) 16#32) (IntOp.maxsi d 0#32)
    (IntOp.minsi (16#32 + Ideal.fptosi 32 (Ideal.div (Ideal.log (Ideal.div (((IntOp.maxsi (IntOp.maxsi d 0#32) 1#32).toInt : ℝ) : EReal)
      (Ideal.ofBits .f32 0x41800000#32))) (Ideal.ofBits .f32 0x40051592#32) * Ideal.ofBits .f32 0x41800000#32)) 31#32)

/-- The row taken for one bucket. -/
def wr (b : BitVec 32) : BitVec 32 := Scalar.select (IntOp.cmpi .slt b 0#32) (b + 32#32) b

theorem bucketR_apply (D : IVec S2x256x256 32) (y : S2x256x256.Idx) : bucketR D y = bw (D y) := rfl

theorem wrapR_apply (B : IVec S2x256x256 32) (y : S2x256x256.Idx) : wrapR B y = wr (B y) := rfl

/-- A distance of the table that is not negative is a natural number below 512. -/
theorem word_pos (w r s : ℕ) (hr : r < 256) (hs : s < 256) (h : IntOp.cmpi .sge (word w r s) 0#32 = 1) :
    ∃ n ≤ 511, word w r s = BitVec.ofNat 32 n := by
  obtain ⟨a, ha, e⟩ : ∃ a ≤ 511, word w r s = BitVec.ofNat 32 a - BitVec.ofNat 32 r := by
    unfold word
    by_cases hw : w = 0
    · exact ⟨256 + s, by omega, by rw [if_pos hw, BitVec.ofNat_add]⟩
    · exact ⟨s, by omega, by rw [if_neg hw, BitVec.zero_add]⟩
  by_cases hra : r ≤ a
  · refine ⟨a - r, by omega, ?_⟩
    rw [e]
    apply BitVec.eq_of_toNat_eq
    simp only [BitVec.toNat_sub, BitVec.toNat_ofNat]
    omega
  · exfalso
    rw [e] at h
    have hneg : (BitVec.ofNat 32 a - BitVec.ofNat 32 r).toInt < 0 := by
      rw [BitVec.toInt_eq_toNat_cond]
      simp only [BitVec.toNat_sub, BitVec.toNat_ofNat]
      split <;> omega
    have : ¬ (0#32).toInt ≤ (BitVec.ofNat 32 a - BitVec.ofNat 32 r).toInt := by
      show ¬ (0 : ℤ) ≤ _
      omega
    simp only [IntOp.cmpi, BitVec.sle_eq_decide, decide_eq_false this] at h
    exact absurd h (by decide)

theorem toInt_small (n : ℕ) (hn : n ≤ 511) : (BitVec.ofNat 32 n).toInt = n := by
  rw [BitVec.toInt_eq_toNat_cond, BitVec.toNat_ofNat, Nat.mod_eq_of_lt (by omega), if_pos (by omega)]

theorem max_zero (n : ℕ) (hn : n ≤ 511) : IntOp.maxsi (BitVec.ofNat 32 n) 0#32 = BitVec.ofNat 32 n := by
  exact (by decide +kernel : ∀ n : Fin 512, IntOp.maxsi (BitVec.ofNat 32 n.val) 0#32 = BitVec.ofNat 32 n.val) ⟨n, by omega⟩

theorem max_one (n : ℕ) (hn : n ≤ 511) (h : 16 ≤ n) : IntOp.maxsi (BitVec.ofNat 32 n) 1#32 = BitVec.ofNat 32 n := by
  unfold IntOp.maxsi
  refine if_pos ?_
  have : (1#32).toInt < (BitVec.ofNat 32 n).toInt := by
    rw [toInt_small n hn]
    show (1 : ℤ) < n
    omega
  rw [BitVec.slt_eq_decide, decide_eq_true this]

theorem lev_bits (n : ℕ) (hn : 16 ≤ n) :
    Ideal.div (Ideal.log (Ideal.div ((((n : ℤ) : ℝ)) : EReal) (Ideal.ofBits .f32 0x41800000#32))) (Ideal.ofBits .f32 0x40051592#32)
      * Ideal.ofBits .f32 0x41800000#32 = ((lev n : ℝ) : EReal) := by
  have h0 : (0 : ℝ) < n := by exact_mod_cast (by omega : 0 < n)
  have h16 : ((16 : ℝ) : EReal) ≠ 0 := by exact_mod_cast (by norm_num : (16 : ℝ) ≠ 0)
  have hb : ((base : ℝ) : EReal) ≠ 0 := by exact_mod_cast base_pos.ne'
  rw [sixteen_bits, base_bits]
  unfold Ideal.div
  rw [if_neg h16, if_neg hb, ← EReal.coe_inv, ← EReal.coe_mul, Ideal.log_coe, if_neg (not_le.2 (by push_cast; positivity)), ← EReal.coe_inv,
    ← EReal.coe_mul, ← EReal.coe_mul]
  unfold lev
  push_cast
  rw [div_eq_mul_inv, div_eq_mul_inv, EReal.coe_mul]

/-- The plain bucket is the thresholds'. -/
theorem bw_eq (n : ℕ) (hn : n ≤ 511) : bw (BitVec.ofNat 32 n) = BitVec.ofNat 32 (bk (BitVec.ofNat 32 n)).val := by
  unfold bw
  rw [max_zero n hn]
  by_cases h : 16 ≤ n
  · have hs : IntOp.cmpi .slt (BitVec.ofNat 32 n) 16#32 = 0 := by
      have : ¬ (BitVec.ofNat 32 n).toInt < (16#32).toInt := by
        rw [toInt_small n hn]
        show ¬ (n : ℤ) < 16
        omega
      simp only [IntOp.cmpi, BitVec.slt_eq_decide, decide_eq_false this]
      rfl
    rw [hs, max_one n hn h, toInt_small n hn, lev_bits n h]
    exact large_eq n h hn
  · have hs : IntOp.cmpi .slt (BitVec.ofNat 32 n) 16#32 = 1 := by
      interval_cases n <;> decide
    rw [hs]
    show BitVec.ofNat 32 n = _
    interval_cases n <;> decide

theorem wr_eq (j : Fin 32) : min (wr (BitVec.ofNat 32 j.val)).toInt.toNat 31 = j.val := by
  revert j
  decide

theorem tabR_apply (D I : IVec S2x256x256 32) (X : FVec Ideal S32x8 .f32) (w : Fin 2) (r s : Fin 256) (h : Fin 8) :
    tabR D I X (ix4 w r s h) = Scalar.select (IntOp.cmpi .sge (D (ix3 w r s)) 0#32)
      ((X (ix2 ⟨min (I (ix3 w r s)).toInt.toNat 31, by omega⟩ h) - X (ix2 31 h)) * Ideal.ofBits .f32 0x3FB8AA3B#32)
      (Ideal.ofBits .f32 0xF149F2CA#32) := by
  pointwise [tabR, gather_apply]
  rfl

/-- An entry of the plain tables. -/
theorem entry (X : FVec Ideal S32x8 .f32) (w : Fin 2) (r s : Fin 256) (h : Fin 8) :
    tabR distR (wrapR (bucketR distR)) X (ix4 w r s h) = ent (word w.val r.val s.val) (fun j => X (ix2 j h)) := by
  have e1 : wrapR (bucketR distR) (ix3 w r s) = wr (bw (word w.val r.val s.val)) :=
    (wrapR_apply _ _).trans (congrArg wr ((bucketR_apply _ _).trans (congrArg bw (distR_apply w r s))))
  generalize wrapR (bucketR distR) = I at e1
  rw [tabR_apply, distR_apply]
  unfold ent Scalar.select
  by_cases hp : IntOp.cmpi .sge (word w.val r.val s.val) 0#32 = 1
  · rw [if_pos hp, if_pos hp]
    obtain ⟨n, hn, e⟩ := word_pos w.val r.val s.val r.isLt s.isLt hp
    refine congrArg (fun j => (X (ix2 j h) - X (ix2 31 h)) * Ideal.ofBits .f32 0x3FB8AA3B#32) (Fin.ext ?_)
    show min (I (ix3 w r s)).toInt.toNat 31 = (bk (word w.val r.val s.val)).val
    rw [e1, e, bw_eq n hn]
    exact wr_eq _
  · rw [if_neg hp, if_neg hp]

/-- The plain tables are the kernel's. -/
theorem res_apply (m : (ℓ : Loc nD τ sig) → Buf (Elt Ideal) ℓ) (c : Dev nD) (y : S1x2x4x256x512.Idx) :
    res_main_v55 m c y = tables (m ((c.tc : Thread nD τ).loc main_arg0)) y := by
  idx_vars y
  rw [show y0 = 0 from Subsingleton.elim _ _]
  refine (congrFun (res_eq m c) _).trans ?_
  refine (layR_apply _ y1 y2 y3 y4).trans ?_
  exact entry _ y1 y3 _ _

end Cert.Proof.Bias.Ref
end
end
-- ==== Proof.BiasClaim.lean ====
module

public import proofs.«01_k».proof.Defs
public import proofs.«01_k».proof.Proof.BiasRef

@[expose] public section

/-! The call that makes the bias tables returns the plain tables. -/

set_option maxRecDepth 16384

noncomputable section

namespace Cert.Proof.Bias

open Idealize.ShloMosaic Idealize.ShloMosaic.TcCoe Idealize.SL.Sem

/-- The bias tables are the reference's, over the extended reals. -/
theorem value : Cert.algebraic_Kernel6Ideal_Reference6Ideal := by
  intro m g m' g' _ h
  refine ⟨_, Cert.Kernel6Ideal.Value.run_blocks m g, ?_⟩
  refine Idealize.ShloMosaic.θ_run_mono (Cert.Reference6Ideal.Value.run m' g') ?_
  intro r hr c
  obtain ⟨hv, ha⟩ := hr c
  have e : Cert.Reference6Ideal.Value.res_main_v55 m' c = (Cert.Kernel6Ideal.Gen.dats m 0 c).arrAt 1 Cert.Kernel6Ideal.cfg0.N :=
    (final_1 m c (Cert.Reference6Ideal.Value.res_main_v55 m' c) fun y =>
      (Ref.res_apply m' c y).trans (by rw [h c])).symm
  exact ⟨hv.trans e, ha⟩

end Cert.Proof.Bias
end
end
-- ==== Proof.lean ====
module

public import proofs.«01_k».proof.Defs
public import proofs.«01_k».proof.Proof.KeepsRun
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.InprojClaim
public import proofs.«01_k».proof.Proof.MergeClaim
public import proofs.«01_k».proof.Proof.SampleInClaim
public import proofs.«01_k».proof.Proof.SampleMergeClaim
public import proofs.«01_k».proof.Proof.BiasClaim

@[expose] public section

noncomputable section

open Idealize.ShloMosaic Idealize.SL.Sem

/-- Every claim of the certificate. -/
theorem Cert.Proof.claim : Cert.Claim :=
  ⟨Cert.Kernel.Gen.facts, Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts, Cert.Kernel7.Gen.facts,
   fun m g _ =>
    (θ_run Cert.Kernel.defs _ _).mono (fun _ h => ⟨fun c =>
      ⟨(h.1 c 0 rfl).trans (Cert.Kernel.Gen.V_main_arg0 m c), (h.1 c 1 rfl).trans (Cert.Kernel.Gen.V_main_arg1 m c),
       (h.1 c 2 rfl).trans (Cert.Kernel.Gen.V_main_arg2 m c), (h.1 c 3 rfl).trans (Cert.Kernel.Gen.V_main_arg3 m c),
       (h.1 c 4 rfl).trans (Cert.Kernel.Gen.V_main_arg4 m c), (h.1 c 5 rfl).trans (Cert.Kernel.Gen.V_main_arg5 m c),
       (h.1 c 6 rfl).trans (Cert.Kernel.Gen.V_main_arg6 m c), (h.1 c 7 rfl).trans (Cert.Kernel.Gen.V_main_arg7 m c)⟩, h.2⟩)
      (Cert.Proof.Kernel.run_main (F := Bits) m g),
   fun m ρ _ => Cert.Kernel2.Gen.frame m ρ, fun m ρ _ => Cert.Kernel2Ideal.Gen.frame m ρ,
   fun m ρ _ => (θ_run Cert.Reference2Ideal.defs _ _).mono (fun r h => ⟨fun c => (h c).2.2.2.2.2.2.2.2.2.2.2.2, sem_eq_zero_of_no_sems (by decide) r.2⟩)
      (Cert.Reference2Ideal.Value.run (F := Ideal) m ρ),
   fun m ρ _ => Cert.Kernel3.Gen.frame m ρ, fun m ρ _ => Cert.Kernel3Ideal.Gen.frame m ρ,
   fun m ρ _ => (θ_run Cert.Reference3Ideal.defs _ _).mono (fun r h => ⟨fun c => (h c).2, sem_eq_zero_of_no_sems (by decide) r.2⟩)
      (Cert.Reference3Ideal.Value.run (F := Ideal) m ρ),
   fun m ρ _ => Cert.Kernel4.Gen.frame m ρ, fun m ρ _ => Cert.Kernel4Ideal.Gen.frame m ρ,
   fun m ρ _ => (θ_run Cert.Reference4Ideal.defs _ _).mono (fun r h => ⟨fun c => (h c).2.2.2.2.2.2.2.2.2, sem_eq_zero_of_no_sems (by decide) r.2⟩)
      (Cert.Reference4Ideal.Value.run (F := Ideal) m ρ),
   fun m ρ _ => Cert.Kernel5.Gen.frame m ρ, fun m ρ _ => Cert.Kernel5Ideal.Gen.frame m ρ,
   fun m ρ _ => (θ_run Cert.Reference5Ideal.defs _ _).mono (fun r h => ⟨fun c => (h c).2, sem_eq_zero_of_no_sems (by decide) r.2⟩)
      (Cert.Reference5Ideal.Value.run (F := Ideal) m ρ),
   fun m ρ _ => Cert.Kernel6.Gen.frame m ρ, fun m ρ _ => Cert.Kernel6Ideal.Gen.frame m ρ,
   fun m ρ _ => (θ_run Cert.Reference6Ideal.defs _ _).mono (fun r h => ⟨fun c => (h c).2, sem_eq_zero_of_no_sems (by decide) r.2⟩)
      (Cert.Reference6Ideal.Value.run (F := Ideal) m ρ),
   fun m ρ _ => Cert.Kernel7.Gen.frame m ρ,
   trivial, Cert.Proof.Inproj.value, trivial, Cert.Proof.Merge.value, trivial, Cert.Proof.SampleIn.value,
   trivial, Cert.Proof.SampleMerge.value, trivial, Cert.Proof.Bias.value⟩

end
